-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_window [hPre_finite_window : Cert.Pre_finite_window.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_window.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite_window.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite_window.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_window [hPre_finite_window : Cert.Pre_finite_window.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_window.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite_window.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite_window.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_up [hPre_finite_up : Cert.Pre_finite_up.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_up.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite_up.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite_up.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite_up.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_up [hPre_finite_up : Cert.Pre_finite_up.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_up.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite_up.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite_up.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite_up.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_kv [hPre_finite_kv : Cert.Pre_finite_kv.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_kv.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite_kv.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite_kv.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite_kv.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_kv [hPre_finite_kv : Cert.Pre_finite_kv.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_kv.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite_kv.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite_kv.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite_kv.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_q [hPre_finite_q : Cert.Pre_finite_q.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_q.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite_q.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite_q.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite_q.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_q [hPre_finite_q : Cert.Pre_finite_q.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_q.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite_q.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite_q.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite_q.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_o [hPre_finite_o : Cert.Pre_finite_o.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_o.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite_o.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite_o.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.1 = (fun _ => 1#1)
    ∧ (Cert.Pre_finite_o.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_o [hPre_finite_o : Cert.Pre_finite_o.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_o.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite_o.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite_o.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.1 = (fun _ => 1#1)
    ∧ (Cert.Pre_finite_o.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_maps [hPre_finite_maps : Cert.Pre_finite_maps.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_maps.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite_maps.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.1 = (fun _ => 1#1)
    ∧ (Cert.Pre_finite_maps.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.1 = (fun _ => 1#1)
    ∧ (Cert.Pre_finite_maps.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2.1 = (fun _ => 1#1)
    ∧ (Cert.Pre_finite_maps.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_maps [hPre_finite_maps : Cert.Pre_finite_maps.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_maps.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite_maps.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.1 = (fun _ => 1#1)
    ∧ (Cert.Pre_finite_maps.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.1 = (fun _ => 1#1)
    ∧ (Cert.Pre_finite_maps.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2.1 = (fun _ => 1#1)
    ∧ (Cert.Pre_finite_maps.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_down [hPre_finite_down : Cert.Pre_finite_down.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_down.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).1 = (fun _ => 1#1)
    ∧ (Cert.Pre_finite_down.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.1 = (fun _ => 1#1)
    ∧ (Cert.Pre_finite_down.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.2.1 = (fun _ => 1#1)
    ∧ (Cert.Pre_finite_down.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_down [hPre_finite_down : Cert.Pre_finite_down.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_down.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).1 = (fun _ => 1#1)
    ∧ (Cert.Pre_finite_down.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.1 = (fun _ => 1#1)
    ∧ (Cert.Pre_finite_down.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.2.1 = (fun _ => 1#1)
    ∧ (Cert.Pre_finite_down.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_qkv [hPre_finite_qkv : Cert.Pre_finite_qkv.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_qkv.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))).1 = (fun _ => 1#1)
    ∧ (Cert.Pre_finite_qkv.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))).2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_qkv [hPre_finite_qkv : Cert.Pre_finite_qkv.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_qkv.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1))).1 = (fun _ => 1#1)
    ∧ (Cert.Pre_finite_qkv.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1))).2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_window [hKernel3Ideal : Cert.Kernel3Ideal.Facts] [hPre_finite_window : Cert.Pre_finite_window.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_window m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_window [hReference3Ideal : Cert.Reference3Ideal.Facts] [hPre_finite_window : Cert.Pre_finite_window.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_window m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_up [hKernel4Ideal : Cert.Kernel4Ideal.Facts] [hPre_finite_up : Cert.Pre_finite_up.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_up m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_up [hReference4Ideal : Cert.Reference4Ideal.Facts] [hPre_finite_up : Cert.Pre_finite_up.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_up m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_kv [hKernel5Ideal : Cert.Kernel5Ideal.Facts] [hPre_finite_kv : Cert.Pre_finite_kv.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_kv m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_kv [hReference5Ideal : Cert.Reference5Ideal.Facts] [hPre_finite_kv : Cert.Pre_finite_kv.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_kv m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_q [hKernel6Ideal : Cert.Kernel6Ideal.Facts] [hPre_finite_q : Cert.Pre_finite_q.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_q m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_q [hReference6Ideal : Cert.Reference6Ideal.Facts] [hPre_finite_q : Cert.Pre_finite_q.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_q m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_o [hKernel7Ideal : Cert.Kernel7Ideal.Facts] [hPre_finite_o : Cert.Pre_finite_o.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_o m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_o [hReference7Ideal : Cert.Reference7Ideal.Facts] [hPre_finite_o : Cert.Pre_finite_o.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_o m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_maps [hKernel8Ideal : Cert.Kernel8Ideal.Facts] [hPre_finite_maps : Cert.Pre_finite_maps.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_maps m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_maps [hReference8Ideal : Cert.Reference8Ideal.Facts] [hPre_finite_maps : Cert.Pre_finite_maps.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_maps m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_finite_down [hKernel9Ideal : Cert.Kernel9Ideal.Facts] [hPre_finite_down : Cert.Pre_finite_down.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_down m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_finite_down [hReference9Ideal : Cert.Reference9Ideal.Facts] [hPre_finite_down : Cert.Pre_finite_down.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_down m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Kernel10Ideal_pre_finite_qkv [hKernel10Ideal : Cert.Kernel10Ideal.Facts] [hPre_finite_qkv : Cert.Pre_finite_qkv.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_qkv m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Reference10Ideal_pre_finite_qkv [hReference10Ideal : Cert.Reference10Ideal.Facts] [hPre_finite_qkv : Cert.Pre_finite_qkv.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_qkv m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  IdealRules.bf16_pack.Statement Cert.Kernel2Ideal.S256x256
  ∧ IdealRules.named_const.Statement Cert.Kernel2Ideal.κ "dead_log" .f32 0x42D20000#32 ⊤

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v47_0)) (v1 : (c : Dev Cert.Kernel2Ideal.nD) → Buf (Elt Ideal) ((c.tc : Thread Cert.Kernel2Ideal.nD Cert.Kernel2Ideal.τ).loc Cert.Kernel2Ideal.main_v47_1)) (v2 : (c : Dev Cert.Kernel2Ideal.nD) → Buf (Elt Ideal) ((c.tc : Thread Cert.Kernel2Ideal.nD Cert.Kernel2Ideal.τ).loc Cert.Kernel2Ideal.main_v47_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v47_0) = v0 c
          ∧ r.2.mem ((c.tc : Thread Cert.Kernel2Ideal.nD Cert.Kernel2Ideal.τ).loc Cert.Kernel2Ideal.main_v47_1) = v1 c
          ∧ r.2.mem ((c.tc : Thread Cert.Kernel2Ideal.nD Cert.Kernel2Ideal.τ).loc Cert.Kernel2Ideal.main_v47_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_v60) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite_window [hKernel3Ideal : Cert.Kernel3Ideal.Facts] [hReference3Ideal : Cert.Reference3Ideal.Facts] [hPre_finite_window : Cert.Pre_finite_window.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_window m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v160) = v0 c
          ∧ r.2.mem ((c.tc : Thread Cert.Reference3Ideal.nD Cert.Reference3Ideal.τ).loc Cert.Reference3Ideal.main_v161) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite_up [hKernel4Ideal : Cert.Kernel4Ideal.Facts] [hReference4Ideal : Cert.Reference4Ideal.Facts] [hPre_finite_up : Cert.Pre_finite_up.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_up m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_kv [hKernel5Ideal : Cert.Kernel5Ideal.Facts] [hReference5Ideal : Cert.Reference5Ideal.Facts] [hPre_finite_kv : Cert.Pre_finite_kv.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_kv m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_q [hKernel6Ideal : Cert.Kernel6Ideal.Facts] [hReference6Ideal : Cert.Reference6Ideal.Facts] [hPre_finite_q : Cert.Pre_finite_q.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_q m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite_o [hKernel7Ideal : Cert.Kernel7Ideal.Facts] [hReference7Ideal : Cert.Reference7Ideal.Facts] [hPre_finite_o : Cert.Pre_finite_o.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_o m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v71) = v0 c
          ∧ r.2.mem ((c.tc : Thread Cert.Reference7Ideal.nD Cert.Reference7Ideal.τ).loc Cert.Reference7Ideal.main_v72) = v1 c
          ∧ r.2.mem ((c.tc : Thread Cert.Reference7Ideal.nD Cert.Reference7Ideal.τ).loc Cert.Reference7Ideal.main_v73) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite_maps [hKernel8Ideal : Cert.Kernel8Ideal.Facts] [hReference8Ideal : Cert.Reference8Ideal.Facts] [hPre_finite_maps : Cert.Pre_finite_maps.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_maps m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v14_0)) (v1 : (c : Dev Cert.Kernel8Ideal.nD) → Buf (Elt Ideal) ((c.tc : Thread Cert.Kernel8Ideal.nD Cert.Kernel8Ideal.τ).loc Cert.Kernel8Ideal.main_v14_1)) (v2 : (c : Dev Cert.Kernel8Ideal.nD) → Buf (Elt Ideal) ((c.tc : Thread Cert.Kernel8Ideal.nD Cert.Kernel8Ideal.τ).loc Cert.Kernel8Ideal.main_v14_2)) (v3 : (c : Dev Cert.Kernel8Ideal.nD) → Buf (Elt Ideal) ((c.tc : Thread Cert.Kernel8Ideal.nD Cert.Kernel8Ideal.τ).loc Cert.Kernel8Ideal.main_v14_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14_0) = v0 c
          ∧ r.2.mem ((c.tc : Thread Cert.Kernel8Ideal.nD Cert.Kernel8Ideal.τ).loc Cert.Kernel8Ideal.main_v14_1) = v1 c
          ∧ r.2.mem ((c.tc : Thread Cert.Kernel8Ideal.nD Cert.Kernel8Ideal.τ).loc Cert.Kernel8Ideal.main_v14_2) = v2 c
          ∧ r.2.mem ((c.tc : Thread Cert.Kernel8Ideal.nD Cert.Kernel8Ideal.τ).loc Cert.Kernel8Ideal.main_v14_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v55) = v0 c
          ∧ r.2.mem ((c.tc : Thread Cert.Reference8Ideal.nD Cert.Reference8Ideal.τ).loc Cert.Reference8Ideal.main_v58) = v1 c
          ∧ r.2.mem ((c.tc : Thread Cert.Reference8Ideal.nD Cert.Reference8Ideal.τ).loc Cert.Reference8Ideal.main_v59) = v2 c
          ∧ r.2.mem ((c.tc : Thread Cert.Reference8Ideal.nD Cert.Reference8Ideal.τ).loc Cert.Reference8Ideal.main_v60) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite_down [hKernel9Ideal : Cert.Kernel9Ideal.Facts] [hReference9Ideal : Cert.Reference9Ideal.Facts] [hPre_finite_down : Cert.Pre_finite_down.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_down m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v8_1)) (v2 : (c : Dev Cert.Kernel9Ideal.nD) → Buf (Elt Ideal) ((c.tc : Thread Cert.Kernel9Ideal.nD Cert.Kernel9Ideal.τ).loc Cert.Kernel9Ideal.main_v8_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v8_1) = v1 c
          ∧ r.2.mem ((c.tc : Thread Cert.Kernel9Ideal.nD Cert.Kernel9Ideal.τ).loc Cert.Kernel9Ideal.main_v8_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v83) = v0 c
          ∧ r.2.mem ((c.tc : Thread Cert.Reference9Ideal.nD Cert.Reference9Ideal.τ).loc Cert.Reference9Ideal.main_v84) = v1 c
          ∧ r.2.mem ((c.tc : Thread Cert.Reference9Ideal.nD Cert.Reference9Ideal.τ).loc Cert.Reference9Ideal.main_v85) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  IdealRules.bf16_pack.Statement Cert.Kernel10Ideal.S256x256
  ∧ IdealRules.named_const.Statement Cert.Kernel10Ideal.κ "dead_log" .f32 0x42D20000#32 ⊤

def algebraic_Kernel10Ideal_Reference10Ideal_pre_finite_qkv [hKernel10Ideal : Cert.Kernel10Ideal.Facts] [hReference10Ideal : Cert.Reference10Ideal.Facts] [hPre_finite_qkv : Cert.Pre_finite_qkv.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_qkv m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v10)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v29) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v16) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v14) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v15) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)) (v2 : (c : Dev Cert.Kernel14Ideal.nD) → Buf (Elt Ideal) ((c.tc : Thread Cert.Kernel14Ideal.nD Cert.Kernel14Ideal.τ).loc Cert.Kernel14Ideal.main_v2_2)) (v3 : (c : Dev Cert.Kernel14Ideal.nD) → Buf (Elt Ideal) ((c.tc : Thread Cert.Kernel14Ideal.nD Cert.Kernel14Ideal.τ).loc Cert.Kernel14Ideal.main_v2_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_v2_2) = v2 c
          ∧ r.2.mem ((c.tc : Thread Cert.Kernel14Ideal.nD Cert.Kernel14Ideal.τ).loc Cert.Kernel14Ideal.main_v2_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg3) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_finite_window : Cert.Pre_finite_window.Facts) (hPre_finite_up : Cert.Pre_finite_up.Facts) (hPre_finite_kv : Cert.Pre_finite_kv.Facts) (hPre_finite_q : Cert.Pre_finite_q.Facts) (hPre_finite_o : Cert.Pre_finite_o.Facts) (hPre_finite_maps : Cert.Pre_finite_maps.Facts) (hPre_finite_down : Cert.Pre_finite_down.Facts) (hPre_finite_qkv : Cert.Pre_finite_qkv.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite_window (hKernel3Ideal := hKernel3Ideal) (hPre_finite_window := hPre_finite_window)
    ∧ quiescent_Reference3Ideal (hReference3Ideal := hReference3Ideal)
    ∧ quiescent_Reference3Ideal_pre_finite_window (hReference3Ideal := hReference3Ideal) (hPre_finite_window := hPre_finite_window)
    ∧ quiescent_Kernel4 (hKernel4 := hKernel4)
    ∧ quiescent_Kernel4Ideal (hKernel4Ideal := hKernel4Ideal)
    ∧ quiescent_Kernel4Ideal_pre_finite_up (hKernel4Ideal := hKernel4Ideal) (hPre_finite_up := hPre_finite_up)
    ∧ quiescent_Reference4Ideal (hReference4Ideal := hReference4Ideal)
    ∧ quiescent_Reference4Ideal_pre_finite_up (hReference4Ideal := hReference4Ideal) (hPre_finite_up := hPre_finite_up)
    ∧ quiescent_Kernel5 (hKernel5 := hKernel5)
    ∧ quiescent_Kernel5Ideal (hKernel5Ideal := hKernel5Ideal)
    ∧ quiescent_Kernel5Ideal_pre_finite_kv (hKernel5Ideal := hKernel5Ideal) (hPre_finite_kv := hPre_finite_kv)
    ∧ quiescent_Reference5Ideal (hReference5Ideal := hReference5Ideal)
    ∧ quiescent_Reference5Ideal_pre_finite_kv (hReference5Ideal := hReference5Ideal) (hPre_finite_kv := hPre_finite_kv)
    ∧ quiescent_Kernel6 (hKernel6 := hKernel6)
    ∧ quiescent_Kernel6Ideal (hKernel6Ideal := hKernel6Ideal)
    ∧ quiescent_Kernel6Ideal_pre_finite_q (hKernel6Ideal := hKernel6Ideal) (hPre_finite_q := hPre_finite_q)
    ∧ quiescent_Reference6Ideal (hReference6Ideal := hReference6Ideal)
    ∧ quiescent_Reference6Ideal_pre_finite_q (hReference6Ideal := hReference6Ideal) (hPre_finite_q := hPre_finite_q)
    ∧ quiescent_Kernel7 (hKernel7 := hKernel7)
    ∧ quiescent_Kernel7Ideal (hKernel7Ideal := hKernel7Ideal)
    ∧ quiescent_Kernel7Ideal_pre_finite_o (hKernel7Ideal := hKernel7Ideal) (hPre_finite_o := hPre_finite_o)
    ∧ quiescent_Reference7Ideal (hReference7Ideal := hReference7Ideal)
    ∧ quiescent_Reference7Ideal_pre_finite_o (hReference7Ideal := hReference7Ideal) (hPre_finite_o := hPre_finite_o)
    ∧ quiescent_Kernel8 (hKernel8 := hKernel8)
    ∧ quiescent_Kernel8Ideal (hKernel8Ideal := hKernel8Ideal)
    ∧ quiescent_Kernel8Ideal_pre_finite_maps (hKernel8Ideal := hKernel8Ideal) (hPre_finite_maps := hPre_finite_maps)
    ∧ quiescent_Reference8Ideal (hReference8Ideal := hReference8Ideal)
    ∧ quiescent_Reference8Ideal_pre_finite_maps (hReference8Ideal := hReference8Ideal) (hPre_finite_maps := hPre_finite_maps)
    ∧ quiescent_Kernel9 (hKernel9 := hKernel9)
    ∧ quiescent_Kernel9Ideal (hKernel9Ideal := hKernel9Ideal)
    ∧ quiescent_Kernel9Ideal_pre_finite_down (hKernel9Ideal := hKernel9Ideal) (hPre_finite_down := hPre_finite_down)
    ∧ quiescent_Reference9Ideal (hReference9Ideal := hReference9Ideal)
    ∧ quiescent_Reference9Ideal_pre_finite_down (hReference9Ideal := hReference9Ideal) (hPre_finite_down := hPre_finite_down)
    ∧ quiescent_Kernel10 (hKernel10 := hKernel10)
    ∧ quiescent_Kernel10Ideal (hKernel10Ideal := hKernel10Ideal)
    ∧ quiescent_Kernel10Ideal_pre_finite_qkv (hKernel10Ideal := hKernel10Ideal) (hPre_finite_qkv := hPre_finite_qkv)
    ∧ quiescent_Reference10Ideal (hReference10Ideal := hReference10Ideal)
    ∧ quiescent_Reference10Ideal_pre_finite_qkv (hReference10Ideal := hReference10Ideal) (hPre_finite_qkv := hPre_finite_qkv)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite_window (hKernel3Ideal := hKernel3Ideal) (hReference3Ideal := hReference3Ideal) (hPre_finite_window := hPre_finite_window)
    ∧ preserves_Kernel4_Kernel4Ideal
    ∧ algebraic_Kernel4Ideal_Reference4Ideal_pre_finite_up (hKernel4Ideal := hKernel4Ideal) (hReference4Ideal := hReference4Ideal) (hPre_finite_up := hPre_finite_up)
    ∧ preserves_Kernel5_Kernel5Ideal
    ∧ algebraic_Kernel5Ideal_Reference5Ideal_pre_finite_kv (hKernel5Ideal := hKernel5Ideal) (hReference5Ideal := hReference5Ideal) (hPre_finite_kv := hPre_finite_kv)
    ∧ preserves_Kernel6_Kernel6Ideal
    ∧ algebraic_Kernel6Ideal_Reference6Ideal_pre_finite_q (hKernel6Ideal := hKernel6Ideal) (hReference6Ideal := hReference6Ideal) (hPre_finite_q := hPre_finite_q)
    ∧ preserves_Kernel7_Kernel7Ideal
    ∧ algebraic_Kernel7Ideal_Reference7Ideal_pre_finite_o (hKernel7Ideal := hKernel7Ideal) (hReference7Ideal := hReference7Ideal) (hPre_finite_o := hPre_finite_o)
    ∧ preserves_Kernel8_Kernel8Ideal
    ∧ algebraic_Kernel8Ideal_Reference8Ideal_pre_finite_maps (hKernel8Ideal := hKernel8Ideal) (hReference8Ideal := hReference8Ideal) (hPre_finite_maps := hPre_finite_maps)
    ∧ preserves_Kernel9_Kernel9Ideal
    ∧ algebraic_Kernel9Ideal_Reference9Ideal_pre_finite_down (hKernel9Ideal := hKernel9Ideal) (hReference9Ideal := hReference9Ideal) (hPre_finite_down := hPre_finite_down)
    ∧ preserves_Kernel10_Kernel10Ideal
    ∧ algebraic_Kernel10Ideal_Reference10Ideal_pre_finite_qkv (hKernel10Ideal := hKernel10Ideal) (hReference10Ideal := hReference10Ideal) (hPre_finite_qkv := hPre_finite_qkv)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S4096x1024 : Shape := ⟨2, ![4096, 1024]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  bcast_S_S4096x2048 : S_.BroadcastsInDim S4096x2048 (![] : Fin 0 → Fin S4096x2048.rank)

variable [Facts]

def fn {F : FTy → Type} [FloatOps F] (main_arg0 : FVec F S4096x1024 .f32) (main_arg1 : FVec F S4096x2048 .f32) (main_arg2 : FVec F S4096x1024 .f32) : IVec S4096x1024 1 × IVec S4096x2048 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite_down.lean ====
abbrev S4096x1024 : Shape := ⟨2, ![4096, 1024]⟩
abbrev S4096x4096 : Shape := ⟨2, ![4096, 4096]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S4096x4096 : S_.BroadcastsInDim S4096x4096 (![] : Fin 0 → Fin S4096x4096.rank)
  bcast_S_S1024 : S_.BroadcastsInDim S1024 (![] : Fin 0 → Fin S1024.rank)

variable [Facts]

def fn {F : FTy → Type} [FloatOps F] (main_arg0 : FVec F S4096x1024 .f32) (main_arg1 : FVec F S4096x4096 .f32) (main_arg2 : FVec F S4096x1024 .f32) (main_arg3 : FVec F S1024 .f32) : IVec S4096x1024 1 × IVec S4096x4096 1 × IVec S4096x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_kv.lean ====
abbrev S4096x2048 : Shape := ⟨2, ![4096, 2048]⟩
abbrev S1024x2048 : Shape := ⟨2, ![1024, 2048]⟩
abbrev S4096x1024 : Shape := ⟨2, ![4096, 1024]⟩
abbrev S1024 : Shape := ⟨1, ![1024]⟩
abbrev S_ : Shape := ⟨0, ![]⟩

class Facts : Prop where
  bcast_S_S4096x2048 : S_.BroadcastsInDim S4096x2048 (![] : Fin 0 → Fin S4096x2048.rank)
  bcast_S_S1024x2048 : S_.BroadcastsInDim S1024x2048 (![] : Fin 0 → Fin S1024x2048.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x2048 .f32) (main_arg1 : FVec F S1024x2048 .f32) (main_arg2 : FVec F S4096x1024 .f32) (main_arg3 : FVec F S1024 .f32) (main_arg4 : FVec F S4096x1024 .f32) : IVec S4096x2048 1 × IVec S1024x2048 1 × IVec S4096x1024 1 × IVec S1024 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1024x2048 .f32 := Host.absf main_arg1
  let main_cst_0 : FVec F S_ .f32 := constant S_ .f32 0x7F800000#32
  let main_v4 : FVec F S1024x2048 .f32 := broadcastInDim S1024x2048 ![] bcast_S_S1024x2048 main_cst_0
  let main_v5 : IVec S1024x2048 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_maps.lean ====
abbrev S4096x1024 : Shape := ⟨2, ![4096, 1024]⟩
abbrev S4x256x256 : Shape := ⟨3, ![4, 256, 256]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S4x256x256 : S_.BroadcastsInDim S4x256x256 (![] : Fin 0 → Fin S4x256x256.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S4x256x256 .f32) (main_arg3 : FVec F S1024 .f32) (main_arg4 : FVec F S1024 .f32) : IVec S4096x1024 1 × IVec S4096x1024 1 × IVec S4x256x256 1 × IVec S1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4x256x256 .f32 := Host.absf main_arg2
  let main_cst_1 : FVec F S_ .f32 := constant S_ .f32 0x7F800000#32
  let main_v7 : FVec F S4x256x256 .f32 := broadcastInDim S4x256x256 ![] bcast_S_S4x256x256 main_cst_1
  let main_v8 : IVec S4x256x256 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Pre_finite_o.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S1024x1024 .f32) (main_arg3 : FVec F S1024 .f32) : IVec S4096x1024 1 × IVec S4096x1024 1 × IVec S1024x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_q.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024x1024 .f32) (main_arg2 : FVec F S4096x1024 .f32) (main_arg3 : FVec F S1024 .f32) (main_arg4 : FVec F S4096x1024 .f32) : IVec S4096x1024 1 × IVec S1024x1024 1 × IVec S4096x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_qkv.lean ====
abbrev S4096x1024 : Shape := ⟨2, ![4096, 1024]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  bcast_S_S4096x2048 : S_.BroadcastsInDim S4096x2048 (![] : Fin 0 → Fin S4096x2048.rank)

variable [Facts]

def fn {F : FTy → Type} [FloatOps F] (main_arg0 : FVec F S4096x1024 .f32) (main_arg1 : FVec F S4096x2048 .f32) : IVec S4096x1024 1 × IVec S4096x2048 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  (main_v2, main_v5)
-- ==== Pre_finite_up.lean ====
abbrev S4096x4096 : Shape := ⟨2, ![4096, 4096]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩

class Facts : Prop where
  bcast_S_S4096x4096 : S_.BroadcastsInDim S4096x4096 (![] : Fin 0 → Fin S4096x4096.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x4096 .f32) (main_arg1 : FVec F S1024x4096 .f32) (main_arg2 : FVec F S4096x1024 .f32) (main_arg3 : FVec F S1024 .f32) (main_arg4 : FVec F S4096x1024 .f32) : IVec S4096x4096 1 × IVec S1024x4096 1 × IVec S4096x1024 1 × IVec S1024 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_window.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S1024 .f32) (main_arg3 : FVec F S4096x1024 .f32) : IVec S4096x1024 1 × IVec S4096x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Kernel.lean ====
abbrev S4096x1024 : Shape := ⟨2, ![4096, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg0 : BitVec 32 := BitVec.ofNat 32 (i 0).val
  let c0_i32_10 : BitVec 32 := 0#32
  let v18 : BitVec 1 := Scalar.cmpi .sgt arg0 c0_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel2.lean ====
abbrev S4096x1024 : Shape := ⟨2, ![4096, 1024]⟩
abbrev S4096x2048 : Shape := ⟨2, ![4096, 2048]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S256x256 : Shape := ⟨2, ![256, 256]⟩
abbrev S512x256 : Shape := ⟨2, ![512, 256]⟩
abbrev S4096x256 : Shape := ⟨2, ![4096, 256]⟩
abbrev S4x256x1 : Shape := ⟨3, ![4, 256, 1]⟩
abbrev S4x256x128 : Shape := ⟨3, ![4, 256, 128]⟩
abbrev S256x128 : Shape := ⟨2, ![256, 128]⟩
abbrev S256 : Shape := ⟨1, ![256]⟩
abbrev S256x1 : Shape := ⟨2, ![256, 1]⟩
abbrev S256x512 : Shape := ⟨2, ![256, 512]⟩
abbrev S1x256x1 : Shape := ⟨3, ![1, 256, 1]⟩
abbrev S1x256x128 : Shape := ⟨3, ![1, 256, 128]⟩
abbrev S1 : Shape := ⟨1, ![1]⟩
abbrev S1x1x1 : Shape := ⟨3, ![1, 1, 1]⟩

abbrev nBuf : Space → Nat
  | .hbm => 101
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x16x64, .f32⟩
  | .hbm, ⟨4, _⟩ => ⟨S16x4096x64, .f32⟩
  | .hbm, ⟨5, _⟩ => ⟨S4096x1024, .f32⟩
  | .hbm, ⟨6, _⟩ => ⟨S4096x16x64, .f32⟩
  | .hbm, ⟨7, _⟩ => ⟨S16x4096x64, .f32⟩
  | .hbm, ⟨8, _⟩ => ⟨S4096x1024, .f32⟩
  | .hbm, ⟨9, _⟩ => ⟨S4096x16x64, .f32⟩
  | .hbm, ⟨10, _⟩ => ⟨S16x4096x64, .f32⟩
  | .hbm, ⟨11, _⟩ => ⟨S16x4096x4096, .f32⟩
  | .hbm, ⟨12, _⟩ => ⟨S_, .f32⟩
  | .hbm, ⟨13, _⟩ => ⟨S16x4096x4096, .f32⟩
  | .hbm, ⟨14, _⟩ => ⟨S16x4096x4096, .f32⟩
  | .hbm, ⟨15, _⟩ => ⟨S4096, .i32⟩
  | .hbm, ⟨16, _⟩ => ⟨S1x4096, .i32⟩
  | .hbm, ⟨17, _⟩ => ⟨S4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .i1⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S_, .f32⟩
  | .hbm, ⟨39, _⟩ => ⟨S16x4096x4096, .i1⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S_, .f32⟩
  | .hbm, ⟨44, _⟩ => ⟨S16x4096x4096, .f32⟩
  | .hbm, ⟨45, _⟩ => ⟨S16x4096x4096, .f32⟩
  | .hbm, ⟨46, _⟩ => ⟨S16x4096x4096, .f32⟩
  | .hbm, ⟨47, _⟩ => ⟨S_, .f32⟩
  | .hbm, ⟨48, _⟩ => ⟨S16x4096x4096, .f32⟩
  | .hbm, ⟨49, _⟩ => ⟨S16x4096x4096, .f32⟩
  | .hbm, ⟨50, _⟩ => ⟨S16x4096x4096, .f32⟩
  | .hbm, ⟨51, _⟩ => ⟨S16x4096x4096, .f32⟩
  | .hbm, ⟨52, _⟩ => ⟨S16x4096x4096, .i1⟩
  | .hbm, ⟨53, _⟩ => ⟨S16x4096x4096, .f32⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S16x4096x4096, .f32⟩
  | .hbm, ⟨58, _⟩ => ⟨S16x4096x4096, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S16x4096x4096, .f32⟩
  | .hbm, ⟨64, _⟩ => ⟨S_, .f32⟩
  | .hbm, ⟨65, _⟩ => ⟨S_, .f32⟩
  | .hbm, ⟨66, _⟩ => ⟨S16x4096x4096, .i1⟩
  | .hbm, ⟨67, _⟩ => ⟨S16x4096x4096, .f32⟩
  | .hbm, ⟨68, _⟩ => ⟨S16x4096x4096, .f32⟩
  | .hbm, ⟨69, _⟩ => ⟨S16x4096x64, .f32⟩
  | .hbm, ⟨70, _⟩ => ⟨S4096x16x64, .f32⟩
  | .hbm, ⟨71, _⟩ => ⟨S4096x1024, .f32⟩
  | .hbm, ⟨72, _⟩ => ⟨S_, .f32⟩
  | .hbm, ⟨73, _⟩ => ⟨S4096x1024, .f32⟩
  | .hbm, ⟨74, _⟩ => ⟨S4096x1024, .f32⟩
  | .hbm, ⟨75, _⟩ => ⟨S4096x1024, .bf16⟩
  | .hbm, ⟨76, _⟩ => ⟨S4096x2048, .bf16⟩
  | .hbm, ⟨77, _⟩ => ⟨S4096x1024, .bf16⟩
  | .hbm, ⟨78, _⟩ => ⟨S256x256, .i32⟩
  | .hbm, ⟨79, _⟩ => ⟨S256x256, .i32⟩
  | .hbm, ⟨80, _⟩ => ⟨S256x256, .i1⟩
  | .hbm, ⟨81, _⟩ => ⟨S_, .f32⟩
  | .hbm, ⟨82, _⟩ => ⟨S_, .f32⟩
  | .hbm, ⟨83, _⟩ => ⟨S256x256, .f32⟩
  | .hbm, ⟨84, _⟩ => ⟨S256x256, .f32⟩
  | .hbm, ⟨85, _⟩ => ⟨S256x256, .f32⟩
  | .hbm, ⟨86, _⟩ => ⟨S256x256, .bf16⟩
  | .hbm, ⟨87, _⟩ => ⟨S512x256, .bf16⟩
  | .hbm, ⟨88, _⟩ => ⟨S256x256, .i32⟩
  | .hbm, ⟨89, _⟩ => ⟨S256x256, .i32⟩
  | .hbm, ⟨90, _⟩ => ⟨S256x256, .i1⟩
  | .hbm, ⟨91, _⟩ => ⟨S_, .f32⟩
  | .hbm, ⟨92, _⟩ => ⟨S_, .f32⟩
  | .hbm, ⟨93, _⟩ => ⟨S256x256, .f32⟩
  | .hbm, ⟨94, _⟩ => ⟨S256x256, .f32⟩
  | .hbm, ⟨95, _⟩ => ⟨S256x256, .f32⟩
  | .hbm, ⟨96, _⟩ => ⟨S256x256, .bf16⟩
  | .hbm, ⟨97, _⟩ => ⟨S512x256, .bf16⟩
  | .hbm, ⟨98, _⟩ => ⟨S4096x1024, .bf16⟩
  | .hbm, ⟨99, _⟩ => ⟨S4096x1024, .f32⟩
  | .hbm, ⟨100, _⟩ => ⟨S4096x1024, .f32⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .f32⟩
  | .local _ .vmem, ⟨7, _⟩ => ⟨S256x256, .f32⟩
  | .local _ .vmem, ⟨8, _⟩ => ⟨S256x256, .bf16⟩
  | .local _ .vmem, ⟨9, _⟩ => ⟨S256x256, .bf16⟩
  | .local _ .vmem, ⟨10, _⟩ => ⟨S512x256, .bf16⟩
  | .local _ .vmem, ⟨11, _⟩ => ⟨S512x256, .bf16⟩
  | .local _ .vmem, ⟨12, _⟩ => ⟨S256x256, .bf16⟩
  | .local _ .vmem, ⟨13, _⟩ => ⟨S256x256, .bf16⟩
  | .local _ .vmem, ⟨14, _⟩ => ⟨S4096x256, .f32⟩
  | .local _ .vmem, ⟨15, _⟩ => ⟨S4096x256, .f32⟩
  | .local _ .vmem, ⟨16, _⟩ => ⟨S4096x256, .f32⟩
  | .local _ .vmem, ⟨17, _⟩ => ⟨S4096x256, .f32⟩
  | .local _ .vmem, ⟨18, _⟩ => ⟨S4x256x1, .f32⟩
  | .local _ .vmem, ⟨19, _⟩ => ⟨S4x256x1, .f32⟩
  | .local _ .vmem, ⟨20, _⟩ => ⟨S4x256x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_call2_cst : Ref sig .tc := ⟨.hbm, 42, rfl⟩
abbrev main_call2_v0 : Ref sig .tc := ⟨.hbm, 43, rfl⟩
abbrev main_v21 : Ref sig .tc := ⟨.hbm, 44, rfl⟩
abbrev main_v22 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_2 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_3 : Ref sig .tc := ⟨.hbm, 81, rfl⟩
abbrev main_cst_4 : Ref sig .tc := ⟨.hbm, 82, rfl⟩
abbrev main_call5_v0 : Ref sig .tc := ⟨.hbm, 83, rfl⟩
abbrev main_call5_v1 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_cst_5 : Ref sig .tc := ⟨.hbm, 91, rfl⟩
abbrev main_cst_6 : Ref sig .tc := ⟨.hbm, 92, rfl⟩
abbrev main_call6_v0 : Ref sig .tc := ⟨.hbm, 93, rfl⟩
abbrev main_call6_v1 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47_0 : Ref sig .tc := ⟨.hbm, 98, rfl⟩
abbrev main_v47_1 : Ref sig .tc := ⟨.hbm, 99, rfl⟩
abbrev main_v47_2 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [BitOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v63 : BitVec 32 := Scalar.muli arg1 c256_i32
  v63
def k0_off1 (i : grid0.Coords) : Fin 2 → Nat :=
  let arg1 : BitVec 32 := BitVec.ofNat 32 (i 1).val
  let c256_i32 : BitVec 32 := 256#32
  let v63 : BitVec 32 := Scalar.muli arg1 c256_i32
  let v64 : BitVec 32 := v63
  let v65 : Index := Scalar.indexCast v64
  let c0_32 : Index := 0#32
  ![v65.toNat, 0]
def k0_off2 (i : grid0.Coords) : Fin 2 → Nat :=
  let arg1 : BitVec 32 := BitVec.ofNat 32 (i 1).val
  let c256_i32 : BitVec 32 := 256#32
  let v63 : BitVec 32 := Scalar.muli arg1 c256_i32
  let v64 : BitVec 32 := v63
  let v68 : Index := Scalar.indexCast v64
  let c128_33 : Index := 128#32
  ![v68.toNat, 128]
def k0_mult2 (i : grid0.Coords) (arg15 : BitVec 32) : BitVec 32 :=
  let arg1 : BitVec 32 := BitVec.ofNat 32 (i 1).val
  let c1_i32 : BitVec 32 := 1#32
  let v471 : BitVec 32 := Scalar.subi arg1 c1_i32
  let v472 : BitVec 32 := Scalar.subi v471 arg15
  let c256_i32_240 : BitVec 32 := 256#32
  let v473 : BitVec 32 := Scalar.muli v472 c256_i32_240
  v473

def k0_off3 (i : grid0.Coords) (arg15 : BitVec 32) : Fin 2 → Nat :=
  let arg1 : BitVec 32 := BitVec.ofNat 32 (i 1).val
  let c1_i32 : BitVec 32 := 1#32
  let v471 : BitVec 32 := Scalar.subi arg1 c1_i32
  let v472 : BitVec 32 := Scalar.subi v471 arg15
  let c256_i32_240 : BitVec 32 := 256#32
  let v473 : BitVec 32 := Scalar.muli v472 c256_i32_240
  let v474 : BitVec 32 := v473
  let v475 : Index := Scalar.indexCast v474
  let c0_241 : Index := 0#32
  ![v475.toNat, 0]
def k0_off4 (i : grid0.Coords) (arg15 : BitVec 32) : Fin 2 → Nat :=
  let arg1 : BitVec 32 := BitVec.ofNat 32 (i 1).val
  let c1_i32 : BitVec 32 := 1#32
  let v471 : BitVec 32 := Scalar.subi arg1 c1_i32
  let v472 : BitVec 32 := Scalar.subi v471 arg15
  let c256_i32_240 : BitVec 32 := 256#32
  let v473 : BitVec 32 := Scalar.muli v472 c256_i32_240
  let v474 : BitVec 32 := v473
  let v478 : Index := Scalar.indexCast v474
  let c128_242 : Index := 128#32
  ![v478.toNat, 128]

def k0_chk1 (i : grid0.Coords) (arg15 : BitVec 32) : Prop :=
  (256 ∣ (k0_mult2 i arg15).toNat) ∧
  (∀ a, (k0_off3 i arg15) a + S256x128.size a ≤ S4096x256.size a) ∧
  (∀ a, (k0_off4 i arg15) a + S256x128.size a ≤ S4096x256.size a)
theorem k0_mult2_dvd : ∀ (i : grid0.Coords) (arg15 : BitVec 32) (k0_hw1 : k0_chk1 i arg15), 256 ∣ (k0_mult2 i arg15).toNat := fun i arg15 k0_hw1 => k0_hw1.1
theorem k0_off3_inb : ∀ (i : grid0.Coords) (arg15 : BitVec 32) (k0_hw1 : k0_chk1 i arg15), ∀ a, (k0_off3 i arg15) a + S256x128.size a ≤ S4096x256.size a := fun i arg15 k0_hw1 => k0_hw1.2.1
theorem k0_off4_inb : ∀ (i : grid0.Coords) (arg15 : BitVec 32) (k0_hw1 : k0_chk1 i arg15), ∀ a, (k0_off4 i arg15) a + S256x128.size a ≤ S4096x256.size a := fun i arg15 k0_hw1 => k0_hw1.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel2Ideal.lean ====
variable {F : FTy → Type} [FloatOps F] [Named F]
def κ : String → Option EReal := fun
  | "dead_log" => some ⊤
  | _ => none
-- ==== Reference2Ideal.lean ====
abbrev S4096x1024 : Shape := ⟨2, ![4096, 1024]⟩
abbrev S4096x2048 : Shape := ⟨2, ![4096, 2048]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩

abbrev nBuf : Space → Nat
  | .hbm => 182
  | .vmem => 0
  | .smem => 0
  | _ => 0

abbrev hbmTy0_0 (i : Nat) : BufTy := match i % 128 with
  | 0 => ⟨S4096x1024, .f32⟩
  | 1 => ⟨S4096x2048, .f32⟩
  | 2 => ⟨S4096x1024, .f32⟩
  | 3 => ⟨S4096x16x64, .f32⟩
  | 4 => ⟨S16x4096x64, .f32⟩
  | 5 => ⟨S4096x1024, .f32⟩
  | 6 => ⟨S4096x16x64, .f32⟩
  | 7 => ⟨S16x4096x64, .f32⟩
  | 8 => ⟨S4096x1024, .f32⟩
  | 9 => ⟨S4096x16x64, .f32⟩
  | 10 => ⟨S16x4096x64, .f32⟩
  | 11 => ⟨S16x4096x4096, .f32⟩
  | 12 => ⟨S_, .f32⟩
  | 13 => ⟨S16x4096x4096, .f32⟩
  | 14 => ⟨S16x4096x4096, .f32⟩
  | 15 => ⟨S4096, .i32⟩
  | 16 => ⟨S1x4096, .i32⟩
  | 17 => ⟨S4096, .i32⟩
  | 18 => ⟨S4096x1, .i32⟩
  | 19 => ⟨S4096x4096, .i32⟩
  | 20 => ⟨S4096x4096, .i32⟩
  | 21 => ⟨S4096x4096, .i1⟩
  | 22 => ⟨S_, .f32⟩
  | 23 => ⟨S16x4096x4096, .f32⟩
  | 24 => ⟨S16x4096x4096, .f32⟩
  | 25 => ⟨S16x4096x4096, .f32⟩
  | 26 => ⟨S16x4096x4096, .f32⟩
  | 27 => ⟨S16x4096x4096, .i1⟩
  | 28 => ⟨S16x4096x4096, .f32⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S_, .f32⟩
  | 37 => ⟨S16x4096x4096, .f32⟩
  | 38 => ⟨S16x4096x4096, .i1⟩
  | 39 => ⟨S_, .f32⟩
  | 40 => ⟨S16x4096x4096, .f32⟩
  | 41 => ⟨S16x4096x4096, .f32⟩
  | 42 => ⟨S_, .f32⟩
  | 43 => ⟨S16x4096x4096, .f32⟩
  | 44 => ⟨S16x4096x4096, .i1⟩
  | 45 => ⟨S_, .f32⟩
  | 46 => ⟨S16x4096x4096, .f32⟩
  | 47 => ⟨S16x4096x4096, .f32⟩
  | 48 => ⟨S16x4096x4096, .f32⟩
  | 49 => ⟨S16x4096x4096, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S16x4096x4096, .f32⟩
  | 58 => ⟨S16x4096x4096, .i1⟩
  | 59 => ⟨S_, .f32⟩
  | 60 => ⟨S16x4096x4096, .f32⟩
  | 61 => ⟨S16x4096x4096, .f32⟩
  | 62 => ⟨S16x4096x4096, .f32⟩
  | 63 => ⟨S16x4096x4096, .f32⟩
  | 64 => ⟨S16x4096x4096, .f32⟩
  | 65 => ⟨S_, .f32⟩
  | 66 => ⟨S16x4096x4096, .f32⟩
  | 67 => ⟨S16x4096x4096, .f32⟩
  | 68 => ⟨S16x4096x4096, .f32⟩
  | 69 => ⟨S_, .f32⟩
  | 70 => ⟨S_, .f32⟩
  | 71 => ⟨S16x4096x4096, .i1⟩
  | 72 => ⟨S16x4096x4096, .f32⟩
  | 73 => ⟨S16x4096x4096, .f32⟩
  | 74 => ⟨S_, .f32⟩
  | 75 => ⟨S16x4096x4096, .f32⟩
  | 76 => ⟨S_, .f32⟩
  | 77 => ⟨S_, .f32⟩
  | 78 => ⟨S16x4096x4096, .f32⟩
  | 79 => ⟨S16x4096x4096, .f32⟩
  | 80 => ⟨S16x4096x4096, .f32⟩
  | 81 => ⟨S_, .f32⟩
  | 82 => ⟨S16x4096x4096, .f32⟩
  | 83 => ⟨S16x4096x4096, .f32⟩
  | 84 => ⟨S16x4096x4096, .f32⟩
  | 85 => ⟨S16x4096x4096, .f32⟩
  | 86 => ⟨S16x4096x4096, .i1⟩
  | 87 => ⟨S16x4096x4096, .f32⟩
  | 88 => ⟨S16x4096x4096, .f32⟩
  | 89 => ⟨S16x4096x4096, .f32⟩
  | 90 => ⟨S16x4096x4096, .f32⟩
  | 91 => ⟨S16x4096x4096, .f32⟩
  | 92 => ⟨S16x4096x4096, .f32⟩
  | 93 => ⟨S16x4096x4096, .f32⟩
  | 94 => ⟨S16x4096x4096, .f32⟩
  | 95 => ⟨S_, .f32⟩
  | 96 => ⟨S16x4096x4096, .f32⟩
  | 97 => ⟨S16x4096x4096, .i1⟩
  | 98 => ⟨S_, .f32⟩
  | 99 => ⟨S16x4096x4096, .f32⟩
  | 100 => ⟨S16x4096x4096, .f32⟩
  | 101 => ⟨S_, .f32⟩
  | 102 => ⟨S16x4096x4096, .f32⟩
  | 103 => ⟨S16x4096x4096, .i1⟩
  | 104 => ⟨S_, .f32⟩
  | 105 => ⟨S16x4096x4096, .f32⟩
  | 106 => ⟨S16x4096x4096, .f32⟩
  | 107 => ⟨S16x4096x4096, .f32⟩
  | 108 => ⟨S16x4096x4096, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S16x4096x4096, .f32⟩
  | 117 => ⟨S16x4096x4096, .i1⟩
  | 118 => ⟨S_, .f32⟩
  | 119 => ⟨S16x4096x4096, .f32⟩
  | 120 => ⟨S16x4096x4096, .f32⟩
  | 121 => ⟨S16x4096x4096, .f32⟩
  | 122 => ⟨S16x4096x4096, .f32⟩
  | 123 => ⟨S16x4096x4096, .f32⟩
  | 124 => ⟨S_, .f32⟩
  | 125 => ⟨S16x4096x4096, .f32⟩
  | 126 => ⟨S16x4096x4096, .f32⟩
  | 127 => ⟨S16x4096x4096, .f32⟩
  | _ => ⟨S4096x1024, .f32⟩

abbrev hbmTy0_1 (i : Nat) : BufTy := match i % 128 with
  | 0 => ⟨S16x4096x4096, .f32⟩
  | 1 => ⟨S16x4096x4096, .f32⟩
  | 2 => ⟨S_, .f32⟩
  | 3 => ⟨S_, .f32⟩
  | 4 => ⟨S16x4096x4096, .i1⟩
  | 5 => ⟨S16x4096x4096, .f32⟩
  | 6 => ⟨S16x4096x4096, .f32⟩
  | 7 => ⟨S_, .f32⟩
  | 8 => ⟨S16x4096x4096, .f32⟩
  | 9 => ⟨S16x4096x64, .f32⟩
  | 10 => ⟨S4096x16x64, .f32⟩
  | 11 => ⟨S4096x1024, .f32⟩
  | 12 => ⟨S4096x16x64, .f32⟩
  | 13 => ⟨S16x4096x64, .f32⟩
  | 14 => ⟨S16x64x4096, .f32⟩
  | 15 => ⟨S16x4096x64, .f32⟩
  | 16 => ⟨S16x4096x4096, .f32⟩
  | 17 => ⟨S_, .f32⟩
  | 18 => ⟨S16x4096x4096, .f32⟩
  | 19 => ⟨S16x4096x4096, .f32⟩
  | 20 => ⟨S16x4096x4096, .f32⟩
  | 21 => ⟨S16x4096x4096, .f32⟩
  | 22 => ⟨S16x4096x4096, .f32⟩
  | 23 => ⟨S16x4096x4096, .f32⟩
  | 24 => ⟨S16x4096x4096, .f32⟩
  | 25 => ⟨S_, .f32⟩
  | 26 => ⟨S_, .f32⟩
  | 27 => ⟨S16x4096x4096, .f32⟩
  | 28 => ⟨S16x4096x4096, .f32⟩
  | 29 => ⟨S_, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S_, .f32⟩
  | 36 => ⟨S16x4096x4096, .f32⟩
  | 37 => ⟨S16x4096x4096, .f32⟩
  | 38 => ⟨S16x4096x64, .f32⟩
  | 39 => ⟨S16x4096x64, .f32⟩
  | 40 => ⟨S4096x16x64, .f32⟩
  | 41 => ⟨S4096x1024, .f32⟩
  | 42 => ⟨S_, .f32⟩
  | 43 => ⟨S4096x2048, .f32⟩
  | 44 => ⟨S4096x16x64, .f32⟩
  | 45 => ⟨S4096x1024, .f32⟩
  | 46 => ⟨S_, .f32⟩
  | 47 => ⟨S4096x2048, .f32⟩
  | 48 => ⟨S4096x2048, .f32⟩
  | 49 => ⟨S4096x16x64, .f32⟩
  | 50 => ⟨S4096x1024, .f32⟩
  | 51 => ⟨S4096x1024, .bf16⟩
  | 52 => ⟨S4096x1024, .f32⟩
  | 53 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v18_0 : Ref sig .tc := ⟨.hbm, 35, rfl⟩
abbrev main_call0_cst_0 : Ref sig .tc := ⟨.hbm, 36, rfl⟩
abbrev main_call0_v13 : Ref sig .tc := ⟨.hbm, 37, rfl⟩
abbrev main_call0_v14 : Ref sig .tc := ⟨.hbm, 38, rfl⟩
abbrev main_call0_cst_1 : Ref sig .tc := ⟨.hbm, 39, rfl⟩
abbrev main_call0_v15 : Ref sig .tc := ⟨.hbm, 40, rfl⟩
abbrev main_call0_v16 : Ref sig .tc := ⟨.hbm, 41, rfl⟩
abbrev main_call0_cst_2 : Ref sig .tc := ⟨.hbm, 42, rfl⟩
abbrev main_call0_v17 : Ref sig .tc := ⟨.hbm, 43, rfl⟩
abbrev main_call0_v18 : Ref sig .tc := ⟨.hbm, 44, rfl⟩
abbrev main_call0_cst_3 : Ref sig .tc := ⟨.hbm, 45, rfl⟩
abbrev main_call0_v19 : Ref sig .tc := ⟨.hbm, 46, rfl⟩
abbrev main_call0_v20 : Ref sig .tc := ⟨.hbm, 47, rfl⟩
abbrev main_call0_v21 : Ref sig .tc := ⟨.hbm, 48, rfl⟩
abbrev main_v18_1 : Ref sig .tc := ⟨.hbm, 49, rfl⟩
abbrev main_call0_cst_4 : Ref sig .tc := ⟨.hbm, 50, rfl⟩
abbrev main_call0_cst_5 : Ref sig .tc := ⟨.hbm, 51, rfl⟩
abbrev main_call0_v23 : Ref sig .tc := ⟨.hbm, 52, rfl⟩
abbrev main_call0_cst_6 : Ref sig .tc := ⟨.hbm, 53, rfl⟩
abbrev main_call0_cst_7 : Ref sig .tc := ⟨.hbm, 54, rfl⟩
abbrev main_call0_v24 : Ref sig .tc := ⟨.hbm, 55, rfl⟩
abbrev main_call0_cst_8 : Ref sig .tc := ⟨.hbm, 56, rfl⟩
abbrev main_call0_v25 : Ref sig .tc := ⟨.hbm, 57, rfl⟩
abbrev main_call0_v26 : Ref sig .tc := ⟨.hbm, 58, rfl⟩
abbrev main_call0_cst_9 : Ref sig .tc := ⟨.hbm, 59, rfl⟩
abbrev main_call0_v27 : Ref sig .tc := ⟨.hbm, 60, rfl⟩
abbrev main_call0_v28 : Ref sig .tc := ⟨.hbm, 61, rfl⟩
abbrev main_call0_v29 : Ref sig .tc := ⟨.hbm, 62, rfl⟩
abbrev main_call0_v30 : Ref sig .tc := ⟨.hbm, 63, rfl⟩
abbrev main_call0_v31 : Ref sig .tc := ⟨.hbm, 64, rfl⟩
abbrev main_call0_cst_10 : Ref sig .tc := ⟨.hbm, 65, rfl⟩
abbrev main_call0_v32 : Ref sig .tc := ⟨.hbm, 66, rfl⟩
abbrev main_v18_2 : Ref sig .tc := ⟨.hbm, 67, rfl⟩
abbrev main_v19 : Ref sig .tc := ⟨.hbm, 68, rfl⟩
abbrev main_cst_0 : Ref sig .tc := ⟨.hbm, 69, rfl⟩
abbrev main_call1_v0 : Ref sig .tc := ⟨.hbm, 70, rfl⟩
abbrev main_v20_1 : Ref sig .tc := ⟨.hbm, 71, rfl⟩
abbrev main_call1_v2 : Ref sig .tc := ⟨.hbm, 72, rfl⟩
abbrev main_v20_0 : Ref sig .tc := ⟨.hbm, 73, rfl⟩
abbrev main_call1_cst : Ref sig .tc := ⟨.hbm, 74, rfl⟩
abbrev main_v20_2 : Ref sig .tc := ⟨.hbm, 75, rfl⟩
abbrev main_call2_cst : Ref sig .tc := ⟨.hbm, 76, rfl⟩
abbrev main_call2_v0 : Ref sig .tc := ⟨.hbm, 77, rfl⟩
abbrev main_v21 : Ref sig .tc := ⟨.hbm, 78, rfl⟩
abbrev main_v22 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1_0 : Ref sig .tc := ⟨.hbm, 94, rfl⟩
abbrev main_call3_call0_cst_0 : Ref sig .tc := ⟨.hbm, 95, rfl⟩
abbrev main_call3_call0_v13 : Ref sig .tc := ⟨.hbm, 96, rfl⟩
abbrev main_call3_call0_v14 : Ref sig .tc := ⟨.hbm, 97, rfl⟩
abbrev main_call3_call0_cst_1 : Ref sig .tc := ⟨.hbm, 98, rfl⟩
abbrev main_call3_call0_v15 : Ref sig .tc := ⟨.hbm, 99, rfl⟩
abbrev main_call3_call0_v16 : Ref sig .tc := ⟨.hbm, 100, rfl⟩
abbrev main_call3_call0_cst_2 : Ref sig .tc := ⟨.hbm, 101, rfl⟩
abbrev main_call3_call0_v17 : Ref sig .tc := ⟨.hbm, 102, rfl⟩
abbrev main_call3_call0_v18 : Ref sig .tc := ⟨.hbm, 103, rfl⟩
abbrev main_call3_call0_cst_3 : Ref sig .tc := ⟨.hbm, 104, rfl⟩
abbrev main_call3_call0_v19 : Ref sig .tc := ⟨.hbm, 105, rfl⟩
abbrev main_call3_call0_v20 : Ref sig .tc := ⟨.hbm, 106, rfl⟩
abbrev main_call3_call0_v21 : Ref sig .tc := ⟨.hbm, 107, rfl⟩
abbrev main_v23_1 : Ref sig .tc := ⟨.hbm, 108, rfl⟩
abbrev main_call3_call0_cst_4 : Ref sig .tc := ⟨.hbm, 109, rfl⟩
abbrev main_call3_call0_cst_5 : Ref sig .tc := ⟨.hbm, 110, rfl⟩
abbrev main_call3_call0_v23 : Ref sig .tc := ⟨.hbm, 111, rfl⟩
abbrev main_call3_call0_cst_6 : Ref sig .tc := ⟨.hbm, 112, rfl⟩
abbrev main_call3_call0_cst_7 : Ref sig .tc := ⟨.hbm, 113, rfl⟩
abbrev main_call3_call0_v24 : Ref sig .tc := ⟨.hbm, 114, rfl⟩
abbrev main_call3_call0_cst_8 : Ref sig .tc := ⟨.hbm, 115, rfl⟩
abbrev main_call3_call0_v25 : Ref sig .tc := ⟨.hbm, 116, rfl⟩
abbrev main_call3_call0_v26 : Ref sig .tc := ⟨.hbm, 117, rfl⟩
abbrev main_call3_call0_cst_9 : Ref sig .tc := ⟨.hbm, 118, rfl⟩
abbrev main_call3_call0_v27 : Ref sig .tc := ⟨.hbm, 119, rfl⟩
abbrev main_call3_call0_v28 : Ref sig .tc := ⟨.hbm, 120, rfl⟩
abbrev main_call3_call0_v29 : Ref sig .tc := ⟨.hbm, 121, rfl⟩
abbrev main_call3_call0_v30 : Ref sig .tc := ⟨.hbm, 122, rfl⟩
abbrev main_call3_call0_v31 : Ref sig .tc := ⟨.hbm, 123, rfl⟩
abbrev main_call3_call0_cst_10 : Ref sig .tc := ⟨.hbm, 124, rfl⟩
abbrev main_call3_call0_v32 : Ref sig .tc := ⟨.hbm, 125, rfl⟩
abbrev main_v23_2 : Ref sig .tc := ⟨.hbm, 126, rfl⟩
abbrev main_v23_0 : Ref sig .tc := ⟨.hbm, 127, rfl⟩
abbrev main_v24 : Ref sig .tc := ⟨.hbm, 128, rfl⟩
abbrev main_v25 : Ref sig .tc := ⟨.hbm, 129, rfl⟩
abbrev main_cst_1 : Ref sig .tc := ⟨.hbm, 130, rfl⟩
abbrev main_call4_v0 : Ref sig .tc := ⟨.hbm, 131, rfl⟩
abbrev main_v26_1 : Ref sig .tc := ⟨.hbm, 132, rfl⟩
abbrev main_call4_v2 : Ref sig .tc := ⟨.hbm, 133, rfl⟩
abbrev main_v26_0 : Ref sig .tc := ⟨.hbm, 134, rfl⟩
abbrev main_call4_cst : Ref sig .tc := ⟨.hbm, 135, rfl⟩
abbrev main_v26_2 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_v30 : Ref sig .tc := ⟨.hbm, 140, rfl⟩
abbrev main_v31 : Ref sig .tc := ⟨.hbm, 141, rfl⟩
abbrev main_v32 : Ref sig .tc := ⟨.hbm, 142, rfl⟩
abbrev main_v33 : Ref sig .tc := ⟨.hbm, 143, rfl⟩
abbrev main_v34 : Ref sig .tc := ⟨.hbm, 144, rfl⟩
abbrev main_call5_cst : Ref sig .tc := ⟨.hbm, 145, rfl⟩
abbrev main_call5_v0 : Ref sig .tc := ⟨.hbm, 146, rfl⟩
abbrev main_v35 : Ref sig .tc := ⟨.hbm, 147, rfl⟩
abbrev main_v36 : Ref sig .tc := ⟨.hbm, 148, rfl⟩
abbrev main_call6_v0 : Ref sig .tc := ⟨.hbm, 149, rfl⟩
abbrev main_call6_v1 : Ref sig .tc := ⟨.hbm, 150, rfl⟩
abbrev main_v37 : Ref sig .tc := ⟨.hbm, 151, rfl⟩
abbrev main_v38 : Ref sig .tc := ⟨.hbm, 152, rfl⟩
abbrev main_call7_cst : Ref sig .tc := ⟨.hbm, 153, rfl⟩
abbrev main_call7_v0 : Ref sig .tc := ⟨.hbm, 154, rfl⟩
abbrev main_v39 : Ref sig .tc := ⟨.hbm, 155, rfl⟩
abbrev main_v40 : Ref sig .tc := ⟨.hbm, 156, rfl⟩
abbrev main_call8_cst : Ref sig .tc := ⟨.hbm, 157, rfl⟩
abbrev main_call8_v0 : Ref sig .tc := ⟨.hbm, 158, rfl⟩
abbrev main_v41 : Ref sig .tc := ⟨.hbm, 159, rfl⟩
abbrev main_v42 : Ref sig .tc := ⟨.hbm, 160, rfl⟩
abbrev main_v43 : Ref sig .tc := ⟨.hbm, 161, rfl⟩
abbrev main_v44 : Ref sig .tc := ⟨.hbm, 162, rfl⟩
abbrev main_cst_2 : Ref sig .tc := ⟨.hbm, 163, rfl⟩
abbrev main_v45 : Ref sig .tc := ⟨.hbm, 164, rfl⟩
abbrev main_v46 : Ref sig .tc := ⟨.hbm, 165, rfl⟩
abbrev main_v47 : Ref sig .tc := ⟨.hbm, 166, rfl⟩
abbrev main_v48 : Ref sig .tc := ⟨.hbm, 167, rfl⟩
abbrev main_v49 : Ref sig .tc := ⟨.hbm, 168, rfl⟩
abbrev main_v50 : Ref sig .tc := ⟨.hbm, 169, rfl⟩
abbrev main_cst_3 : Ref sig .tc := ⟨.hbm, 170, rfl⟩
abbrev main_v51 : Ref sig .tc := ⟨.hbm, 171, rfl⟩
abbrev main_v52 : Ref sig .tc := ⟨.hbm, 172, rfl⟩
abbrev main_v53 : Ref sig .tc := ⟨.hbm, 173, rfl⟩
abbrev main_cst_4 : Ref sig .tc := ⟨.hbm, 174, rfl⟩
abbrev main_v54 : Ref sig .tc := ⟨.hbm, 175, rfl⟩
abbrev main_v55 : Ref sig .tc := ⟨.hbm, 176, rfl⟩
abbrev main_v56 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩
abbrev main_v60 : Ref sig .tc := ⟨.hbm, 181, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S16x1024 : Shape := ⟨2, ![16, 1024]⟩
abbrev S272x1 : Shape := ⟨2, ![272, 1]⟩
abbrev S272x1024 : Shape := ⟨2, ![272, 1024]⟩
abbrev S272x256 : Shape := ⟨2, ![272, 256]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v116 : BitVec 1 := Scalar.cmpi .eq arg0 c0_i32
  let v117 : BitVec 32 := Scalar.extui v116
  let c0_i32_31 : BitVec 32 := 0#32
  let v118 : BitVec 1 := Scalar.cmpi .ne v117 c0_i32_31
  v118

def k0_cond2 (i : grid0.Coords) : BitVec 1 :=
  let arg0 : BitVec 32 := BitVec.ofNat 32 (i 0).val
  let c0_i32_32 : BitVec 32 := 0#32
  let v119 : BitVec 1 := Scalar.cmpi .sgt arg0 c0_i32_32
  let v120 : BitVec 32 := Scalar.extui v119
  let c0_i32_33 : BitVec 32 := 0#32
  let v121 : BitVec 1 := Scalar.cmpi .ne v120 c0_i32_33
  v121

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4097x1024 : Shape := ⟨2, ![4097, 1024]⟩
abbrev S1x256 : Shape := ⟨2, ![1, 256]⟩
abbrev S4095x256 : Shape := ⟨2, ![4095, 256]⟩
abbrev S4096x256 : Shape := ⟨2, ![4096, 256]⟩
abbrev S3x256 : Shape := ⟨2, ![3, 256]⟩
abbrev S4093x256 : Shape := ⟨2, ![4093, 256]⟩
abbrev S7x256 : Shape := ⟨2, ![7, 256]⟩
abbrev S4089x256 : Shape := ⟨2, ![4089, 256]⟩
abbrev S15x256 : Shape := ⟨2, ![15, 256]⟩
abbrev S4081x256 : Shape := ⟨2, ![4081, 256]⟩

abbrev nBuf : Space → Nat
  | .hbm => 209
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S4096x1024, .f32⟩
  | 4 => ⟨S4096x1024, .f32⟩
  | 5 => ⟨S_, .f32⟩
  | 6 => ⟨S4096, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096x1, .f32⟩
  | 13 => ⟨S4096x1, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S_, .f32⟩
  | 25 => ⟨S1x1024, .f32⟩
  | 26 => ⟨S_, .f32⟩
  | 27 => ⟨S_, .f32⟩
  | 28 => ⟨S4096x1024, .f32⟩
  | 29 => ⟨S4097x1024, .f32⟩
  | 30 => ⟨S_, .f32⟩
  | 31 => ⟨S1x1024, .f32⟩
  | 32 => ⟨S4096, .i32⟩
  | 33 => ⟨S_, .f32⟩
  | 34 => ⟨S1x256, .f32⟩
  | 35 => ⟨S4095x256, .f32⟩
  | 36 => ⟨S4096x256, .f32⟩
  | 37 => ⟨S_, .f32⟩
  | 38 => ⟨S1x256, .f32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S4096, .f32⟩
  | 46 => ⟨S4096x1, .f32⟩
  | 47 => ⟨S4096x256, .f32⟩
  | 48 => ⟨S4096x256, .f32⟩
  | 49 => ⟨S4096x256, .f32⟩
  | 50 => ⟨S4096x256, .f32⟩
  | 51 => ⟨S4096x256, .f32⟩
  | 52 => ⟨S4096x256, .f32⟩
  | 53 => ⟨S_, .f32⟩
  | 54 => ⟨S3x256, .f32⟩
  | 55 => ⟨S4093x256, .f32⟩
  | 56 => ⟨S4096x256, .f32⟩
  | 57 => ⟨S_, .f32⟩
  | 58 => ⟨S3x256, .f32⟩
  | 59 => ⟨S_, .i32⟩
  | 60 => ⟨S4096, .i32⟩
  | 61 => ⟨S4096, .i32⟩
  | 62 => ⟨S_, .i32⟩
  | 63 => ⟨S4096, .i32⟩
  | 64 => ⟨S4096, .i32⟩
  | 65 => ⟨S4096, .f32⟩
  | 66 => ⟨S4096x1, .f32⟩
  | 67 => ⟨S4096x256, .f32⟩
  | 68 => ⟨S4096x256, .f32⟩
  | 69 => ⟨S4096x256, .f32⟩
  | 70 => ⟨S4096x256, .f32⟩
  | 71 => ⟨S4096x256, .f32⟩
  | 72 => ⟨S4096x256, .f32⟩
  | 73 => ⟨S_, .f32⟩
  | 74 => ⟨S7x256, .f32⟩
  | 75 => ⟨S4089x256, .f32⟩
  | 76 => ⟨S4096x256, .f32⟩
  | 77 => ⟨S_, .f32⟩
  | 78 => ⟨S7x256, .f32⟩
  | 79 => ⟨S_, .i32⟩
  | 80 => ⟨S4096, .i32⟩
  | 81 => ⟨S4096, .i32⟩
  | 82 => ⟨S_, .i32⟩
  | 83 => ⟨S4096, .i32⟩
  | 84 => ⟨S4096, .i32⟩
  | 85 => ⟨S4096, .f32⟩
  | 86 => ⟨S4096x1, .f32⟩
  | 87 => ⟨S4096x256, .f32⟩
  | 88 => ⟨S4096x256, .f32⟩
  | 89 => ⟨S4096x256, .f32⟩
  | 90 => ⟨S4096x256, .f32⟩
  | 91 => ⟨S4096x256, .f32⟩
  | 92 => ⟨S4096x256, .f32⟩
  | 93 => ⟨S_, .f32⟩
  | 94 => ⟨S15x256, .f32⟩
  | 95 => ⟨S4081x256, .f32⟩
  | 96 => ⟨S4096x256, .f32⟩
  | 97 => ⟨S_, .f32⟩
  | 98 => ⟨S15x256, .f32⟩
  | 99 => ⟨S_, .i32⟩
  | 100 => ⟨S4096, .i32⟩
  | 101 => ⟨S4096, .i32⟩
  | 102 => ⟨S_, .i32⟩
  | 103 => ⟨S4096, .i32⟩
  | 104 => ⟨S4096, .i32⟩
  | 105 => ⟨S4096, .f32⟩
  | 106 => ⟨S4096x1, .f32⟩
  | 107 => ⟨S4096x256, .f32⟩
  | 108 => ⟨S4096x256, .f32⟩
  | 109 => ⟨S4096x256, .f32⟩
  | 110 => ⟨S4096x256, .f32⟩
  | 111 => ⟨S4096x256, .f32⟩
  | 112 => ⟨S4096x256, .f32⟩
  | 113 => ⟨S4096x1024, .f32⟩
  | 114 => ⟨S4096x256, .f32⟩
  | 115 => ⟨S4096x256, .f32⟩
  | 116 => ⟨S4096x256, .f32⟩
  | 117 => ⟨S4096x256, .f32⟩
  | 118 => ⟨S4096x256, .f32⟩
  | 119 => ⟨S_, .f32⟩
  | 120 => ⟨S4096x1024, .f32⟩
  | 121 => ⟨S4096x256, .f32⟩
  | 122 => ⟨S4096x256, .f32⟩
  | 123 => ⟨S4096x256, .f32⟩
  | 124 => ⟨S_, .f32⟩
  | 125 => ⟨S4097x1024, .f32⟩
  | 126 => ⟨S15x256, .f32⟩
  | 127 => ⟨S4081x256, .f32⟩
  | _ => ⟨S4096x1024, .f32⟩

abbrev hbmTy0_1 (i : Nat) : BufTy := match i % 128 with
  | 0 => ⟨S_, .f32⟩
  | 1 => ⟨S4097x1024, .f32⟩
  | 2 => ⟨S4097x1024, .f32⟩
  | 3 => ⟨S4096x256, .f32⟩
  | 4 => ⟨S_, .f32⟩
  | 5 => ⟨S4096x1024, .f32⟩
  | 6 => ⟨S4096x1024, .f32⟩
  | 7 => ⟨S4096x256, .f32⟩
  | 8 => ⟨S4096x256, .f32⟩
  | 9 => ⟨S4096x256, .f32⟩
  | 10 => ⟨S_, .f32⟩
  | 11 => ⟨S4097x1024, .f32⟩
  | 12 => ⟨S4097x1024, .f32⟩
  | 13 => ⟨S7x256, .f32⟩
  | 14 => ⟨S4089x256, .f32⟩
  | 15 => ⟨S_, .f32⟩
  | 16 => ⟨S4097x1024, .f32⟩
  | 17 => ⟨S4097x1024, .f32⟩
  | 18 => ⟨S4096x256, .f32⟩
  | 19 => ⟨S_, .f32⟩
  | 20 => ⟨S4096x1024, .f32⟩
  | 21 => ⟨S4096x1024, .f32⟩
  | 22 => ⟨S4096x256, .f32⟩
  | 23 => ⟨S4096x256, .f32⟩
  | 24 => ⟨S4096x256, .f32⟩
  | 25 => ⟨S_, .f32⟩
  | 26 => ⟨S4097x1024, .f32⟩
  | 27 => ⟨S4097x1024, .f32⟩
  | 28 => ⟨S3x256, .f32⟩
  | 29 => ⟨S4093x256, .f32⟩
  | 30 => ⟨S_, .f32⟩
  | 31 => ⟨S4097x1024, .f32⟩
  | 32 => ⟨S4097x1024, .f32⟩
  | 33 => ⟨S4096x256, .f32⟩
  | 34 => ⟨S_, .f32⟩
  | 35 => ⟨S4096x1024, .f32⟩
  | 36 => ⟨S4096x1024, .f32⟩
  | 37 => ⟨S4096x256, .f32⟩
  | 38 => ⟨S4096x256, .f32⟩
  | 39 => ⟨S4096x256, .f32⟩
  | 40 => ⟨S_, .f32⟩
  | 41 => ⟨S4097x1024, .f32⟩
  | 42 => ⟨S4097x1024, .f32⟩
  | 43 => ⟨S1x256, .f32⟩
  | 44 => ⟨S4095x256, .f32⟩
  | 45 => ⟨S_, .f32⟩
  | 46 => ⟨S4097x1024, .f32⟩
  | 47 => ⟨S4097x1024, .f32⟩
  | 48 => ⟨S1x1024, .f32⟩
  | 49 => ⟨S4096x1024, .f32⟩
  | 50 => ⟨S_, .f32⟩
  | 51 => ⟨S_, .f32⟩
  | 52 => ⟨S4096x1024, .f32⟩
  | 53 => ⟨S4096x1024, .f32⟩
  | 54 => ⟨S4096x1024, .f32⟩
  | 55 => ⟨S_, .f32⟩
  | 56 => ⟨S1024, .f32⟩
  | 57 => ⟨S1x1024, .f32⟩
  | 58 => ⟨S4096x1024, .f32⟩
  | 59 => ⟨S4096x1024, .f32⟩
  | 60 => ⟨S_, .f32⟩
  | 61 => ⟨S1024, .f32⟩
  | 62 => ⟨S4096x1024, .f32⟩
  | 63 => ⟨S_, .f32⟩
  | 64 => ⟨S4096, .f32⟩
  | 65 => ⟨S4096x1, .f32⟩
  | 66 => ⟨S4096x1024, .f32⟩
  | 67 => ⟨S4096x1024, .f32⟩
  | 68 => ⟨S4096x1, .f32⟩
  | 69 => ⟨S_, .f32⟩
  | 70 => ⟨S4096x1, .f32⟩
  | 71 => ⟨S4096x1, .f32⟩
  | 72 => ⟨S_, .f32⟩
  | 73 => ⟨S4096, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_c_10 : Ref sig .tc := ⟨.hbm, 59, rfl⟩
abbrev main_v41 : Ref sig .tc := ⟨.hbm, 60, rfl⟩
abbrev main_v42 : Ref sig .tc := ⟨.hbm, 61, rfl⟩
abbrev main_c_11 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_c_14 : Ref sig .tc := ⟨.hbm, 79, rfl⟩
abbrev main_v57 : Ref sig .tc := ⟨.hbm, 80, rfl⟩
abbrev main_v58 : Ref sig .tc := ⟨.hbm, 81, rfl⟩
abbrev main_c_15 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_16 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_17 : Ref sig .tc := ⟨.hbm, 97, rfl⟩
abbrev main_v72 : Ref sig .tc := ⟨.hbm, 98, rfl⟩
abbrev main_c_18 : Ref sig .tc := ⟨.hbm, 99, rfl⟩
abbrev main_v73 : Ref sig .tc := ⟨.hbm, 100, rfl⟩
abbrev main_v74 : Ref sig .tc := ⟨.hbm, 101, rfl⟩
abbrev main_c_19 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_20 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_21 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_22 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_23 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_24 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_25 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_26 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_27 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_28 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_29 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_30 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_31 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_call1_cst : Ref sig .tc := ⟨.hbm, 178, rfl⟩
abbrev main_call1_v0 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_cst_32 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_33 : Ref sig .tc := ⟨.hbm, 188, rfl⟩
abbrev main_v145 : Ref sig .tc := ⟨.hbm, 189, rfl⟩
abbrev main_v146 : Ref sig .tc := ⟨.hbm, 190, rfl⟩
abbrev main_cst_34 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_cst_35 : Ref sig .tc := ⟨.hbm, 197, rfl⟩
abbrev main_v152 : Ref sig .tc := ⟨.hbm, 198, rfl⟩
abbrev main_v153 : Ref sig .tc := ⟨.hbm, 199, rfl⟩
abbrev main_cst_36 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩

abbrev nD : Nat := 1
abbrev τ : Topo := Topo.v7x

variable {F : FTy → Type} [FloatOps F]
-- ==== Kernel4.lean ====
abbrev S4096x4096 : Shape := ⟨2, ![4096, 4096]⟩
abbrev S1024x4096 : Shape := ⟨2, ![1024, 4096]⟩
abbrev S4096x1024 : Shape := ⟨2, ![4096, 1024]⟩
abbrev S1024 : Shape := ⟨1, ![1024]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩
abbrev S1x1024 : Shape := ⟨2, ![1, 1024]⟩
abbrev S1024x1024 : Shape := ⟨2, ![1024, 1024]⟩
abbrev S1x1x1024x1024 : Shape := ⟨4, ![1, 1, 1024, 1024]⟩
abbrev S1024x1 : Shape := ⟨2, ![1024, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S4x1x1024x1024, .bf16⟩
  | .hbm, ⟨9, _⟩ => ⟨S4096x4096, .bf16⟩
  | .hbm, ⟨10, _⟩ => ⟨S1x1024, .f32⟩
  | .hbm, ⟨11, _⟩ => ⟨S4096x1024, .f32⟩
  | .hbm, ⟨12, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32_25 : BitVec 32 := 0#32
  let v46 : BitVec 1 := Scalar.cmpi .eq arg0 c0_i32_25
  let v47 : BitVec 32 := Scalar.extui v46
  let c0_i32_26 : BitVec 32 := 0#32
  let v48 : BitVec 1 := Scalar.cmpi .ne v47 c0_i32_26
  v48

def k0_cond5 (i : grid0.Coords) : BitVec 1 :=
  let arg0 : BitVec 32 := BitVec.ofNat 32 (i 0).val
  let c0_i32_27 : BitVec 32 := 0#32
  let v49 : BitVec 1 := Scalar.cmpi .sgt arg0 c0_i32_27
  let v50 : BitVec 32 := Scalar.extui v49
  let c0_i32_28 : BitVec 32 := 0#32
  let v51 : BitVec 1 := Scalar.cmpi .ne v50 c0_i32_28
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference4Ideal.lean ====
abbrev S4096x4096 : Shape := ⟨2, ![4096, 4096]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel5.lean ====
abbrev S4096x2048 : Shape := ⟨2, ![4096, 2048]⟩
abbrev S1024x2048 : Shape := ⟨2, ![1024, 2048]⟩
abbrev S4096x1024 : Shape := ⟨2, ![4096, 1024]⟩
abbrev S1024 : Shape := ⟨1, ![1024]⟩
abbrev S1024x4x512 : Shape := ⟨3, ![1024, 4, 512]⟩
abbrev S4x1024x512 : Shape := ⟨3, ![4, 1024, 512]⟩
abbrev S4x1x1024x512 : Shape := ⟨4, ![4, 1, 1024, 512]⟩
abbrev S1x1024 : Shape := ⟨2, ![1, 1024]⟩
abbrev S1024x512 : Shape := ⟨2, ![1024, 512]⟩
abbrev S1x1x1024x512 : Shape := ⟨4, ![1, 1, 1024, 512]⟩
abbrev S1024x1024 : Shape := ⟨2, ![1024, 1024]⟩
abbrev S1024x1 : Shape := ⟨2, ![1024, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x2048, .bf16⟩
  | .hbm, ⟨6, _⟩ => ⟨S1024x4x512, .bf16⟩
  | .hbm, ⟨7, _⟩ => ⟨S4x1024x512, .bf16⟩
  | .hbm, ⟨8, _⟩ => ⟨S4x1x1024x512, .bf16⟩
  | .hbm, ⟨9, _⟩ => ⟨S4096x2048, .bf16⟩
  | .hbm, ⟨10, _⟩ => ⟨S1x1024, .f32⟩
  | .hbm, ⟨11, _⟩ => ⟨S4096x1024, .f32⟩
  | .hbm, ⟨12, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32_25 : BitVec 32 := 0#32
  let v46 : BitVec 1 := Scalar.cmpi .eq arg0 c0_i32_25
  let v47 : BitVec 32 := Scalar.extui v46
  let c0_i32_26 : BitVec 32 := 0#32
  let v48 : BitVec 1 := Scalar.cmpi .ne v47 c0_i32_26
  v48

def k0_cond5 (i : grid0.Coords) : BitVec 1 :=
  let arg0 : BitVec 32 := BitVec.ofNat 32 (i 0).val
  let c0_i32_27 : BitVec 32 := 0#32
  let v49 : BitVec 1 := Scalar.cmpi .sgt arg0 c0_i32_27
  let v50 : BitVec 32 := Scalar.extui v49
  let c0_i32_28 : BitVec 32 := 0#32
  let v51 : BitVec 1 := Scalar.cmpi .ne v50 c0_i32_28
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference5Ideal.lean ====
abbrev S4096x2048 : Shape := ⟨2, ![4096, 2048]⟩
abbrev S1024x2048 : Shape := ⟨2, ![1024, 2048]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S1024 : Shape := ⟨1, ![1024]⟩
abbrev S4x1x256x1024 : Shape := ⟨4, ![4, 1, 256, 1024]⟩
abbrev S1x1024 : Shape := ⟨2, ![1, 1024]⟩
abbrev S4x256x1024 : Shape := ⟨3, ![4, 256, 1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x1024, .bf16⟩
  | .hbm, ⟨6, _⟩ => ⟨S4x1x256x1024, .bf16⟩
  | .hbm, ⟨7, _⟩ => ⟨S4096x1024, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![4, 1], ![false, false]⟩

def k0_cond3 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def k0_cond4 (i : grid0.Coords) : BitVec 1 :=
  let arg0 : BitVec 32 := BitVec.ofNat 32 (i 0).val
  let c0_i32_26 : BitVec 32 := 0#32
  let v47 : BitVec 1 := Scalar.cmpi .eq arg0 c0_i32_26
  let v48 : BitVec 32 := Scalar.extui v47
  let c0_i32_27 : BitVec 32 := 0#32
  let v49 : BitVec 1 := Scalar.cmpi .ne v48 c0_i32_27
  v49

def k0_cond5 (i : grid0.Coords) : BitVec 1 :=
  let arg0 : BitVec 32 := BitVec.ofNat 32 (i 0).val
  let c0_i32_28 : BitVec 32 := 0#32
  let v50 : BitVec 1 := Scalar.cmpi .sgt arg0 c0_i32_28
  let v51 : BitVec 32 := Scalar.extui v50
  let c0_i32_29 : BitVec 32 := 0#32
  let v52 : BitVec 1 := Scalar.cmpi .ne v51 c0_i32_29
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference6Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S4x1x256x1024 : Shape := ⟨4, ![4, 1, 256, 1024]⟩
abbrev S1024x1 : Shape := ⟨2, ![1024, 1]⟩
abbrev S4x256x1024 : Shape := ⟨3, ![4, 256, 1024]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S1024x1024, .bf16⟩
  | .hbm, ⟨7, _⟩ => ⟨S4x1x256x1024, .bf16⟩
  | .hbm, ⟨8, _⟩ => ⟨S4096x1024, .bf16⟩
  | .hbm, ⟨9, _⟩ => ⟨S4096x1024, .bf16⟩
  | .hbm, ⟨10, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S4x1x256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_22 : BitVec 32 := 0#32
  let v43 : BitVec 1 := Scalar.cmpi .eq arg0 c0_i32_22
  let v44 : BitVec 32 := Scalar.extui v43
  let c0_i32_23 : BitVec 32 := 0#32
  let v45 : BitVec 1 := Scalar.cmpi .ne v44 c0_i32_23
  v45

def k0_cond3 (i : grid0.Coords) : BitVec 1 :=
  let arg0 : BitVec 32 := BitVec.ofNat 32 (i 0).val
  let c0_i32_24 : BitVec 32 := 0#32
  let v46 : BitVec 1 := Scalar.cmpi .sgt arg0 c0_i32_24
  let v47 : BitVec 32 := Scalar.extui v46
  let c0_i32_25 : BitVec 32 := 0#32
  let v48 : BitVec 1 := Scalar.cmpi .ne v47 c0_i32_25
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference7Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .bf16⟩
  | .hbm, ⟨92, _⟩ => ⟨S4096x1024, .bf16⟩
  | .hbm, ⟨93, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_13 : Ref sig .tc := ⟨.hbm, 80, rfl⟩
abbrev main_v62 : Ref sig .tc := ⟨.hbm, 81, rfl⟩
abbrev main_v63 : Ref sig .tc := ⟨.hbm, 82, rfl⟩
abbrev main_cst_14 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩

abbrev nD : Nat := 1
abbrev τ : Topo := Topo.v7x

variable {F : FTy → Type} [FloatOps F]
-- ==== Kernel8.lean ====
abbrev S4096x1024 : Shape := ⟨2, ![4096, 1024]⟩
abbrev S4x256x256 : Shape := ⟨3, ![4, 256, 256]⟩
abbrev S1024 : Shape := ⟨1, ![1024]⟩
abbrev S4x4x64x256 : Shape := ⟨4, ![4, 4, 64, 256]⟩
abbrev S4x1x4x64x256 : Shape := ⟨5, ![4, 1, 4, 64, 256]⟩
abbrev S4096x4x256 : Shape := ⟨3, ![4096, 4, 256]⟩
abbrev S4x256x4096 : Shape := ⟨3, ![4, 256, 4096]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S4x1x1x64x256 : Shape := ⟨5, ![4, 1, 1, 64, 256]⟩
abbrev S4x64x256 : Shape := ⟨3, ![4, 64, 256]⟩
abbrev S256x256 : Shape := ⟨2, ![256, 256]⟩
abbrev S512x256 : Shape := ⟨2, ![512, 256]⟩
abbrev S4x1x64x256 : Shape := ⟨4, ![4, 1, 64, 256]⟩

abbrev nBuf : Space → Nat
  | .hbm => 23
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x256x256, .f32⟩
  | .hbm, ⟨3, _⟩ => ⟨S1024, .f32⟩
  | .hbm, ⟨4, _⟩ => ⟨S1024, .f32⟩
  | .hbm, ⟨5, _⟩ => ⟨S4x256x256, .bf16⟩
  | .hbm, ⟨6, _⟩ => ⟨S4x4x64x256, .bf16⟩
  | .hbm, ⟨7, _⟩ => ⟨S4x4x64x256, .bf16⟩
  | .hbm, ⟨8, _⟩ => ⟨S4x1x4x64x256, .bf16⟩
  | .hbm, ⟨9, _⟩ => ⟨S4096x4x256, .f32⟩
  | .hbm, ⟨10, _⟩ => ⟨S4x256x4096, .f32⟩
  | .hbm, ⟨11, _⟩ => ⟨S4096x4x256, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | .hbm, ⟨17, _⟩ => ⟨S1x1024, .f32⟩
  | .hbm, ⟨18, _⟩ => ⟨S1x1024, .f32⟩
  | .hbm, ⟨19, _⟩ => ⟨S4096x1024, .f32⟩
  | .hbm, ⟨20, _⟩ => ⟨S4x4x64x256, .bf16⟩
  | .hbm, ⟨21, _⟩ => ⟨S1x1024, .f32⟩
  | .hbm, ⟨22, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S4x1x4x64x256, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S4x4x64x256, .bf16⟩
  | .local _ .vmem, ⟨12, _⟩ => ⟨S1x1024, .f32⟩
  | .local _ .vmem, ⟨13, _⟩ => ⟨S1x1024, .f32⟩
  | .local _ .vmem, ⟨14, _⟩ => ⟨S4x4x64x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond11 (i : grid0.Coords) : BitVec 1 :=
  let arg0 : BitVec 32 := BitVec.ofNat 32 (i 0).val
  let c7_i32 : BitVec 32 := 7#32
  let v109 : BitVec 1 := Scalar.cmpi .eq arg0 c7_i32
  let v110 : BitVec 32 := Scalar.extui v109
  let c0_i32_65 : BitVec 32 := 0#32
  let v111 : BitVec 1 := Scalar.cmpi .ne v110 c0_i32_65
  v111

def k0_cond9 (i : grid0.Coords) : BitVec 1 :=
  let arg0 : BitVec 32 := BitVec.ofNat 32 (i 0).val
  let c0_i32_61 : BitVec 32 := 0#32
  let v103 : BitVec 1 := Scalar.cmpi .eq arg0 c0_i32_61
  let v104 : BitVec 32 := Scalar.extui v103
  let c0_i32_62 : BitVec 32 := 0#32
  let v105 : BitVec 1 := Scalar.cmpi .ne v104 c0_i32_62
  v105

def k0_cond10 (i : grid0.Coords) : BitVec 1 :=
  let arg0 : BitVec 32 := BitVec.ofNat 32 (i 0).val
  let c0_i32_63 : BitVec 32 := 0#32
  let v106 : BitVec 1 := Scalar.cmpi .sgt arg0 c0_i32_63
  let v107 : BitVec 32 := Scalar.extui v106
  let c0_i32_64 : BitVec 32 := 0#32
  let v108 : BitVec 1 := Scalar.cmpi .ne v107 c0_i32_64
  v108

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x4x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x4x64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S4096x1024 : Shape := ⟨2, ![4096, 1024]⟩
abbrev S4x256x256 : Shape := ⟨3, ![4, 256, 256]⟩
abbrev S1024 : Shape := ⟨1, ![1024]⟩
abbrev S4096x4x256 : Shape := ⟨3, ![4096, 4, 256]⟩
abbrev S4x256x4096 : Shape := ⟨3, ![4, 256, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4x4096x256 : Shape := ⟨3, ![4, 4096, 256]⟩
abbrev S4x4x64x256 : Shape := ⟨4, ![4, 4, 64, 256]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x256x256, .f32⟩
  | .hbm, ⟨3, _⟩ => ⟨S1024, .f32⟩
  | .hbm, ⟨4, _⟩ => ⟨S1024, .f32⟩
  | .hbm, ⟨5, _⟩ => ⟨S4096x4x256, .f32⟩
  | .hbm, ⟨6, _⟩ => ⟨S4x256x4096, .f32⟩
  | .hbm, ⟨7, _⟩ => ⟨S4096x4x256, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S4096x4x256, .f32⟩
  | .hbm, ⟨66, _⟩ => ⟨S4x256x4096, .f32⟩
  | .hbm, ⟨67, _⟩ => ⟨S4x4096x256, .f32⟩
  | .hbm, ⟨68, _⟩ => ⟨S4096x4x256, .f32⟩
  | .hbm, ⟨69, _⟩ => ⟨S4x256x256, .f32⟩
  | .hbm, ⟨70, _⟩ => ⟨S4x256x256, .f32⟩
  | .hbm, ⟨71, _⟩ => ⟨S4096x1024, .f32⟩
  | .hbm, ⟨72, _⟩ => ⟨S4x4x64x256, .f32⟩
  | .hbm, ⟨73, _⟩ => ⟨S4x4x64x256, .f32⟩
  | .hbm, ⟨74, _⟩ => ⟨S4x4x64x256, .bf16⟩
  | .hbm, ⟨75, _⟩ => ⟨S1x1024, .f32⟩
  | .hbm, ⟨76, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Kernel9.lean ====
abbrev S4096x1024 : Shape := ⟨2, ![4096, 1024]⟩
abbrev S4096x4096 : Shape := ⟨2, ![4096, 4096]⟩
abbrev S1024 : Shape := ⟨1, ![1024]⟩
abbrev S_ : Shape := ⟨0, ![]⟩
abbrev S1x1024 : Shape := ⟨2, ![1, 1024]⟩
abbrev S4x1x1024x1024 : Shape := ⟨4, ![4, 1, 1024, 1024]⟩
abbrev S1024x1024 : Shape := ⟨2, ![1024, 1024]⟩
abbrev S1x1x1024x1024 : Shape := ⟨4, ![1, 1, 1024, 1024]⟩
abbrev S1024x1 : Shape := ⟨2, ![1024, 1]⟩

abbrev nBuf : Space → Nat
  | .hbm => 19
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1x1024, .f32⟩
  | .hbm, ⟨10, _⟩ => ⟨S4096x1024, .bf16⟩
  | .hbm, ⟨11, _⟩ => ⟨S4x1x1024x1024, .bf16⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .bf16⟩
  | .hbm, ⟨16, _⟩ => ⟨S4096x1024, .bf16⟩
  | .hbm, ⟨17, _⟩ => ⟨S4096x4096, .bf16⟩
  | .hbm, ⟨18, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call1_cst : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_25 : BitVec 32 := 0#32
  let v48 : BitVec 1 := Scalar.cmpi .eq arg0 c0_i32_25
  let v49 : BitVec 32 := Scalar.extui v48
  let c0_i32_26 : BitVec 32 := 0#32
  let v50 : BitVec 1 := Scalar.cmpi .ne v49 c0_i32_26
  v50

def k0_cond3 (i : grid0.Coords) : BitVec 1 :=
  let arg0 : BitVec 32 := BitVec.ofNat 32 (i 0).val
  let c0_i32_27 : BitVec 32 := 0#32
  let v51 : BitVec 1 := Scalar.cmpi .sgt arg0 c0_i32_27
  let v52 : BitVec 32 := Scalar.extui v51
  let c0_i32_28 : BitVec 32 := 0#32
  let v53 : BitVec 1 := Scalar.cmpi .ne v52 c0_i32_28
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference9Ideal.lean ====
abbrev S4096x1024 : Shape := ⟨2, ![4096, 1024]⟩
abbrev S4096x4096 : Shape := ⟨2, ![4096, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .i1⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x1024, .f32⟩
  | .hbm, ⟨94, _⟩ => ⟨S4096x1024, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x4096, .f32⟩
  | .hbm, ⟨107, _⟩ => ⟨S4096x4096, .f32⟩
  | .hbm, ⟨108, _⟩ => ⟨S_, .f32⟩
  | .hbm, ⟨109, _⟩ => ⟨S4096x4096, .f32⟩
  | .hbm, ⟨110, _⟩ => ⟨S4096x4096, .f32⟩
  | .hbm, ⟨111, _⟩ => ⟨S4096x1024, .bf16⟩
  | .hbm, ⟨112, _⟩ => ⟨S4096x4096, .bf16⟩
  | .hbm, ⟨113, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call1_cst : Ref sig .tc := ⟨.hbm, 48, rfl⟩
abbrev main_call1_v0 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_14 : Ref sig .tc := ⟨.hbm, 87, rfl⟩
abbrev main_v64 : Ref sig .tc := ⟨.hbm, 88, rfl⟩
abbrev main_v65 : Ref sig .tc := ⟨.hbm, 89, rfl⟩
abbrev main_cst_15 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_v72 : Ref sig .tc := ⟨.hbm, 98, rfl⟩
abbrev main_cst_17 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_18 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩

abbrev nD : Nat := 1
abbrev τ : Topo := Topo.v7x

variable {F : FTy → Type} [FloatOps F]
-- ==== Kernel10.lean ====
abbrev S4096x1024 : Shape := ⟨2, ![4096, 1024]⟩
abbrev S4096x2048 : Shape := ⟨2, ![4096, 2048]⟩
abbrev S_ : Shape := ⟨0, ![]⟩
abbrev S256x256 : Shape := ⟨2, ![256, 256]⟩
abbrev S512x256 : Shape := ⟨2, ![512, 256]⟩
abbrev S256x512 : Shape := ⟨2, ![256, 512]⟩
abbrev S4096x512 : Shape := ⟨2, ![4096, 512]⟩
abbrev S8x256x1 : Shape := ⟨3, ![8, 256, 1]⟩
abbrev S8x256x128 : Shape := ⟨3, ![8, 256, 128]⟩
abbrev S256x128 : Shape := ⟨2, ![256, 128]⟩
abbrev S1x256x1 : Shape := ⟨3, ![1, 256, 1]⟩
abbrev S256x1 : Shape := ⟨2, ![256, 1]⟩
abbrev S256 : Shape := ⟨1, ![256]⟩
abbrev S1x256x128 : Shape := ⟨3, ![1, 256, 128]⟩
abbrev S1 : Shape := ⟨1, ![1]⟩
abbrev S1x1x1 : Shape := ⟨3, ![1, 1, 1]⟩

abbrev nBuf : Space → Nat
  | .hbm => 18
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S4096x2048, .bf16⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S_, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .bf16⟩
  | .hbm, ⟨16, _⟩ => ⟨S512x256, .bf16⟩
  | .hbm, ⟨17, _⟩ => ⟨S4096x1024, .f32⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S512x256, .bf16⟩
  | .local _ .vmem, ⟨7, _⟩ => ⟨S256x512, .f32⟩
  | .local _ .vmem, ⟨8, _⟩ => ⟨S256x512, .f32⟩
  | .local _ .vmem, ⟨9, _⟩ => ⟨S8x256x1, .f32⟩
  | .local _ .vmem, ⟨10, _⟩ => ⟨S8x256x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨2, ![2, 16], ![false, false]⟩

def k0_mult1 (i : grid0.Coords) : BitVec 32 :=
  let arg1 : BitVec 32 := BitVec.ofNat 32 (i 1).val
  let c256_i32 : BitVec 32 := 256#32
  let v40 : BitVec 32 := Scalar.muli arg1 c256_i32
  v40
def k0_off1 (i : grid0.Coords) : Fin 2 → Nat :=
  let arg1 : BitVec 32 := BitVec.ofNat 32 (i 1).val
  let c256_i32 : BitVec 32 := 256#32
  let v40 : BitVec 32 := Scalar.muli arg1 c256_i32
  let v41 : BitVec 32 := v40
  let v42 : Index := Scalar.indexCast v41
  let c0_21 : Index := 0#32
  ![v42.toNat, 0]
def k0_off2 (i : grid0.Coords) : Fin 2 → Nat :=
  let arg1 : BitVec 32 := BitVec.ofNat 32 (i 1).val
  let c256_i32 : BitVec 32 := 256#32
  let v40 : BitVec 32 := Scalar.muli arg1 c256_i32
  let v41 : BitVec 32 := v40
  let v45 : Index := Scalar.indexCast v41
  let c128_22 : Index := 128#32
  ![v45.toNat, 128]
def k0_off3 (i : grid0.Coords) : Fin 2 → Nat :=
  let arg1 : BitVec 32 := BitVec.ofNat 32 (i 1).val
  let c256_i32 : BitVec 32 := 256#32
  let v40 : BitVec 32 := Scalar.muli arg1 c256_i32
  let v41 : BitVec 32 := v40
  let v48 : Index := Scalar.indexCast v41
  let c256_23 : Index := 256#32
  ![v48.toNat, 256]
def k0_off4 (i : grid0.Coords) : Fin 2 → Nat :=
  let arg1 : BitVec 32 := BitVec.ofNat 32 (i 1).val
  let c256_i32 : BitVec 32 := 256#32
  let v40 : BitVec 32 := Scalar.muli arg1 c256_i32
  let v41 : BitVec 32 := v40
  let v51 : Index := Scalar.indexCast v41
  let c384_24 : Index := 384#32
  ![v51.toNat, 384]
def k0_mult2 (i : grid0.Coords) (arg9 : BitVec 32) : BitVec 32 :=
  let arg1 : BitVec 32 := BitVec.ofNat 32 (i 1).val
  let c1_i32 : BitVec 32 := 1#32
  let v510 : BitVec 32 := Scalar.subi arg1 c1_i32
  let v511 : BitVec 32 := Scalar.subi v510 arg9
  let c256_i32_286 : BitVec 32 := 256#32
  let v512 : BitVec 32 := Scalar.muli v511 c256_i32_286
  v512

def k0_off5 (i : grid0.Coords) (arg9 : BitVec 32) : Fin 2 → Nat :=
  let arg1 : BitVec 32 := BitVec.ofNat 32 (i 1).val
  let c1_i32 : BitVec 32 := 1#32
  let v510 : BitVec 32 := Scalar.subi arg1 c1_i32
  let v511 : BitVec 32 := Scalar.subi v510 arg9
  let c256_i32_286 : BitVec 32 := 256#32
  let v512 : BitVec 32 := Scalar.muli v511 c256_i32_286
  let v513 : BitVec 32 := v512
  let v514 : Index := Scalar.indexCast v513
  let c0_287 : Index := 0#32
  ![v514.toNat, 0]
def k0_off6 (i : grid0.Coords) (arg9 : BitVec 32) : Fin 2 → Nat :=
  let arg1 : BitVec 32 := BitVec.ofNat 32 (i 1).val
  let c1_i32 : BitVec 32 := 1#32
  let v510 : BitVec 32 := Scalar.subi arg1 c1_i32
  let v511 : BitVec 32 := Scalar.subi v510 arg9
  let c256_i32_286 : BitVec 32 := 256#32
  let v512 : BitVec 32 := Scalar.muli v511 c256_i32_286
  let v513 : BitVec 32 := v512
  let v517 : Index := Scalar.indexCast v513
  let c128_288 : Index := 128#32
  ![v517.toNat, 128]
def k0_off7 (i : grid0.Coords) (arg9 : BitVec 32) : Fin 2 → Nat :=
  let arg1 : BitVec 32 := BitVec.ofNat 32 (i 1).val
  let c1_i32 : BitVec 32 := 1#32
  let v510 : BitVec 32 := Scalar.subi arg1 c1_i32
  let v511 : BitVec 32 := Scalar.subi v510 arg9
  let c256_i32_286 : BitVec 32 := 256#32
  let v512 : BitVec 32 := Scalar.muli v511 c256_i32_286
  let v513 : BitVec 32 := v512
  let v520 : Index := Scalar.indexCast v513
  let c256_289 : Index := 256#32
  ![v520.toNat, 256]
def k0_off8 (i : grid0.Coords) (arg9 : BitVec 32) : Fin 2 → Nat :=
  let arg1 : BitVec 32 := BitVec.ofNat 32 (i 1).val
  let c1_i32 : BitVec 32 := 1#32
  let v510 : BitVec 32 := Scalar.subi arg1 c1_i32
  let v511 : BitVec 32 := Scalar.subi v510 arg9
  let c256_i32_286 : BitVec 32 := 256#32
  let v512 : BitVec 32 := Scalar.muli v511 c256_i32_286
  let v513 : BitVec 32 := v512
  let v523 : Index := Scalar.indexCast v513
  let c384_290 : Index := 384#32
  ![v523.toNat, 384]

def k0_chk1 (i : grid0.Coords) (arg9 : BitVec 32) : Prop :=
  (256 ∣ (k0_mult2 i arg9).toNat) ∧
  (∀ a, (k0_off5 i arg9) a + S256x128.size a ≤ S4096x512.size a) ∧
  (∀ a, (k0_off6 i arg9) a + S256x128.size a ≤ S4096x512.size a) ∧
  (∀ a, (k0_off7 i arg9) a + S256x128.size a ≤ S4096x512.size a) ∧
  (∀ a, (k0_off8 i arg9) a + S256x128.size a ≤ S4096x512.size a)
theorem k0_mult2_dvd : ∀ (i : grid0.Coords) (arg9 : BitVec 32) (k0_hw1 : k0_chk1 i arg9), 256 ∣ (k0_mult2 i arg9).toNat := fun i arg9 k0_hw1 => k0_hw1.1
theorem k0_off5_inb : ∀ (i : grid0.Coords) (arg9 : BitVec 32) (k0_hw1 : k0_chk1 i arg9), ∀ a, (k0_off5 i arg9) a + S256x128.size a ≤ S4096x512.size a := fun i arg9 k0_hw1 => k0_hw1.2.1
theorem k0_off6_inb : ∀ (i : grid0.Coords) (arg9 : BitVec 32) (k0_hw1 : k0_chk1 i arg9), ∀ a, (k0_off6 i arg9) a + S256x128.size a ≤ S4096x512.size a := fun i arg9 k0_hw1 => k0_hw1.2.2.1
theorem k0_off7_inb : ∀ (i : grid0.Coords) (arg9 : BitVec 32) (k0_hw1 : k0_chk1 i arg9), ∀ a, (k0_off7 i arg9) a + S256x128.size a ≤ S4096x512.size a := fun i arg9 k0_hw1 => k0_hw1.2.2.2.1
theorem k0_off8_inb : ∀ (i : grid0.Coords) (arg9 : BitVec 32) (k0_hw1 : k0_chk1 i arg9), ∀ a, (k0_off8 i arg9) a + S256x128.size a ≤ S4096x512.size a := fun i arg9 k0_hw1 => k0_hw1.2.2.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel10Ideal.lean ====
variable {F : FTy → Type} [FloatOps F] [Named F]
def κ : String → Option EReal := fun
  | "dead_log" => some ⊤
  | _ => none
-- ==== Reference10Ideal.lean ====
abbrev S4096x1024 : Shape := ⟨2, ![4096, 1024]⟩
abbrev S4096x2048 : Shape := ⟨2, ![4096, 2048]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x16x64, .f32⟩
  | .hbm, ⟨3, _⟩ => ⟨S16x4096x64, .f32⟩
  | .hbm, ⟨4, _⟩ => ⟨S4096x1024, .f32⟩
  | .hbm, ⟨5, _⟩ => ⟨S4096x16x64, .f32⟩
  | .hbm, ⟨6, _⟩ => ⟨S16x4096x64, .f32⟩
  | .hbm, ⟨7, _⟩ => ⟨S4096x1024, .f32⟩
  | .hbm, ⟨8, _⟩ => ⟨S4096x16x64, .f32⟩
  | .hbm, ⟨9, _⟩ => ⟨S16x4096x64, .f32⟩
  | .hbm, ⟨10, _⟩ => ⟨S16x4096x4096, .f32⟩
  | .hbm, ⟨11, _⟩ => ⟨S_, .f32⟩
  | .hbm, ⟨12, _⟩ => ⟨S16x4096x4096, .f32⟩
  | .hbm, ⟨13, _⟩ => ⟨S16x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S16x4096x4096, .i1⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S_, .f32⟩
  | .hbm, ⟨38, _⟩ => ⟨S16x4096x4096, .i1⟩
  | .hbm, ⟨39, _⟩ => ⟨S16x4096x4096, .f32⟩
  | .hbm, ⟨40, _⟩ => ⟨S16x4096x4096, .f32⟩
  | .hbm, ⟨41, _⟩ => ⟨S_, .f32⟩
  | .hbm, ⟨42, _⟩ => ⟨S_, .f32⟩
  | .hbm, ⟨43, _⟩ => ⟨S16x4096x4096, .f32⟩
  | .hbm, ⟨44, _⟩ => ⟨S16x4096x4096, .f32⟩
  | .hbm, ⟨45, _⟩ => ⟨S16x4096x4096, .f32⟩
  | .hbm, ⟨46, _⟩ => ⟨S_, .f32⟩
  | .hbm, ⟨47, _⟩ => ⟨S16x4096x4096, .f32⟩
  | .hbm, ⟨48, _⟩ => ⟨S16x4096x4096, .f32⟩
  | .hbm, ⟨49, _⟩ => ⟨S16x4096x4096, .f32⟩
  | .hbm, ⟨50, _⟩ => ⟨S16x4096x4096, .f32⟩
  | .hbm, ⟨51, _⟩ => ⟨S16x4096x4096, .i1⟩
  | .hbm, ⟨52, _⟩ => ⟨S16x4096x4096, .f32⟩
  | .hbm, ⟨53, _⟩ => ⟨S16x4096x4096, .f32⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S16x4096x4096, .f32⟩
  | .hbm, ⟨58, _⟩ => ⟨S16x4096x4096, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S_, .f32⟩
  | .hbm, ⟨64, _⟩ => ⟨S_, .f32⟩
  | .hbm, ⟨65, _⟩ => ⟨S16x4096x4096, .i1⟩
  | .hbm, ⟨66, _⟩ => ⟨S16x4096x4096, .f32⟩
  | .hbm, ⟨67, _⟩ => ⟨S16x4096x4096, .f32⟩
  | .hbm, ⟨68, _⟩ => ⟨S16x4096x64, .f32⟩
  | .hbm, ⟨69, _⟩ => ⟨S4096x16x64, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v20 : Ref sig .tc := ⟨.hbm, 40, rfl⟩
abbrev main_call2_cst : Ref sig .tc := ⟨.hbm, 41, rfl⟩
abbrev main_call2_v0 : Ref sig .tc := ⟨.hbm, 42, rfl⟩
abbrev main_v21 : Ref sig .tc := ⟨.hbm, 43, rfl⟩
abbrev main_v22 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S4x1x256x1024 : Shape := ⟨4, ![4, 1, 256, 1024]⟩
abbrev S2048x1024 : Shape := ⟨2, ![2048, 1024]⟩
abbrev S2048 : Shape := ⟨1, ![2048]⟩
abbrev S2048x1 : Shape := ⟨2, ![2048, 1]⟩
abbrev S4x256x1024 : Shape := ⟨3, ![4, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S1024x1024, .bf16⟩
  | .hbm, ⟨5, _⟩ => ⟨S4x1x256x1024, .bf16⟩
  | .hbm, ⟨6, _⟩ => ⟨S4096x1024, .bf16⟩
  | .hbm, ⟨7, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S4x1x256x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S1024 : Shape := ⟨1, ![1024]⟩
abbrev S4x1x256x1024 : Shape := ⟨4, ![4, 1, 256, 1024]⟩
abbrev S1x1024 : Shape := ⟨2, ![1, 1024]⟩
abbrev S4x256x1024 : Shape := ⟨3, ![4, 256, 1024]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .bf16⟩
  | .hbm, ⟨5, _⟩ => ⟨S1024x1024, .bf16⟩
  | .hbm, ⟨6, _⟩ => ⟨S4x1x256x1024, .bf16⟩
  | .hbm, ⟨7, _⟩ => ⟨S1x1024, .f32⟩
  | .hbm, ⟨8, _⟩ => ⟨S4096x1024, .f32⟩
  | .hbm, ⟨9, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_5 : BitVec 32 := 0#32
  let v8 : BitVec 1 := Scalar.cmpi .ne v7 c0_i32_5
  v8

def k0_cond2 (i : grid0.Coords) : BitVec 1 :=
  let arg1 : BitVec 32 := BitVec.ofNat 32 (i 1).val
  let c0_i32_6 : BitVec 32 := 0#32
  let v9 : BitVec 1 := Scalar.cmpi .sgt arg1 c0_i32_6
  let v10 : BitVec 32 := Scalar.extui v9
  let c0_i32_7 : BitVec 32 := 0#32
  let v11 : BitVec 1 := Scalar.cmpi .ne v10 c0_i32_7
  v11

def k0_cond3 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference12Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel13.lean ====
abbrev S4096x4096 : Shape := ⟨2, ![4096, 4096]⟩
abbrev S4096x1024 : Shape := ⟨2, ![4096, 1024]⟩
abbrev S1024 : Shape := ⟨1, ![1024]⟩
abbrev S4x1x1024x1024 : Shape := ⟨4, ![4, 1, 1024, 1024]⟩
abbrev S1x1024 : Shape := ⟨2, ![1, 1024]⟩
abbrev S1024x1024 : Shape := ⟨2, ![1024, 1024]⟩
abbrev S1x1x1024x1024 : Shape := ⟨4, ![1, 1, 1024, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x4096, .bf16⟩
  | .hbm, ⟨5, _⟩ => ⟨S4096x1024, .bf16⟩
  | .hbm, ⟨6, _⟩ => ⟨S4x1x1024x1024, .bf16⟩
  | .hbm, ⟨7, _⟩ => ⟨S1x1024, .f32⟩
  | .hbm, ⟨8, _⟩ => ⟨S4096x1024, .f32⟩
  | .hbm, ⟨9, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_5 : BitVec 32 := 0#32
  let v10 : BitVec 1 := Scalar.cmpi .ne v9 c0_i32_5
  v10

def k0_cond2 (i : grid0.Coords) : BitVec 1 :=
  let arg1 : BitVec 32 := BitVec.ofNat 32 (i 1).val
  let c0_i32_6 : BitVec 32 := 0#32
  let v11 : BitVec 1 := Scalar.cmpi .sgt arg1 c0_i32_6
  let v12 : BitVec 32 := Scalar.extui v11
  let c0_i32_7 : BitVec 32 := 0#32
  let v13 : BitVec 1 := Scalar.cmpi .ne v12 c0_i32_7
  v13

def k0_cond3 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference13Ideal.lean ====
abbrev S4096x4096 : Shape := ⟨2, ![4096, 4096]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel14.lean ====
abbrev S1024x512 : Shape := ⟨2, ![1024, 512]⟩
abbrev S512x512 : Shape := ⟨2, ![512, 512]⟩

abbrev nBuf : Space → Nat
  | .hbm => 11
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .bf16⟩
  | .hbm, ⟨6, _⟩ => ⟨S1024x512, .bf16⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S1024x512 : Shape := ⟨2, ![1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S4096x1024 : Shape := ⟨2, ![4096, 1024]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x2048, .bf16⟩
  | .local _ .vmem, ⟨9, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference15Ideal.lean ====
abbrev S4096x1024 : Shape := ⟨2, ![4096, 1024]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x2048, .f32⟩
  | .hbm, ⟨7, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel16.lean ====
abbrev S8x24x1024 : Shape := ⟨3, ![8, 24, 1024]⟩
abbrev S24x1024 : Shape := ⟨2, ![24, 1024]⟩
abbrev S1x24x1024 : Shape := ⟨3, ![1, 24, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .local _ .vmem, ⟨0, _⟩ => ⟨S8x24x1024, .f32⟩
  | .local _ .vmem, ⟨1, _⟩ => ⟨S24x1024, .f32⟩
  | _, _ => ⟨S8x24x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference16Ideal.lean ====
abbrev S8x24x1024 : Shape := ⟨3, ![8, 24, 1024]⟩
abbrev S_ : Shape := ⟨0, ![]⟩
abbrev S24x1024 : Shape := ⟨2, ![24, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S_, .f32⟩
  | .hbm, ⟨2, _⟩ => ⟨S24x1024, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S4096x4096 : Shape := ⟨2, ![4096, 4096]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .hbm, ⟨3, _⟩ => ⟨S1024x4096, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel18.lean ====
abbrev S4096x4096 : Shape := ⟨2, ![4096, 4096]⟩
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v14 : BitVec 1 := Scalar.cmpi .eq arg2 c0_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x4096 : Shape := ⟨2, ![4096, 4096]⟩
abbrev S4096x1024 : Shape := ⟨2, ![4096, 1024]⟩
abbrev S4x1024x1024 : Shape := ⟨3, ![4, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .f32⟩
  | .hbm, ⟨3, _⟩ => ⟨S4096x4096, .f32⟩
  | .hbm, ⟨4, _⟩ => ⟨S4096x1024, .f32⟩
  | .hbm, ⟨5, _⟩ => ⟨S4x1024x1024, .f32⟩
  | .hbm, ⟨6, _⟩ => ⟨S4x1024x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel19.lean ====
abbrev S24x1024 : Shape := ⟨2, ![24, 1024]⟩

abbrev nBuf : Space → Nat
  | .hbm => 8
  | .vmem => 8
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .hbm, ⟨7, _⟩ => ⟨S24x1024, .f32⟩
  | .local _ .vmem, ⟨0, _⟩ => ⟨S24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | .local _ .vmem, ⟨7, _⟩ => ⟨S24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let v1 : BitVec 32 := Scalar.addi v0 arg0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let v1 : BitVec 32 := Scalar.addi v0 arg0
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let v1 : BitVec 32 := Scalar.addi v0 arg0
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let v1 : BitVec 32 := Scalar.addi v0 arg0
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let v1 : BitVec 32 := Scalar.addi v0 arg0
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let v1 : BitVec 32 := Scalar.addi v0 arg0
  let c0_i32 : BitVec 32 := 0#32
  let c0_i32_0 : BitVec 32 := 0#32
  ![v1.toNat, c0_i32.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference19Ideal.lean ====
abbrev S24x1024 : Shape := ⟨2, ![24, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S24x1024, .f32⟩
  | .hbm, ⟨7, _⟩ => ⟨S_, .f32⟩
  | .hbm, ⟨8, _⟩ => ⟨S24x1024, .f32⟩
  | .hbm, ⟨9, _⟩ => ⟨S24x1024, .f32⟩
  | .hbm, ⟨10, _⟩ => ⟨S24x1024, .f32⟩
  | .hbm, ⟨11, _⟩ => ⟨S_, .f32⟩
  | .hbm, ⟨12, _⟩ => ⟨S24x1024, .f32⟩
  | .hbm, ⟨13, _⟩ => ⟨S24x1024, .f32⟩
  | .hbm, ⟨14, _⟩ => ⟨S24x1024, .f32⟩
  | .hbm, ⟨15, _⟩ => ⟨S_, .f32⟩
  | .hbm, ⟨16, _⟩ => ⟨S24x1024, .f32⟩
  | .hbm, ⟨17, _⟩ => ⟨S24x1024, .f32⟩
  | .hbm, ⟨18, _⟩ => ⟨S24x1024, .f32⟩
  | .hbm, ⟨19, _⟩ => ⟨S_, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S24x1024, .f32⟩
  | .hbm, ⟨26, _⟩ => ⟨S_, .f32⟩
  | .hbm, ⟨27, _⟩ => ⟨S24x1024, .f32⟩
  | .hbm, ⟨28, _⟩ => ⟨S24x1024, .f32⟩
  | .hbm, ⟨29, _⟩ => ⟨S24x1024, .f32⟩
  | .hbm, ⟨30, _⟩ => ⟨S_, .f32⟩
  | .hbm, ⟨31, _⟩ => ⟨S24x1024, .f32⟩
  | .hbm, ⟨32, _⟩ => ⟨S24x1024, .f32⟩
  | .hbm, ⟨33, _⟩ => ⟨S24x1024, .f32⟩
  | .hbm, ⟨34, _⟩ => ⟨S_, .f32⟩
  | .hbm, ⟨35, _⟩ => ⟨S24x1024, .f32⟩
  | .hbm, ⟨36, _⟩ => ⟨S24x1024, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Down.Frame.lean ====
/- The call of `mlp_down_bwd`: its run at every point of the grid, and the frame. -/
module

public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import Idealize.ShloMosaic.Lib.Pipeline.FrameSuffix
public import Idealize.ShloMosaic.Lib.Pipeline.TableIdle
public import Idealize.ShloMosaic.Lib.Claim
public import Idealize.ShloMosaic.Lib.Pipeline.ReadBack

@[expose] public section

set_option maxRecDepth 16384

noncomputable section

namespace Cert.Kernel9Ideal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel9Ideal.Gen

variable {F : FTy → Type} [FloatOps F]

local notation "𝕄" => MT nD τ sig Unit (Elt F) ℕ (UR sig nD τ) ℕ

/-! ## The body -/

/-- A store of a whole buffer leaves what it stores. -/
theorem read_stored {s : Shape} {e : EltTy} {v : View sig .tc .vmem s e} (f : v.ty.Contents (Elt F)) {off : Fin s.rank → ℕ} (inb : ∀ a, off a + s.size a ≤ s.size a)
    (h : ∀ a, off a = 0) (w : s.Idx → Elt F e) : v.read (Elt F) (v.writes (Elt F) f [⟨Rect.unit off s.size inb, w⟩]) = w := by
  obtain rfl : off = fun _ => 0 := funext h
  exact View.read_writes_whole v f w

section
variable (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1x1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole)
  (x0 x1 : Vec F S1024x1024 .f32) (x2 : Vec F S1x1024 .f32) (x3 : Vec F S1x1x1024x1024 .bf16) (x4 : Vec F S1024x1024 .bf16)

/-- What the body's buffers hold: the inputs their blocks, the outputs as given. -/
def held (o5 o6 o7 : sProp 𝕄) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
    ∗ o5 ∗ o6 ∗ o7)

/-- A whole buffer, owned. -/
theorem owns_of (c : Dev nD) {sp : Space} {s : Shape} {e : EltTy} {a : Memref sig .tc sp s e} (h : a.IsWhole) (x : s.Idx → Elt F e) :
    (a.view.loc (c : Thread nD τ) ↦[a.view.set]{fullShare} h.unread x : sProp 𝕄) ⊢ owns (c : Thread nD τ) a fullShare x := by
  unfold owns
  iintro H
  iexists _; isplitr; · ipureintro; exact h.read_unread _
  iexact H

set_option maxHeartbeats 1000000 in
/-- The body at the first point. -/
theorem run_first
    (h1 : k0_cond1 i = 1#1) (h2 : k0_cond2 i = 1#1) (h3 : ¬k0_cond3 i = 1#1)
    (K : PUnit → sProp 𝕄) :
    iprop(held c arg2 arg3 arg4 arg5 arg6 x0 x1 x2 x3 x4 iprop(∃ d, owns (c : Thread nD τ) arg7 fullShare d) iprop(∃ d, owns (c : Thread nD τ) arg8 fullShare d) iprop(∃ d, owns (c : Thread nD τ) arg9 fullShare d)
        ∗ (held c arg2 arg3 arg4 arg5 arg6 x0 x1 x2 x3 x4
          (owns (c : Thread nD τ) arg7 fullShare (k0_pay5 x0 x1 x2)) (owns (c : Thread nD τ) arg8 fullShare (k0_pay7 (k0_pay5 x0 x1 x2) x3 x4)) (owns (c : Thread nD τ) arg9 fullShare (k0_pay4 x0 x1)) -∗ K ⟨⟩))
      ⊢ wp frame (wpE (defs₀ (F := F)) Variants.none c none) Set.univ (cc0_mlp_down_bwd i arg2 harg2 arg3 harg3 arg4 harg4 arg5 harg5 arg6 harg6 arg7 harg7 arg8 harg8 arg9 harg9) K := by
  simp only [cc0_mlp_down_bwd_eq_skeleton]; unfold cc0_mlp_down_bwd_skel
  rw [held]; unfold owns
  iintro ⟨⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact h1 | sl_exact h2 | sl_exact h3)
  sl_step
  iapply Hk
  unfold held
  isplitl [H0]; · iapply (owns_of c harg2 x0); iexact H0
  isplitl [H1]; · iapply (owns_of c harg3 x1); iexact H1
  isplitl [H2]; · iapply (owns_of c harg4 x2); iexact H2
  isplitl [H3]; · iapply (owns_of c harg5 x3); iexact H3
  isplitl [H4]; · iapply (owns_of c harg6 x4); iexact H4
  isplitl [H5]; iexists _; isplitr; swap; iexact H5; swap
  isplitl [H6]; iexists _; isplitr; swap; iexact H6; swap
  iexists _; isplitr; swap; iexact H7
  all_goals ipureintro; refine (read_stored _ _ (by decide) _).trans ?_; sl_unfold_words; simp (disch := decide) only [View.readCov_unit_lit, View.readAt_eq_ld, View.ld_unit_lit, hf0, hf1, hf2, hf3, hf4]

set_option maxHeartbeats 1000000 in
/-- The body at the first point of a later tile of rows. -/
theorem run_row
    (h1 : k0_cond1 i = 1#1) (h2 : ¬k0_cond2 i = 1#1) (h3 : k0_cond3 i = 1#1)
    (v : Vec F S1x1024 .f32) (K : PUnit → sProp 𝕄) :
    iprop(held c arg2 arg3 arg4 arg5 arg6 x0 x1 x2 x3 x4 iprop(∃ d, owns (c : Thread nD τ) arg7 fullShare d) iprop(∃ d, owns (c : Thread nD τ) arg8 fullShare d) (owns (c : Thread nD τ) arg9 fullShare v)
        ∗ (held c arg2 arg3 arg4 arg5 arg6 x0 x1 x2 x3 x4
          (owns (c : Thread nD τ) arg7 fullShare (k0_pay5 x0 x1 x2)) (owns (c : Thread nD τ) arg8 fullShare (k0_pay7 (k0_pay5 x0 x1 x2) x3 x4)) (owns (c : Thread nD τ) arg9 fullShare (k0_pay6 x0 x1 v)) -∗ K ⟨⟩))
      ⊢ wp frame (wpE (defs₀ (F := F)) Variants.none c none) Set.univ (cc0_mlp_down_bwd i arg2 harg2 arg3 harg3 arg4 harg4 arg5 harg5 arg6 harg6 arg7 harg7 arg8 harg8 arg9 harg9) K := by
  simp only [cc0_mlp_down_bwd_eq_skeleton]; unfold cc0_mlp_down_bwd_skel
  rw [held]; unfold owns
  iintro ⟨⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hf7
  sl_exec (disch := first | sl_exact h1 | sl_exact h2 | sl_exact h3)
  sl_step
  iapply Hk
  unfold held
  isplitl [H0]; · iapply (owns_of c harg2 x0); iexact H0
  isplitl [H1]; · iapply (owns_of c harg3 x1); iexact H1
  isplitl [H2]; · iapply (owns_of c harg4 x2); iexact H2
  isplitl [H3]; · iapply (owns_of c harg5 x3); iexact H3
  isplitl [H4]; · iapply (owns_of c harg6 x4); iexact H4
  isplitl [H5]; iexists _; isplitr; swap; iexact H5; swap
  isplitl [H6]; iexists _; isplitr; swap; iexact H6; swap
  iexists _; isplitr; swap; iexact H7
  all_goals ipureintro; refine (read_stored _ _ (by decide) _).trans ?_; sl_unfold_words; simp (disch := decide) only [View.readCov_unit_lit, View.readAt_eq_ld, View.ld_unit_lit, hf0, hf1, hf2, hf3, hf4, hf7]

set_option maxHeartbeats 1000000 in
/-- The body at a later point of a tile of rows. -/
theorem run_col
    (h1 : ¬k0_cond1 i = 1#1)
    (dz : Vec F S1024x1024 .bf16) (v : Vec F S1x1024 .f32) (K : PUnit → sProp 𝕄) :
    iprop(held c arg2 arg3 arg4 arg5 arg6 x0 x1 x2 x3 x4 (owns (c : Thread nD τ) arg7 fullShare dz) iprop(∃ d, owns (c : Thread nD τ) arg8 fullShare d) (owns (c : Thread nD τ) arg9 fullShare v)
        ∗ (held c arg2 arg3 arg4 arg5 arg6 x0 x1 x2 x3 x4
          (owns (c : Thread nD τ) arg7 fullShare dz) (owns (c : Thread nD τ) arg8 fullShare (k0_pay7 dz x3 x4)) (owns (c : Thread nD τ) arg9 fullShare v) -∗ K ⟨⟩))
      ⊢ wp frame (wpE (defs₀ (F := F)) Variants.none c none) Set.univ (cc0_mlp_down_bwd i arg2 harg2 arg3 harg3 arg4 harg4 arg5 harg5 arg6 harg6 arg7 harg7 arg8 harg8 arg9 harg9) K := by
  simp only [cc0_mlp_down_bwd_eq_skeleton]; unfold cc0_mlp_down_bwd_skel
  rw [held]; unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
  sl_exec (disch := first | sl_exact h1)
  sl_step
  iapply Hk
  unfold held
  isplitl [H0]; · iapply (owns_of c harg2 x0); iexact H0
  isplitl [H1]; · iapply (owns_of c harg3 x1); iexact H1
  isplitl [H2]; · iapply (owns_of c harg4 x2); iexact H2
  isplitl [H3]; · iapply (owns_of c harg5 x3); iexact H3
  isplitl [H4]; · iapply (owns_of c harg6 x4); iexact H4
  isplitl [H5]
  · iexists _; isplitr; swap; · iexact H5
    ipureintro; exact harg7.read_unread _
  isplitl [H6]
  · iexists _; isplitr; swap; · iexact H6
    ipureintro; refine (read_stored _ _ (by decide) _).trans ?_; sl_unfold_words; simp (disch := decide) only [View.readCov_unit_lit, View.readAt_eq_ld, View.ld_unit_lit, hf0, hf1, hf2, hf3, hf4, hf5, hf7]
  iexists _; isplitr; swap; · iexact H7
  ipureintro; exact harg9.read_unread _

end

variable (m : (ℓ : Loc nD τ sig) → Buf (Elt F) ℓ) (ρ : Dev nD → PrngReg)

/-! ## The host's lines before the call -/

/-- The stretches of host operations before the call, in order. -/
abbrev lines : List (List (HloOp τ sig (Elt F))) := [hostOps0, hostOps0_1, hostOps0_2, hostOps0_3]

/-- What the buffers hold when the call is entered, -/
abbrev V0 (c : Dev nD) : Valuation τ sig (Elt F) := StableHlo.after lines.flatten (fun b => m (c, b))
/-- the same read at a reference. -/
abbrev V (c : Dev nD) (b : Ref sig .tc) : Buf (Elt F) ((c : Thread nD τ).loc b) := V0 m c (Proc.devRef .tc b)

theorem lines_sub : (lines : List (List (HloOp τ sig (Elt F)))).Forall fun ops => ops.Forall fun op => op.bufs ⊆ StableHlo.tcRefs τ sig :=
  ⟨hostOps0_sub, hostOps0_1_sub, hostOps0_2_sub, hostOps0_3_sub⟩
theorem lines_fresh : (lines : List (List (HloOp τ sig (Elt F)))).Forall fun ops => ops.Forall fun op => op.fresh = ∅ := by
  simp only [List.Forall]; repeat' constructor

set_option maxHeartbeats 800000 in
/-- The host's lines come before the call, which ends the program. -/
theorem hmain : Pipeline.HMain (Ix := Unit) (Name := ℕ) (U := UR sig nD τ) (Lvl := ℕ) cfgs 0 defs₀ Variants.none m (main (F := F)) (V m) :=
  Pipeline.hmain_around cfgs 0 defs₀ Variants.none m main lines [] lines_sub lines_fresh main_chain

/-- A buffer that no host line writes is found as launched. -/
theorem V_kept (c : Dev nD) (b : Ref sig .tc) (h : ∀ ops ∈ (lines : List (List (HloOp τ sig (Elt F)))), ∀ op ∈ ops, Proc.devRef .tc b ∉ op.writes) :
    V m c b = m ((c : Thread nD τ).loc b) :=
  StableHlo.after_of_forall_not_mem _ _ fun op hop => by
    obtain ⟨ops, h1, h2⟩ := List.mem_flatten.mp hop
    exact h ops h1 op h2

/-! ## What the windows' buffers hold at a point -/

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The gradient of the norm's argument on the tile of rows of a point: made at the tile's first point and kept. -/
def dzAt (c : Dev nD) : (n : ℕ) → n < cfg0.N → Vec F S1024x1024 .bf16
  | 0, h => k0_pay5 (iblk m c 0 ⟨0, h⟩) (iblk m c 1 ⟨0, h⟩) (iblk m c 2 ⟨0, h⟩)
  | n + 1, h => if (n + 1) % 4 = 0 then k0_pay5 (iblk m c 0 ⟨n + 1, h⟩) (iblk m c 1 ⟨n + 1, h⟩) (iblk m c 2 ⟨n + 1, h⟩) else dzAt c n (Nat.lt_of_succ_lt h)

/-- The gradient of the norm's scale over the tiles up to that of a point. -/
def dgAt (c : Dev nD) : (n : ℕ) → n < cfg0.N → Vec F S1x1024 .f32
  | 0, h => k0_pay4 (iblk m c 0 ⟨0, h⟩) (iblk m c 1 ⟨0, h⟩)
  | n + 1, h => if (n + 1) % 4 = 0 then k0_pay6 (iblk m c 0 ⟨n + 1, h⟩) (iblk m c 1 ⟨n + 1, h⟩) (dgAt c n (Nat.lt_of_succ_lt h)) else dgAt c n (Nat.lt_of_succ_lt h)

theorem dzAt_first (c : Dev nD) (t : Fin cfg0.N) (h : t.val % 4 = 0) : dzAt m c t.val t.isLt = k0_pay5 (iblk m c 0 t) (iblk m c 1 t) (iblk m c 2 t) := by
  obtain ⟨n, hn⟩ := t
  match n, hn, h with
  | 0, hn, _ => rfl
  | n + 1, hn, h => exact if_pos h

theorem dzAt_later (c : Dev nD) (t : Fin cfg0.N) (h : t.val % 4 ≠ 0) : dzAt m c t.val t.isLt = dzAt m c (t.val - 1) (Nat.lt_of_le_of_lt (Nat.sub_le _ _) t.isLt) := by
  obtain ⟨n, hn⟩ := t
  match n, hn, h with
  | 0, hn, h => exact absurd rfl h
  | n + 1, hn, h => exact if_neg h

theorem dgAt_first (c : Dev nD) (t : Fin cfg0.N) (h : t.val = 0) : dgAt m c t.val t.isLt = k0_pay4 (iblk m c 0 t) (iblk m c 1 t) := by
  obtain ⟨n, hn⟩ := t
  obtain rfl : n = 0 := h
  rfl

theorem dgAt_row (c : Dev nD) (t : Fin cfg0.N) (h : t.val % 4 = 0) (h0 : t.val ≠ 0) :
    dgAt m c t.val t.isLt = k0_pay6 (iblk m c 0 t) (iblk m c 1 t) (dgAt m c (t.val - 1) (Nat.lt_of_le_of_lt (Nat.sub_le _ _) t.isLt)) := by
  obtain ⟨n, hn⟩ := t
  match n, hn, h, h0 with
  | 0, hn, _, h0 => exact absurd rfl h0
  | n + 1, hn, h, _ => exact if_pos h

theorem dgAt_later (c : Dev nD) (t : Fin cfg0.N) (h : t.val % 4 ≠ 0) : dgAt m c t.val t.isLt = dgAt m c (t.val - 1) (Nat.lt_of_le_of_lt (Nat.sub_le _ _) t.isLt) := by
  obtain ⟨n, hn⟩ := t
  match n, hn, h with
  | 0, hn, h => exact absurd rfl h
  | n + 1, hn, h => exact if_neg h

/-- The proof data: the inputs' blocks stay, the outputs are as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dzAt m c t.val t.isLt
    | ⟨6, _⟩ => k0_pay7 (dzAt m c t.val t.isLt) (iblk m c 3 t) (iblk m c 4 t)
    | ⟨7, _⟩ => dgAt m c t.val t.isLt
  Φ _ := Pipeline.ΦA spec0 c
  q w := fullShare
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by show iblk m c 0 t = _; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by show iblk m c 1 t = _; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by show iblk m c 2 t = _; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by show iblk m c 3 t = _; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by show iblk m c 4 t = _; unfold Dat.blockOf iblk; rw [A_eq]; try rfl) t d).trans
    (by unfold Dat.fetched Dat.blockOf iblk; rw [A_eq]; try rfl)

/-! ## The grid -/

theorem cond1_iff : ∀ t : Fin cfg0.N, k0_cond1 (grid0.coords t) = 1#1 ↔ t.val % 4 = 0 := by decide +kernel
theorem cond2_iff : ∀ t : Fin cfg0.N, k0_cond2 (grid0.coords t) = 1#1 ↔ t.val < 4 := by decide +kernel
theorem cond3_iff : ∀ t : Fin cfg0.N, k0_cond3 (grid0.coords t) = 1#1 ↔ 4 ≤ t.val := by decide +kernel
theorem idle5 : ∀ t : Fin cfg0.N, cfg0.idle 5 (cfg0.grid.coords t) = true ↔ t.val % 4 ≠ 0 := by decide +kernel
theorem idle7 : ∀ t : Fin cfg0.N, cfg0.idle 7 (cfg0.grid.coords t) = true ↔ t.val % 4 ≠ 0 := by decide +kernel

/-- After the first point of a tile of rows its gradient is in the buffer; -/
theorem kept5 : ∀ t : Fin cfg0.N, t.val % 4 ≠ 0 → cfg0.fresh 5 t.val = false := by
  intro t
  rw [Pipeline.Cfg.fresh_tab cfg0 5 (fun n => n % 4 == 0) rfl (by decide +kernel) t.val t.isLt.le]
  intro h
  simpa using h
/-- after the first point, that of the scale. -/
theorem kept7 : ∀ t : Fin cfg0.N, t.val ≠ 0 → cfg0.fresh 7 t.val = false := by
  intro t
  rw [Pipeline.Cfg.fresh_tab cfg0 7 (fun n => n == 0 || n == 16) rfl (by decide +kernel) t.val t.isLt.le]
  intro h
  have h16 : t.val < 16 := lt_of_lt_of_eq t.isLt N_0
  simp only [Bool.or_eq_false_iff, beq_eq_false_iff_ne]
  omega

theorem before5 (c : Dev nD) (t : Fin cfg0.N) (h : t.val % 4 ≠ 0) (d) : (dats m 0 c).before 5 t d = dzAt m c t.val t.isLt := by
  rw [Dat.before_out_traj _ 5 rfl (fun _ _ => rfl) (fun s _ hi _ => dzAt_later m c s ((idle5 s).mp hi)) t.val t rfl d, kept5 t h, if_neg Bool.false_ne_true]
  exact (dzAt_later m c t h).symm

theorem before7 (c : Dev nD) (t : Fin cfg0.N) (h : t.val ≠ 0) (d) :
    (dats m 0 c).before 7 t d = dgAt m c (t.val - 1) (Nat.lt_of_le_of_lt (Nat.sub_le _ _) t.isLt) := by
  rw [Dat.before_out_traj _ 7 rfl (fun _ _ => rfl) (fun s _ hi _ => dgAt_later m c s ((idle7 s).mp hi)) t.val t rfl d, kept7 t h, if_neg Bool.false_ne_true]
  rfl

/-- What a point leaves in the first output's buffer is what the pipeline is told of it; -/
theorem leaves5 (c : Dev nD) (t : Fin cfg0.N) :
    (owns (c : Thread nD τ) (st0_5 t) fullShare (dzAt m c t.val t.isLt) : sProp 𝕄) ⊢ (dats m 0 c).leavesExact 5 t := by
  unfold Dat.leavesExact
  by_cases h : t.val % 4 = 0
  · rw [show cfg0.idle 5 (cfg0.grid.coords t) = false from by rw [Bool.eq_false_iff]; exact fun h' => (idle5 t).mp h' h]
    exact .rfl
  · rw [(idle5 t).mpr h]
    cases hf : (cfg0.win 5).flush t
    · iintro H; iexists (dzAt m c t.val t.isLt); rw [before5 m c t h]; iexact H
    · exact .rfl

/-- the same of the third. -/
theorem leaves7 (c : Dev nD) (t : Fin cfg0.N) :
    (owns (c : Thread nD τ) (st0_7 t) fullShare (dgAt m c t.val t.isLt) : sProp 𝕄) ⊢ (dats m 0 c).leavesExact 7 t := by
  unfold Dat.leavesExact
  by_cases h : t.val % 4 = 0
  · rw [show cfg0.idle 7 (cfg0.grid.coords t) = false from by rw [Bool.eq_false_iff]; exact fun h' => (idle7 t).mp h' h]
    exact .rfl
  · rw [(idle7 t).mpr h]
    cases hf : (cfg0.win 7).flush t
    · iintro H; iexists (dgAt m c t.val t.isLt); rw [before7 m c t (by rintro h0; rw [h0] at h; exact h rfl), ← dgAt_later m c t h]; iexact H
    · exact .rfl

/-! ## The body at a point -/

/-- What the body leaves is what the pipeline asks for. -/
theorem leaves (c : Dev nD) (t : Fin cfg0.N) :
    iprop((dats m 0 c).Φ t.castSucc ∗ (dats m 0 c).owesAt () t.castSucc ∗ held c (st0_0 t) (st0_1 t) (st0_2 t) (st0_3 t) (st0_4 t) (iblk m c 0 t) (iblk m c 1 t) (iblk m c 2 t) (iblk m c 3 t) (iblk m c 4 t) (owns (c : Thread nD τ) (st0_5 t) fullShare (dzAt m c t.val t.isLt))
      (owns (c : Thread nD τ) (st0_6 t) fullShare (k0_pay7 (dzAt m c t.val t.isLt) (iblk m c 3 t) (iblk m c 4 t))) (owns (c : Thread nD τ) (st0_7 t) fullShare (dgAt m c t.val t.isLt)))
    ⊢ iprop((dats m 0 c).Φ t.castSucc ∗ (dats m 0 c).owesAt () t.castSucc
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ (dats m 0 c).leavesExact 5 t
        ∗ owns (c : Thread nD τ) (st0_6 t) fullShare (k0_pay7 (dzAt m c t.val t.isLt) (iblk m c 3 t) (iblk m c 4 t))
        ∗ (dats m 0 c).leavesExact 7 t) := by
  unfold held
  iintro ⟨HΦ, Ho, H0, H1, H2, H3, H4, H5, H6, H7⟩
  iframe HΦ Ho H0 H1 H2 H3 H4 H6
  isplitl [H5]; · iapply (leaves5 m c t); iexact H5
  iapply (leaves7 m c t); iexact H7

set_option maxHeartbeats 1000000 in
/-- The body at any point. -/
theorem body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d)))
    ⊢ wp Idealize.ShloMosaic.frame (wpE (defs₀ (F := F)) Variants.none c none) Set.univ (bodyAt0 t) fun _ =>
      iprop((dats m 0 c).Φ t.castSucc ∗ (dats m 0 c).owesAt () t.castSucc
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ (dats m 0 c).leavesExact 5 t
        ∗ owns (c : Thread nD τ) (st0_6 t) fullShare (k0_pay7 (dzAt m c t.val t.isLt) (iblk m c 3 t) (iblk m c 4 t))
        ∗ (dats m 0 c).leavesExact 7 t) := by
  simp only [before0, before1, before2, before3, before4]
  have hN : t.val < 16 := lt_of_lt_of_eq t.isLt N_0
  by_cases h : t.val % 4 = 0
  · by_cases h0 : t.val = 0
    · have l := leaves m c t
      rw [dzAt_first m c t h, dgAt_first m c t h0] at l
      rw [dzAt_first m c t h]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) _ _ _ _ _ _ _ _ _ _ _ _ _ _ _ _ (iblk m c 0 t) (iblk m c 1 t) (iblk m c 2 t) (iblk m c 3 t) (iblk m c 4 t) ((cond1_iff t).mpr h) ((cond2_iff t).mpr (by omega)) (fun hc => absurd ((cond3_iff t).mp hc) (by omega)) _)
      isplitl [H0 H1 H2 H3 H4 H5 H6 H7]
      · unfold held
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        iexists _; iexact H7
      iintro H
      iapply l
      iframe
    · have l := leaves m c t
      rw [dzAt_first m c t h, dgAt_row m c t h h0] at l
      rw [dzAt_first m c t h]
      simp only [before7 m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_row c (grid0.coords t) _ _ _ _ _ _ _ _ _ _ _ _ _ _ _ _ (iblk m c 0 t) (iblk m c 1 t) (iblk m c 2 t) (iblk m c 3 t) (iblk m c 4 t) ((cond1_iff t).mpr h) (fun hc => absurd ((cond2_iff t).mp hc) (by omega)) ((cond3_iff t).mpr (by omega)) (dgAt m c (t.val - 1) _) _)
      isplitl [H0 H1 H2 H3 H4 H5 H6 H7]
      · unfold held
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        iexact H7
      iintro H
      iapply l
      iframe
  · have h0 : t.val ≠ 0 := fun h' => h (by rw [h'])
    have l := leaves m c t
    simp only [before5 m c t h, before7 m c t h0]
    rw [← dgAt_later m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_col c (grid0.coords t) _ _ _ _ _ _ _ _ _ _ _ _ _ _ _ _ (iblk m c 0 t) (iblk m c 1 t) (iblk m c 2 t) (iblk m c 3 t) (iblk m c 4 t) (fun hc => h ((cond1_iff t).mp hc)) (dzAt m c t.val t.isLt) (dgAt m c t.val t.isLt) _)
    isplitl [H0 H1 H2 H3 H4 H5 H6 H7]
    · unfold held
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexact H7
    iintro H
    iapply l
    iframe

/-- The program's row for the body at a point is the body on that point's buffers. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body m c t) rfl .rfl fun _ => .rfl

/-! ## The launch -/

set_option backward.isDefEq.respectTransparency.types false in
/-- Every run ends with the outputs' blocks written back, every other buffer as the call found it, and every counter at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hΦ := fun _ _ => rfl)

theorem V_main_arg0 (c : Dev nD) : V m c main_arg0 = m ((c : Thread nD τ).loc main_arg0) :=
  V_kept m c _ (by
    intro ops hops op hop
    fin_cases hops <;> fin_cases hop <;> exact fun h => absurd (Finset.mem_singleton.mp h) (StableHlo.devRef_ne_of_ne (by decide)))
theorem V_main_arg1 (c : Dev nD) : V m c main_arg1 = m ((c : Thread nD τ).loc main_arg1) :=
  V_kept m c _ (by
    intro ops hops op hop
    fin_cases hops <;> fin_cases hop <;> exact fun h => absurd (Finset.mem_singleton.mp h) (StableHlo.devRef_ne_of_ne (by decide)))
theorem V_main_arg2 (c : Dev nD) : V m c main_arg2 = m ((c : Thread nD τ).loc main_arg2) :=
  V_kept m c _ (by
    intro ops hops op hop
    fin_cases hops <;> fin_cases hop <;> exact fun h => absurd (Finset.mem_singleton.mp h) (StableHlo.devRef_ne_of_ne (by decide)))
theorem V_main_arg3 (c : Dev nD) : V m c main_arg3 = m ((c : Thread nD τ).loc main_arg3) :=
  V_kept m c _ (by
    intro ops hops op hop
    fin_cases hops <;> fin_cases hop <;> exact fun h => absurd (Finset.mem_singleton.mp h) (StableHlo.devRef_ne_of_ne (by decide)))

/-- The frame: every run ends, the arguments are unchanged, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m 0 c).arrAt_in 0 rfl _).trans ((A_eq m c 0).trans (V_main_arg0 m c))),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩, h.2⟩) (run_main m ρ)

end Cert.Kernel9Ideal.Down
-- ==== Proof.Down.Bits.lean ====
/- The MLP's call over the bits: no operation of it is read differently over the reals, so the two programs are one, and
   the frame proved of one is that of the other. -/
module

public import proofs.«01_k».proof.Defs
public import proofs.«01_k».proof.Proof.Down.Frame
public import proofs.«01_k».proof.Proof.Gen.Kernel9

@[expose] public section

set_option maxRecDepth 16384

noncomputable section

namespace Cert.Kernel9.Down

open Idealize.ShloMosaic Idealize.SL.Sem

/-- The two tables of bodies are the same. -/
theorem table : Cert.Kernel9.defs₀ (F := Bits) = Cert.Kernel9Ideal.defs₀ (F := Bits) := by
  unfold Cert.Kernel9.defs₀ Cert.Kernel9Ideal.defs₀
  refine congrArg Defs.onTc (funext fun l => ?_)
  match l with
  | ⟨0, _⟩ => exact funext fun a => rfl
  | ⟨n + 1, h⟩ => exact absurd h (by omega)

set_option maxHeartbeats 4000000 in
/-- The frame over the bits. -/
theorem frame : Cert.quiescent_Kernel9 := fun m ρ _ => by
  have e : Cert.Kernel9.defs (F := Bits) = Cert.Kernel9Ideal.defs (F := Bits) := congrArg (Pipeline.defs Cert.Kernel9.pcfgs) table
  rw [e]
  exact Cert.Kernel9Ideal.Down.frame (F := Bits) m ρ

end Cert.Kernel9.Down
-- ==== Proof.Reals.lean ====
/- Facts on extended reals that the value proofs share: sums and products of real values, the constants of the
   programs, and the elementary functions at real values. -/
module

public import Idealize.ShloMosaic.Lib.Pipeline.ValueKit

@[expose] public section

noncomputable section

namespace Cert.Reals

open Idealize.ShloMosaic

/-- A nonnegative real factor moves into a sum of extended reals, whatever the terms. -/
theorem coe_mul_sum {ι : Type*} (s : Finset ι) {r : ℝ} (h : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr h) (EReal.coe_ne_top r), ih]

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem half : Ideal.ofBits .f32 0x3F000000#32 = (((1 : ℝ) / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem thousand : Ideal.ofBits .f32 0x44800000#32 = ((1024 : ℝ) : EReal) := by
  simp [Ideal.ofBits, Ideal.ieee, -EReal.coe_mul]; norm_num
theorem thousandth : Ideal.ofBits .f32 0x3A800000#32 = (((1 : ℝ) / 1024 : ℝ) : EReal) := by
  simp [Ideal.ofBits, Ideal.ieee, -EReal.coe_mul]; norm_num

end Cert.Reals

end
-- ==== Proof.Loss.lean ====
/- The loss and its gradient: what the kernel leaves in its two result arrays, against `jax.vjp` of half the sum of
   the mean squared errors. -/
module

public import proofs.«01_k».proof.Proof.Gen.KernelIdeal.Frame
public import proofs.«01_k».proof.Proof.Gen.ReferenceIdeal.Read
public import proofs.«01_k».proof.Proof.Reals

@[expose] public section

set_option maxRecDepth 16384

noncomputable section

namespace Cert.Loss

open Cert.Reals Cert.KernelIdeal Cert.KernelIdeal.Gen Idealize.ShloMosaic Idealize.ShloMosaic.TcCoe Idealize.SL.Sem
open Idealize.ShloMosaic.Pipeline (Dat)

theorem idx : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

variable (m : (ℓ : Loc nD τ sig) → Buf (Elt Ideal) ℓ)

/-- The squared errors of one token, averaged over the features. -/
def err (Y T : FVec Ideal S4096x1024 .f32) (i : Fin 4096) : EReal :=
  Ideal.div (∑ k : Fin 1024, (Y (ix2 i k) - T (ix2 i k)) * (Y (ix2 i k) - T (ix2 i k))) (Ideal.ofBits .f32 0x44800000#32)

section
open Cert.ReferenceIdeal.Read

theorem grad_ref (Y T : FVec Ideal S4096x1024 .f32) (j : S4096x1024.Idx) :
    val_main_v15 (F := Ideal) Y T j = (Y j - T j) * Ideal.ofBits .f32 0x3A800000#32 := by
  simp only [val_main_v15, val_main_v14, val_main_v13, val_main_v12, val_main_v11, val_main_v10, val_main_v3,
    val_main_v2, val_main_v0, val_main_cst, val_main_cst_4, val_main_cst_5, val_main_cst_6]
  pointwise
  rw [half, two, thousand, thousandth, Ideal.div_coe (by norm_num), ← mul_assoc, mul_comm (Y j - T j),
    ← EReal.coe_mul, ← EReal.coe_mul]
  norm_num

theorem loss_ref (Y T : FVec Ideal S4096x1024 .f32) (j : S1x1.Idx) :
    val_main_v9 (F := Ideal) Y T j = Ideal.ofBits .f32 0x3F000000#32 * ∑ i : Fin 4096, err Y T i := by
  simp only [val_main_v9, val_main_v8, val_main_v7, val_main_v6, val_main_v5, val_main_v4, val_main_v1, val_main_v0,
    val_main_cst_0, val_main_cst_1, val_main_cst_2, val_main_cst_3, err]
  pointwise

end

theorem pay_grad (y t : Vec Ideal S512x1024 .f32) (j : S512x1024.Idx) :
    k0_pay2 (F := Ideal) y t j = (y j - t j) * Ideal.ofBits .f32 0x3A800000#32 := by
  pointwise [k0_pay2, k0_pay1]

theorem pay_part (y t : Vec Ideal S512x1024 .f32) (j : S1x1.Idx) :
    k0_pay3 (F := Ideal) y t j = ∑ p : Fin 512, Ideal.ofBits .f32 0x3F000000#32 *
      Ideal.div (∑ k : Fin 1024, (y (ix2 p k) - t (ix2 p k)) * (y (ix2 p k) - t (ix2 p k))) (Ideal.ofBits .f32 0x44800000#32) := by
  pointwise [k0_pay3, k0_pay1]
  rw [half, coe_mul_sum _ (by norm_num)]

theorem pay_acc (y t : Vec Ideal S512x1024 .f32) (a : Vec Ideal S1x1 .f32) (j : S1x1.Idx) :
    k0_pay4 (F := Ideal) y t a j = a j + k0_pay3 (F := Ideal) y t j := by
  pointwise [k0_pay4]

theorem grad_at (c : Dev nD) (t : Fin cfg0.N) (y : S512x1024.Idx) :
    (outsAt0 m c t.val t.isLt).2 y = k0_pay2 (F := Ideal) (iblk m c 0 t) (iblk m c 1 t) y := by
  have hN : t.val < 8 := lt_of_lt_of_eq t.isLt N_0
  by_cases h : t.val % 8 = 0
  · rw [outsAt0_A m c t h (by omega)]; frame_out
  · rw [outsAt0_B m c t h (by omega)]; frame_out

/-- The gradient's array after the run. -/
theorem grad (c : Dev nD) : (dats m 0 c).arrAt 3 (cfgs 0).N
    = Cert.ReferenceIdeal.Read.val_main_v15 (F := Ideal) (m ((c : Thread nD τ).loc main_arg0)) (m ((c : Thread nD τ).loc main_arg1)) := by
  refine (dats m 0 c).arrAt_eq_of_covers 3 _ (by decide +kernel) fun t hf y => ?_
  blk_simp
  rw [after0_3, grad_at, grad_ref, pay_grad]
  blk_point [iblk, V, idx t]

/-- The loss's array after the run. -/
theorem loss (c : Dev nD) : (dats m 0 c).arrAt 2 (cfgs 0).N
    = Cert.ReferenceIdeal.Read.val_main_v9 (F := Ideal) (m ((c : Thread nD τ).loc main_arg0)) (m ((c : Thread nD τ).loc main_arg1)) := by
  refine (dats m 0 c).arrAt_eq_of_after_last 2 t0_7 (by decide +kernel) _ fun j => ?_
  blk_simp
  rw [after0_2, Pipeline.eq_sum_fin_of_reset_step_apply_last (fun n h => (outsAt0 m c n h).1) 8 (fun _ => 0) _
    (fun t h j => by rw [outsAt0_A m c t h (by have hN : t.val < 8 := lt_of_lt_of_eq t.isLt N_0; omega)]; frame_out; rw [pay_part, ← zero_add (∑ p : Fin 512, _)])
    (fun t h j => by rw [outsAt0_B m c t h (by omega)]; frame_out; rw [pay_acc, pay_part])
    (le_of_eq N_0) t0_7 rfl j, zero_add, loss_ref, half, coe_mul_sum _ (by norm_num)]
  refine Fin.sum_mul_add_congr fun t k hl => ?_
  simp only [err]
  blk_point [iblk, V, idx t]

end Cert.Loss

end
-- ==== Proof.Sba.Trip.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Tactic
public import Idealize.ShloMosaic.Lib.WordCmp

@[expose] public section

set_option maxRecDepth 16384

noncomputable section

namespace Cert.Kernel2Ideal.Sba

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F] [Named F]

local notation "𝕄" => MT nD τ sig Unit (Elt F) ℕ (UR sig nD τ) ℕ

/-- The naturals: the trips the loop may still run. -/
abbrev 𝒱₀ : Variants := Variants.nat

/-- The loop's test. -/
abbrev test (i : grid0.Coords) (arg15 : BitVec 32) (arg16 : F .f32) : BitVec 1 :=
  Scalar.andi (Scalar.cmpi .slt arg15 (BitVec.ofNat 32 (i 1).val)) (Scalar.cmpf .olt arg16 (Named.named κ "dead_log" 0x42D20000#32))

set_option maxHeartbeats 4000000 in
def trip (c : Dev nD) (i : grid0.Coords) (arg3 : Memref sig .tc .vmem S4096x256 .bf16) (harg3 : arg3.IsWhole) (arg4 : Memref sig .tc .vmem S4096x256 .bf16) (harg4 : arg4.IsWhole) (v17 : FVec F S256x128 .bf16) (v18 : FVec F S256x128 .bf16) (v36 : FVec F S256x128 .bf16) (v37 : FVec F S256x128 .bf16) (v19 : FVec F S256x128 .bf16) (v20 : FVec F S256x128 .bf16) (v38 : FVec F S256x128 .bf16) (v39 : FVec F S256x128 .bf16) (v4 : FVec F S512x256 .bf16) (arg12 : Memref sig .tc .vmem S4x256x1 .f32) (harg12 : arg12.IsWhole) (v6 : FVec F S512x256 .bf16) (arg13 : Memref sig .tc .vmem S4x256x1 .f32) (harg13 : arg13.IsWhole) (v24 : FVec F S256x1 .f32) (v28 : FVec F S256x1 .f32) (v43 : FVec F S256x1 .f32) (v47 : FVec F S256x1 .f32) (arg14 : Memref sig .tc .vmem S4x256x128 .f32) (harg14 : arg14.IsWhole) (arg10 : Memref sig .tc .vmem S4096x256 .f32) (harg10 : arg10.IsWhole) (arg11 : Memref sig .tc .vmem S4096x256 .f32) (harg11 : arg11.IsWhole) (arg15 : BitVec 32)
    (hw : k0_chk1 i arg15) (xk xv : Vec F S4096x256 .bf16) (gk gv : Vec F S4096x256 .f32) (gc gr : Vec F S4x256x1 .f32) (ga : Vec F S4x256x128 .f32) :
    Σ' (gk' gv' : Vec F S4096x256 .f32) (gc' gr' : Vec F S4x256x1 .f32) (ga' : Vec F S4x256x128 .f32) (n : BitVec 32), { x : F .f32 //
      ∀ (arg16 : F .f32) (ht : test i arg15 arg16 = 1#1) (bd : Option ℕ) (E : Set ℕ) (K : BitVec 32 × F .f32 → sProp 𝕄),
        iprop(owns (c : Thread nD τ) arg3 fullShare xk ∗ owns (c : Thread nD τ) arg4 fullShare xv
            ∗ owns (c : Thread nD τ) arg10 fullShare gk ∗ owns (c : Thread nD τ) arg11 fullShare gv
            ∗ owns (c : Thread nD τ) arg12 fullShare gc ∗ owns (c : Thread nD τ) arg13 fullShare gr ∗ owns (c : Thread nD τ) arg14 fullShare ga
            ∗ (iprop(owns (c : Thread nD τ) arg3 fullShare xk ∗ owns (c : Thread nD τ) arg4 fullShare xv
                ∗ owns (c : Thread nD τ) arg10 fullShare gk' ∗ owns (c : Thread nD τ) arg11 fullShare gv'
                ∗ owns (c : Thread nD τ) arg12 fullShare gc' ∗ owns (c : Thread nD τ) arg13 fullShare gr' ∗ owns (c : Thread nD τ) arg14 fullShare ga')
              -∗ wp frame (wpE (defs₀ (F := F)) 𝒱₀ c bd) E (Prog.op (.call (1 : (Λ₀ F).Label) ⟨i, arg3, harg3, arg4, harg4, v17, v18, v36, v37, v19, v20, v38, v39, v4, arg12, harg12, v6, arg13, harg13, v24, v28, v43, v47, arg14, harg14, arg10, harg10, arg11, harg11, n, x⟩) Prog.ret) K))
          ⊢ wp frame (wpE (defs₀ (F := F)) 𝒱₀ c bd) E (cc0_while1 i arg3 harg3 arg4 harg4 v17 v18 v36 v37 v19 v20 v38 v39 v4 arg12 harg12 v6 arg13 harg13 v24 v28 v43 v47 arg14 harg14 arg10 harg10 arg11 harg11 arg15 arg16) K } := by
  refine ⟨?_, ?_, ?_, ?_, ?_, ?_, ?_, fun arg16 ht bd E K => ?run⟩
  case run =>
    simp only [cc0_while1_eq_skeleton]; unfold cc0_while1_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f3, %hf3, H3⟩, ⟨%f4, %hf4, H4⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg10.eq_unread hf10; obtain rfl := harg11.eq_unread hf11; obtain rfl := harg12.eq_unread hf12; obtain rfl := harg13.eq_unread hf13; obtain rfl := harg14.eq_unread hf14
    sl_exec (disch := first | sl_exact ht | sl_exact hw)
    iapply Hk
    isplitl [H3]
    · iexists _; isplitr; · ipureintro; exact harg3.read_unread _
      iexact H3
    isplitl [H4]
    · iexists _; isplitr; · ipureintro; exact harg4.read_unread _
      iexact H4
    isplitl [H10]
    · iexists _; isplitr; · ipureintro; rfl
      iexact H10
    isplitl [H11]
    · iexists _; isplitr; · ipureintro; rfl
      iexact H11
    isplitl [H12]
    · iexists _; isplitr; · ipureintro; rfl
      iexact H12
    isplitl [H13]
    · iexists _; isplitr; · ipureintro; rfl
      iexact H13
    iexists _; isplitr; · ipureintro; rfl
    iexact H14

end Cert.Kernel2Ideal.Sba
-- ==== Proof.Sba.Point.lean ====
module

public import proofs.«01_k».proof.Proof.Sba.Trip

@[expose] public section

set_option maxRecDepth 16384

noncomputable section

namespace Cert.Kernel2Ideal.Sba

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F] [Named F]

local notation "𝕄" => MT nD τ sig Unit (Elt F) ℕ (UR sig nD τ) ℕ

/-- What the loop carries from trip to trip: the gradients of the keys and the values, and the three scratch buffers. -/
structure Carried (F : FTy → Type) where
  gk : Vec F S4096x256 .f32
  gv : Vec F S4096x256 .f32
  gc : Vec F S4x256x1 .f32
  gr : Vec F S4x256x1 .f32
  ga : Vec F S4x256x128 .f32

section
variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S256x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4x256x1 .f32) (harg12 : arg12.IsWhole) (arg13 : Memref sig .tc .vmem S4x256x1 .f32) (harg13 : arg13.IsWhole) (arg14 : Memref sig .tc .vmem S4x256x128 .f32) (harg14 : arg14.IsWhole)
  (x0 : Vec F S256x256 .bf16) (x1 : Vec F S4096x256 .bf16) (x2 : Vec F S4096x256 .bf16) (x3 : Vec F S256x256 .f32) (x4 : Vec F S256x256 .bf16) (x5 : Vec F S512x256 .bf16) (x6 : Vec F S512x256 .bf16) (x7 : Vec F S256x256 .bf16)

/-- The buffers the loop reads and writes, whole. -/
def held (s : Carried F) : sProp 𝕄 :=
  iprop(owns (c : Thread nD τ) arg3 fullShare x1 ∗ owns (c : Thread nD τ) arg4 fullShare x2
    ∗ owns (c : Thread nD τ) arg10 fullShare s.gk ∗ owns (c : Thread nD τ) arg11 fullShare s.gv
    ∗ owns (c : Thread nD τ) arg12 fullShare s.gc ∗ owns (c : Thread nD τ) arg13 fullShare s.gr ∗ owns (c : Thread nD τ) arg14 fullShare s.ga)

/-- The loop from the contents `s`: it ends with some contents of which `Q` holds. -/
def loopSpec (s : Carried F) (Q : Carried F → Prop) : sWPT 𝕄 (BitVec 32 × F .f32) := do
  sWPT.consume (held c arg3 arg4 arg10 arg11 arg12 arg13 arg14 x1 x2 s)
  let r ← (sWPT.arbitrary : sWPT 𝕄 ((BitVec 32 × F .f32) × Carried F))
  sWPT.assume (Q r.2)
  sWPT.produce (held c arg3 arg4 arg10 arg11 arg12 arg13 arg14 x1 x2 r.2)
  pure r.1

theorem loopSpec_apply (s : Carried F) (Q : Carried F → Prop) (K : BitVec 32 × F .f32 → sProp 𝕄) :
    loopSpec c arg3 arg4 arg10 arg11 arg12 arg13 arg14 x1 x2 s Q K
      = iprop(held c arg3 arg4 arg10 arg11 arg12 arg13 arg14 x1 x2 s
        ∗ ∀ r : (BitVec 32 × F .f32) × Carried F, ⌜Q r.2⌝ -∗ (held c arg3 arg4 arg10 arg11 arg12 arg13 arg14 x1 x2 r.2 -∗ K r.1)) := rfl

/-- A call of the loop, answered by what is assumed of its body. -/
theorem call_loop {α : Type} {r : Cc0While1 F} {gk gv : Vec F S4096x256 .f32} {gc gr : Vec F S4x256x1 .f32} {ga : Vec F S4x256x128 .f32} {n : ℕ} {Q : Carried F → Prop}
    (bd : Option ℕ) (hv : ∀ u ∈ bd, 𝒱₀.lt n u)
    (hS : ∀ K, loopSpec c arg3 arg4 arg10 arg11 arg12 arg13 arg14 x1 x2 ⟨gk, gv, gc, gr, ga⟩ Q K
      ⊢ wp frame (wpE (defs₀ (F := F)) 𝒱₀ c (some n)) Set.univ (defs₀ (F := F) .tc 1 r) K)
    {k : BitVec 32 × F .f32 → Prog (TpuEff nD τ sig (Elt F) (Λ₀ F) .tc) α} {K : α → sProp 𝕄} :
    owns (c : Thread nD τ) arg3 fullShare x1
      ⊢ iprop(owns (c : Thread nD τ) arg4 fullShare x2
        -∗ owns (c : Thread nD τ) arg10 fullShare gk -∗ owns (c : Thread nD τ) arg11 fullShare gv
        -∗ owns (c : Thread nD τ) arg12 fullShare gc -∗ owns (c : Thread nD τ) arg13 fullShare gr -∗ owns (c : Thread nD τ) arg14 fullShare ga
        -∗ (∀ (x : BitVec 32 × F .f32) (s' : Carried F), ⌜Q s'⌝ -∗ (held c arg3 arg4 arg10 arg11 arg12 arg13 arg14 x1 x2 s'
          -∗ wp frame (wpE (defs₀ (F := F)) 𝒱₀ c bd) Set.univ (k x) K))
        -∗ wp frame (wpE (defs₀ (F := F)) 𝒱₀ c bd) Set.univ (Prog.op (.call (1 : (Λ₀ F).Label) r) k) K) := by
  iintro H3 H4 H10 H11 H12 H13 H14 Hk
  iapply (wp_call_spec 𝒱₀ (c : Thread nD τ) bd Set.univ (loopSpec c arg3 arg4 arg10 arg11 arg12 arg13 arg14 x1 x2 ⟨gk, gv, gc, gr, ga⟩ Q) n hv hS)
  rw [loopSpec_apply]
  unfold held
  isplitl [H3 H4 H10 H11 H12 H13 H14]
  · iframe
  iintro %r %hr H
  iapply Hk
  · ipureintro; exact hr
  iexact H

/-- A buffer's contents, read through the memref. -/
theorem owns_read {sp : Space} {s : Shape} {e : EltTy} (a : Memref sig .tc sp s e) (f : a.view.ty.Contents (Elt F)) :
    (a.view.loc (c : Thread nD τ) ↦[a.view.set]{fullShare} f : sProp 𝕄) ⊢ owns (c : Thread nD τ) a fullShare (a.view.read (Elt F) f) := by
  unfold owns
  iintro H
  iexists f
  isplitr; · ipureintro; rfl
  iexact H

/-- What the body's buffers hold when it has run: the arguments as they were, the gradient of the queries `dq`, and what
    the loop leaves. -/
def after (s : Carried F) (dq : Vec F S256x256 .bf16) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare dq
                ∗ owns (c : Thread nD τ) arg10 fullShare s.gk ∗ owns (c : Thread nD τ) arg11 fullShare s.gv
                ∗ owns (c : Thread nD τ) arg12 fullShare s.gc ∗ owns (c : Thread nD τ) arg13 fullShare s.gr ∗ owns (c : Thread nD τ) arg14 fullShare s.ga)

set_option maxHeartbeats 4000000 in
/-- What one run of the kernel's body does at one point of the grid, with the loop of its later trips answered by an
    assumption: the record the loop is called with, the contents it finds, and the gradient of the queries as a
    function of what the loop leaves. -/
def point (b : Carried F) :
    Σ' (r : Cc0While1 F) (gk gv : Vec F S4096x256 .f32) (gc gr : Vec F S4x256x1 .f32) (ga : Vec F S4x256x128 .f32), { out : Carried F → Vec F S256x256 .bf16 //
      ∀ (n : ℕ) (Q : Carried F → Prop)
        (hS : ∀ K, loopSpec c arg3 arg4 arg10 arg11 arg12 arg13 arg14 x1 x2 ⟨gk, gv, gc, gr, ga⟩ Q K
          ⊢ wp frame (wpE (defs₀ (F := F)) 𝒱₀ c (some n)) Set.univ (defs₀ (F := F) .tc 1 r) K)
        (K : PUnit → sProp 𝕄),
        iprop(after c arg2 arg3 arg4 arg5 arg6 arg7 arg8 arg9 arg10 arg11 arg12 arg13 arg14 x0 x1 x2 x3 x4 x5 x6 b x7
            ∗ (∀ s : Carried F, ⌜Q s⌝ -∗ after c arg2 arg3 arg4 arg5 arg6 arg7 arg8 arg9 arg10 arg11 arg12 arg13 arg14 x0 x1 x2 x3 x4 x5 x6 s (out s) -∗ K ⟨⟩))
          ⊢ wp frame (wpE (defs₀ (F := F)) 𝒱₀ c none) Set.univ (cc0_sba_bwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, fun n Q hS K => ?run⟩
  case run =>
    simp only [cc0_sba_bwd_eq_skeleton]; unfold cc0_sba_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    rw [after]; unfold owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec
    ihave H3 := (owns_read c arg3 _) $$ H3
    ihave H4 := (owns_read c arg4 _) $$ H4
    ihave H10 := (owns_read c arg10 _) $$ H10
    ihave H11 := (owns_read c arg11 _) $$ H11
    ihave H12 := (owns_read c arg12 _) $$ H12
    ihave H13 := (owns_read c arg13 _) $$ H13
    ihave H14 := (owns_read c arg14 _) $$ H14
    rw [hf3, hf4]
    iapply (call_loop c arg3 arg4 arg10 arg11 arg12 arg13 arg14 x1 x2 none (fun u hu => nomatch hu) hS) $$ H3 H4 H10 H11 H12 H13 H14
    unfold held owns
    iintro %x %s %hs ⟨⟨%g3, %hg3, H3⟩, ⟨%g4, %hg4, H4⟩, ⟨%g10, %hg10, H10⟩, ⟨%g11, %hg11, H11⟩, ⟨%g12, %hg12, H12⟩, ⟨%g13, %hg13, H13⟩, ⟨%g14, %hg14, H14⟩⟩
    obtain ⟨x0, x1⟩ := x
    obtain rfl := harg3.eq_unread hg3; obtain rfl := harg4.eq_unread hg4; obtain rfl := harg10.eq_unread hg10; obtain rfl := harg11.eq_unread hg11; obtain rfl := harg12.eq_unread hg12; obtain rfl := harg13.eq_unread hg13; obtain rfl := harg14.eq_unread hg14
    sl_exec
    sl_step
    ihave H2 := (owns_read c arg2 _) $$ H2
    ihave H3 := (owns_read c arg3 _) $$ H3
    ihave H4 := (owns_read c arg4 _) $$ H4
    ihave H5 := (owns_read c arg5 _) $$ H5
    ihave H6 := (owns_read c arg6 _) $$ H6
    ihave H7 := (owns_read c arg7 _) $$ H7
    ihave H8 := (owns_read c arg8 _) $$ H8
    ihave H9 := (owns_read c arg9 _) $$ H9
    ihave H10 := (owns_read c arg10 _) $$ H10
    ihave H11 := (owns_read c arg11 _) $$ H11
    ihave H12 := (owns_read c arg12 _) $$ H12
    ihave H13 := (owns_read c arg13 _) $$ H13
    ihave H14 := (owns_read c arg14 _) $$ H14
    rw [hf2, hf3, hf4, hf5, hf6, hf7, hf8, hg10, hg11, hg12, hg13, hg14]
    iapply Hk $$ %s
    · ipureintro; exact hs
    unfold after
    iframe

end

end Cert.Kernel2Ideal.Sba
-- ==== Proof.Sba.Loop.lean ====
module

public import proofs.«01_k».proof.Proof.Sba.Point

@[expose] public section

set_option maxRecDepth 16384

noncomputable section

namespace Cert.Kernel2Ideal.Sba

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F] [Named F]

local notation "𝕄" => MT nD τ sig Unit (Elt F) ℕ (UR sig nD τ) ℕ

/-- The block of rows a trip reads lies in the arrays: trip `j` of a row block below which there are more than `j` blocks. -/
theorem chk_of_lt : ∀ (i : grid0.Coords) (j : Fin 16), j.val < (i 1).val → k0_chk1 i (BitVec.ofNat 32 j.val) := by decide +kernel

theorem row_lt : ∀ i : grid0.Coords, (i 1).val < 16 := by decide +kernel

/-- Of two words below sixteen the signed comparison is the one of the naturals. -/
theorem slt_iff : ∀ a b : Fin 16, Scalar.cmpi .slt (BitVec.ofNat 32 a.val) (BitVec.ofNat 32 b.val) = 1#1 ↔ a.val < b.val := by decide +kernel

theorem succ_word : ∀ a : Fin 16, Scalar.addi (BitVec.ofNat 32 a.val) 1#32 = BitVec.ofNat 32 (a.val + 1) := by decide +kernel

variable (c : Dev nD) (xk xv : Vec F S4096x256 .bf16)

/-- A trip from a record the loop is called with. -/
abbrev tripAt (r : Cc0While1 F) (hw : k0_chk1 r.i r.arg15) (s : Carried F) :=
  trip c r.i r.arg3 r.harg3 r.arg4 r.harg4 r.v17 r.v18 r.v36 r.v37 r.v19 r.v20 r.v38 r.v39 r.v4 r.arg12 r.harg12 r.v6 r.arg13 r.harg13 r.v24 r.v28 r.v43 r.v47
    r.arg14 r.harg14 r.arg10 r.harg10 r.arg11 r.harg11 r.arg15 hw xk xv s.gk s.gv s.gc s.gr s.ga

/-- What a trip leaves. -/
def carry (r : Cc0While1 F) (hw : k0_chk1 r.i r.arg15) (s : Carried F) : Carried F :=
  ⟨(tripAt c xk xv r hw s).1, (tripAt c xk xv r hw s).2.1, (tripAt c xk xv r hw s).2.2.1, (tripAt c xk xv r hw s).2.2.2.1, (tripAt c xk xv r hw s).2.2.2.2.1⟩

/-- The record the next trip is called with. -/
def next (r : Cc0While1 F) (hw : k0_chk1 r.i r.arg15) (s : Carried F) : Cc0While1 F :=
  { r with arg15 := Scalar.addi r.arg15 1#32, arg16 := (tripAt c xk xv r hw s).2.2.2.2.2.2.1 }

/-- The loop under an invariant `J` of record and contents that a trip keeps and that gives `Q` once the test fails. -/
theorem loop_le (J : Cc0While1 F → Carried F → Prop) (Q : Carried F → Prop)
    (hstep : ∀ (r : Cc0While1 F) (s : Carried F) (hw : k0_chk1 r.i r.arg15), J r s → test r.i r.arg15 r.arg16 = 1#1 → J (next (F := F) c xk xv r hw s) (carry (F := F) c xk xv r hw s))
    (hend : ∀ (r : Cc0While1 F) (s : Carried F), J r s → ¬ test r.i r.arg15 r.arg16 = 1#1 → Q s) :
    ∀ (k j : ℕ) (r : Cc0While1 F) (s : Carried F), r.arg15 = BitVec.ofNat 32 j → j + k = (r.i 1).val → J r s →
      ∀ K, loopSpec c r.arg3 r.arg4 r.arg10 r.arg11 r.arg12 r.arg13 r.arg14 xk xv s Q K
        ⊢ wp frame (wpE (defs₀ (F := F)) 𝒱₀ c (some k)) Set.univ (defs₀ (F := F) .tc 1 r) K := by
  intro k
  induction k with
  | zero =>
    intro j r s hj hk hJ K
    have hlt := row_lt r.i
    have ht : ¬ test r.i r.arg15 r.arg16 = 1#1 := by
      intro h
      have h' : Scalar.cmpi .slt r.arg15 (BitVec.ofNat 32 (r.i 1).val) = 1#1 := by
        unfold test Scalar.andi at h
        generalize Scalar.cmpi .slt r.arg15 (BitVec.ofNat 32 (r.i 1).val) = a at h
        generalize Scalar.cmpf .olt r.arg16 _ = b at h
        revert a b; decide
      rw [hj] at h'
      have := (slt_iff ⟨j, by omega⟩ ⟨_, hlt⟩).mp h'
      simp only at this; omega
    rw [loopSpec_apply]
    show _ ⊢ wp frame (wpE (defs₀ (F := F)) 𝒱₀ c (some 0)) Set.univ (cc0_while1 r.i r.arg3 r.harg3 r.arg4 r.harg4 r.v17 r.v18 r.v36 r.v37 r.v19 r.v20 r.v38 r.v39 r.v4 r.arg12 r.harg12 r.v6 r.arg13 r.harg13 r.v24 r.v28 r.v43 r.v47
      r.arg14 r.harg14 r.arg10 r.harg10 r.arg11 r.harg11 r.arg15 r.arg16) K
    simp only [cc0_while1_eq_skeleton]; unfold cc0_while1_skel
    dsimp only
    rw [if_neg ht]
    simp only [Prog.pure_eq_ret]
    iintro ⟨H, Hk⟩
    rw [wp_ret]; imodintro
    iapply Hk $$ %((r.arg15, r.arg16), s)
    · ipureintro; exact hend r s hJ ht
    iexact H
  | succ k ih =>
    intro j r s hj hk hJ K
    have hlt := row_lt r.i
    rw [loopSpec_apply]
    show _ ⊢ wp frame (wpE (defs₀ (F := F)) 𝒱₀ c (some (k+1))) Set.univ (cc0_while1 r.i r.arg3 r.harg3 r.arg4 r.harg4 r.v17 r.v18 r.v36 r.v37 r.v19 r.v20 r.v38 r.v39 r.v4 r.arg12 r.harg12 r.v6 r.arg13 r.harg13 r.v24 r.v28 r.v43 r.v47
      r.arg14 r.harg14 r.arg10 r.harg10 r.arg11 r.harg11 r.arg15 r.arg16) K
    by_cases ht : test r.i r.arg15 r.arg16 = 1#1
    · have hw : k0_chk1 r.i r.arg15 := by rw [hj]; exact chk_of_lt r.i ⟨j, by omega⟩ (by simp only; omega)
      have hn := ih (j + 1) (next c xk xv r hw s) (carry c xk xv r hw s) (by
        show Scalar.addi r.arg15 1#32 = _; rw [hj]; exact succ_word ⟨j, by omega⟩) (by show j + 1 + k = (r.i 1).val; omega) (hstep r s hw hJ ht)
      iintro ⟨H, Hk⟩
      iapply ((tripAt c xk xv r hw s).2.2.2.2.2.2.2 r.arg16 ht (some (k+1)) Set.univ K)
      unfold held
      icases H with ⟨H3, H4, H10, H11, H12, H13, H14⟩
      isplitl [H3]; · iexact H3
      isplitl [H4]; · iexact H4
      isplitl [H10]; · iexact H10
      isplitl [H11]; · iexact H11
      isplitl [H12]; · iexact H12
      isplitl [H13]; · iexact H13
      isplitl [H14]; · iexact H14
      iintro ⟨H3, H4, H10, H11, H12, H13, H14⟩
      iapply (call_loop c r.arg3 r.arg4 r.arg10 r.arg11 r.arg12 r.arg13 r.arg14 xk xv (some (k+1)) (fun u hu => by cases hu; exact Nat.lt_succ_self k) hn) $$ H3 H4 H10 H11 H12 H13 H14
      iintro %x %s' %hs H
      rw [wp_ret]; imodintro
      iapply Hk $$ %(x, s')
      · ipureintro; exact hs
      unfold held
      iexact H
    · simp only [cc0_while1_eq_skeleton]; unfold cc0_while1_skel
      dsimp only
      rw [if_neg ht]
      simp only [Prog.pure_eq_ret]
      iintro ⟨H, Hk⟩
      rw [wp_ret]; imodintro
      iapply Hk $$ %((r.arg15, r.arg16), s)
      · ipureintro; exact hend r s hJ ht
      iexact H

end Cert.Kernel2Ideal.Sba
-- ==== Proof.Sba.Kit.lean ====
module

public import proofs.«01_k».proof.Proof.Sba.Loop
public import Idealize.ShloMosaic.Lib.Pipeline.FrameSuffix

@[expose] public section

set_option maxRecDepth 16384

noncomputable section

namespace Cert.Kernel2Ideal.Sba

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)
open Cert.Kernel2Ideal.Gen

variable {F : FTy → Type} [FloatOps F] [Named F]

local notation "𝕄" => MT nD τ sig Unit (Elt F) ℕ (UR sig nD τ) ℕ

variable (m : (ℓ : Loc nD τ sig) → Buf (Elt F) ℓ)

/-! ## The host's lines before the call -/

/-- The stretches of host operations before the call, in order. -/
abbrev lines : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13]

/-- What the buffers hold when the call is entered, -/
abbrev V0 (c : Dev nD) : Valuation τ sig (Elt F) := StableHlo.after lines.flatten (fun b => m (c, b))
/-- the same read at a reference. -/
abbrev V (c : Dev nD) (b : Ref sig .tc) : Buf (Elt F) ((c : Thread nD τ).loc b) := V0 m c (Proc.devRef .tc b)

/-- The host's lines touch only the buffers of the core, -/
theorem lines_sub : (lines : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩
/-- allocate nothing, -/
theorem lines_fresh : (lines : List (List (HloOp τ sig (Elt F)))).Forall fun ops => ops.Forall fun op => op.fresh = ∅ := by
  simp only [List.Forall]; repeat' constructor

set_option maxHeartbeats 800000 in
/-- and come before the call, which ends the program. -/
theorem hmain : Pipeline.HMain (Ix := Unit) (Name := ℕ) (U := UR sig nD τ) (Lvl := ℕ) cfgs 0 defs₀ 𝒱₀ m (main (F := F)) (V m) :=
  Pipeline.hmain_around cfgs 0 defs₀ 𝒱₀ m main lines [] lines_sub lines_fresh main_chain

/-- A buffer that no host line writes is found as launched. -/
theorem V_kept (c : Dev nD) (b : Ref sig .tc) (h : ∀ ops ∈ (lines : List (List (HloOp τ sig (Elt F)))), ∀ op ∈ ops, Proc.devRef .tc b ∉ op.writes) :
    V m c b = m ((c : Thread nD τ).loc b) :=
  StableHlo.after_of_forall_not_mem _ _ fun op hop => by
    obtain ⟨ops, h1, h2⟩ := List.mem_flatten.mp hop
    exact h ops h1 op h2

/-! ## What the windows' buffers hold at a point -/

/-- Window `w`'s block at point `t`, read off its array. -/
def iblk (c : Dev nD) (w : Fin (cfg0 (F := F)).W) (t : Fin (cfg0 (F := F)).N) : (((cfg0 (F := F)).win w).xblock (grid0.coords t)).Idx → Elt F ((cfg0 (F := F)).win w).elt :=
  (((cfg0 (F := F)).win w).blk t).view.read (Elt F) (V m c (Pipeline.arrRef spec0 w))

theorem before0 {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1 {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2 {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3 {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4 {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5 {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6 {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The program's row for the body at a point is the body on that point's buffers. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

end Cert.Kernel2Ideal.Sba
-- ==== Proof.Sba.Frame.lean ====
module

public import proofs.«01_k».proof.Proof.Sba.Kit

@[expose] public section

set_option maxRecDepth 16384

noncomputable section

namespace Cert.Kernel2Ideal.Sba

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)
open Cert.Kernel2Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data of the frame: the inputs hold their blocks, of the outputs nothing is said. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Dat.unnamed (⟨7, h⟩ : Fin (cfg0 (F := F)).W) t
    | ⟨8, h⟩ => Dat.unnamed (⟨8, h⟩ : Fin (cfg0 (F := F)).W) t
    | ⟨9, h⟩ => Dat.unnamed (⟨9, h⟩ : Fin (cfg0 (F := F)).W) t
  Φ _ := Pipeline.ΦA spec0 c
  q w := Pipeline.shareOf spec0 w
  owed _ := 0

/-- The windows of which nothing is said: the outputs. -/
def forgotten : Fin (cfg0 (F := F)).W → Bool := fun w => decide (7 ≤ w.val)

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) : (dats m 0 c).after 5 t = iblk m c 5 t := rfl
theorem after0_6 (c : Dev nD) (t : Fin (cfg0 (F := F)).N) : (dats m 0 c).after 6 t = iblk m c 6 t := rfl

/-- The scratch buffers at some contents, as the pipeline hands them over between points. -/
theorem scratch_eq (c : Dev nD) : (Pipeline.ΦA (Val := Elt F) spec0 c : sProp 𝕄)
    = iprop(((∃ f, owns (c : Thread nD τ) (Memref.whole cc0_scratch0) fullShare f)
      ∗ (∃ f, owns (c : Thread nD τ) (Memref.whole cc0_scratch1) fullShare f)
      ∗ (∃ f, owns (c : Thread nD τ) (Memref.whole cc0_scratch2) fullShare f)) ∗ ∃ r, prngReg c r) := by
  unfold Pipeline.ΦA; rw [scopedRest0_eq]
  simp only [owns_whole]

/-- The memrefs the body is called with at a point, with the three scratch buffers. -/
abbrev pointAt (c : Dev nD) (t : Fin (cfg0 (F := F)).N) (x7 : Vec F S256x256 .bf16) (b : Carried F) :=
  point c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) (iblk m c 5 t) (iblk m c 6 t) x7 b

/-- The loop of a point ends, whatever it finds. -/
theorem loop_any (c : Dev nD) (t : Fin (cfg0 (F := F)).N) (x7 : Vec F S256x256 .bf16) (b : Carried F) (K) :
    loopSpec c (st0_1 t) (st0_2 t) (st0_8 t) (st0_9 t) (Memref.whole cc0_scratch0) (Memref.whole cc0_scratch1) (Memref.whole cc0_scratch2) (iblk m c 1 t) (iblk m c 2 t)
        ⟨(pointAt m c t x7 b).2.1, (pointAt m c t x7 b).2.2.1, (pointAt m c t x7 b).2.2.2.1, (pointAt m c t x7 b).2.2.2.2.1, (pointAt m c t x7 b).2.2.2.2.2.1⟩ (fun _ => True) K
      ⊢ wp frame (wpE (defs₀ (F := F)) 𝒱₀ c (some (grid0.coords t 1).val)) Set.univ (defs₀ (F := F) .tc 1 (pointAt m c t x7 b).1) K :=
  loop_le c (iblk m c 1 t) (iblk m c 2 t) (fun _ _ => True) (fun _ => True) (fun _ _ _ _ _ => trivial) (fun _ _ _ _ => trivial)
    (grid0.coords t 1).val 0 (pointAt m c t x7 b).1 _ rfl (Nat.zero_add _) trivial K

set_option maxHeartbeats 2000000 in
/-- The body at a point, from the inputs' blocks and any contents of the rest. -/
theorem body (c : Dev nD) (t : Fin (cfg0 (F := F)).N) :
    iprop((Pipeline.ΦA (Val := Elt F) spec0 c : sProp 𝕄) ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ X, owns (c : Thread nD τ) (st0_7 t) fullShare X)
      ∗ (∃ X, owns (c : Thread nD τ) (st0_8 t) fullShare X)
      ∗ (∃ X, owns (c : Thread nD τ) (st0_9 t) fullShare X))
    ⊢ wp frame (wpE (defs₀ (F := F)) 𝒱₀ c none) Set.univ (bodyAt0 t) fun _ =>
      iprop((Pipeline.ΦA (Val := Elt F) spec0 c : sProp 𝕄) ∗ (dats m 0 c).owesAt () t.castSucc
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ (∃ X, owns (c : Thread nD τ) (st0_7 t) fullShare X)
        ∗ (∃ X, owns (c : Thread nD τ) (st0_8 t) fullShare X)
        ∗ (∃ X, owns (c : Thread nD τ) (st0_9 t) fullShare X)) := by
  simp only [before0 m (dats m 0 c) (A_eq m c 0) (after0_0 m c), before1 m (dats m 0 c) (A_eq m c 1) (after0_1 m c), before2 m (dats m 0 c) (A_eq m c 2) (after0_2 m c), before3 m (dats m 0 c) (A_eq m c 3) (after0_3 m c), before4 m (dats m 0 c) (A_eq m c 4) (after0_4 m c), before5 m (dats m 0 c) (A_eq m c 5) (after0_5 m c), before6 m (dats m 0 c) (A_eq m c 6) (after0_6 m c)]
  rw [scratch_eq]
  iintro ⟨⟨⟨⟨%g12, S0⟩, ⟨%g13, S1⟩, ⟨%g14, S2⟩⟩, HP⟩, Ho, ⟨%d0, H0⟩, ⟨%d1, H1⟩, ⟨%d2, H2⟩, ⟨%d3, H3⟩, ⟨%d4, H4⟩, ⟨%d5, H5⟩, ⟨%d6, H6⟩, ⟨%x7, H7⟩, ⟨%x8, H8⟩, ⟨%x9, H9⟩⟩
  iapply ((pointAt m c t x7 ⟨x8, x9, g12, g13, g14⟩).2.2.2.2.2.2.2 (grid0.coords t 1).val (fun _ => True) (loop_any m c t x7 ⟨x8, x9, g12, g13, g14⟩) _)
  unfold after
  isplitl [H0 H1 H2 H3 H4 H5 H6 H7 H8 H9 S0 S1 S2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iframe
  iintro %s %hs ⟨H0, H1, H2, H3, H4, H5, H6, H7, H8, H9, S0, S1, S2⟩
  isplitl [S0 S1 S2 HP]
  · iframe HP
    isplitl [S0]; · iexists _; iexact S0
    isplitl [S1]; · iexists _; iexact S1
    iexists _; iexact S2
  iframe Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iexists _; iexact H9

set_option maxHeartbeats 4000000 in
/-- The obligation of every point. -/
theorem body_obligation (c : Dev nD) : BodyObligationLoose (dats m 0 c) (defs₀ (F := F)) 𝒱₀ () Set.univ forgotten := fun t => by
  rw [bigSep_W0, bigSep_W0, defs₀_row]
  exact triple_restated (body m c t) rfl .rfl fun _ => .rfl

set_option backward.isDefEq.respectTransparency.types false in
/-- The launch: every run ends, each buffer no window stages is as the call found it, and every counter is at zero. -/
theorem run_main : θ_run defs (onTc (τ := τ) (main (F := F))) (s₀ m ρ)
    (fun r => Pipeline.RDat.FramePost (cfg0 (F := F)) (fun c => (dats m 0 c).toRForget forgotten) (V m) r ∧ r.2.sem = fun _ => 0) :=
  Pipeline.θ_run_frame_forget_shared (Q' := _) cfgs (dats m) (0 : Fin 1) launch₀0 defs₀ 𝒱₀ forgotten m ρ main
    (hbody := body_obligation m) (hq := fun c w _ => rfl)
    (howed := fun _ _ => rfl) (V := V m) (hmain := hmain m) (hA := A_eq m) (hΦ := fun _ _ => rfl)

/-- The host's lines write no argument. -/
theorem V_main_arg0 (c : Dev nD) : V m c main_arg0 = m ((c : Thread nD τ).loc main_arg0) :=
  V_kept m c _ (by
    intro ops hops op hop
    fin_cases hops <;> fin_cases hop <;> exact fun h => absurd (Finset.mem_singleton.mp h) (StableHlo.devRef_ne_of_ne (by decide)))
theorem V_main_arg1 (c : Dev nD) : V m c main_arg1 = m ((c : Thread nD τ).loc main_arg1) :=
  V_kept m c _ (by
    intro ops hops op hop
    fin_cases hops <;> fin_cases hop <;> exact fun h => absurd (Finset.mem_singleton.mp h) (StableHlo.devRef_ne_of_ne (by decide)))
theorem V_main_arg2 (c : Dev nD) : V m c main_arg2 = m ((c : Thread nD τ).loc main_arg2) :=
  V_kept m c _ (by
    intro ops hops op hop
    fin_cases hops <;> fin_cases hop <;> exact fun h => absurd (Finset.mem_singleton.mp h) (StableHlo.devRef_ne_of_ne (by decide)))

/-- The frame: every run ends, the arguments are unchanged, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (by exact (by decide : main_arg0 ∈ Pipeline.restRefs sig spec0))).trans (V_main_arg0 m c),
    ((h.1 c).2 main_arg1 (by exact (by decide : main_arg1 ∈ Pipeline.restRefs sig spec0))).trans (V_main_arg1 m c), ((h.1 c).2 main_arg2 (by exact (by decide : main_arg2 ∈ Pipeline.restRefs sig spec0))).trans (V_main_arg2 m c)⟩, h.2⟩) (run_main m ρ)

end Cert.Kernel2Ideal.Sba
-- ==== Proof.Finite.lean ====
/- Arrays whose entries are real numbers. -/
module

public import proofs.«01_k».proof.Proof.Reals
public import Idealize.ShloMosaic.PureOps.Ideal
public import Idealize.ShloMosaic.Lib.Pipeline.ValueKit.Point

@[expose] public section

noncomputable section

namespace Cert.Reals

open Idealize.ShloMosaic

/-- A value whose absolute value is below +∞ is a real number. -/
theorem real_of_lt_top {x : EReal} (h : Ideal.cmp .olt (max x (-x)) (Ideal.ofBits .f32 0x7F800000#32) = 1#1) : x = ((x.toReal : ℝ) : EReal) := by
  have hw : Ideal.ofBits .f32 0x7F800000#32 = ⊤ := by simp [Ideal.ofBits, Ideal.ieee]
  rw [hw] at h
  have hl : max x (-x) < ⊤ := by
    by_contra hn
    simp [Ideal.cmp, hn] at h
  refine (EReal.coe_toReal (fun e => ?_) fun e => ?_).symm <;> simp [e] at hl

/-- The real numbers of a matrix of real entries, by row and column. -/
def reals {n k : ℕ} (v : (⟨2, ![n, k]⟩ : Shape).Idx → EReal) (a b : ℕ) : ℝ := if h : a < n ∧ b < k then (v (ix2 ⟨a, h.1⟩ ⟨b, h.2⟩)).toReal else 0

theorem reals_at {n k : ℕ} {v : (⟨2, ![n, k]⟩ : Shape).Idx → EReal} (h : ∀ i, v i = (((v i).toReal : ℝ) : EReal)) (a : Fin n) (b : Fin k) : v (ix2 a b) = ((reals v a.val b.val : ℝ) : EReal) := by
  rw [reals, dif_pos ⟨a.isLt, b.isLt⟩]
  exact h _

end Cert.Reals
-- ==== Proof.Sba.Head.lean ====
/- One head of one block of columns, over the extended reals: what the payloads of a step are at real arguments. -/
module

public import proofs.«01_k».proof.Proof.Gen.Kernel2Ideal.Skeleton
public import proofs.«01_k».proof.Proof.Reals
public import Idealize.ShloMosaic.Lib.Pointwise
public import Idealize.ShloMosaic.Lib.WordCmp

@[expose] public section

set_option maxRecDepth 16384

noncomputable section

namespace Cert.Kernel2Ideal.Sba

open Cert.Reals Idealize.ShloMosaic Idealize.ShloMosaic.TcCoe
open Cert.Kernel2Ideal.Gen

/-- The softplus of a real number, as the kernel writes it, -/
def sp (x : ℝ) : ℝ := max x 0 + Real.log (1 + Real.exp (0 - |x|))
/-- and the logarithm of its sigmoid. -/
def lsg (x : ℝ) : ℝ := min x 0 - Real.log (1 + Real.exp (0 - |x|))

/-- A matrix of real numbers. -/
def Is2 {n k : ℕ} (v : (⟨2, ![n, k]⟩ : Shape).Idx → EReal) (f : Fin n → Fin k → ℝ) : Prop := ∀ a b, v (ix2 a b) = ((f a b : ℝ) : EReal)

/-- A column of real numbers, as it lies in a scratch buffer. -/
def IsC {n : ℕ} (v : (⟨3, ![1, n, 1]⟩ : Shape).Idx → EReal) (f : Fin n → ℝ) : Prop := ∀ a, v (ix3 0 a 0) = ((f a : ℝ) : EReal)

/-- The first with the second in its place. -/
theorem Is2.congr {n k : ℕ} {v : (⟨2, ![n, k]⟩ : Shape).Idx → EReal} {f g : Fin n → Fin k → ℝ} (h : Is2 v f) (e : ∀ a b, f a b = g a b) : Is2 v g :=
  fun a b => by rw [h, e]

/-- A matrix twice, one below the other. -/
def Twice (v : (⟨2, ![512, 256]⟩ : Shape).Idx → EReal) (T : Fin 256 → Fin 256 → ℝ) : Prop :=
  (∀ a b : Fin 256, v (ix2 ⟨a.val, by omega⟩ b) = (T a b : EReal)) ∧ ∀ a b : Fin 256, v (ix2 ⟨256 + a.val, by omega⟩ b) = (T a b : EReal)

/-- The products of the rows of two matrices, -/
def zr (q k : Fin 256 → Fin 128 → ℝ) (a b : Fin 256) : ℝ := ∑ l, q a l * k b l

theorem zz_is {q k : FVec Ideal S256x128 .bf16} {qr kr : Fin 256 → Fin 128 → ℝ} (hq : Is2 q qr) (hk : Is2 k kr) :
    Is2 (k0_pay36 (F := Ideal) q k) (zr qr kr) := fun a b => by
  pointwise [k0_pay36]
  simp only [hq _ _, hk _ _, zr, coe_sum, EReal.coe_mul]

theorem coe_max (x y : ℝ) : max (x : EReal) (y : EReal) = ((max x y : ℝ) : EReal) := (EReal.coe_strictMono.monotone.map_max).symm
theorem coe_min (x y : ℝ) : min (x : EReal) (y : EReal) = ((min x y : ℝ) : EReal) := (EReal.coe_strictMono.monotone.map_min).symm

theorem sel_lt (a b : Fin 256) (x y : EReal) : Scalar.select (IntOp.cmpi CmpIPredicate.slt (BitVec.ofNat 32 ↑b) (BitVec.ofNat 32 ↑a)) x y = if b < a then x else y := by
  word_cmp
  simp only [Fin.lt_def]

theorem lg_aux (x : ℝ) : Ideal.log (1 + Ideal.exp (0 - FloatOps.absf (F := Ideal) (φ := .f32) (x : EReal))) = ((Real.log (1 + Real.exp (0 - |x|)) : ℝ) : EReal) := by
  rw [show FloatOps.absf (F := Ideal) (φ := .f32) (x : EReal) = max (x : EReal) (-(x : EReal)) from rfl, ← EReal.coe_neg, coe_max, ← EReal.coe_zero, ← EReal.coe_sub, Ideal.exp_coe, ← EReal.coe_one, ← EReal.coe_add, Ideal.log_coe,
    if_neg (not_le.mpr (by have := Real.exp_pos (0 - max x (-x)); linarith))]
  rfl

theorem n_is {z : FVec Ideal S256x256 .f32} {f : Fin 256 → Fin 256 → ℝ} (hz : Is2 z f) :
    Is2 (k0_pay122 (F := Ideal) z) (fun a b => sp (f a b)) := fun a b => by
  pointwise [k0_pay122, k0_pay121]
  rw [hz]
  rw [lg_aux, ← EReal.coe_zero, coe_max, ← EReal.coe_add]; rfl

theorem ls_is {z : FVec Ideal S256x256 .f32} {f : Fin 256 → Fin 256 → ℝ} (hz : Is2 z f) :
    Is2 (k0_pay123 (F := Ideal) z) (fun a b => lsg (f a b)) := fun a b => by
  pointwise [k0_pay123, k0_pay121]
  rw [hz]
  rw [lg_aux, ← EReal.coe_zero, coe_min, ← EReal.coe_sub]; rfl

theorem nm_is {z : FVec Ideal S256x256 .f32} {f : Fin 256 → Fin 256 → ℝ} (hz : Is2 z f) :
    Is2 (k0_pay52 (F := Ideal) k0_pay28 z) (fun a b => if b < a then sp (f a b) else 0) := fun a b => by
  pointwise [k0_pay52, k0_pay51, k0_pay28]
  rw [hz]
  rw [lg_aux, sel_lt]
  split_ifs
  · rw [← EReal.coe_zero, coe_max, ← EReal.coe_add]; rfl
  · rfl

theorem tri_is {tri : FVec Ideal S512x256 .bf16} {v : FVec Ideal S256x256 .f32} {f T : Fin 256 → Fin 256 → ℝ} (hv : Is2 v f)
    (ht : Twice tri T) :
    Is2 (k0_pay130 (F := Ideal) tri v) (fun a b => ∑ j, f a j * T j b) := fun a b => by
  pointwise [k0_pay130]
  simp only [hv _ _, ht.1, ht.2, ← EReal.coe_sub, sub_self, EReal.coe_zero, zero_mul, Finset.sum_const_zero, add_zero, coe_sum, EReal.coe_mul]

theorem a_is {ls es : FVec Ideal S256x256 .f32} {c : FVec Ideal S1x256x1 .f32} {f g : Fin 256 → Fin 256 → ℝ} {cr : Fin 256 → ℝ} (hl : Is2 ls f) (he : Is2 es g) (hc : IsC c cr) :
    Is2 (k0_pay139 (F := Ideal) ls es c) (fun a b => Real.exp (f a b - g a b - cr a)) := fun a b => by
  pointwise [k0_pay139]
  rw [hl, he, hc, ← EReal.coe_sub, ← EReal.coe_sub, Ideal.exp_coe]

theorem am_is {ls es : FVec Ideal S256x256 .f32} {c : FVec Ideal S1x256x1 .f32} {f g : Fin 256 → Fin 256 → ℝ} {cr : Fin 256 → ℝ} (hl : Is2 ls f) (he : Is2 es g) (hc : IsC c cr) :
    Is2 (k0_pay68 (F := Ideal) k0_pay28 ls es c) (fun a b => if b < a then Real.exp (f a b - g a b - cr a) else 0) := fun a b => by
  pointwise [k0_pay68, k0_pay28]
  rw [hl, he, hc, ← EReal.coe_sub, ← EReal.coe_sub, Ideal.exp_coe, sel_lt]; split_ifs <;> rfl

theorem g_is {da ls es : FVec Ideal S256x256 .f32} {c : FVec Ideal S1x256x1 .f32} {f g d : Fin 256 → Fin 256 → ℝ} {cr : Fin 256 → ℝ} (hd : Is2 da d) (hl : Is2 ls f) (he : Is2 es g) (hc : IsC c cr) :
    Is2 (k0_pay140 (F := Ideal) da ls es c) (fun a b => d a b * Real.exp (f a b - g a b - cr a)) := fun a b => by
  pointwise [k0_pay140]
  rw [hd, a_is hl he hc, EReal.coe_mul]

theorem gm_is {da ls es : FVec Ideal S256x256 .f32} {c : FVec Ideal S1x256x1 .f32} {f g d : Fin 256 → Fin 256 → ℝ} {cr : Fin 256 → ℝ} (hd : Is2 da d) (hl : Is2 ls f) (he : Is2 es g) (hc : IsC c cr) :
    Is2 (k0_pay69 (F := Ideal) k0_pay28 da ls es c) (fun a b => d a b * if b < a then Real.exp (f a b - g a b - cr a) else 0) := fun a b => by
  pointwise [k0_pay69]
  rw [hd, am_is hl he hc, EReal.coe_mul]

theorem c_is {n : FVec Ideal S256x256 .f32} {c : FVec Ideal S1x256x1 .f32} {f : Fin 256 → Fin 256 → ℝ} {cr : Fin 256 → ℝ} (hn : Is2 n f) (hc : IsC c cr) :
    IsC (k0_pay141 (F := Ideal) n c) (fun a => cr a + ∑ b, f a b) := fun a => by
  pointwise [k0_pay141]
  simp only [hc _, hn _ _, coe_sum, EReal.coe_add]

theorem dz_is {δ : FVec Ideal S256x1 .f32} {ls g t : FVec Ideal S256x256 .f32} {r : FVec Ideal S1x256x1 .f32} {lr gr tr : Fin 256 → Fin 256 → ℝ} {dr rr : Fin 256 → ℝ}
    (hd : ∀ a, δ (ix2 a 0) = (dr a : EReal)) (hl : Is2 ls lr) (hg : Is2 g gr) (ht : Is2 t tr) (hr : IsC r rr) :
    Is2 (k0_pay155 (F := Ideal) g (k0_pay154 (F := Ideal) δ ls g t r)) (fun a b => gr a b - Real.exp (lr a b) * (gr a b + (dr a - rr a - tr a b))) := fun a b => by
  pointwise [k0_pay155, k0_pay154]
  rw [hd, hl, hg, ht, hr]; simp only [Ideal.exp_coe, EReal.coe_add, EReal.coe_sub, EReal.coe_mul]

theorem dzm_is {δ : FVec Ideal S256x1 .f32} {ls g t : FVec Ideal S256x256 .f32} {r : FVec Ideal S1x256x1 .f32} {lr gr tr : Fin 256 → Fin 256 → ℝ} {dr rr : Fin 256 → ℝ}
    (hd : ∀ a, δ (ix2 a 0) = (dr a : EReal)) (hl : Is2 ls lr) (hg : Is2 g gr) (ht : Is2 t tr) (hr : IsC r rr) :
    Is2 (k0_pay82 (F := Ideal) δ k0_pay28 ls g t r) (fun a b => if b < a then gr a b - Real.exp (lr a b) * (gr a b + (dr a - rr a - tr a b)) else 0) := fun a b => by
  pointwise [k0_pay82, k0_pay28]
  rw [hd, hl, hg, ht, hr, sel_lt]; split_ifs
  · simp only [Ideal.exp_coe, EReal.coe_add, EReal.coe_sub, EReal.coe_mul]
  · rfl

theorem acc_is {k : FVec Ideal S256x128 .bf16} {dz : FVec Ideal S256x256 .bf16} {s : FVec Ideal S1x256x128 .f32} {kr : Fin 256 → Fin 128 → ℝ} {f : Fin 256 → Fin 256 → ℝ} {sr : Fin 256 → Fin 128 → ℝ}
    (hk : Is2 k kr) (hz : Is2 dz f) (hs : ∀ a l, s (ix3 0 a l) = (sr a l : EReal)) (a : Fin 256) (l : Fin 128) :
    k0_pay162 (F := Ideal) k dz s (ix3 0 a l) = ((sr a l + ∑ b, f a b * kr b l : ℝ) : EReal) := by
  pointwise [k0_pay162]
  simp only [hs, hz _ _, hk _ _, coe_sum, EReal.coe_add, EReal.coe_mul]

theorem gk_is {q p : FVec Ideal S256x128 .bf16} {dz dy : FVec Ideal S256x256 .bf16} {s : FVec Ideal S256x128 .f32} {qr pr : Fin 256 → Fin 128 → ℝ} {f g : Fin 256 → Fin 256 → ℝ} {sr : Fin 256 → Fin 128 → ℝ}
    (hq : Is2 q qr) (hp : Is2 p pr) (hz : Is2 dz f) (hy : Is2 dy g) (hs : Is2 s sr) :
    Is2 (k0_pay166 (F := Ideal) q p dz dy s) (fun b l => sr b l + (∑ a, f a b * qr a l + ∑ a, g a b * pr a l)) := fun b l => by
  pointwise [k0_pay166]
  simp only [hs _ _, hz _ _, hy _ _, hq _ _, hp _ _, coe_sum, EReal.coe_add, EReal.coe_mul]

end Cert.Kernel2Ideal.Sba
-- ==== Proof.Sba.Stick.lean ====
/- Stick-breaking attention of one head over the real numbers, its gradient, and both cut into blocks of 256 columns taken
   from the last to the first. -/
module

public import proofs.«01_k».proof.Proof.Sba.Head

@[expose] public section

noncomputable section

namespace Cert.Stick

open Cert.Kernel2Ideal.Sba (sp lsg)

/-- What one head is given: the scaled queries, the cotangent, the keys and the values, by position and lane. -/
structure Data where
  Q : ℕ → Fin 128 → ℝ
  D : ℕ → Fin 128 → ℝ
  K : ℕ → Fin 128 → ℝ
  V : ℕ → Fin 128 → ℝ

namespace Data
variable (x : Data)

/-- The score of position `t` for the query `s`, -/
def z (s t : ℕ) : ℝ := ∑ l, x.Q s l * x.K t l
/-- the cotangent of its weight, -/
def da (s t : ℕ) : ℝ := ∑ l, x.D s l * x.V t l
/-- what it takes off the stick, -/
def N (s t : ℕ) : ℝ := if t < s then sp (x.z s t) else 0
/-- its weight, -/
def A (s t : ℕ) : ℝ := if t < s then Real.exp (lsg (x.z s t) - ∑ j ∈ Finset.Ico (t + 1) 4096, x.N s j) else 0
/-- the weight times its cotangent, -/
def G (s t : ℕ) : ℝ := x.da s t * x.A s t
/-- and the score's cotangent. -/
def DZ (s t : ℕ) : ℝ := if t < s then x.G s t - Real.exp (lsg (x.z s t)) * (x.G s t + ∑ j ∈ Finset.range t, x.G s j) else 0

theorem N_of_le {s t : ℕ} (h : s ≤ t) : x.N s t = 0 := if_neg (by omega)
theorem A_of_le {s t : ℕ} (h : s ≤ t) : x.A s t = 0 := if_neg (by omega)
theorem G_of_le {s t : ℕ} (h : s ≤ t) : x.G s t = 0 := by unfold G; rw [x.A_of_le h, mul_zero]
theorem DZ_of_le {s t : ℕ} (h : s ≤ t) : x.DZ s t = 0 := if_neg (by omega)
end Data

/-- The columns from block `b` on. -/
def tail (f : ℕ → ℝ) (b : ℕ) : ℝ := ∑ j ∈ Finset.Ico (256 * b) 4096, f j

theorem tail_zero {f : ℕ → ℝ} {b s : ℕ} (hs : s ≤ 256 * b) (h : ∀ t, s ≤ t → f t = 0) : tail f b = 0 :=
  Finset.sum_eq_zero fun t ht => h t (by have := (Finset.mem_Ico.mp ht).1; omega)

theorem block_sum (f : ℕ → ℝ) (b : ℕ) : ∑ j : Fin 256, f (256 * b + j.val) = ∑ j ∈ Finset.Ico (256 * b) (256 * b + 256), f j := by
  rw [Finset.sum_Ico_eq_sum_range, Nat.add_sub_cancel_left, Finset.sum_range]

theorem tail_step (f : ℕ → ℝ) {b : ℕ} (hb : b < 16) : tail f (b + 1) + ∑ j : Fin 256, f (256 * b + j.val) = tail f b := by
  rw [block_sum, add_comm]
  exact Finset.sum_Ico_consecutive f (by omega) (by omega)

theorem strict_sum (f : ℕ → ℝ) (b : ℕ) (c : Fin 256) :
    ∑ j : Fin 256, f (256 * b + j.val) * (if c < j then 1 else 0) = ∑ j ∈ Finset.Ico (256 * b + c.val + 1) (256 * b + 256), f j := by
  have h : ∑ j : Fin 256, f (256 * b + j.val) * (if c < j then 1 else 0) = ∑ j : Fin 256, (fun t => if 256 * b + c.val < t then f t else 0) (256 * b + j.val) :=
    Finset.sum_congr rfl fun j _ => by
      simp only [Fin.lt_def, Nat.add_lt_add_iff_left]
      split_ifs <;> simp
  rw [h, block_sum (fun t => if 256 * b + c.val < t then f t else 0) b, ← Finset.sum_Ico_consecutive _ (show 256 * b ≤ 256 * b + c.val + 1 by omega) (show 256 * b + c.val + 1 ≤ 256 * b + 256 by omega),
    Finset.sum_eq_zero fun t ht => if_neg (by have := (Finset.mem_Ico.mp ht).2; omega), zero_add]
  exact Finset.sum_congr rfl fun t ht => if_pos (by have := (Finset.mem_Ico.mp ht).1; omega)

theorem incl_sum (f : ℕ → ℝ) (b : ℕ) (c : Fin 256) :
    ∑ j : Fin 256, f (256 * b + j.val) * (if c ≤ j then 1 else 0) = ∑ j ∈ Finset.Ico (256 * b + c.val) (256 * b + 256), f j := by
  have h : ∑ j : Fin 256, f (256 * b + j.val) * (if c ≤ j then 1 else 0) = ∑ j : Fin 256, (fun t => if 256 * b + c.val ≤ t then f t else 0) (256 * b + j.val) :=
    Finset.sum_congr rfl fun j _ => by
      simp only [Fin.le_def, Nat.add_le_add_iff_left]
      split_ifs <;> simp
  rw [h, block_sum (fun t => if 256 * b + c.val ≤ t then f t else 0) b, ← Finset.sum_Ico_consecutive _ (show 256 * b ≤ 256 * b + c.val by omega) (show 256 * b + c.val ≤ 256 * b + 256 by omega),
    Finset.sum_eq_zero fun t ht => if_neg (by have := (Finset.mem_Ico.mp ht).2; omega), zero_add]
  exact Finset.sum_congr rfl fun t ht => if_pos (by have := (Finset.mem_Ico.mp ht).1; omega)

/-- The columns after one column, cut at the end of its block. -/
theorem after_split (f : ℕ → ℝ) {b : ℕ} (hb : b < 16) (c : Fin 256) :
    (∑ j : Fin 256, f (256 * b + j.val) * (if c < j then 1 else 0)) + tail f (b + 1) = ∑ j ∈ Finset.Ico (256 * b + c.val + 1) 4096, f j := by
  rw [strict_sum]
  exact Finset.sum_Ico_consecutive f (by omega) (by omega)

/-- The columns before one column: all of them less the later blocks and the rest of its own. -/
theorem before_split (f : ℕ → ℝ) {b : ℕ} (hb : b < 16) (c : Fin 256) :
    (∑ j ∈ Finset.range 4096, f j) - tail f (b + 1) - (∑ j : Fin 256, f (256 * b + j.val) * (if c ≤ j then 1 else 0)) = ∑ j ∈ Finset.range (256 * b + c.val), f j := by
  rw [incl_sum, Finset.range_eq_Ico, ← Finset.sum_Ico_consecutive f (show 0 ≤ 256 * b + c.val by omega) (show 256 * b + c.val ≤ 4096 by omega),
    ← Finset.sum_Ico_consecutive f (show 256 * b + c.val ≤ 256 * b + 256 by omega) (show 256 * b + 256 ≤ 4096 by omega)]
  unfold tail
  rw [show 256 * (b + 1) = 256 * b + 256 by omega, Finset.range_eq_Ico]
  ring

/-- The rows of the first `n` blocks. -/
def head (f : ℕ → ℝ) (n : ℕ) : ℝ := ∑ s ∈ Finset.range (256 * n), f s

theorem head_step (f : ℕ → ℝ) (n : ℕ) : head f n + ∑ a : Fin 256, f (256 * n + a.val) = head f (n + 1) := by
  unfold head
  rw [block_sum, Finset.range_eq_Ico, Finset.range_eq_Ico, show 256 * (n + 1) = 256 * n + 256 by omega]
  exact Finset.sum_Ico_consecutive f (by omega) (by omega)

end Cert.Stick
-- ==== Proof.Sba.Step.lean ====
/- One step of one head: the payloads on a block of columns are the attention's weights and gradients there, once the
   running sums hold the later blocks. -/
module

public import proofs.«01_k».proof.Proof.Sba.Stick

@[expose] public section

set_option maxRecDepth 16384

noncomputable section

namespace Cert.Kernel2Ideal.Sba

open Cert.Reals Cert.Stick Idealize.ShloMosaic Idealize.ShloMosaic.TcCoe
open Cert.Kernel2Ideal.Gen

section
variable {F : FTy → Type} [FloatOps F] [Named F] (q d k v : FVec F S256x128 .bf16) (ms mi : FVec F S512x256 .bf16) (δ : FVec F S256x1 .f32) (c r : FVec F S1x256x1 .f32)

/-- The weights on a block before the diagonal, -/
def tA : FVec F S256x256 .bf16 := k0_pay139 (k0_pay123 (k0_pay36 q k)) (k0_pay130 ms (k0_pay122 (k0_pay36 q k))) c
/-- times their cotangents, -/
def tG : FVec F S256x256 .f32 := k0_pay140 (k0_pay36 d v) (k0_pay123 (k0_pay36 q k)) (k0_pay130 ms (k0_pay122 (k0_pay36 q k))) c
/-- the scores' cotangents, -/
def tDZ : FVec F S256x256 .bf16 := k0_pay155 (tG q d k v ms c) (k0_pay154 δ (k0_pay123 (k0_pay36 q k)) (tG q d k v ms c) (k0_pay146 mi (tG q d k v ms c)) r)
/-- and the running sums. -/
def tC : FVec F S1x256x1 .f32 := k0_pay141 (k0_pay122 (k0_pay36 q k)) c
def tR : FVec F S1x256x1 .f32 := k0_pay156 (tG q d k v ms c) r

/-- The same on the diagonal block. -/
def dA : FVec F S256x256 .bf16 := k0_pay68 k0_pay28 (k0_pay123 (k0_pay36 q k)) (k0_pay130 ms (k0_pay52 k0_pay28 (k0_pay36 q k))) c
def dG : FVec F S256x256 .f32 := k0_pay69 k0_pay28 (k0_pay36 d v) (k0_pay123 (k0_pay36 q k)) (k0_pay130 ms (k0_pay52 k0_pay28 (k0_pay36 q k))) c
def dDZ : FVec F S256x256 .bf16 := k0_pay82 δ k0_pay28 (k0_pay123 (k0_pay36 q k)) (dG q d k v ms c) (k0_pay146 mi (dG q d k v ms c)) r
def dC : FVec F S1x256x1 .f32 := k0_pay141 (k0_pay52 k0_pay28 (k0_pay36 q k)) c
def dR : FVec F S1x256x1 .f32 := k0_pay156 (dG q d k v ms c) r
end

/-- What a step makes of a head: the weights and the scores' cotangents on block `b` of the rows of block `i`, and the
    running sums from that block on. -/
structure Stepped (x : Data) (i b : ℕ) (A DZ : FVec Ideal S256x256 .bf16) (C R : FVec Ideal S1x256x1 .f32) : Prop where
  a : Is2 A fun s t => x.A (256 * i + s.val) (256 * b + t.val)
  dz : Is2 DZ fun s t => x.DZ (256 * i + s.val) (256 * b + t.val)
  c : IsC C fun s => tail (x.N (256 * i + s.val)) b
  r : IsC R fun s => tail (x.G (256 * i + s.val)) b

section
variable {x : Data} {i b : ℕ} {q d k v : FVec Ideal S256x128 .bf16} {ms mi : FVec Ideal S512x256 .bf16} {δ : FVec Ideal S256x1 .f32} {c r : FVec Ideal S1x256x1 .f32}
  (hi : i < 16)
  (hq : Is2 q fun s => x.Q (256 * i + s.val)) (hd : Is2 d fun s => x.D (256 * i + s.val)) (hk : Is2 k fun t => x.K (256 * b + t.val)) (hv : Is2 v fun t => x.V (256 * b + t.val))
  (hms : Twice ms fun j t => if t < j then 1 else 0) (hmi : Twice mi fun j t => if t ≤ j then 1 else 0)
  (hδ : ∀ s : Fin 256, δ (ix2 s 0) = ((∑ t ∈ Finset.range 4096, x.G (256 * i + s.val) t : ℝ) : EReal))
  (hc : IsC c fun s => tail (x.N (256 * i + s.val)) (b + 1)) (hr : IsC r fun s => tail (x.G (256 * i + s.val)) (b + 1))

include hi hq hd hk hv hms hmi hδ hc hr

theorem stepped_trip (hb : b < i) : Stepped x i b (tA q k ms c) (tDZ q d k v ms mi δ c r) (tC q k c) (tR q d k v ms c r) := by
  have lt : ∀ s t : Fin 256, 256 * b + t.val < 256 * i + s.val := fun s t => by omega
  have hz : Is2 (k0_pay36 (F := Ideal) q k) fun s t => x.z (256 * i + s.val) (256 * b + t.val) := zz_is hq hk
  have ha : Is2 (k0_pay36 (F := Ideal) d v) fun s t => x.da (256 * i + s.val) (256 * b + t.val) := zz_is hd hv
  have hl := ls_is hz
  have hn : Is2 (k0_pay122 (F := Ideal) (k0_pay36 q k)) fun s t => x.N (256 * i + s.val) (256 * b + t.val) :=
    (n_is hz).congr fun s t => (if_pos (lt s t)).symm
  have he := tri_is hn hms
  have hA : Is2 (tA (F := Ideal) q k ms c) fun s t => x.A (256 * i + s.val) (256 * b + t.val) := (a_is hl he hc).congr fun s t => by
    unfold Data.A; rw [if_pos (lt s t), ← after_split _ (by omega), sub_sub]
  have hG : Is2 (tG (F := Ideal) q d k v ms c) fun s t => x.G (256 * i + s.val) (256 * b + t.val) := (g_is ha hl he hc).congr fun s t => by
    unfold Data.G Data.A; rw [if_pos (lt s t), ← after_split _ (by omega), sub_sub]
  refine ⟨hA, ?_, ?_, ?_⟩
  · exact (dz_is hδ hl hG (tri_is (tri := mi) hG hmi) hr).congr fun s t => by
      unfold Data.DZ; rw [if_pos (lt s t), before_split _ (by omega)]
  · exact fun s => (c_is hn hc s).trans (congrArg Real.toEReal (tail_step (x.N (256 * i + s.val)) (by omega)))
  · exact fun s => (c_is hG hr s).trans (congrArg Real.toEReal (tail_step (x.G (256 * i + s.val)) (by omega)))

theorem stepped_diag (hb : b = i) : Stepped x i b (dA q k ms c) (dDZ q d k v ms mi δ c r) (dC q k c) (dR q d k v ms c r) := by
  subst hb
  have lt : ∀ s t : Fin 256, (t < s) = (256 * b + t.val < 256 * b + s.val) := fun s t => by rw [Fin.lt_def, Nat.add_lt_add_iff_left]
  have hz : Is2 (k0_pay36 (F := Ideal) q k) fun s t => x.z (256 * b + s.val) (256 * b + t.val) := zz_is hq hk
  have ha : Is2 (k0_pay36 (F := Ideal) d v) fun s t => x.da (256 * b + s.val) (256 * b + t.val) := zz_is hd hv
  have hl := ls_is hz
  have hn : Is2 (k0_pay52 (F := Ideal) k0_pay28 (k0_pay36 q k)) fun s t => x.N (256 * b + s.val) (256 * b + t.val) :=
    (nm_is hz).congr fun s t => by exact if_congr (Iff.of_eq (lt s t)) rfl rfl
  have he := tri_is hn hms
  have hA : Is2 (dA (F := Ideal) q k ms c) fun s t => x.A (256 * b + s.val) (256 * b + t.val) := (am_is hl he hc).congr fun s t => by
    refine if_congr (Iff.of_eq (lt s t)) ?_ rfl; rw [← after_split _ (by omega), sub_sub]
  have hG : Is2 (dG (F := Ideal) q d k v ms c) fun s t => x.G (256 * b + s.val) (256 * b + t.val) := (gm_is ha hl he hc).congr fun s t => by
    refine congrArg (_ * ·) (if_congr (Iff.of_eq (lt s t)) ?_ rfl); rw [← after_split _ (by omega), sub_sub]
  refine ⟨hA, ?_, ?_, ?_⟩
  · exact (dzm_is hδ hl hG (tri_is (tri := mi) hG hmi) hr).congr fun s t => by
      refine if_congr (Iff.of_eq (lt s t)) ?_ rfl; rw [before_split _ (by omega)]
  · exact fun s => (c_is hn hc s).trans (congrArg Real.toEReal (tail_step (x.N (256 * b + s.val)) (by omega)))
  · exact fun s => (c_is hG hr s).trans (congrArg Real.toEReal (tail_step (x.G (256 * b + s.val)) (by omega)))

end

end Cert.Kernel2Ideal.Sba
-- ==== Proof.Sba.Read.lean ====
/- The buffers of the kernel read where it loads and stores them: one head's rows of a scratch buffer, one block of rows
   and one half of the lanes of a whole array. -/
module

public import proofs.«01_k».proof.Proof.Sba.Step
public import proofs.«01_k».proof.Proof.Sba.Loop
public import Idealize.ShloMosaic.Lib.WritesUnit
public import Idealize.ShloMosaic.Lib.WholeRead

@[expose] public section

set_option maxRecDepth 16384

noncomputable section

namespace Cert.Kernel2Ideal.Sba

open Cert.Reals Cert.Stick Idealize.ShloMosaic Idealize.ShloMosaic.TcCoe
open Cert.Kernel2Ideal.Gen

/-- A lane of one half. -/
def lane (p : Fin 2) (l : Fin 128) : Fin 256 := ⟨128 * p.val + l.val, by omega⟩
/-- A row of one block. -/
def row {b : ℕ} (hb : b < 16) (a : Fin 256) : Fin 4096 := ⟨256 * b + a.val, by omega⟩

section
variable {F : FTy → Type} {sp : Space} {s : Shape} {e : EltTy} {arg : Memref sig .tc sp s e}

/-- A load of a part of a buffer. -/
theorem ld_unit (f : arg.view.ty.Contents (Elt F)) {off off' size : Fin s.rank → ℕ} (inb : ∀ a, off a + size a ≤ s.size a) (z : (Rect.unit off size inb).shape.Idx) (y : s.Idx)
    (heq : off = off') (hz : ∀ a, (y a).val = off' a + (z a).val) :
    arg.view.readAt (Elt F) (Rect.unit off size inb).toLoadRect f z = arg.view.read (Elt F) f y := by
  subst heq
  show arg.view.read (Elt F) f ((Rect.unit off size inb).emb z) = _
  refine congrArg (arg.view.read (Elt F) f) (funext fun a => Fin.ext ?_)
  show off a + 1 * (z a).val = (y a).val
  rw [hz a, Nat.one_mul]

/-- The same of a whole buffer's contents. -/
theorem ld_whole (h : arg.IsWhole) (x : Vec F s e) {off off' size : Fin s.rank → ℕ} (inb : ∀ a, off a + size a ≤ s.size a) (z : (Rect.unit off size inb).shape.Idx) (y : s.Idx)
    (heq : off = off') (hz : ∀ a, (y a).val = off' a + (z a).val) :
    arg.view.readAt (Elt F) (Rect.unit off size inb).toLoadRect (h.unread x) z = x y := by
  rw [ld_unit _ inb z y heq hz, h.read_unread]
end

section
variable {n : ℕ} {arg : Memref sig .tc .vmem (⟨3, ![4, 256, n]⟩ : Shape) .f32}

/-- One head's rows of a scratch buffer. -/
theorem ld_head (h : arg.IsWhole) (x : Vec Ideal (⟨3, ![4, 256, n]⟩ : Shape) .f32) {k : ℕ} (hk : k < 4) {off : Fin 3 → ℕ} (heq : off = ![k, 0, 0])
    (inb : ∀ a, off a + (![1, 256, n] : Fin 3 → ℕ) a ≤ (⟨3, ![4, 256, n]⟩ : Shape).size a) (a : Fin 256) (l : Fin n) :
    arg.view.readAt (Elt Ideal) (Rect.unit (s := ⟨3, ![4, 256, n]⟩) off ![1, 256, n] inb).toLoadRect (h.unread x) (ix3 0 a l) = x (ix3 ⟨k, hk⟩ a l) :=
  ld_whole h x inb _ _ heq (fun d => by fin_cases d <;> simp [ix3])

/-- A scratch buffer all of whose four heads were stored. -/
theorem read_heads (f : arg.view.ty.Contents (Elt Ideal)) {L : List (View.Piece (Elt Ideal) (⟨3, ![4, 256, n]⟩ : Shape) .f32)} (g : Fin 4 → Fin 256 → Fin n → EReal)
    {i0 i1 i2 i3} (w0 : (Rect.unit (s := ⟨3, ![4, 256, n]⟩) ![0, 0, 0] ![1, 256, n] i0).shape.Idx → Elt Ideal .f32) (w1 : (Rect.unit (s := ⟨3, ![4, 256, n]⟩) ![1, 0, 0] ![1, 256, n] i1).shape.Idx → Elt Ideal .f32)
    (w2 : (Rect.unit (s := ⟨3, ![4, 256, n]⟩) ![2, 0, 0] ![1, 256, n] i2).shape.Idx → Elt Ideal .f32) (w3 : (Rect.unit (s := ⟨3, ![4, 256, n]⟩) ![3, 0, 0] ![1, 256, n] i3).shape.Idx → Elt Ideal .f32)
    (h0 : ∀ a l, w0 (ix3 0 a l) = g 0 a l) (h1 : ∀ a l, w1 (ix3 0 a l) = g 1 a l) (h2 : ∀ a l, w2 (ix3 0 a l) = g 2 a l) (h3 : ∀ a l, w3 (ix3 0 a l) = g 3 a l)
    (h : Fin 4) (a : Fin 256) (l : Fin n) :
    arg.view.read (Elt Ideal) (arg.view.writes (Elt Ideal) f (⟨Rect.unit ![3, 0, 0] ![1, 256, n] i3, w3⟩ :: ⟨Rect.unit ![2, 0, 0] ![1, 256, n] i2, w2⟩ :: ⟨Rect.unit ![1, 0, 0] ![1, 256, n] i1, w1⟩ :: ⟨Rect.unit ![0, 0, 0] ![1, 256, n] i0, w0⟩ :: L)) (ix3 h a l) = g h a l := by
  have miss : ∀ {k : ℕ} {ik} (w : (Rect.unit (s := ⟨3, ![4, 256, n]⟩) ![k, 0, 0] ![1, 256, n] ik).shape.Idx → Elt Ideal .f32) (L) (hk : h.val ≠ k),
      arg.view.read (Elt Ideal) (arg.view.writes (Elt Ideal) f (⟨Rect.unit ![k, 0, 0] ![1, 256, n] ik, w⟩ :: L)) (ix3 h a l) = arg.view.read (Elt Ideal) (arg.view.writes (Elt Ideal) f L) (ix3 h a l) :=
    fun {k ik} w L hk => View.read_writes_cons_unit_of_not_mem arg.view f ik w L _ rfl (0 : Fin 3) (by
      show h.val < k ∨ k + 1 ≤ h.val
      omega)
  have hit : ∀ {k : ℕ} {ik} (w : (Rect.unit (s := ⟨3, ![4, 256, n]⟩) ![k, 0, 0] ![1, 256, n] ik).shape.Idx → Elt Ideal .f32) (L) (hk : h.val = k),
      arg.view.read (Elt Ideal) (arg.view.writes (Elt Ideal) f (⟨Rect.unit ![k, 0, 0] ![1, 256, n] ik, w⟩ :: L)) (ix3 h a l) = w (ix3 0 a l) :=
    fun {k ik} w L hk => View.read_writes_cons_unit_of_mem arg.view f ik w L _ _ rfl (fun d => by fin_cases d <;> simp [ix3, hk])
  fin_cases h
  · rw [miss w3 _ (by decide), miss w2 _ (by decide), miss w1 _ (by decide), hit w0 _ rfl]; exact h0 a l
  · rw [miss w3 _ (by decide), miss w2 _ (by decide), hit w1 _ rfl]; exact h1 a l
  · rw [miss w3 _ (by decide), hit w2 _ rfl]; exact h2 a l
  · rw [hit w3 _ rfl]; exact h3 a l

/-- A head's rows where another head was stored last, -/
theorem read_other (f : arg.view.ty.Contents (Elt Ideal)) {L : List (View.Piece (Elt Ideal) (⟨3, ![4, 256, n]⟩ : Shape) .f32)} {k : ℕ} {ik}
    (w : (Rect.unit (s := ⟨3, ![4, 256, n]⟩) ![k, 0, 0] ![1, 256, n] ik).shape.Idx → Elt Ideal .f32) (h : Fin 4) (hk : h.val ≠ k) (a : Fin 256) (l : Fin n) :
    arg.view.read (Elt Ideal) (arg.view.writes (Elt Ideal) f (⟨Rect.unit ![k, 0, 0] ![1, 256, n] ik, w⟩ :: L)) (ix3 h a l) = arg.view.read (Elt Ideal) (arg.view.writes (Elt Ideal) f L) (ix3 h a l) :=
  View.read_writes_cons_unit_of_not_mem arg.view f ik w L _ rfl (0 : Fin 3) (by
    show h.val < k ∨ k + 1 ≤ h.val
    omega)

/-- a head's rows loaded from whatever the buffer holds, -/
theorem old_head (f : arg.view.ty.Contents (Elt Ideal)) (h : Fin 4)
    (inb : ∀ a, (![h.val, 0, 0] : Fin 3 → ℕ) a + (![1, 256, n] : Fin 3 → ℕ) a ≤ (⟨3, ![4, 256, n]⟩ : Shape).size a) (a : Fin 256) (l : Fin n) :
    arg.view.readAt (Elt Ideal) (Rect.unit (s := ⟨3, ![4, 256, n]⟩) ![h.val, 0, 0] ![1, 256, n] inb).toLoadRect f (ix3 0 a l) = arg.view.read (Elt Ideal) f (ix3 h a l) :=
  ld_unit f inb _ _ rfl (fun d => by fin_cases d <;> simp [ix3])

/-- and a buffer that was stored whole. -/
theorem read_fill (f : arg.view.ty.Contents (Elt Ideal)) {inb}
    (z : (Rect.unit (s := ⟨3, ![4, 256, n]⟩) ![0, 0, 0] ![4, 256, n] inb).shape.Idx → Elt Ideal .f32) {u : EReal} (hz : ∀ h a l, z (ix3 h a l) = u) (h : Fin 4) (a : Fin 256) (l : Fin n) :
    arg.view.read (Elt Ideal) (arg.view.writes (Elt Ideal) f [⟨Rect.unit ![0, 0, 0] ![4, 256, n] inb, z⟩]) (ix3 h a l) = u :=
  (View.read_writes_cons_unit_of_mem arg.view f inb z [] _ (ix3 h a l) rfl (fun d => by fin_cases d <;> simp [ix3])).trans (hz h a l)
end

section
variable {e : EltTy} {arg : Memref sig .tc .vmem S4096x256 e} {b : ℕ} (hb : b < 16)

/-- One block of rows and one half of the lanes. -/
theorem ld_tile (h : arg.IsWhole) (x : Vec Ideal S4096x256 e) {p : Fin 2} {off : Fin 2 → ℕ} (heq : off = ![256 * b, 128 * p.val])
    (inb : ∀ a, off a + (![256, 128] : Fin 2 → ℕ) a ≤ S4096x256.size a) (a : Fin 256) (l : Fin 128) :
    arg.view.readAt (Elt Ideal) (Rect.unit (s := S4096x256) off ![256, 128] inb).toLoadRect (h.unread x) (ix2 a l) = x (ix2 (row hb a) (lane p l)) :=
  ld_whole h x inb _ _ heq (fun d => by fin_cases d <;> simp [ix2, row, lane])

variable {off3 off4 : Fin 2 → ℕ} (e3 : off3 = ![256 * b, 0]) (e4 : off4 = ![256 * b, 128])
  {i3 : ∀ a, off3 a + (![256, 128] : Fin 2 → ℕ) a ≤ S4096x256.size a} {i4 : ∀ a, off4 a + (![256, 128] : Fin 2 → ℕ) a ≤ S4096x256.size a}
include e3 e4

/-- The second half of a block's lanes, once the first was stored. -/
theorem ld_second (h : arg.IsWhole) (x : Vec Ideal S4096x256 e) (w : (Rect.unit (s := S4096x256) off3 ![256, 128] i3).shape.Idx → Elt Ideal e) (a : Fin 256) (l : Fin 128) :
    arg.view.readAt (Elt Ideal) (Rect.unit (s := S4096x256) off4 ![256, 128] i4).toLoadRect (arg.view.writes (Elt Ideal) (h.unread x) [⟨Rect.unit off3 ![256, 128] i3, w⟩]) (ix2 a l) = x (ix2 (row hb a) (lane 1 l)) := by
  rw [ld_unit _ i4 _ (ix2 (row hb a) (lane 1 l)) e4 (fun d => by fin_cases d <;> simp [ix2, row, lane]),
    View.read_writes_cons_unit_of_not_mem arg.view _ i3 w [] _ e3 (1 : Fin 2) (by
      show (lane 1 l).val < 0 ∨ 0 + 128 ≤ (lane 1 l).val
      simp [lane]), View.writes_nil, h.read_unread]

/-- A block of rows stored half by half. -/
theorem read_tiles (f : arg.view.ty.Contents (Elt Ideal)) (g : Fin 4096 → Fin 2 → Fin 128 → Elt Ideal e)
    (w0 : (Rect.unit (s := S4096x256) off3 ![256, 128] i3).shape.Idx → Elt Ideal e) (w1 : (Rect.unit (s := S4096x256) off4 ![256, 128] i4).shape.Idx → Elt Ideal e)
    (hold : ∀ (t : Fin 4096) (p : Fin 2) (l : Fin 128), (t.val < 256 * b ∨ 256 * b + 256 ≤ t.val) → arg.view.read (Elt Ideal) f (ix2 t (lane p l)) = g t p l)
    (h0 : ∀ a l, w0 (ix2 a l) = g (row hb a) 0 l) (h1 : ∀ a l, w1 (ix2 a l) = g (row hb a) 1 l) (t : Fin 4096) (p : Fin 2) (l : Fin 128) :
    arg.view.read (Elt Ideal) (arg.view.writes (Elt Ideal) f [⟨Rect.unit off4 ![256, 128] i4, w1⟩, ⟨Rect.unit off3 ![256, 128] i3, w0⟩]) (ix2 t (lane p l)) = g t p l := by
  by_cases ht : t.val < 256 * b ∨ 256 * b + 256 ≤ t.val
  · rw [View.read_writes_cons_unit_of_not_mem arg.view f i4 w1 _ _ e4 (0 : Fin 2) ht, View.read_writes_cons_unit_of_not_mem arg.view f i3 w0 _ _ e3 (0 : Fin 2) ht, View.writes_nil]
    exact hold t p l ht
  · obtain ⟨a, rfl⟩ : ∃ a : Fin 256, t = row hb a := ⟨⟨t.val - 256 * b, by omega⟩, Fin.ext (by show t.val = 256 * b + (t.val - 256 * b); omega)⟩
    fin_cases p
    · rw [View.read_writes_cons_unit_of_not_mem arg.view f i4 w1 _ _ e4 (1 : Fin 2) (Or.inl (by
          show (lane 0 l).val < 128
          simp [lane])),
        View.read_writes_cons_unit_of_mem arg.view f i3 w0 _ _ (ix2 a l) e3 (fun d => by fin_cases d <;> simp [ix2, row, lane])]
      exact h0 a l
    · rw [View.read_writes_cons_unit_of_mem arg.view f i4 w1 _ _ (ix2 a l) e4 (fun d => by fin_cases d <;> simp [ix2, row, lane])]
      exact h1 a l
end

end Cert.Kernel2Ideal.Sba
-- ==== Proof.Sba.TripVal.lean ====
/- One trip of the kernel's loop over the real numbers. -/
module

public import proofs.«01_k».proof.Proof.Sba.Read

@[expose] public section

set_option maxRecDepth 16384

noncomputable section

namespace Cert.Kernel2Ideal.Sba

open Cert.Reals Cert.Stick Idealize.ShloMosaic Idealize.ShloMosaic.TcCoe
open Cert.Kernel2Ideal.Gen

/-- The two heads of a half of the lanes. -/
def fst (p : Fin 2) : Fin 4 := ![0, 2] p
def snd (p : Fin 2) : Fin 4 := ![1, 3] p
/-- The half of the lanes a head lies in. -/
def half2 (h : Fin 4) : Fin 2 := ![0, 0, 1, 1] h

section
variable (x : Fin 4 → Data)

/-- What the row `s` adds to the gradient of the keys, -/
def kAt (p : Fin 2) (t : ℕ) (l : Fin 128) (s : ℕ) : ℝ := (x (fst p)).DZ s t * (x (fst p)).Q s l + (x (snd p)).DZ s t * (x (snd p)).Q s l
/-- to the gradient of the values, -/
def vAt (p : Fin 2) (t : ℕ) (l : Fin 128) (s : ℕ) : ℝ := (x (fst p)).A s t * (x (fst p)).D s l + (x (snd p)).A s t * (x (snd p)).D s l
/-- and what the column `t` adds to the gradient of the queries. -/
def qAt (h : Fin 4) (s : ℕ) (l : Fin 128) (t : ℕ) : ℝ := (x h).DZ s t * (x h).K t l

/-- What the buffers hold, at the rows of block `i`, once the columns from block `B` on are done. -/
structure Held (i B : ℕ) (s : Carried Ideal) : Prop where
  c : ∀ (h : Fin 4) (a : Fin 256) (l : Fin 1), s.gc (ix3 h a l) = ((tail ((x h).N (256 * i + a.val)) B : ℝ) : EReal)
  r : ∀ (h : Fin 4) (a : Fin 256) (l : Fin 1), s.gr (ix3 h a l) = ((tail ((x h).G (256 * i + a.val)) B : ℝ) : EReal)
  a : ∀ (h : Fin 4) (a : Fin 256) (l : Fin 128), s.ga (ix3 h a l) = ((tail (qAt x h (256 * i + a.val) l) B : ℝ) : EReal)
  k : ∀ (t : Fin 4096) (p : Fin 2) (l : Fin 128), s.gk (ix2 t (lane p l)) = ((head (kAt x p t.val l) (if 256 * B ≤ t.val then i + 1 else i) : ℝ) : EReal)
  v : ∀ (t : Fin 4096) (p : Fin 2) (l : Fin 128), s.gv (ix2 t (lane p l)) = ((head (vAt x p t.val l) (if 256 * B ≤ t.val then i + 1 else i) : ℝ) : EReal)

/-- The keys and the values. -/
structure Cols (xk xv : Vec Ideal S4096x256 .bf16) : Prop where
  k : ∀ (h : Fin 4) (t : Fin 4096) (l : Fin 128), xk (ix2 t (lane (half2 h) l)) = (((x h).K t.val l : ℝ) : EReal)
  v : ∀ (h : Fin 4) (t : Fin 4096) (l : Fin 128), xv (ix2 t (lane (half2 h) l)) = (((x h).V t.val l : ℝ) : EReal)

/-- What a record of the loop holds of the rows of block `i`. -/
structure Rows (i : ℕ) (r : Cc0While1 Ideal) : Prop where
  at_i : (r.i 1).val = i
  q0 : Is2 r.v17 fun s => (x 0).Q (256 * i + s.val)
  q1 : Is2 r.v18 fun s => (x 1).Q (256 * i + s.val)
  q2 : Is2 r.v36 fun s => (x 2).Q (256 * i + s.val)
  q3 : Is2 r.v37 fun s => (x 3).Q (256 * i + s.val)
  d0 : Is2 r.v19 fun s => (x 0).D (256 * i + s.val)
  d1 : Is2 r.v20 fun s => (x 1).D (256 * i + s.val)
  d2 : Is2 r.v38 fun s => (x 2).D (256 * i + s.val)
  d3 : Is2 r.v39 fun s => (x 3).D (256 * i + s.val)
  ms : Twice r.v4 fun j t => if t < j then 1 else 0
  mi : Twice r.v6 fun j t => if t ≤ j then 1 else 0
  δ0 : ∀ s : Fin 256, r.v24 (ix2 s 0) = ((∑ t ∈ Finset.range 4096, (x 0).G (256 * i + s.val) t : ℝ) : EReal)
  δ1 : ∀ s : Fin 256, r.v28 (ix2 s 0) = ((∑ t ∈ Finset.range 4096, (x 1).G (256 * i + s.val) t : ℝ) : EReal)
  δ2 : ∀ s : Fin 256, r.v43 (ix2 s 0) = ((∑ t ∈ Finset.range 4096, (x 2).G (256 * i + s.val) t : ℝ) : EReal)
  δ3 : ∀ s : Fin 256, r.v47 (ix2 s 0) = ((∑ t ∈ Finset.range 4096, (x 3).G (256 * i + s.val) t : ℝ) : EReal)
end

theorem IsC.all {n : ℕ} {v : (⟨3, ![1, n, 1]⟩ : Shape).Idx → EReal} {f : Fin n → ℝ} (h : IsC v f) (a : Fin n) (l : Fin 1) : v (ix3 0 a l) = ((f a : ℝ) : EReal) := by
  obtain rfl : l = 0 := Subsingleton.elim _ _
  exact h a

section
variable {x : Fin 4 → Data} {i b : ℕ} (hb : b < 16)

/-- A row outside a block is as the later blocks left it. -/
theorem cut_congr {t : ℕ} (ht : t < 256 * b ∨ 256 * b + 256 ≤ t) : (if 256 * (b + 1) ≤ t then i + 1 else i) = if 256 * b ≤ t then i + 1 else i := by
  split_ifs <;> omega

include hb

/-- A block of columns added to the gradient of the queries, -/
theorem acc_step {h : Fin 4} {k : FVec Ideal S256x128 .bf16} {A DZ C R} (st : Stepped (x h) i b A DZ C R) (hk : Is2 k fun t => (x h).K (256 * b + t.val)) {w : FVec Ideal S1x256x128 .f32}
    (hw : ∀ a l, w (ix3 0 a l) = ((tail (qAt x h (256 * i + a.val) l) (b + 1) : ℝ) : EReal)) (a : Fin 256) (l : Fin 128) :
    k0_pay162 (F := Ideal) k DZ w (ix3 0 a l) = ((tail (qAt x h (256 * i + a.val) l) b : ℝ) : EReal) :=
  (acc_is hk st.dz hw a l).trans (congrArg Real.toEReal (tail_step (qAt x h (256 * i + a.val) l) hb))

/-- a block of rows added to the gradient of the keys, -/
theorem k_step {p : Fin 2} {q q' : FVec Ideal S256x128 .bf16} {A DZ C R A' DZ' C' R'} (hq : Is2 q fun s => (x (fst p)).Q (256 * i + s.val)) (hq' : Is2 q' fun s => (x (snd p)).Q (256 * i + s.val))
    (st : Stepped (x (fst p)) i b A DZ C R) (st' : Stepped (x (snd p)) i b A' DZ' C' R') {w : FVec Ideal S256x128 .f32}
    (hw : ∀ a l, w (ix2 a l) = ((head (kAt x p (row hb a).val l) (if 256 * (b + 1) ≤ (row hb a).val then i + 1 else i) : ℝ) : EReal)) (a : Fin 256) (l : Fin 128) :
    k0_pay166 (F := Ideal) q q' DZ DZ' w (ix2 a l) = ((head (kAt x p (row hb a).val l) (if 256 * b ≤ (row hb a).val then i + 1 else i) : ℝ) : EReal) := by
  have e : ∀ a : Fin 256, (row hb a).val = 256 * b + a.val := fun _ => rfl
  refine (gk_is hq hq' st.dz st'.dz (fun a l => (hw a l).trans (by rw [if_neg (by rw [e]; omega)])) a l).trans (congrArg Real.toEReal ?_)
  beta_reduce
  rw [if_pos (by rw [e]; omega), ← head_step, ← Finset.sum_add_distrib]
  rfl

/-- and to the gradient of the values. -/
theorem v_step {p : Fin 2} {d d' : FVec Ideal S256x128 .bf16} {A DZ C R A' DZ' C' R'} (hd : Is2 d fun s => (x (fst p)).D (256 * i + s.val)) (hd' : Is2 d' fun s => (x (snd p)).D (256 * i + s.val))
    (st : Stepped (x (fst p)) i b A DZ C R) (st' : Stepped (x (snd p)) i b A' DZ' C' R') {w : FVec Ideal S256x128 .f32}
    (hw : ∀ a l, w (ix2 a l) = ((head (vAt x p (row hb a).val l) (if 256 * (b + 1) ≤ (row hb a).val then i + 1 else i) : ℝ) : EReal)) (a : Fin 256) (l : Fin 128) :
    k0_pay166 (F := Ideal) d d' A A' w (ix2 a l) = ((head (vAt x p (row hb a).val l) (if 256 * b ≤ (row hb a).val then i + 1 else i) : ℝ) : EReal) := by
  have e : ∀ a : Fin 256, (row hb a).val = 256 * b + a.val := fun _ => rfl
  refine (gk_is hd hd' st.a st'.a (fun a l => (hw a l).trans (by rw [if_neg (by rw [e]; omega)])) a l).trans (congrArg Real.toEReal ?_)
  beta_reduce
  rw [if_pos (by rw [e]; omega), ← head_step, ← Finset.sum_add_distrib]
  rfl
end

/-- The rows a trip reads. -/
theorem off3_eq : ∀ (i : grid0.Coords) (j b : Fin 16), j.val + 1 + b.val = (i 1).val → k0_off3 i (BitVec.ofNat 32 j.val) = ![256 * b.val, 0] := by decide +kernel
theorem off4_eq : ∀ (i : grid0.Coords) (j b : Fin 16), j.val + 1 + b.val = (i 1).val → k0_off4 i (BitVec.ofNat 32 j.val) = ![256 * b.val, 128] := by decide +kernel

section
variable (c : Dev nD) {x : Fin 4 → Data} {i b j : ℕ} {xk xv : Vec Ideal S4096x256 .bf16} {r : Cc0While1 Ideal} (hw : k0_chk1 r.i r.arg15) {s : Carried Ideal}
  (hc : Cols x xk xv) (hr : Rows x i r) (hs : Held x i (b + 1) s) (hj : r.arg15 = BitVec.ofNat 32 j) (hij : j + 1 + b = i) (hi : i < 16)

include hr hj hij hi in
theorem trip_off3 : k0_off3 r.i r.arg15 = ![256 * b, 128 * (0 : Fin 2).val] := by
  rw [hj]; exact off3_eq r.i ⟨j, by omega⟩ ⟨b, by omega⟩ (by rw [hr.at_i]; exact hij)
include hr hj hij hi in
theorem trip_off4 : k0_off4 r.i r.arg15 = ![256 * b, 128 * (1 : Fin 2).val] := by
  rw [hj]; exact off4_eq r.i ⟨j, by omega⟩ ⟨b, by omega⟩ (by rw [hr.at_i]; exact hij)

/-- The keys and values of the block, half by half, -/
abbrev tk0 := trip.sl.r c r.i r.arg3 r.harg3 r.arg15 hw xk
abbrev tk1 := trip.sl.r_1 c r.i r.arg3 r.harg3 r.arg15 hw xk
abbrev tv0 : FVec Ideal S256x128 .bf16 := k0_pay104 (r.arg4.view.readAt (Elt Ideal) (Rect.unit (s := S4096x256) (k0_off3 r.i r.arg15) S256x128.size (k0_off3_inb r.i r.arg15 hw)).toLoadRect (r.harg4.unread xv))
abbrev tv1 : FVec Ideal S256x128 .bf16 := k0_pay105 (r.arg4.view.readAt (Elt Ideal) (Rect.unit (s := S4096x256) (k0_off4 r.i r.arg15) S256x128.size (k0_off4_inb r.i r.arg15 hw)).toLoadRect (r.harg4.unread xv))
/-- and the running sums of a head. -/
abbrev tc (s : Carried Ideal) (r : Cc0While1 Ideal) (h : ℕ) (inb : ∀ a, (![h, 0, 0] : Fin 3 → ℕ) a + S1x256x1.size a ≤ S4x256x1.size a) : FVec Ideal S1x256x1 .f32 :=
  r.arg12.view.readAt (Elt Ideal) (Rect.unit (s := S4x256x1) ![h, 0, 0] S1x256x1.size inb).toLoadRect (r.harg12.unread s.gc)
abbrev tr (s : Carried Ideal) (r : Cc0While1 Ideal) (h : ℕ) (inb : ∀ a, (![h, 0, 0] : Fin 3 → ℕ) a + S1x256x1.size a ≤ S4x256x1.size a) : FVec Ideal S1x256x1 .f32 :=
  r.arg13.view.readAt (Elt Ideal) (Rect.unit (s := S4x256x1) ![h, 0, 0] S1x256x1.size inb).toLoadRect (r.harg13.unread s.gr)

theorem tile_is {v : FVec Ideal S256x128 .bf16} {f : Fin 256 → Fin 128 → ℝ} (h : Is2 v f) : Is2 (k0_pay102 (F := Ideal) v) f := fun a b => by
  pointwise [k0_pay102]
  exact h a b

include hc hr hj hij hi in
theorem tk0_is (h : Fin 4) (hh : half2 h = 0) : Is2 (tk0 c hw (xk := xk)) fun t => (x h).K (256 * b + t.val) := tile_is fun t l =>
  (ld_tile (b := b) (by omega) r.harg3 xk (p := 0) (trip_off3 hr hj hij hi) _ t l).trans (by rw [← hh]; exact hc.k h _ l)
include hc hr hj hij hi in
theorem tk1_is (h : Fin 4) (hh : half2 h = 1) : Is2 (tk1 c hw (xk := xk)) fun t => (x h).K (256 * b + t.val) := tile_is fun t l =>
  (ld_tile (b := b) (by omega) r.harg3 xk (p := 1) (trip_off4 hr hj hij hi) _ t l).trans (by rw [← hh]; exact hc.k h _ l)
include hc hr hj hij hi in
theorem tv0_is (h : Fin 4) (hh : half2 h = 0) : Is2 (tv0 hw (xv := xv)) fun t => (x h).V (256 * b + t.val) := tile_is fun t l =>
  (ld_tile (b := b) (by omega) r.harg4 xv (p := 0) (trip_off3 hr hj hij hi) _ t l).trans (by rw [← hh]; exact hc.v h _ l)
include hc hr hj hij hi in
theorem tv1_is (h : Fin 4) (hh : half2 h = 1) : Is2 (tv1 hw (xv := xv)) fun t => (x h).V (256 * b + t.val) := tile_is fun t l =>
  (ld_tile (b := b) (by omega) r.harg4 xv (p := 1) (trip_off4 hr hj hij hi) _ t l).trans (by rw [← hh]; exact hc.v h _ l)

include hs in
theorem tc_is (h : Fin 4) (inb) : IsC (tc s r h.val inb) fun a => tail ((x h).N (256 * i + a.val)) (b + 1) := fun a =>
  (ld_head r.harg12 s.gc h.isLt rfl inb a 0).trans (hs.c h a 0)
include hs in
theorem tr_is (h : Fin 4) (inb) : IsC (tr s r h.val inb) fun a => tail ((x h).G (256 * i + a.val)) (b + 1) := fun a =>
  (ld_head r.harg13 s.gr h.isLt rfl inb a 0).trans (hs.r h a 0)

include hc hr hs hj hij hi

theorem trip0 : Stepped (x 0) i b (tA r.v17 (tk0 c hw (xk := xk)) r.v4 (tc s r 0 inb_S4x256x1_S1x256x1_0_0_0)) (tDZ r.v17 r.v19 (tk0 c hw (xk := xk)) (tv0 hw (xv := xv)) r.v4 r.v6 r.v24 (tc s r 0 inb_S4x256x1_S1x256x1_0_0_0) (tr s r 0 inb_S4x256x1_S1x256x1_0_0_0))
    (tC r.v17 (tk0 c hw (xk := xk)) (tc s r 0 inb_S4x256x1_S1x256x1_0_0_0)) (tR r.v17 r.v19 (tk0 c hw (xk := xk)) (tv0 hw (xv := xv)) r.v4 (tc s r 0 inb_S4x256x1_S1x256x1_0_0_0) (tr s r 0 inb_S4x256x1_S1x256x1_0_0_0)) :=
  stepped_trip hi hr.q0 hr.d0 (tk0_is c hw hc hr hj hij hi 0 rfl) (tv0_is hw hc hr hj hij hi 0 rfl) hr.ms hr.mi hr.δ0 (tc_is hs 0 _) (tr_is hs 0 _) (by omega)

theorem trip1 : Stepped (x 1) i b (tA r.v18 (tk0 c hw (xk := xk)) r.v4 (tc s r 1 inb_S4x256x1_S1x256x1_1_0_0)) (tDZ r.v18 r.v20 (tk0 c hw (xk := xk)) (tv0 hw (xv := xv)) r.v4 r.v6 r.v28 (tc s r 1 inb_S4x256x1_S1x256x1_1_0_0) (tr s r 1 inb_S4x256x1_S1x256x1_1_0_0))
    (tC r.v18 (tk0 c hw (xk := xk)) (tc s r 1 inb_S4x256x1_S1x256x1_1_0_0)) (tR r.v18 r.v20 (tk0 c hw (xk := xk)) (tv0 hw (xv := xv)) r.v4 (tc s r 1 inb_S4x256x1_S1x256x1_1_0_0) (tr s r 1 inb_S4x256x1_S1x256x1_1_0_0)) :=
  stepped_trip hi hr.q1 hr.d1 (tk0_is c hw hc hr hj hij hi 1 rfl) (tv0_is hw hc hr hj hij hi 1 rfl) hr.ms hr.mi hr.δ1 (tc_is hs 1 _) (tr_is hs 1 _) (by omega)

theorem trip2 : Stepped (x 2) i b (tA r.v36 (tk1 c hw (xk := xk)) r.v4 (tc s r 2 inb_S4x256x1_S1x256x1_2_0_0)) (tDZ r.v36 r.v38 (tk1 c hw (xk := xk)) (tv1 hw (xv := xv)) r.v4 r.v6 r.v43 (tc s r 2 inb_S4x256x1_S1x256x1_2_0_0) (tr s r 2 inb_S4x256x1_S1x256x1_2_0_0))
    (tC r.v36 (tk1 c hw (xk := xk)) (tc s r 2 inb_S4x256x1_S1x256x1_2_0_0)) (tR r.v36 r.v38 (tk1 c hw (xk := xk)) (tv1 hw (xv := xv)) r.v4 (tc s r 2 inb_S4x256x1_S1x256x1_2_0_0) (tr s r 2 inb_S4x256x1_S1x256x1_2_0_0)) :=
  stepped_trip hi hr.q2 hr.d2 (tk1_is c hw hc hr hj hij hi 2 rfl) (tv1_is hw hc hr hj hij hi 2 rfl) hr.ms hr.mi hr.δ2 (tc_is hs 2 _) (tr_is hs 2 _) (by omega)

theorem trip3 : Stepped (x 3) i b (tA r.v37 (tk1 c hw (xk := xk)) r.v4 (tc s r 3 inb_S4x256x1_S1x256x1_3_0_0)) (tDZ r.v37 r.v39 (tk1 c hw (xk := xk)) (tv1 hw (xv := xv)) r.v4 r.v6 r.v47 (tc s r 3 inb_S4x256x1_S1x256x1_3_0_0) (tr s r 3 inb_S4x256x1_S1x256x1_3_0_0))
    (tC r.v37 (tk1 c hw (xk := xk)) (tc s r 3 inb_S4x256x1_S1x256x1_3_0_0)) (tR r.v37 r.v39 (tk1 c hw (xk := xk)) (tv1 hw (xv := xv)) r.v4 (tc s r 3 inb_S4x256x1_S1x256x1_3_0_0) (tr s r 3 inb_S4x256x1_S1x256x1_3_0_0)) :=
  stepped_trip hi hr.q3 hr.d3 (tk1_is c hw hc hr hj hij hi 3 rfl) (tv1_is hw hc hr hj hij hi 3 rfl) hr.ms hr.mi hr.δ3 (tc_is hs 3 _) (tr_is hs 3 _) (by omega)

/-- The running sums that a trip stores, whatever the buffer held, -/
theorem sums_c (f : r.arg12.view.ty.Contents (Elt Ideal)) (h : Fin 4) (a : Fin 256) (l : Fin 1) :
    r.arg12.view.read (Elt Ideal) (r.arg12.view.writes (Elt Ideal) f (trip.sl.H12_4 c r.i r.arg3 r.harg3 r.v17 r.v18 r.v36 r.v37 r.arg12 r.harg12 r.arg15 hw xk s.gc)) (ix3 h a l)
      = ((tail ((x h).N (256 * i + a.val)) b : ℝ) : EReal) :=
  read_heads (arg := r.arg12) f (fun h a _ => ((tail ((x h).N (256 * i + a.val)) b : ℝ) : EReal)) _ _ _ _
    (trip0 c hw hc hr hs hj hij hi).c.all (trip1 c hw hc hr hs hj hij hi).c.all
    (trip2 c hw hc hr hs hj hij hi).c.all (trip3 c hw hc hr hs hj hij hi).c.all h a l

/-- and what the trip leaves. -/
theorem carry_c (h : Fin 4) (a : Fin 256) (l : Fin 1) : (carry c xk xv r hw s).gc (ix3 h a l) = ((tail ((x h).N (256 * i + a.val)) b : ℝ) : EReal) :=
  sums_c c hw hc hr hs hj hij hi _ h a l

theorem carry_r (h : Fin 4) (a : Fin 256) (l : Fin 1) : (carry c xk xv r hw s).gr (ix3 h a l) = ((tail ((x h).G (256 * i + a.val)) b : ℝ) : EReal) :=
  read_heads (arg := r.arg13) _ (fun h a _ => ((tail ((x h).G (256 * i + a.val)) b : ℝ) : EReal)) _ _ _ _
    (trip0 c hw hc hr hs hj hij hi).r.all (trip1 c hw hc hr hs hj hij hi).r.all
    (trip2 c hw hc hr hs hj hij hi).r.all (trip3 c hw hc hr hs hj hij hi).r.all h a l

theorem carry_a (h : Fin 4) (a : Fin 256) (l : Fin 128) : (carry c xk xv r hw s).ga (ix3 h a l) = ((tail (qAt x h (256 * i + a.val) l) b : ℝ) : EReal) :=
  read_heads (arg := r.arg14) _ (fun h a l => ((tail (qAt x h (256 * i + a.val) l) b : ℝ) : EReal)) _ _ _ _
    (acc_step (by omega) (trip0 c hw hc hr hs hj hij hi) (tk0_is c hw hc hr hj hij hi 0 rfl) fun a l => (ld_head r.harg14 s.ga (k := 0) (by omega) rfl inb_S4x256x128_S1x256x128_0_0_0 a l).trans (hs.a 0 a l))
    (acc_step (by omega) (trip1 c hw hc hr hs hj hij hi) (tk0_is c hw hc hr hj hij hi 1 rfl) fun a l => (ld_head r.harg14 s.ga (k := 1) (by omega) rfl inb_S4x256x128_S1x256x128_1_0_0 a l).trans (hs.a 1 a l))
    (acc_step (by omega) (trip2 c hw hc hr hs hj hij hi) (tk1_is c hw hc hr hj hij hi 2 rfl) fun a l => (ld_head r.harg14 s.ga (k := 2) (by omega) rfl inb_S4x256x128_S1x256x128_2_0_0 a l).trans (hs.a 2 a l))
    (acc_step (by omega) (trip3 c hw hc hr hs hj hij hi) (tk1_is c hw hc hr hj hij hi 3 rfl) fun a l => (ld_head r.harg14 s.ga (k := 3) (by omega) rfl inb_S4x256x128_S1x256x128_3_0_0 a l).trans (hs.a 3 a l)) h a l

theorem carry_k (t : Fin 4096) (p : Fin 2) (l : Fin 128) : (carry c xk xv r hw s).gk (ix2 t (lane p l)) = ((head (kAt x p t.val l) (if 256 * b ≤ t.val then i + 1 else i) : ℝ) : EReal) :=
  read_tiles (arg := r.arg10) (b := b) (by omega) (trip_off3 hr hj hij hi) (trip_off4 hr hj hij hi) (r.harg10.unread s.gk)
    (fun t p l => ((head (kAt x p t.val l) (if 256 * b ≤ t.val then i + 1 else i) : ℝ) : EReal)) _ _
    (fun t p l ht => by rw [r.harg10.read_unread, hs.k, cut_congr ht])
    (k_step (p := 0) (by omega) hr.q0 hr.q1 (trip0 c hw hc hr hs hj hij hi) (trip1 c hw hc hr hs hj hij hi) fun a l => (ld_tile (b := b) (by omega) r.harg10 s.gk (p := 0) (trip_off3 hr hj hij hi) _ a l).trans (hs.k _ 0 l))
    (k_step (p := 1) (by omega) hr.q2 hr.q3 (trip2 c hw hc hr hs hj hij hi) (trip3 c hw hc hr hs hj hij hi) fun a l => (ld_second (b := b) (by omega) (trip_off3 hr hj hij hi) (trip_off4 hr hj hij hi) r.harg10 s.gk _ a l).trans (hs.k _ 1 l)) t p l

theorem carry_v (t : Fin 4096) (p : Fin 2) (l : Fin 128) : (carry c xk xv r hw s).gv (ix2 t (lane p l)) = ((head (vAt x p t.val l) (if 256 * b ≤ t.val then i + 1 else i) : ℝ) : EReal) :=
  read_tiles (arg := r.arg11) (b := b) (by omega) (trip_off3 hr hj hij hi) (trip_off4 hr hj hij hi) (r.harg11.unread s.gv)
    (fun t p l => ((head (vAt x p t.val l) (if 256 * b ≤ t.val then i + 1 else i) : ℝ) : EReal)) _ _
    (fun t p l ht => by rw [r.harg11.read_unread, hs.v, cut_congr ht])
    (v_step (p := 0) (by omega) hr.d0 hr.d1 (trip0 c hw hc hr hs hj hij hi) (trip1 c hw hc hr hs hj hij hi) fun a l => (ld_tile (b := b) (by omega) r.harg11 s.gv (p := 0) (trip_off3 hr hj hij hi) _ a l).trans (hs.v _ 0 l))
    (v_step (p := 1) (by omega) hr.d2 hr.d3 (trip2 c hw hc hr hs hj hij hi) (trip3 c hw hc hr hs hj hij hi) fun a l => (ld_second (b := b) (by omega) (trip_off3 hr hj hij hi) (trip_off4 hr hj hij hi) r.harg11 s.gv _ a l).trans (hs.v _ 1 l)) t p l

/-- A trip does the next block of columns. -/
theorem held_carry : Held x i b (carry c xk xv r hw s) :=
  ⟨carry_c c hw hc hr hs hj hij hi, carry_r c hw hc hr hs hj hij hi, carry_a c hw hc hr hs hj hij hi, carry_k c hw hc hr hs hj hij hi, carry_v c hw hc hr hs hj hij hi⟩

end

end Cert.Kernel2Ideal.Sba
-- ==== Proof.Sba.LoopVal.lean ====
/- The kernel's loop over the real numbers: it runs over all the blocks before the diagonal one. -/
module

public import proofs.«01_k».proof.Proof.Sba.TripVal

@[expose] public section

set_option maxRecDepth 16384

noncomputable section

namespace Cert.Kernel2Ideal.Sba

open Cert.Reals Cert.Stick Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

theorem least_lt {u v w : FVec Ideal S256x1 .f32} {y : FVec Ideal S1x256x1 .f32} {f : Fin 256 → ℝ} (h : ∀ a, u (ix2 a 0) = ((f a : ℝ) : EReal)) : k0_pay2 (F := Ideal) u v w y < (⊤ : EReal) := by
  pointwise [k0_pay2]
  exact (Finset.fold_min_lt _).mpr (Or.inr ⟨(0, 0), Finset.mem_univ _, lt_of_le_of_lt ((min_le_left _ _).trans ((min_le_left _ _).trans (min_le_left _ _))) (by rw [h]; exact EReal.coe_lt_top _)⟩)

theorem test_of_lt {i : grid0.Coords} {j : Fin 16} (hj : j.val < (i 1).val) {y : Ideal .f32} (hy : y < (⊤ : EReal)) : test (F := Ideal) i (BitVec.ofNat 32 j.val) y = 1#1 := by
  have e : Scalar.cmpf (F := Ideal) (φ := .f32) .olt y (Named.named κ "dead_log" 0x42D20000#32) = 1#1 := by
    show BitVec.ofBool (decide (y < (⊤ : EReal))) = 1#1
    rw [decide_eq_true hy]; rfl
  unfold test
  rw [(slt_iff j ⟨_, row_lt i⟩).mpr hj, e]
  rfl
section
variable (c : Dev nD) {x : Fin 4 → Data} {i b j : ℕ} {xk xv : Vec Ideal S4096x256 .bf16} {r : Cc0While1 Ideal} (hw : k0_chk1 r.i r.arg15) {s : Carried Ideal}
  (hc : Cols x xk xv) (hr : Rows x i r) (hs : Held x i (b + 1) s) (hj : r.arg15 = BitVec.ofNat 32 j) (hij : j + 1 + b = i) (hi : i < 16)
include hc hr hs hj hij hi

theorem next_lt : (next c xk xv r hw s).arg16 < (⊤ : EReal) := by
  refine least_lt (f := fun a => tail ((x 0).N (256 * i + a.val)) b) fun a => ?_
  unfold trip.sl.r_44
  pointwise [k0_pay168]
  refine (ld_unit (arg := r.arg12) _ _ (ix3 0 a 0) (ix3 (0 : Fin 4) a (0 : Fin 1)) rfl (fun d => by fin_cases d <;> simp [ix3])).trans ?_
  exact sums_c c hw hc hr hs hj hij hi _ 0 a 0
end

/-- The loop's invariant: trip `j` finds the columns of the blocks from `i - j` on done. -/
def Inv (x : Fin 4 → Data) (i : ℕ) (r : Cc0While1 Ideal) (s : Carried Ideal) : Prop :=
  ∃ j, r.arg15 = BitVec.ofNat 32 j ∧ j ≤ i ∧ Rows x i r ∧ Held x i (i - j) s ∧ r.arg16 < (⊤ : EReal)

/-- The loop does all the columns. -/
theorem loop_all (c : Dev nD) {x : Fin 4 → Data} {i : ℕ} {xk xv : Vec Ideal S4096x256 .bf16} (hc : Cols x xk xv) (hi : i < 16)
    (r : Cc0While1 Ideal) (s : Carried Ideal) (hJ : Inv x i r s) (hz : r.arg15 = BitVec.ofNat 32 0) (K) :
    loopSpec c r.arg3 r.arg4 r.arg10 r.arg11 r.arg12 r.arg13 r.arg14 xk xv s (fun s' => Held x i 0 s') K
      ⊢ wp frame (wpE (defs₀ (F := Ideal)) 𝒱₀ c (some (r.i 1).val)) Set.univ (defs₀ (F := Ideal) .tc 1 r) K := by
  refine loop_le c xk xv (Inv x i) _ ?_ ?_ (r.i 1).val 0 r s hz (Nat.zero_add _) hJ K
  · rintro r s hw ⟨j, hj, hji, hr, hs, hlt⟩ ht
    have hj' : j < i := by
      by_contra hn
      obtain rfl : j = i := by omega
      unfold test Scalar.andi at ht
      have h' : Scalar.cmpi .slt r.arg15 (BitVec.ofNat 32 (r.i 1).val) = 1#1 := by
        generalize Scalar.cmpi .slt r.arg15 (BitVec.ofNat 32 (r.i 1).val) = a at ht
        generalize Scalar.cmpf .olt r.arg16 _ = b at ht
        revert a b; decide
      rw [hj, hr.at_i] at h'
      have := (slt_iff ⟨j, hi⟩ ⟨j, hi⟩).mp h'
      simp at this
    have hs' : Held x i (i - j - 1 + 1) s := by rw [show i - j - 1 + 1 = i - j by omega]; exact hs
    refine ⟨j + 1, ?_, by omega, ⟨hr.1, hr.2, hr.3, hr.4, hr.5, hr.6, hr.7, hr.8, hr.9, hr.10, hr.11, hr.12, hr.13, hr.14, hr.15⟩, ?_, next_lt c hw hc hr hs' hj (by omega) hi⟩
    · show Scalar.addi r.arg15 1#32 = _
      rw [hj]; exact succ_word ⟨j, by omega⟩
    · rw [← Nat.sub_sub]; exact held_carry c hw hc hr hs' hj (by omega) hi
  · rintro r s ⟨j, hj, hji, hr, hs, hlt⟩ ht
    have hj' : j = i := by
      by_contra hn
      refine ht ?_
      rw [hj]
      exact test_of_lt (j := ⟨j, by omega⟩) (by rw [hr.at_i]; show j < i; omega) hlt
    rw [hj', Nat.sub_self] at hs
    exact hs

end Cert.Kernel2Ideal.Sba
-- ==== Proof.Sba.PointVal.lean ====
/- The kernel's body before its loop over the real numbers: the rows of a block, cut into heads, and the block of columns
   on the diagonal. -/
module

public import proofs.«01_k».proof.Proof.Sba.LoopVal
public import proofs.«01_k».proof.Proof.Sba.Frame

@[expose] public section

set_option maxRecDepth 16384

noncomputable section

namespace Cert.Kernel2Ideal.Sba

open Cert.Reals Cert.Stick Idealize.ShloMosaic Idealize.ShloMosaic.TcCoe
open Cert.Kernel2Ideal.Gen

/-- The lanes of its half that a head owns: the first 64 or the last. -/
abbrev own (h : Fin 4) (l : Fin 128) : Prop := l.val / 64 = h.val % 2

theorem sel_half (l : Fin 128) (x y : EReal) : Scalar.select (IntOp.cmpi CmpIPredicate.slt (BitVec.ofNat 32 ↑l) 64#32) x y = if l.val < 64 then x else y := by
  word_cmp

/-- The lanes of one head, -/
theorem lo_is {v : FVec Ideal S256x128 .bf16} {f : Fin 256 → Fin 128 → ℝ} (h : ∀ a l, (if l.val < 64 then v (ix2 a l) else (0 : EReal)) = ((f a l : ℝ) : EReal)) : Is2 (k0_pay12 (F := Ideal) v) f := fun a l => by
  pointwise [k0_pay12, k0_pay7, k0_pay8, k0_pay11]
  rw [sel_half, ← h]
/-- of the other, -/
theorem hi_is {v : FVec Ideal S256x128 .bf16} {f : Fin 256 → Fin 128 → ℝ} (h : ∀ a l, (if l.val < 64 then (0 : EReal) else v (ix2 a l)) = ((f a l : ℝ) : EReal)) : Is2 (k0_pay13 (F := Ideal) v) f := fun a l => by
  pointwise [k0_pay13, k0_pay7, k0_pay8, k0_pay11]
  rw [sel_half, ← h]

/-- and the sums of a row over them. -/
theorem dlo_is {v : FVec Ideal S256x128 .bf16} {o : FVec Ideal S256x128 .f32} {f g : Fin 256 → Fin 128 → ℝ} (h : ∀ a l, (if l.val < 64 then v (ix2 a l) else (0 : EReal)) = ((f a l : ℝ) : EReal)) (ho : Is2 o g) (a : Fin 256) :
    k0_pay16 (F := Ideal) v o (ix2 a 0) = ((∑ l, f a l * g a l : ℝ) : EReal) := by
  pointwise [k0_pay16, k0_pay14, k0_pay7, k0_pay9, k0_pay11, k0_pay10]
  simp only [sel_half, coe_sum, EReal.coe_mul, ← h, ← ho _ _, ite_mul, zero_mul]
theorem dhi_is {v : FVec Ideal S256x128 .bf16} {o : FVec Ideal S256x128 .f32} {f g : Fin 256 → Fin 128 → ℝ} (h : ∀ a l, (if l.val < 64 then (0 : EReal) else v (ix2 a l)) = ((f a l : ℝ) : EReal)) (ho : Is2 o g) (a : Fin 256) :
    k0_pay17 (F := Ideal) v o (ix2 a 0) = ((∑ l, f a l * g a l : ℝ) : EReal) := by
  pointwise [k0_pay17, k0_pay15, k0_pay7, k0_pay9, k0_pay11, k0_pay10]
  simp only [sel_half, coe_sum, EReal.coe_mul, ← h, ← ho _ _, ite_mul, zero_mul]

section
variable {v : FVec Ideal S256x128 .bf16} {o : FVec Ideal S256x128 .f32} {f g : Fin 256 → Fin 128 → ℝ}
/-- The same where the kernel names the parts otherwise. -/
theorem lo2_is (h : ∀ a l, (if l.val < 64 then v (ix2 a l) else (0 : EReal)) = ((f a l : ℝ) : EReal)) : Is2 (k0_pay22 (F := Ideal) k0_pay7 (k0_pay18 v)) f := lo_is h
theorem hi2_is (h : ∀ a l, (if l.val < 64 then (0 : EReal) else v (ix2 a l)) = ((f a l : ℝ) : EReal)) : Is2 (k0_pay23 (F := Ideal) k0_pay7 (k0_pay18 v)) f := hi_is h
theorem lo3_is (h : ∀ a l, (if l.val < 64 then v (ix2 a l) else (0 : EReal)) = ((f a l : ℝ) : EReal)) : Is2 (k0_pay14 (F := Ideal) v) f := lo_is h
theorem hi3_is (h : ∀ a l, (if l.val < 64 then (0 : EReal) else v (ix2 a l)) = ((f a l : ℝ) : EReal)) : Is2 (k0_pay15 (F := Ideal) v) f := hi_is h
theorem lo4_is (h : ∀ a l, (if l.val < 64 then v (ix2 a l) else (0 : EReal)) = ((f a l : ℝ) : EReal)) : Is2 (k0_pay24 (F := Ideal) k0_pay7 (k0_pay19 v)) f := lo_is h
theorem hi4_is (h : ∀ a l, (if l.val < 64 then (0 : EReal) else v (ix2 a l)) = ((f a l : ℝ) : EReal)) : Is2 (k0_pay25 (F := Ideal) k0_pay7 (k0_pay19 v)) f := hi_is h
theorem dlo2_is (h : ∀ a l, (if l.val < 64 then v (ix2 a l) else (0 : EReal)) = ((f a l : ℝ) : EReal)) (ho : Is2 o g) (a : Fin 256) :
    k0_pay26 (F := Ideal) k0_pay7 (k0_pay19 v) (k0_pay20 o) (ix2 a 0) = ((∑ l, f a l * g a l : ℝ) : EReal) := dlo_is h ho a
theorem dhi2_is (h : ∀ a l, (if l.val < 64 then (0 : EReal) else v (ix2 a l)) = ((f a l : ℝ) : EReal)) (ho : Is2 o g) (a : Fin 256) :
    k0_pay27 (F := Ideal) k0_pay7 (k0_pay19 v) (k0_pay20 o) (ix2 a 0) = ((∑ l, f a l * g a l : ℝ) : EReal) := dhi_is h ho a
end

theorem zc (h : Fin 4) (a : Fin 256) (l : Fin 1) : k0_pay29 (F := Ideal) (ix3 h a l) = (0 : EReal) := by pointwise [k0_pay29]
theorem zr' (h : Fin 4) (a : Fin 256) (l : Fin 1) : k0_pay30 (F := Ideal) (ix3 h a l) = (0 : EReal) := by pointwise [k0_pay30]
theorem za (h : Fin 4) (a : Fin 256) (l : Fin 128) : k0_pay31 (F := Ideal) (ix3 h a l) = (0 : EReal) := by pointwise [k0_pay31]
theorem zk (t : Fin 4096) (l : Fin 256) : k0_pay3 (F := Ideal) (ix2 t l) = (0 : EReal) := by pointwise [k0_pay3]
theorem zv (t : Fin 4096) (l : Fin 256) : k0_pay4 (F := Ideal) (ix2 t l) = (0 : EReal) := by pointwise [k0_pay4]

theorem least4_lt {u v w y : FVec Ideal S1x256x1 .f32} {f : Fin 256 → ℝ} (h : IsC u f) : k0_pay98 (F := Ideal) u v w y < (⊤ : EReal) := by
  pointwise [k0_pay98]
  exact (Finset.fold_min_lt _).mpr (Or.inr ⟨(0, 0), Finset.mem_univ _, lt_of_le_of_lt ((min_le_left _ _).trans ((min_le_left _ _).trans (min_le_left _ _))) (by rw [h]; exact EReal.coe_lt_top _)⟩)

/-- What a point of row block `n` is given: its blocks of the arguments, and the gradients of the keys and the values as
    the earlier points left them. -/
structure Given (x : Fin 4 → Data) (O : ℕ → Fin 2 → Fin 128 → ℝ) (n : ℕ) (x0 : Vec Ideal S256x256 .bf16) (x1 x2 : Vec Ideal S4096x256 .bf16) (x3 : Vec Ideal S256x256 .f32)
    (x4 : Vec Ideal S256x256 .bf16) (x5 x6 : Vec Ideal S512x256 .bf16) : Prop where
  cols : Cols x x1 x2
  q : ∀ (h : Fin 4) (a : Fin 256) (l : Fin 128), (if own h l then x0 (ix2 a (lane (half2 h) l)) else (0 : EReal)) = (((x h).Q (256 * n + a.val) l : ℝ) : EReal)
  d : ∀ (h : Fin 4) (a : Fin 256) (l : Fin 128), (if own h l then x4 (ix2 a (lane (half2 h) l)) else (0 : EReal)) = (((x h).D (256 * n + a.val) l : ℝ) : EReal)
  o : ∀ (a : Fin 256) (p : Fin 2) (l : Fin 128), x3 (ix2 a (lane p l)) = ((O (256 * n + a.val) p l : ℝ) : EReal)
  δ : ∀ (h : Fin 4) (a : Fin 256), ∑ l, (x h).D (256 * n + a.val) l * O (256 * n + a.val) (half2 h) l = ∑ t ∈ Finset.range 4096, (x h).G (256 * n + a.val) t
  ms : Twice x5 fun j t => if t < j then 1 else 0
  mi : Twice x6 fun j t => if t ≤ j then 1 else 0

/-- The gradients of the keys and the values after the first `n` row blocks, where any were. -/
structure Before (x : Fin 4 → Data) (n : ℕ) (b : Carried Ideal) : Prop where
  k : ∀ (t : Fin 4096) (p : Fin 2) (l : Fin 128), n ≠ 0 → b.gk (ix2 t (lane p l)) = ((head (kAt x p t.val l) n : ℝ) : EReal)
  v : ∀ (t : Fin 4096) (p : Fin 2) (l : Fin 128), n ≠ 0 → b.gv (ix2 t (lane p l)) = ((head (vAt x p t.val l) n : ℝ) : EReal)

theorem own_lo (l : Fin 128) {h : Fin 4} (hh : h.val % 2 = 0) (u : EReal) : (if l.val < 64 then u else 0) = if own h l then u else 0 := if_congr (by unfold own; omega) rfl rfl
theorem own_hi (l : Fin 128) {h : Fin 4} (hh : h.val % 2 = 1) (u : EReal) : (if l.val < 64 then 0 else u) = if own h l then u else 0 := by
  rw [← ite_not]; exact if_congr (by unfold own; omega) rfl rfl

/-- A whole block, and one half of its lanes. -/
theorem ld_half {e : EltTy} {arg : Memref sig .tc .vmem S256x256 e} (h : arg.IsWhole) (x : Vec Ideal S256x256 e) {p : Fin 2} {off : Fin 2 → ℕ} (heq : off = ![0, 128 * p.val])
    (inb : ∀ a, off a + (![256, 128] : Fin 2 → ℕ) a ≤ S256x256.size a) (a : Fin 256) (l : Fin 128) :
    arg.view.readAt (Elt Ideal) (Rect.unit (s := S256x256) off ![256, 128] inb).toLoadRect (h.unread x) (ix2 a l) = x (ix2 a (lane p l)) :=
  ld_whole h x inb _ _ heq (fun d => by fin_cases d <;> simp [ix2, lane])

theorem ld_tri {arg : Memref sig .tc .vmem S512x256 .bf16} (h : arg.IsWhole) (x : Vec Ideal S512x256 .bf16)
    (inb : ∀ a, (![0, 0] : Fin 2 → ℕ) a + (![512, 256] : Fin 2 → ℕ) a ≤ S512x256.size a) (a : Fin 512) (l : Fin 256) :
    k0_pay5 (F := Ideal) (arg.view.readAt (Elt Ideal) (Rect.unit (s := S512x256) ![0, 0] ![512, 256] inb).toLoadRect (h.unread x)) (ix2 a l) = x (ix2 a l) := by
  pointwise [k0_pay5]
  exact ld_whole h x inb _ _ rfl (fun d => by fin_cases d <;> simp [ix2])

/-- An array stored whole where a condition holds. -/
theorem read_base {arg : Memref sig .tc .vmem S4096x256 .f32} (h : arg.IsWhole) (x : Vec Ideal S4096x256 .f32) {p : Prop} [Decidable p] {n : ℕ} (hp : p ↔ n = 0) {inb}
    (z : (Rect.unit (s := S4096x256) ![0, 0] S4096x256.size inb).shape.Idx → Elt Ideal .f32) (hz : ∀ t l, z (ix2 t l) = (0 : EReal)) (f : ℕ → ℝ) (t : Fin 4096) (l : Fin 256)
    (hx : n ≠ 0 → x (ix2 t l) = ((head f n : ℝ) : EReal)) :
    arg.view.read (Elt Ideal) (if _ : p then arg.view.writes (Elt Ideal) (h.unread x) [⟨Rect.unit ![0, 0] S4096x256.size inb, z⟩] else h.unread x) (ix2 t l) = ((head f n : ℝ) : EReal) := by
  by_cases hn : n = 0
  · rw [dif_pos (hp.mpr hn), View.read_writes_cons_unit_of_mem arg.view _ inb z [] _ (ix2 t l) rfl (fun d => by fin_cases d <;> simp [ix2]), hz, hn]
    simp [head]
  · rw [dif_neg (fun h => hn (hp.mp h)), h.read_unread]
    exact hx hn

theorem first_iff : ∀ i : grid0.Coords, point.sl.v2 i = 1#1 ↔ (i 1).val = 0 := by decide +kernel
theorem off1_eq : ∀ i : grid0.Coords, k0_off1 i = ![256 * (i 1).val, 128 * (0 : Fin 2).val] := by decide +kernel
theorem off2_eq : ∀ i : grid0.Coords, k0_off2 i = ![256 * (i 1).val, 128 * (1 : Fin 2).val] := by decide +kernel

/-- A point of the grid, and its row block; -/
abbrev pt (t : Fin (cfg0 (F := Ideal)).N) := grid0.coords t
abbrev blk (t : Fin (cfg0 (F := Ideal)).N) : ℕ := (pt t 1).val

section
variable (m : (ℓ : Loc nD τ sig) → Buf (Elt Ideal) ℓ) (c : Dev nD) (t : Fin (cfg0 (F := Ideal)).N) (x7 : Vec Ideal S256x256 .bf16) (b : Carried Ideal) {x : Fin 4 → Data} {O : ℕ → Fin 2 → Fin 128 → ℝ}
  (hg : Given x O (blk t) (iblk m c 0 t) (iblk m c 1 t) (iblk m c 2 t) (iblk m c 3 t) (iblk m c 4 t) (iblk m c 5 t) (iblk m c 6 t))
include hg

set_option maxHeartbeats 1000000 in
/-- The rows the loop is called with. -/
theorem rows : Rows x (blk t) (pointAt m c t x7 b).1 where
  at_i := rfl
  q0 := lo_is fun a l => by rw [own_lo l (h := 0) rfl, ← hg.q 0 a l]; exact if_congr Iff.rfl (ld_half _ _ (p := 0) rfl _ a l) rfl
  q1 := hi_is fun a l => by rw [own_hi l (h := 1) rfl, ← hg.q 1 a l]; exact if_congr Iff.rfl (ld_half _ _ (p := 0) rfl _ a l) rfl
  q2 := lo2_is fun a l => by rw [own_lo l (h := 2) rfl, ← hg.q 2 a l]; exact if_congr Iff.rfl (ld_half _ _ (p := 1) rfl _ a l) rfl
  q3 := hi2_is fun a l => by rw [own_hi l (h := 3) rfl, ← hg.q 3 a l]; exact if_congr Iff.rfl (ld_half _ _ (p := 1) rfl _ a l) rfl
  d0 := lo3_is fun a l => by rw [own_lo l (h := 0) rfl, ← hg.d 0 a l]; exact if_congr Iff.rfl (ld_half _ _ (p := 0) rfl _ a l) rfl
  d1 := hi3_is fun a l => by rw [own_hi l (h := 1) rfl, ← hg.d 1 a l]; exact if_congr Iff.rfl (ld_half _ _ (p := 0) rfl _ a l) rfl
  d2 := lo4_is fun a l => by rw [own_lo l (h := 2) rfl, ← hg.d 2 a l]; exact if_congr Iff.rfl (ld_half _ _ (p := 1) rfl _ a l) rfl
  d3 := hi4_is fun a l => by rw [own_hi l (h := 3) rfl, ← hg.d 3 a l]; exact if_congr Iff.rfl (ld_half _ _ (p := 1) rfl _ a l) rfl
  ms := ⟨fun a l => (ld_tri _ _ _ _ l).trans (hg.ms.1 a l), fun a l => (ld_tri _ _ _ _ l).trans (hg.ms.2 a l)⟩
  mi := ⟨fun a l => (ld_tri _ _ _ _ l).trans (hg.mi.1 a l), fun a l => (ld_tri _ _ _ _ l).trans (hg.mi.2 a l)⟩
  δ0 := fun a => (dlo_is (fun a l => by rw [own_lo l (h := 0) rfl, ← hg.d 0 a l]; exact if_congr Iff.rfl (ld_half _ _ (p := 0) rfl _ a l) rfl)
    (fun a l => (ld_half _ _ (p := 0) rfl _ a l).trans (hg.o a 0 l)) a).trans (congrArg Real.toEReal (hg.δ 0 a))
  δ1 := fun a => (dhi_is (fun a l => by rw [own_hi l (h := 1) rfl, ← hg.d 1 a l]; exact if_congr Iff.rfl (ld_half _ _ (p := 0) rfl _ a l) rfl)
    (fun a l => (ld_half _ _ (p := 0) rfl _ a l).trans (hg.o a 0 l)) a).trans (congrArg Real.toEReal (hg.δ 1 a))
  δ2 := fun a => (dlo2_is (fun a l => by rw [own_lo l (h := 2) rfl, ← hg.d 2 a l]; exact if_congr Iff.rfl (ld_half _ _ (p := 1) rfl _ a l) rfl)
    (fun a l => (ld_half _ _ (p := 1) rfl _ a l).trans (hg.o a 1 l)) a).trans (congrArg Real.toEReal (hg.δ 2 a))
  δ3 := fun a => (dhi2_is (fun a l => by rw [own_hi l (h := 3) rfl, ← hg.d 3 a l]; exact if_congr Iff.rfl (ld_half _ _ (p := 1) rfl _ a l) rfl)
    (fun a l => (ld_half _ _ (p := 1) rfl _ a l).trans (hg.o a 1 l)) a).trans (congrArg Real.toEReal (hg.δ 3 a))

end

/-! ## The diagonal block -/

section
variable {n : ℕ} {arg : Memref sig .tc .vmem (⟨3, ![4, 256, n]⟩ : Shape) .f32} {i0 i1 i2 i3 iz} {u : EReal}
  (w0 : (Rect.unit (s := ⟨3, ![4, 256, n]⟩) ![0, 0, 0] ![1, 256, n] i0).shape.Idx → Elt Ideal .f32) (w1 : (Rect.unit (s := ⟨3, ![4, 256, n]⟩) ![1, 0, 0] ![1, 256, n] i1).shape.Idx → Elt Ideal .f32)
  (w2 : (Rect.unit (s := ⟨3, ![4, 256, n]⟩) ![2, 0, 0] ![1, 256, n] i2).shape.Idx → Elt Ideal .f32)
  {z : (Rect.unit (s := ⟨3, ![4, 256, n]⟩) ![0, 0, 0] ![4, 256, n] iz).shape.Idx → Elt Ideal .f32} (hz : ∀ h a l, z (ix3 h a l) = u) (a : Fin 256) (l : Fin n)
include hz
/-- A head's rows, when only the heads before were stored since the buffer was filled. -/
theorem fresh0 : arg.view.readCov ([⟨Rect.unit ![0, 0, 0] ![4, 256, n] iz, z⟩]) (Rect.unit (s := ⟨3, ![4, 256, n]⟩) ![0, 0, 0] ![1, 256, n] i0).toLoadRect (ix3 0 a l) = u := (old_head _ 0 _ a l).trans (read_fill _ _ hz 0 a l)
theorem fresh1 : arg.view.readCov (⟨Rect.unit ![0, 0, 0] ![1, 256, n] i0, w0⟩ :: [⟨Rect.unit ![0, 0, 0] ![4, 256, n] iz, z⟩]) (Rect.unit (s := ⟨3, ![4, 256, n]⟩) ![1, 0, 0] ![1, 256, n] i1).toLoadRect (ix3 0 a l) = u := (old_head _ 1 _ a l).trans ((read_other _ w0 1 (by decide) a l).trans (read_fill _ _ hz 1 a l))
theorem fresh2 : arg.view.readCov (⟨Rect.unit ![1, 0, 0] ![1, 256, n] i1, w1⟩ :: ⟨Rect.unit ![0, 0, 0] ![1, 256, n] i0, w0⟩ :: [⟨Rect.unit ![0, 0, 0] ![4, 256, n] iz, z⟩]) (Rect.unit (s := ⟨3, ![4, 256, n]⟩) ![2, 0, 0] ![1, 256, n] i2).toLoadRect (ix3 0 a l) = u := (old_head _ 2 _ a l).trans ((read_other _ w1 2 (by decide) a l).trans ((read_other _ w0 2 (by decide) a l).trans (read_fill _ _ hz 2 a l)))
theorem fresh3 : arg.view.readCov (⟨Rect.unit ![2, 0, 0] ![1, 256, n] i2, w2⟩ :: ⟨Rect.unit ![1, 0, 0] ![1, 256, n] i1, w1⟩ :: ⟨Rect.unit ![0, 0, 0] ![1, 256, n] i0, w0⟩ :: [⟨Rect.unit ![0, 0, 0] ![4, 256, n] iz, z⟩]) (Rect.unit (s := ⟨3, ![4, 256, n]⟩) ![3, 0, 0] ![1, 256, n] i3).toLoadRect (ix3 0 a l) = u := (old_head _ 3 _ a l).trans ((read_other _ w2 3 (by decide) a l).trans ((read_other _ w1 3 (by decide) a l).trans ((read_other _ w0 3 (by decide) a l).trans (read_fill _ _ hz 3 a l))))
end

section
variable (m : (ℓ : Loc nD τ sig) → Buf (Elt Ideal) ℓ) (c : Dev nD) (t : Fin (cfg0 (F := Ideal)).N) (x7 : Vec Ideal S256x256 .bf16) (b : Carried Ideal) {x : Fin 4 → Data} {O : ℕ → Fin 2 → Fin 128 → ℝ}
  (hg : Given x O (blk t) (iblk m c 0 t) (iblk m c 1 t) (iblk m c 2 t) (iblk m c 3 t) (iblk m c 4 t) (iblk m c 5 t) (iblk m c 6 t))

/-- The windows' buffers are whole. -/
abbrev in0 := hstage0_0 ((cfg0.slots t 0).cast nbuf0_0)
abbrev in1 := hstage0_1 ((cfg0.slots t 1).cast nbuf0_1)
abbrev in2 := hstage0_2 ((cfg0.slots t 2).cast nbuf0_2)
abbrev in3 := hstage0_3 ((cfg0.slots t 3).cast nbuf0_3)
abbrev in4 := hstage0_4 ((cfg0.slots t 4).cast nbuf0_4)
abbrev in5 := hstage0_5 ((cfg0.slots t 5).cast nbuf0_5)
abbrev in6 := hstage0_6 ((cfg0.slots t 6).cast nbuf0_6)
abbrev in8 := hstage0_8 ((cfg0.slots t 8).cast nbuf0_8)
abbrev in9 := hstage0_9 ((cfg0.slots t 9).cast nbuf0_9)
/-- The scratch buffers. -/
abbrev scr0 := Memref.whole (sig := sig) cc0_scratch0
abbrev scr1 := Memref.whole (sig := sig) cc0_scratch1
abbrev scr2 := Memref.whole (sig := sig) cc0_scratch2

/-- The running sums a head's step finds, -/
abbrev cs0 : FVec Ideal S1x256x1 .f32 := point.sl.v182 (F := Ideal) c scr0
abbrev cs1 : FVec Ideal S1x256x1 .f32 := point.sl.v201 c (pt t) (st0_0 t) (in0 t) (st0_1 t) (in1 t) scr0 (iblk m c 0 t) (iblk m c 1 t)
abbrev cs2 : FVec Ideal S1x256x1 .f32 := point.sl.v220 c (pt t) (st0_0 t) (in0 t) (st0_1 t) (in1 t) scr0 (iblk m c 0 t) (iblk m c 1 t)
abbrev cs3 : FVec Ideal S1x256x1 .f32 := point.sl.v239 c (pt t) (st0_0 t) (in0 t) (st0_1 t) (in1 t) scr0 (iblk m c 0 t) (iblk m c 1 t)
/-- those of the gradient, -/
abbrev rs0 : FVec Ideal S1x256x1 .f32 := point.sl.v294 (F := Ideal) c scr1
abbrev rs1 : FVec Ideal S1x256x1 .f32 := point.sl.v314 c (pt t) (st0_0 t) (in0 t) (st0_1 t) (in1 t) (st0_2 t) (in2 t) (st0_4 t) (in4 t) (st0_5 t) (in5 t) scr0 scr1 (iblk m c 0 t) (iblk m c 1 t) (iblk m c 2 t) (iblk m c 4 t) (iblk m c 5 t)
abbrev rs2 : FVec Ideal S1x256x1 .f32 := point.sl.v334 c (pt t) (st0_0 t) (in0 t) (st0_1 t) (in1 t) (st0_2 t) (in2 t) (st0_4 t) (in4 t) (st0_5 t) (in5 t) scr0 scr1 (iblk m c 0 t) (iblk m c 1 t) (iblk m c 2 t) (iblk m c 4 t) (iblk m c 5 t)
abbrev rs3 : FVec Ideal S1x256x1 .f32 := point.sl.v354 c (pt t) (st0_0 t) (in0 t) (st0_1 t) (in1 t) (st0_2 t) (in2 t) (st0_4 t) (in4 t) (st0_5 t) (in5 t) scr0 scr1 (iblk m c 0 t) (iblk m c 1 t) (iblk m c 2 t) (iblk m c 4 t) (iblk m c 5 t)
/-- and the gradient of the queries it finds. -/
abbrev as0 : FVec Ideal S1x256x128 .f32 := point.sl.v373 (F := Ideal) c scr2
abbrev as1 : FVec Ideal S1x256x128 .f32 := point.sl.v380 c (pt t) (st0_0 t) (in0 t) (st0_1 t) (in1 t) (st0_2 t) (in2 t) (st0_3 t) (in3 t) (st0_4 t) (in4 t) (st0_5 t) (in5 t) (st0_6 t) (in6 t) scr0 scr1 scr2 (iblk m c 0 t) (iblk m c 1 t) (iblk m c 2 t) (iblk m c 3 t) (iblk m c 4 t) (iblk m c 5 t) (iblk m c 6 t)
abbrev as2 : FVec Ideal S1x256x128 .f32 := point.sl.v387 c (pt t) (st0_0 t) (in0 t) (st0_1 t) (in1 t) (st0_2 t) (in2 t) (st0_3 t) (in3 t) (st0_4 t) (in4 t) (st0_5 t) (in5 t) (st0_6 t) (in6 t) scr0 scr1 scr2 (iblk m c 0 t) (iblk m c 1 t) (iblk m c 2 t) (iblk m c 3 t) (iblk m c 4 t) (iblk m c 5 t) (iblk m c 6 t)
abbrev as3 : FVec Ideal S1x256x128 .f32 := point.sl.v394 c (pt t) (st0_0 t) (in0 t) (st0_1 t) (in1 t) (st0_2 t) (in2 t) (st0_3 t) (in3 t) (st0_4 t) (in4 t) (st0_5 t) (in5 t) (st0_6 t) (in6 t) scr0 scr1 scr2 (iblk m c 0 t) (iblk m c 1 t) (iblk m c 2 t) (iblk m c 3 t) (iblk m c 4 t) (iblk m c 5 t) (iblk m c 6 t)
/-- The keys and the values of the diagonal block, half by half. -/
abbrev dk0 : FVec Ideal S256x128 .bf16 := point.sl.r_17 c (pt t) (st0_1 t) (in1 t) (iblk m c 1 t)
abbrev dk1 : FVec Ideal S256x128 .bf16 := point.sl.r_18 c (pt t) (st0_1 t) (in1 t) (iblk m c 1 t)
abbrev dv0 : FVec Ideal S256x128 .bf16 := k0_pay34 (point.sl.r_19 c (pt t) (st0_2 t) (in2 t) (iblk m c 2 t))
abbrev dv1 : FVec Ideal S256x128 .bf16 := k0_pay35 (View.readAt (Elt Ideal) (st0_2 t).view (Rect.unit (s := S4096x256) (k0_off2 (pt t)) S256x128.size (k0_off2_inb (pt t))).toLoadRect ((in2 t).unread (iblk m c 2 t)))

theorem at_lt : (blk t) < 16 := row_lt _

theorem fresh_c {f : ℕ → ℕ → ℝ} (hf : ∀ {s u}, s ≤ u → f s u = 0) {w : FVec Ideal S1x256x1 .f32} (hw : ∀ a l, w (ix3 0 a l) = (0 : EReal)) : IsC w fun a => tail (f (256 * (blk t) + a.val)) ((blk t) + 1) := fun a =>
  (hw a 0).trans (congrArg Real.toEReal (tail_zero (f := f (256 * (blk t) + a.val)) (s := 256 * (blk t) + a.val) (by omega) fun u hu => hf hu).symm)
theorem fresh_a (h : Fin 4) {w : FVec Ideal S1x256x128 .f32} (hw : ∀ a l, w (ix3 0 a l) = (0 : EReal)) (a : Fin 256) (l : Fin 128) : w (ix3 0 a l) = ((tail (qAt x h (256 * (blk t) + a.val) l) ((blk t) + 1) : ℝ) : EReal) :=
  (hw a l).trans (congrArg Real.toEReal (tail_zero (f := qAt x h (256 * (blk t) + a.val) l) (s := 256 * (blk t) + a.val) (by omega) fun u hu => by unfold qAt; rw [(x h).DZ_of_le hu, zero_mul]).symm)

section
include hg
theorem dk0_is (h : Fin 4) (hh : half2 h = 0) : Is2 (dk0 m c t) fun u => (x h).K (256 * (blk t) + u.val) := tile_is fun u l =>
  (ld_tile (at_lt t) (in1 t) (iblk m c 1 t) (p := 0) (off1_eq (pt t)) _ u l).trans ((congrArg (fun p => iblk m c 1 t (ix2 (row (at_lt t) u) (lane p l))) hh.symm).trans (hg.cols.k h _ l))
theorem dv0_is (h : Fin 4) (hh : half2 h = 0) : Is2 (dv0 m c t) fun u => (x h).V (256 * (blk t) + u.val) := tile_is fun u l =>
  (ld_tile (at_lt t) (in2 t) (iblk m c 2 t) (p := 0) (off1_eq (pt t)) _ u l).trans ((congrArg (fun p => iblk m c 2 t (ix2 (row (at_lt t) u) (lane p l))) hh.symm).trans (hg.cols.v h _ l))
theorem dk1_is (h : Fin 4) (hh : half2 h = 1) : Is2 (dk1 m c t) fun u => (x h).K (256 * (blk t) + u.val) := tile_is fun u l =>
  (ld_tile (at_lt t) (in1 t) (iblk m c 1 t) (p := 1) (off2_eq (pt t)) _ u l).trans ((congrArg (fun p => iblk m c 1 t (ix2 (row (at_lt t) u) (lane p l))) hh.symm).trans (hg.cols.k h _ l))
theorem dv1_is (h : Fin 4) (hh : half2 h = 1) : Is2 (dv1 m c t) fun u => (x h).V (256 * (blk t) + u.val) := tile_is fun u l =>
  (ld_tile (at_lt t) (in2 t) (iblk m c 2 t) (p := 1) (off2_eq (pt t)) _ u l).trans ((congrArg (fun p => iblk m c 2 t (ix2 (row (at_lt t) u) (lane p l))) hh.symm).trans (hg.cols.v h _ l))
end

/-- The first head's rows once all the heads were stored. -/
theorem again0 {n : ℕ} {arg : Memref sig .tc .vmem (⟨3, ![4, 256, n]⟩ : Shape) .f32} {i0 i1 i2 i3} {L : List (View.Piece (Elt Ideal) (⟨3, ![4, 256, n]⟩ : Shape) .f32)}
    (w0 : (Rect.unit (s := ⟨3, ![4, 256, n]⟩) ![0, 0, 0] ![1, 256, n] i0).shape.Idx → Elt Ideal .f32) (w1 : (Rect.unit (s := ⟨3, ![4, 256, n]⟩) ![1, 0, 0] ![1, 256, n] i1).shape.Idx → Elt Ideal .f32)
    (w2 : (Rect.unit (s := ⟨3, ![4, 256, n]⟩) ![2, 0, 0] ![1, 256, n] i2).shape.Idx → Elt Ideal .f32) (w3 : (Rect.unit (s := ⟨3, ![4, 256, n]⟩) ![3, 0, 0] ![1, 256, n] i3).shape.Idx → Elt Ideal .f32)
    (g : Fin 256 → Fin n → EReal) (h0 : ∀ a l, w0 (ix3 0 a l) = g a l) (a : Fin 256) (l : Fin n) :
    arg.view.readCov (⟨Rect.unit ![3, 0, 0] ![1, 256, n] i3, w3⟩ :: ⟨Rect.unit ![2, 0, 0] ![1, 256, n] i2, w2⟩ :: ⟨Rect.unit ![1, 0, 0] ![1, 256, n] i1, w1⟩ :: ⟨Rect.unit ![0, 0, 0] ![1, 256, n] i0, w0⟩ :: L) (Rect.unit (s := ⟨3, ![4, 256, n]⟩) ![0, 0, 0] ![1, 256, n] i0).toLoadRect (ix3 0 a l) = g a l :=
  (old_head _ 0 _ a l).trans ((read_other _ w3 0 (by decide) a l).trans ((read_other _ w2 0 (by decide) a l).trans ((read_other _ w1 0 (by decide) a l).trans
    ((View.read_writes_cons_unit_of_mem arg.view _ i0 w0 _ _ (ix3 0 a l) rfl (fun d => by fin_cases d <;> simp [ix3])).trans (h0 a l)))))

theorem k_out {x : Fin 4 → Data} {n u : ℕ} {p : Fin 2} {l : Fin 128} (hu : u < 256 * n ∨ 256 * n + 256 ≤ u) : head (kAt x p u l) n = head (kAt x p u l) (if 256 * n ≤ u then n + 1 else n) := by
  split_ifs with h
  · rw [← head_step, Finset.sum_eq_zero, add_zero]
    intro a _
    unfold kAt
    rw [(x (fst p)).DZ_of_le (by omega), (x (snd p)).DZ_of_le (by omega), zero_mul, zero_mul, add_zero]
  · rfl
theorem v_out {x : Fin 4 → Data} {n u : ℕ} {p : Fin 2} {l : Fin 128} (hu : u < 256 * n ∨ 256 * n + 256 ≤ u) : head (vAt x p u l) n = head (vAt x p u l) (if 256 * n ≤ u then n + 1 else n) := by
  split_ifs with h
  · rw [← head_step, Finset.sum_eq_zero, add_zero]
    intro a _
    unfold vAt
    rw [(x (fst p)).A_of_le (by omega), (x (snd p)).A_of_le (by omega), zero_mul, zero_mul, add_zero]
  · rfl

section
/-- A head's step on the diagonal block, the record's rows being `q`, `d` and `δ`. -/
abbrev Diag (x : Fin 4 → Data) (h : Fin 4) (q d k v : FVec Ideal S256x128 .bf16) (δ : FVec Ideal S256x1 .f32) (w r : FVec Ideal S1x256x1 .f32) : Prop :=
  Stepped (x h) (blk t) (blk t) (dA q k (pointAt m c t x7 b).1.v4 w) (dDZ q d k v (pointAt m c t x7 b).1.v4 (pointAt m c t x7 b).1.v6 δ w r) (dC q k w) (dR q d k v (pointAt m c t x7 b).1.v4 w r)

include hg
theorem diag0 : Diag m c t x7 b x 0 (pointAt m c t x7 b).1.v17 (pointAt m c t x7 b).1.v19 (dk0 m c t) (dv0 m c t) (pointAt m c t x7 b).1.v24 (cs0 c) (rs0 c) :=
  stepped_diag (at_lt t) (rows m c t x7 b hg).q0 (rows m c t x7 b hg).d0 (dk0_is m c t hg 0 rfl) (dv0_is m c t hg 0 rfl) (rows m c t x7 b hg).ms (rows m c t x7 b hg).mi (rows m c t x7 b hg).δ0 (fresh_c t (x 0).N_of_le (fresh0 zc)) (fresh_c t (x 0).G_of_le (fresh0 zr')) rfl
theorem diag1 : Diag m c t x7 b x 1 (pointAt m c t x7 b).1.v18 (pointAt m c t x7 b).1.v20 (dk0 m c t) (dv0 m c t) (pointAt m c t x7 b).1.v28 (cs1 m c t) (rs1 m c t) :=
  stepped_diag (at_lt t) (rows m c t x7 b hg).q1 (rows m c t x7 b hg).d1 (dk0_is m c t hg 1 rfl) (dv0_is m c t hg 1 rfl) (rows m c t x7 b hg).ms (rows m c t x7 b hg).mi (rows m c t x7 b hg).δ1 (fresh_c t (x 1).N_of_le (fresh1 _ zc)) (fresh_c t (x 1).G_of_le (fresh1 _ zr')) rfl
theorem diag2 : Diag m c t x7 b x 2 (pointAt m c t x7 b).1.v36 (pointAt m c t x7 b).1.v38 (dk1 m c t) (dv1 m c t) (pointAt m c t x7 b).1.v43 (cs2 m c t) (rs2 m c t) :=
  stepped_diag (at_lt t) (rows m c t x7 b hg).q2 (rows m c t x7 b hg).d2 (dk1_is m c t hg 2 rfl) (dv1_is m c t hg 2 rfl) (rows m c t x7 b hg).ms (rows m c t x7 b hg).mi (rows m c t x7 b hg).δ2 (fresh_c t (x 2).N_of_le (fresh2 _ _ zc)) (fresh_c t (x 2).G_of_le (fresh2 _ _ zr')) rfl
theorem diag3 : Diag m c t x7 b x 3 (pointAt m c t x7 b).1.v37 (pointAt m c t x7 b).1.v39 (dk1 m c t) (dv1 m c t) (pointAt m c t x7 b).1.v47 (cs3 m c t) (rs3 m c t) :=
  stepped_diag (at_lt t) (rows m c t x7 b hg).q3 (rows m c t x7 b hg).d3 (dk1_is m c t hg 3 rfl) (dv1_is m c t hg 3 rfl) (rows m c t x7 b hg).ms (rows m c t x7 b hg).mi (rows m c t x7 b hg).δ3 (fresh_c t (x 3).N_of_le (fresh3 _ _ _ zc)) (fresh_c t (x 3).G_of_le (fresh3 _ _ _ zr')) rfl

/-- What the loop finds. -/
abbrev found (m : (ℓ : Loc nD τ sig) → Buf (Elt Ideal) ℓ) (c : Dev nD) (t : Fin (cfg0 (F := Ideal)).N) (x7 : Vec Ideal S256x256 .bf16) (b : Carried Ideal) : Carried Ideal :=
  ⟨(pointAt m c t x7 b).2.1, (pointAt m c t x7 b).2.2.1, (pointAt m c t x7 b).2.2.2.1, (pointAt m c t x7 b).2.2.2.2.1, (pointAt m c t x7 b).2.2.2.2.2.1⟩

set_option maxHeartbeats 2000000 in
theorem found_c (h : Fin 4) (a : Fin 256) (l : Fin 1) : (found m c t x7 b).gc (ix3 h a l) = ((tail ((x h).N (256 * (blk t) + a.val)) (blk t) : ℝ) : EReal) :=
  read_heads (arg := scr0) _ (fun h a _ => ((tail ((x h).N (256 * (blk t) + a.val)) (blk t) : ℝ) : EReal)) _ _ _ _
    (diag0 m c t x7 b hg).c.all (diag1 m c t x7 b hg).c.all (diag2 m c t x7 b hg).c.all (diag3 m c t x7 b hg).c.all h a l
set_option maxHeartbeats 2000000 in
theorem found_r (h : Fin 4) (a : Fin 256) (l : Fin 1) : (found m c t x7 b).gr (ix3 h a l) = ((tail ((x h).G (256 * (blk t) + a.val)) (blk t) : ℝ) : EReal) :=
  read_heads (arg := scr1) _ (fun h a _ => ((tail ((x h).G (256 * (blk t) + a.val)) (blk t) : ℝ) : EReal)) _ _ _ _
    (diag0 m c t x7 b hg).r.all (diag1 m c t x7 b hg).r.all (diag2 m c t x7 b hg).r.all (diag3 m c t x7 b hg).r.all h a l
set_option maxHeartbeats 2000000 in
theorem found_a (h : Fin 4) (a : Fin 256) (l : Fin 128) : (found m c t x7 b).ga (ix3 h a l) = ((tail (qAt x h (256 * (blk t) + a.val) l) (blk t) : ℝ) : EReal) :=
  read_heads (arg := scr2) _ (fun h a l => ((tail (qAt x h (256 * (blk t) + a.val) l) (blk t) : ℝ) : EReal)) _ _ _ _
    (acc_step (at_lt t) (diag0 m c t x7 b hg) (dk0_is m c t hg 0 rfl) (w := as0 c) (fresh_a t 0 (fresh0 za)))
    (acc_step (at_lt t) (diag1 m c t x7 b hg) (dk0_is m c t hg 1 rfl) (w := as1 m c t) (fresh_a t 1 (fresh1 _ za)))
    (acc_step (at_lt t) (diag2 m c t x7 b hg) (dk1_is m c t hg 2 rfl) (w := as2 m c t) (fresh_a t 2 (fresh2 _ _ za)))
    (acc_step (at_lt t) (diag3 m c t x7 b hg) (dk1_is m c t hg 3 rfl) (w := as3 m c t) (fresh_a t 3 (fresh3 _ _ _ za))) h a l

set_option maxHeartbeats 2000000 in
theorem found_k (hb : Before x (blk t) b) (u : Fin 4096) (p : Fin 2) (l : Fin 128) : (found m c t x7 b).gk (ix2 u (lane p l)) = ((head (kAt x p u.val l) (if 256 * (blk t) ≤ u.val then (blk t) + 1 else (blk t)) : ℝ) : EReal) :=
  read_tiles (arg := st0_8 t) (b := (blk t)) (at_lt t) (off1_eq (pt t)) (off2_eq (pt t)) _
    (fun u p l => ((head (kAt x p u.val l) (if 256 * (blk t) ≤ u.val then (blk t) + 1 else (blk t)) : ℝ) : EReal)) _ _
    (fun u p l hu => (read_base (in8 t) b.gk (first_iff (pt t)) _ zk _ _ _ fun hn => hb.k _ _ _ hn).trans (congrArg Real.toEReal (k_out (n := (blk t)) hu)))
    (k_step (p := 0) (at_lt t) (rows m c t x7 b hg).q0 (rows m c t x7 b hg).q1 (diag0 m c t x7 b hg) (diag1 m c t x7 b hg) fun a l => (ld_unit _ _ _ (ix2 (row (at_lt t) a) (lane 0 l)) (off1_eq (pt t)) (by intro d; fin_cases d <;> simp [ix2, row, lane])).trans
      ((read_base (in8 t) b.gk (first_iff (pt t)) _ zk _ _ _ fun hn => hb.k _ _ _ hn).trans (congrArg Real.toEReal (congrArg _ (if_neg (by show ¬ 256 * ((blk t) + 1) ≤ 256 * (blk t) + a.val; omega)).symm))))
    (k_step (p := 1) (at_lt t) (rows m c t x7 b hg).q2 (rows m c t x7 b hg).q3 (diag2 m c t x7 b hg) (diag3 m c t x7 b hg) fun a l => (ld_unit _ _ _ (ix2 (row (at_lt t) a) (lane 1 l)) (off2_eq (pt t)) (by intro d; fin_cases d <;> simp [ix2, row, lane])).trans
      ((read_base (in8 t) b.gk (first_iff (pt t)) _ zk _ _ _ fun hn => hb.k _ _ _ hn).trans (congrArg Real.toEReal (congrArg _ (if_neg (by show ¬ 256 * ((blk t) + 1) ≤ 256 * (blk t) + a.val; omega)).symm)))) u p l

set_option maxHeartbeats 2000000 in
theorem found_v (hb : Before x (blk t) b) (u : Fin 4096) (p : Fin 2) (l : Fin 128) : (found m c t x7 b).gv (ix2 u (lane p l)) = ((head (vAt x p u.val l) (if 256 * (blk t) ≤ u.val then (blk t) + 1 else (blk t)) : ℝ) : EReal) :=
  read_tiles (arg := st0_9 t) (b := (blk t)) (at_lt t) (off1_eq (pt t)) (off2_eq (pt t)) _
    (fun u p l => ((head (vAt x p u.val l) (if 256 * (blk t) ≤ u.val then (blk t) + 1 else (blk t)) : ℝ) : EReal)) _ _
    (fun u p l hu => (read_base (in9 t) b.gv (first_iff (pt t)) _ zv _ _ _ fun hn => hb.v _ _ _ hn).trans (congrArg Real.toEReal (v_out (n := (blk t)) hu)))
    (v_step (p := 0) (at_lt t) (rows m c t x7 b hg).d0 (rows m c t x7 b hg).d1 (diag0 m c t x7 b hg) (diag1 m c t x7 b hg) fun a l => (ld_unit _ _ _ (ix2 (row (at_lt t) a) (lane 0 l)) (off1_eq (pt t)) (by intro d; fin_cases d <;> simp [ix2, row, lane])).trans
      ((read_base (in9 t) b.gv (first_iff (pt t)) _ zv _ _ _ fun hn => hb.v _ _ _ hn).trans (congrArg Real.toEReal (congrArg _ (if_neg (by show ¬ 256 * ((blk t) + 1) ≤ 256 * (blk t) + a.val; omega)).symm))))
    (v_step (p := 1) (at_lt t) (rows m c t x7 b hg).d2 (rows m c t x7 b hg).d3 (diag2 m c t x7 b hg) (diag3 m c t x7 b hg) fun a l => (ld_unit _ _ _ (ix2 (row (at_lt t) a) (lane 1 l)) (off2_eq (pt t)) (by intro d; fin_cases d <;> simp [ix2, row, lane])).trans
      ((read_base (in9 t) b.gv (first_iff (pt t)) _ zv _ _ _ fun hn => hb.v _ _ _ hn).trans (congrArg Real.toEReal (congrArg _ (if_neg (by show ¬ 256 * ((blk t) + 1) ≤ 256 * (blk t) + a.val; omega)).symm)))) u p l

set_option maxHeartbeats 2000000 in
theorem found_lt : (pointAt m c t x7 b).1.arg16 < (⊤ : EReal) :=
  least4_lt (f := fun a => tail ((x 0).N (256 * (blk t) + a.val)) (blk t)) fun a => again0 _ _ _ _ (fun a _ => ((tail ((x 0).N (256 * (blk t) + a.val)) (blk t) : ℝ) : EReal)) (diag0 m c t x7 b hg).c.all a 0

/-- The loop is entered with the diagonal block done. -/
theorem entered (hb : Before x (blk t) b) : Inv x (blk t) (pointAt m c t x7 b).1 (found m c t x7 b) :=
  ⟨0, rfl, Nat.zero_le _, rows m c t x7 b hg, ⟨found_c m c t x7 b hg, found_r m c t x7 b hg, found_a m c t x7 b hg, found_k m c t x7 b hg hb, found_v m c t x7 b hg hb⟩, found_lt m c t x7 b hg⟩
end

end

end Cert.Kernel2Ideal.Sba
-- ==== Proof.Sba.OutVal.lean ====
/- What the kernel's body makes of its running gradient of the queries, and what a point leaves in every buffer. -/
module

public import proofs.«01_k».proof.Proof.Sba.PointVal

@[expose] public section

set_option maxRecDepth 16384

noncomputable section

namespace Cert.Kernel2Ideal.Sba

open Cert.Reals Cert.Stick Idealize.ShloMosaic Idealize.ShloMosaic.TcCoe
open Cert.Kernel2Ideal.Gen

/-- The scores' scale. -/
theorem eighth : FloatOps.ofBits (F := Ideal) (φ := .f32) 0x3E000000#32 = (((1 / 8 : ℝ)) : EReal) := by
  show Ideal.ofBits .f32 0x3E000000#32 = _
  simp [Ideal.ofBits, Ideal.ieee, -EReal.coe_mul]; norm_num

/-- Both heads of a half, scaled. -/
theorem scaled_is {u v : FVec Ideal S1x256x128 .f32} {f g : Fin 256 → Fin 128 → ℝ} (hu : ∀ a l, u (ix3 0 a l) = ((f a l : ℝ) : EReal)) (hv : ∀ a l, v (ix3 0 a l) = ((g a l : ℝ) : EReal)) (a : Fin 256) (l : Fin 128) :
    k0_pay99 (F := Ideal) k0_pay7 u v (ix2 a l) = (((if l.val < 64 then f a l else g a l) * (1 / 8) : ℝ) : EReal) := by
  pointwise [k0_pay99, k0_pay7]
  simp only [sel_half, hu, hv]
  have e : Ideal.ofBits .f32 0x3E000000#32 = (((1 / 8 : ℝ)) : EReal) := eighth
  rw [e]
  split_ifs <;> exact (EReal.coe_mul _ _).symm

/-- A block stored half by half. -/
theorem read_halves {arg : Memref sig .tc .vmem S256x256 .bf16} (f : arg.view.ty.Contents (Elt Ideal)) (g : Fin 256 → Fin 2 → Fin 128 → EReal) {i0 i1}
    (w0 : (Rect.unit (s := S256x256) ![0, 0] ![256, 128] i0).shape.Idx → Elt Ideal .bf16) (w1 : (Rect.unit (s := S256x256) ![0, 128] ![256, 128] i1).shape.Idx → Elt Ideal .bf16)
    (h0 : ∀ a l, w0 (ix2 a l) = g a 0 l) (h1 : ∀ a l, w1 (ix2 a l) = g a 1 l) (a : Fin 256) (p : Fin 2) (l : Fin 128) :
    arg.view.read (Elt Ideal) (arg.view.writes (Elt Ideal) f [⟨Rect.unit ![0, 128] ![256, 128] i1, w1⟩, ⟨Rect.unit ![0, 0] ![256, 128] i0, w0⟩]) (ix2 a (lane p l)) = g a p l := by
  fin_cases p
  · rw [View.read_writes_cons_unit_of_not_mem arg.view f i1 w1 _ _ rfl (1 : Fin 2) (Or.inl (by
        show (lane 0 l).val < 128
        simp [lane])),
      View.read_writes_cons_unit_of_mem arg.view f i0 w0 _ _ (ix2 a l) rfl (fun d => by fin_cases d <;> simp [ix2, lane])]
    exact h0 a l
  · rw [View.read_writes_cons_unit_of_mem arg.view f i1 w1 _ _ (ix2 a l) rfl (fun d => by fin_cases d <;> simp [ix2, lane])]
    exact h1 a l

/-- The gradient of the queries: the two heads of a half, each on its lanes. -/
def qOf (x : Fin 4 → Data) (s : ℕ) (p : Fin 2) (l : Fin 128) : ℝ := (if l.val < 64 then tail (qAt x (fst p) s l) 0 else tail (qAt x (snd p) s l) 0) * (1 / 8)

section
variable (m : (ℓ : Loc nD τ sig) → Buf (Elt Ideal) ℓ) (c : Dev nD) (t : Fin (cfg0 (F := Ideal)).N) (x7 : Vec Ideal S256x256 .bf16) (b : Carried Ideal) {x : Fin 4 → Data} {n : ℕ}
  {s : Carried Ideal} (hs : Held x n 0 s)
include hs

set_option maxHeartbeats 1000000 in
theorem out_is (a : Fin 256) (p : Fin 2) (l : Fin 128) : (pointAt m c t x7 b).2.2.2.2.2.2.1 s (ix2 a (lane p l)) = ((qOf x (256 * n + a.val) p l : ℝ) : EReal) :=
  read_halves (arg := st0_7 t) _ (fun a p l => ((qOf x (256 * n + a.val) p l : ℝ) : EReal)) _ _
    (scaled_is (fun a l => (ld_head (Memref.isWhole_whole cc0_scratch2) s.ga (k := 0) (by omega) rfl inb_S4x256x128_S1x256x128_0_0_0 a l).trans (hs.a 0 a l))
      (fun a l => (ld_head (Memref.isWhole_whole cc0_scratch2) s.ga (k := 1) (by omega) rfl inb_S4x256x128_S1x256x128_1_0_0 a l).trans (hs.a 1 a l)))
    (scaled_is (fun a l => (ld_head (Memref.isWhole_whole cc0_scratch2) s.ga (k := 2) (by omega) rfl inb_S4x256x128_S1x256x128_2_0_0 a l).trans (hs.a 2 a l))
      (fun a l => (ld_head (Memref.isWhole_whole cc0_scratch2) s.ga (k := 3) (by omega) rfl inb_S4x256x128_S1x256x128_3_0_0 a l).trans (hs.a 3 a l))) a p l
end

/-- An array given by row, half of the lanes and lane. -/
def spread {n : ℕ} (f : ℕ → Fin 2 → Fin 128 → ℝ) : (⟨2, ![n, 256]⟩ : Shape).Idx → EReal := fun y =>
  ((f (y 0).val ⟨(y 1).val / 128, by have h : (y 1).val < 256 := (y 1).isLt; omega⟩ ⟨(y 1).val % 128, Nat.mod_lt _ (by norm_num)⟩ : ℝ) : EReal)

theorem spread_at {n : ℕ} (f : ℕ → Fin 2 → Fin 128 → ℝ) (a : Fin n) (p : Fin 2) (l : Fin 128) : spread (n := n) f (ix2 a (lane p l)) = ((f a.val p l : ℝ) : EReal) := by
  have h1 : (⟨(lane p l).val / 128, by have := (lane p l).isLt; omega⟩ : Fin 2) = p := Fin.ext (by simp only [lane]; omega)
  have h2 : (⟨(lane p l).val % 128, Nat.mod_lt _ (by norm_num)⟩ : Fin 128) = l := Fin.ext (by simp only [lane]; omega)
  exact congrArg Real.toEReal (congrArg₂ (f a.val) h1 h2)

theorem lane_cut (y : Fin 256) : y = lane ⟨y.val / 128, by omega⟩ ⟨y.val % 128, Nat.mod_lt _ (by norm_num)⟩ := Fin.ext (by simp only [lane]; omega)

theorem eq_spread {n : ℕ} {v : (⟨2, ![n, 256]⟩ : Shape).Idx → EReal} {f : ℕ → Fin 2 → Fin 128 → ℝ} (h : ∀ (a : Fin n) p l, v (ix2 a (lane p l)) = ((f a.val p l : ℝ) : EReal)) : v = spread f := by
  funext y
  have e : y = ix2 (y 0) (lane ⟨(y 1).val / 128, by have h : (y 1).val < 256 := (y 1).isLt; omega⟩ ⟨(y 1).val % 128, Nat.mod_lt _ (by norm_num)⟩) := by
    refine funext fun d => ?_
    fin_cases d
    · rfl
    · exact lane_cut (y 1)
  exact (congrArg v e).trans ((h _ _ _).trans ((spread_at f _ _ _).symm.trans (congrArg (spread f) e.symm)))

end Cert.Kernel2Ideal.Sba
-- ==== Proof.Sba.Exact.lean ====
/- The run of the kernel's call over the real numbers: what every point leaves in the outputs, and the launch. -/
module

public import proofs.«01_k».proof.Proof.Sba.OutVal

@[expose] public section

set_option maxRecDepth 16384

noncomputable section

namespace Cert.Kernel2Ideal.Sba

open Cert.Reals Cert.Stick Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)
open Cert.Kernel2Ideal.Gen

local notation "𝕄" => MT nD τ sig Unit (Elt Ideal) ℕ (UR sig nD τ) ℕ

variable (m : (ℓ : Loc nD τ sig) → Buf (Elt Ideal) ℓ) (ρ : Dev nD → PrngReg) (X : Dev nD → Fin 4 → Fin 4 → Data) (O : Dev nD → Fin 4 → ℕ → Fin 2 → Fin 128 → ℝ)

/-- The group of heads of a point. -/
abbrev grp (t : Fin (cfg0 (F := Ideal)).N) : Fin 4 := grid0.coords t 0

/-- What the outputs hold after a point: the rows' gradient of the queries, and the gradients of the keys and the values
    that the rows up to there make. -/
def qAfter (c : Dev nD) (t : Fin (cfg0 (F := Ideal)).N) : Vec Ideal S256x256 .bf16 := spread fun a p l => qOf (X c (grp t)) (256 * blk t + a) p l
def kAfter (c : Dev nD) (t : Fin (cfg0 (F := Ideal)).N) : Vec Ideal S4096x256 .f32 := spread fun u p l => head (kAt (X c (grp t)) p u l) (blk t + 1)
def vAfter (c : Dev nD) (t : Fin (cfg0 (F := Ideal)).N) : Vec Ideal S4096x256 .f32 := spread fun u p l => head (vAt (X c (grp t)) p u l) (blk t + 1)

/-- The proof data of the value. -/
def vals (_ : Fin 1) (c : Dev nD) : Dat τ (Elt Ideal) Unit ℕ (UR sig nD τ) ℕ (cfg0 (F := Ideal)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => qAfter X c t
    | ⟨8, _⟩ => kAfter X c t
    | ⟨9, _⟩ => vAfter X c t
  Φ _ := Pipeline.ΦA spec0 c
  q w := Pipeline.shareOf spec0 w
  owed _ := 0

theorem valsA_eq (c : Dev nD) (w : Fin (cfg0 (F := Ideal)).W) : (vals m X 0 c).A w = V m c (Pipeline.arrRef spec0 w) := by
  dsimp only [vals]

/-- A point that is not the first of its group finds what the point before left. -/
theorem step_facts : ∀ t : Fin (cfg0 (F := Ideal)).N, (h : blk t ≠ 0) → t.val ≠ 0 ∧ ∀ h' : t.val - 1 < (cfg0 (F := Ideal)).N,
    grp ⟨t.val - 1, h'⟩ = grp t ∧ blk ⟨t.val - 1, h'⟩ + 1 = blk t ∧ ((cfg0 (F := Ideal)).win 8).flush ⟨t.val - 1, h'⟩ = false ∧ ((cfg0 (F := Ideal)).win 9).flush ⟨t.val - 1, h'⟩ = false := by
  decide +kernel

theorem before8 (c : Dev nD) (t : Fin (cfg0 (F := Ideal)).N) (h : blk t ≠ 0) (d) : (vals m X 0 c).before 8 t d = spread fun u p l => head (kAt (X c (grp t)) p u l) (blk t) := by
  obtain ⟨h0, h1⟩ := step_facts t h
  obtain ⟨e1, e2, e3, _⟩ := h1 (by have := t.isLt; omega)
  rw [(vals m X 0 c).before_of_pos 8 t h0 (((cfg0 (F := Ideal)).win 8).fetch_out rfl t) d, e3]
  show kAfter X c _ = _
  unfold kAfter
  rw [e1, e2]

theorem before9 (c : Dev nD) (t : Fin (cfg0 (F := Ideal)).N) (h : blk t ≠ 0) (d) : (vals m X 0 c).before 9 t d = spread fun u p l => head (vAt (X c (grp t)) p u l) (blk t) := by
  obtain ⟨h0, h1⟩ := step_facts t h
  obtain ⟨e1, e2, _, e3⟩ := h1 (by have := t.isLt; omega)
  rw [(vals m X 0 c).before_of_pos 9 t h0 (((cfg0 (F := Ideal)).win 9).fetch_out rfl t) d, e3]
  show vAfter X c _ = _
  unfold vAfter
  rw [e1, e2]

variable (hg : ∀ c t, Given (X c (grp t)) (O c (grp t)) (blk t) (iblk m c 0 t) (iblk m c 1 t) (iblk m c 2 t) (iblk m c 3 t) (iblk m c 4 t) (iblk m c 5 t) (iblk m c 6 t))

theorem found_before (c : Dev nD) (t : Fin (cfg0 (F := Ideal)).N) (d8 d9) (gc gr ga) :
    Before (X c (grp t)) (blk t) ⟨(vals m X 0 c).before 8 t d8, (vals m X 0 c).before 9 t d9, gc, gr, ga⟩ :=
  ⟨fun u p l h => by show (vals m X 0 c).before 8 t d8 _ = _; rw [before8 m X c t h]; exact spread_at _ u p l,
   fun u p l h => by show (vals m X 0 c).before 9 t d9 _ = _; rw [before9 m X c t h]; exact spread_at _ u p l⟩

include hg

/-- The loop of a point does all the columns before the diagonal block. -/
theorem loop_val (c : Dev nD) (t : Fin (cfg0 (F := Ideal)).N) (x7 : Vec Ideal S256x256 .bf16) (b : Carried Ideal) (hb : Before (X c (grp t)) (blk t) b) (K) :
    loopSpec c (st0_1 t) (st0_2 t) (st0_8 t) (st0_9 t) (Memref.whole cc0_scratch0) (Memref.whole cc0_scratch1) (Memref.whole cc0_scratch2) (iblk m c 1 t) (iblk m c 2 t)
        (found m c t x7 b) (fun s' => Held (X c (grp t)) (blk t) 0 s') K
      ⊢ wp Idealize.ShloMosaic.frame (wpE (defs₀ (F := Ideal)) 𝒱₀ c (some (grid0.coords t 1).val)) Set.univ (defs₀ (F := Ideal) .tc 1 (pointAt m c t x7 b).1) K :=
  loop_all c (hg c t).cols (at_lt t) (pointAt m c t x7 b).1 (found m c t x7 b) (entered m c t x7 b (hg c t) hb) rfl K

set_option maxHeartbeats 2000000 in
/-- The body at a point. -/
theorem body_val (c : Dev nD) (t : Fin (cfg0 (F := Ideal)).N) :
    iprop((Pipeline.ΦA (Val := Elt Ideal) spec0 c : sProp 𝕄) ∗ (vals m X 0 c).owesAt () t.castSucc
      ∗ (∃ d, owns (c : Thread nD τ) (st0_0 t) fullShare ((vals m X 0 c).before 0 t d))
      ∗ (∃ d, owns (c : Thread nD τ) (st0_1 t) fullShare ((vals m X 0 c).before 1 t d))
      ∗ (∃ d, owns (c : Thread nD τ) (st0_2 t) fullShare ((vals m X 0 c).before 2 t d))
      ∗ (∃ d, owns (c : Thread nD τ) (st0_3 t) fullShare ((vals m X 0 c).before 3 t d))
      ∗ (∃ d, owns (c : Thread nD τ) (st0_4 t) fullShare ((vals m X 0 c).before 4 t d))
      ∗ (∃ d, owns (c : Thread nD τ) (st0_5 t) fullShare ((vals m X 0 c).before 5 t d))
      ∗ (∃ d, owns (c : Thread nD τ) (st0_6 t) fullShare ((vals m X 0 c).before 6 t d))
      ∗ (∃ d, owns (c : Thread nD τ) (st0_7 t) fullShare ((vals m X 0 c).before 7 t d))
      ∗ (∃ d, owns (c : Thread nD τ) (st0_8 t) fullShare ((vals m X 0 c).before 8 t d))
      ∗ (∃ d, owns (c : Thread nD τ) (st0_9 t) fullShare ((vals m X 0 c).before 9 t d)))
    ⊢ wp Idealize.ShloMosaic.frame (wpE (defs₀ (F := Ideal)) 𝒱₀ c none) Set.univ (bodyAt0 t) fun _ =>
      iprop((Pipeline.ΦA (Val := Elt Ideal) spec0 c : sProp 𝕄) ∗ (vals m X 0 c).owesAt () t.castSucc
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ owns (c : Thread nD τ) (st0_7 t) fullShare (qAfter X c t)
        ∗ owns (c : Thread nD τ) (st0_8 t) fullShare (kAfter X c t)
        ∗ owns (c : Thread nD τ) (st0_9 t) fullShare (vAfter X c t)) := by
  simp only [before0 m (vals m X 0 c) (valsA_eq m X c 0) (fun _ => rfl), before1 m (vals m X 0 c) (valsA_eq m X c 1) (fun _ => rfl), before2 m (vals m X 0 c) (valsA_eq m X c 2) (fun _ => rfl), before3 m (vals m X 0 c) (valsA_eq m X c 3) (fun _ => rfl), before4 m (vals m X 0 c) (valsA_eq m X c 4) (fun _ => rfl), before5 m (vals m X 0 c) (valsA_eq m X c 5) (fun _ => rfl), before6 m (vals m X 0 c) (valsA_eq m X c 6) (fun _ => rfl)]
  rw [scratch_eq]
  iintro ⟨⟨⟨⟨%g12, S0⟩, ⟨%g13, S1⟩, ⟨%g14, S2⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((pointAt m c t ((vals m X 0 c).before 7 t d7) ⟨(vals m X 0 c).before 8 t d8, (vals m X 0 c).before 9 t d9, g12, g13, g14⟩).2.2.2.2.2.2.2 (grid0.coords t 1).val (fun s' => Held (X c (grp t)) (blk t) 0 s')
    (loop_val m X O hg c t _ _ (found_before m X c t d8 d9 g12 g13 g14)) _)
  unfold after
  isplitl [H0 H1 H2 H3 H4 H5 H6 H7 H8 H9 S0 S1 S2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iframe
  iintro %s %hs ⟨H0, H1, H2, H3, H4, H5, H6, H7, H8, H9, S0, S1, S2⟩
  have e7 : (pointAt m c t ((vals m X 0 c).before 7 t d7) ⟨(vals m X 0 c).before 8 t d8, (vals m X 0 c).before 9 t d9, g12, g13, g14⟩).2.2.2.2.2.2.1 s = qAfter X c t :=
    eq_spread (out_is m c t _ _ hs)
  have e8 : s.gk = kAfter X c t := eq_spread fun u p l => (hs.k u p l).trans (by rw [if_pos (by omega)])
  have e9 : s.gv = vAfter X c t := eq_spread fun u p l => (hs.v u p l).trans (by rw [if_pos (by omega)])
  rw [e7, e8, e9]
  isplitl [S0 S1 S2 HP]
  · isplitl [S0 S1 S2]
    · isplitl [S0]; · iexists _; iexact S0
      isplitl [S1]; · iexists _; iexact S1
      iexists _; iexact S2
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
theorem val_obligation (c : Dev nD) : BodyObligationLoose (vals m X 0 c) (defs₀ (F := Ideal)) 𝒱₀ () Set.univ := fun t => by
  rw [bigSep_W0, bigSep_W0, defs₀_row]
  exact triple_restated (body_val m X O hg c t) rfl .rfl fun _ => .rfl

set_option backward.isDefEq.respectTransparency.types false in
/-- The launch: every run ends with the outputs' blocks written back. -/
theorem run_vals : θ_run defs (onTc (τ := τ) (main (F := Ideal))) (s₀ m ρ)
    (fun r => Pipeline.FramePost cfgs (vals m X) 0 (V m) r ∧ r.2.sem = fun _ => 0) :=
  Pipeline.θ_run_frame_shared (Q' := _) cfgs (vals m X) (0 : Fin 1) launch₀0 defs₀ 𝒱₀ m ρ main
    (hbody := val_obligation m X O hg) (hq := fun c w _ => rfl)
    (howed := fun _ _ => rfl) (V := V m) (hmain := hmain m) (hA := valsA_eq m X) (hΦ := fun _ _ => rfl)

end Cert.Kernel2Ideal.Sba
-- ==== Proof.Sba.StickReal.lean ====
/- The logarithm of the sigmoid over the real numbers, and one head of the arrays. -/
module

public import proofs.«01_k».proof.Proof.Sba.Stick

@[expose] public section

noncomputable section

namespace Cert.Stick

open Cert.Kernel2Ideal.Sba (sp lsg)

theorem sp_eq (x : ℝ) : sp x = Real.log (1 + Real.exp x) := by
  unfold sp
  rcases le_total 0 x with h | h
  · rw [max_eq_left h, abs_of_nonneg h]
    have h1 : 1 + Real.exp x = Real.exp x * (1 + Real.exp (0 - x)) := by
      rw [mul_add, mul_one, ← Real.exp_add, add_sub_cancel, Real.exp_zero, add_comm]
    rw [h1, Real.log_mul (Real.exp_pos _).ne' (by positivity), Real.log_exp]
  · rw [max_eq_right h, abs_of_nonpos h, zero_add, zero_sub, neg_neg]

theorem lsg_eq (x : ℝ) : lsg x = x - sp x := by
  unfold sp lsg
  rcases le_total 0 x with h | h
  · rw [min_eq_right h, max_eq_left h]; ring
  · rw [min_eq_left h, max_eq_right h]; ring

theorem neg_sp_neg (x : ℝ) : -sp (-x) = lsg x := by
  unfold sp lsg
  rw [abs_neg]
  rcases le_total 0 x with h | h
  · rw [min_eq_right h, max_eq_right (by linarith)]; ring
  · rw [min_eq_left h, max_eq_left (by linarith)]; ring

/-- The two halves of the stick. -/
theorem halves (x : ℝ) : Real.exp (-x - sp (-x)) = 1 - Real.exp (lsg x) := by
  have h : Real.exp (-x - sp (-x)) = Real.exp (-sp x) := congrArg Real.exp (by have := neg_sp_neg x; have := lsg_eq x; linarith)
  rw [h, lsg_eq, sp_eq, Real.exp_sub, Real.exp_neg, Real.exp_log (by positivity)]
  field_simp
  ring

/-- A head of the arrays, laid out as the kernel sees it: the lanes of its half, of which the queries and the cotangent keep
    the head's own. The scores' scale is in the queries. -/
def one (q d : ℕ → ℕ → ℝ) (kv : ℕ → ℕ → ℝ) (H : ℕ) : Data where
  Q s l := if l.val / 64 = H % 2 then q s (128 * (H / 2) + l.val) * (1 / 8) else 0
  D s l := if l.val / 64 = H % 2 then d s (128 * (H / 2) + l.val) else 0
  K t l := kv t (128 * (H / 2) + l.val)
  V t l := kv t (1024 + (128 * (H / 2) + l.val))

/-- A sum over the lanes of a half of which one head's count is the sum over the head's. -/
theorem own_sum (f : ℕ → ℝ) (H : ℕ) : (∑ l : Fin 128, if l.val / 64 = H % 2 then f (128 * (H / 2) + l.val) else 0) = ∑ l : Fin 64, f (64 * H + l.val) := by
  rw [Fin.sum_univ_eq_sum_range (fun l => if l / 64 = H % 2 then f (128 * (H / 2) + l) else 0) 128, Fin.sum_univ_eq_sum_range (fun l => f (64 * H + l)) 64, ← Finset.sum_filter]
  refine Finset.sum_nbij' (fun l => l - 64 * (H % 2)) (fun l => 64 * (H % 2) + l) ?_ ?_ ?_ ?_ ?_ <;> intro i hi <;> simp at hi ⊢
  · omega
  · omega
  · omega
  · congr 1; omega

theorem one_z (q d kv : ℕ → ℕ → ℝ) (H s t : ℕ) : (one q d kv H).z s t = (∑ l : Fin 64, q s (64 * H + l.val) * kv t (64 * H + l.val)) * (1 / 8) := by
  rw [Finset.sum_mul, ← own_sum (fun c => q s c * kv t c * (1 / 8)) H]
  exact Finset.sum_congr rfl fun l _ => by
    simp only [one]; split_ifs <;> ring

theorem one_da (q d kv : ℕ → ℕ → ℝ) (H s t : ℕ) : (one q d kv H).da s t = ∑ l : Fin 64, d s (64 * H + l.val) * kv t (1024 + (64 * H + l.val)) := by
  rw [← own_sum (fun c => d s c * kv t (1024 + c)) H]
  exact Finset.sum_congr rfl fun l _ => by
    simp only [one]; split_ifs <;> ring

end Cert.Stick
-- ==== Proof.Window.lean ====
/- Sums over a window that reaches from a position to the end of its row, or from its start to the position: what a running
   sum along the last axis is, over the real numbers. -/
module

public import proofs.«01_k».proof.Proof.Reals
public import Idealize.ShloMosaic.Lib.Pointwise

@[expose] public section

noncomputable section

namespace Cert.Window

open Cert.Reals Idealize.ShloMosaic

theorem foldl_sum {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

theorem numel_row (N : ℕ) : (⟨3, ![1, 1, N]⟩ : Shape).numel = N := by
  simp [Shape.numel, Fin.prod_univ_succ]

theorem symm_row {N : ℕ} (n : Fin (⟨3, ![1, 1, N]⟩ : Shape).numel) : (⟨3, ![1, 1, N]⟩ : Shape).rowMajor.symm n = ix3 (0 : Fin 1) (0 : Fin 1) (n.cast (numel_row N)) := by
  rw [Equiv.symm_apply_eq]
  refine Fin.ext ?_
  rw [Shape.rowMajor_val_three]
  show n.val = (0 * 1 + 0) * N + n.val
  omega

section
variable {A B N : ℕ} (x : (⟨3, ![A, B, N]⟩ : Shape).Idx → EReal) (f : Fin A → Fin B → ℕ → ℝ)
  (hx : ∀ a b (i : Fin N), x (ix3 a b i) = ((f a b i.val : ℝ) : EReal)) {u : Shape} (init : u.Idx → EReal) (hu : 0 < u.numel) (hi : init (Shape.Idx.first hu) = 0)
include hx hi

/-- The sum from a position on, -/
theorem upward (h : (⟨3, ![A, B, N]⟩ : Shape).ReduceWindows (![1, 1, N] : Fin 3 → ℕ) ![1, 1, 1] ![0, 0, 0] ![0, 0, N - 1] ⟨3, ![A, B, N]⟩) (a : Fin A) (b : Fin B) (j : Fin N) :
    Host.reduceWindow (fun p q : EReal => p + q) ![1, 1, N] ![1, 1, 1] ![0, 0, 0] ![0, 0, N - 1] x init h hu (ix3 a b j) = ((∑ i ∈ Finset.Ico j.val N, f a b i : ℝ) : EReal) := by
  unfold Host.reduceWindow
  dsimp only
  rw [foldl_sum, hi, zero_add, ← Fin.sum_univ_def,
    Fintype.sum_equiv (finCongr (numel_row N)) _ (fun n : Fin N => (((if j.val + n.val < N then f a b (j.val + n.val) else 0) : ℝ) : EReal)) fun n => ?_, ← coe_sum]
  · refine congrArg Real.toEReal ?_
    rw [Fin.sum_univ_eq_sum_range (fun n => if j.val + n < N then f a b (j.val + n) else 0) N, ← Finset.sum_filter]
    refine Finset.sum_nbij' (fun n => j.val + n) (fun i => i - j.val) ?_ ?_ ?_ ?_ ?_ <;> intro i hi <;> simp at hi ⊢ <;> omega
  · have ha := a.isLt
    have hb := b.isLt
    have hn : n.val < N := lt_of_lt_of_eq n.isLt (numel_row N)
    have hw := symm_row n
    have w0 : ((⟨3, ![1, 1, N]⟩ : Shape).rowMajor.symm n 0).val = 0 := by rw [hw]; rfl
    have w1 : ((⟨3, ![1, 1, N]⟩ : Shape).rowMajor.symm n 1).val = 0 := by rw [hw]; rfl
    have w2 : ((⟨3, ![1, 1, N]⟩ : Shape).rowMajor.symm n 2).val = n.val := by rw [hw]; rfl
    show _ = (((if j.val + n.val < N then f a b (j.val + n.val) else 0) : ℝ) : EReal)
    split_ifs with h1 h2 h2
    · refine Eq.trans (congrArg x (funext fun d => Fin.ext ?_)) (hx a b ⟨j.val + n.val, h2⟩)
      match d with
      | ⟨0, _⟩ => show a.val * 1 + ((⟨3, ![1, 1, N]⟩ : Shape).rowMajor.symm n 0).val - 0 = a.val; omega
      | ⟨1, _⟩ => show b.val * 1 + ((⟨3, ![1, 1, N]⟩ : Shape).rowMajor.symm n 1).val - 0 = b.val; omega
      | ⟨2, _⟩ => show j.val * 1 + ((⟨3, ![1, 1, N]⟩ : Shape).rowMajor.symm n 2).val - 0 = j.val + n.val; omega
    · exfalso
      have := h1 2
      rw [hw] at this
      change 0 ≤ j.val * 1 + n.val ∧ j.val * 1 + n.val - 0 < N at this
      omega
    · refine absurd (fun d => ?_) h1
      rw [hw]
      match d with
      | ⟨0, _⟩ => show 0 ≤ a.val * 1 + 0 ∧ a.val * 1 + 0 - 0 < A; omega
      | ⟨1, _⟩ => show 0 ≤ b.val * 1 + 0 ∧ b.val * 1 + 0 - 0 < B; omega
      | ⟨2, _⟩ => show 0 ≤ j.val * 1 + n.val ∧ j.val * 1 + n.val - 0 < N; omega
    · exact EReal.coe_zero.symm

/-- and the sum up to a position. -/
theorem downward (h : (⟨3, ![A, B, N]⟩ : Shape).ReduceWindows (![1, 1, N] : Fin 3 → ℕ) ![1, 1, 1] ![0, 0, N - 1] ![0, 0, 0] ⟨3, ![A, B, N]⟩) (a : Fin A) (b : Fin B) (j : Fin N) :
    Host.reduceWindow (fun p q : EReal => p + q) ![1, 1, N] ![1, 1, 1] ![0, 0, N - 1] ![0, 0, 0] x init h hu (ix3 a b j) = ((∑ i ∈ Finset.range (j.val + 1), f a b i : ℝ) : EReal) := by
  have hj := j.isLt
  unfold Host.reduceWindow
  dsimp only
  rw [foldl_sum, hi, zero_add, ← Fin.sum_univ_def,
    Fintype.sum_equiv (finCongr (numel_row N)) _ (fun n : Fin N => (((if N - 1 ≤ j.val + n.val then f a b (j.val + n.val - (N - 1)) else 0) : ℝ) : EReal)) fun n => ?_, ← coe_sum]
  · refine congrArg Real.toEReal ?_
    rw [Fin.sum_univ_eq_sum_range (fun n => if N - 1 ≤ j.val + n then f a b (j.val + n - (N - 1)) else 0) N, ← Finset.sum_filter]
    refine Finset.sum_nbij' (fun n => j.val + n - (N - 1)) (fun i => i + (N - 1) - j.val) ?_ ?_ ?_ ?_ ?_ <;> intro i hi <;> simp at hi ⊢ <;> omega
  · have ha := a.isLt
    have hb := b.isLt
    have hn : n.val < N := lt_of_lt_of_eq n.isLt (numel_row N)
    have hw := symm_row n
    have w0 : ((⟨3, ![1, 1, N]⟩ : Shape).rowMajor.symm n 0).val = 0 := by rw [hw]; rfl
    have w1 : ((⟨3, ![1, 1, N]⟩ : Shape).rowMajor.symm n 1).val = 0 := by rw [hw]; rfl
    have w2 : ((⟨3, ![1, 1, N]⟩ : Shape).rowMajor.symm n 2).val = n.val := by rw [hw]; rfl
    show _ = (((if N - 1 ≤ j.val + n.val then f a b (j.val + n.val - (N - 1)) else 0) : ℝ) : EReal)
    split_ifs with h1 h2 h2
    · refine Eq.trans (congrArg x (funext fun d => Fin.ext ?_)) (hx a b ⟨j.val + n.val - (N - 1), by omega⟩)
      match d with
      | ⟨0, _⟩ => show a.val * 1 + ((⟨3, ![1, 1, N]⟩ : Shape).rowMajor.symm n 0).val - 0 = a.val; omega
      | ⟨1, _⟩ => show b.val * 1 + ((⟨3, ![1, 1, N]⟩ : Shape).rowMajor.symm n 1).val - 0 = b.val; omega
      | ⟨2, _⟩ => show j.val * 1 + ((⟨3, ![1, 1, N]⟩ : Shape).rowMajor.symm n 2).val - (N - 1) = j.val + n.val - (N - 1); omega
    · exfalso
      have := h1 2
      rw [hw] at this
      change N - 1 ≤ j.val * 1 + n.val ∧ j.val * 1 + n.val - (N - 1) < N at this
      omega
    · refine absurd (fun d => ?_) h1
      rw [hw]
      match d with
      | ⟨0, _⟩ => show 0 ≤ a.val * 1 + 0 ∧ a.val * 1 + 0 - 0 < A; omega
      | ⟨1, _⟩ => show 0 ≤ b.val * 1 + 0 ∧ b.val * 1 + 0 - 0 < B; omega
      | ⟨2, _⟩ => show N - 1 ≤ j.val * 1 + n.val ∧ j.val * 1 + n.val - (N - 1) < N; omega
    · exact EReal.coe_zero.symm

/-- The same as the program writes them. -/
theorem upward_host {M : ℕ} (hM : M + 1 = N) (h : (⟨3, ![A, B, N]⟩ : Shape).ReduceWindows (![1, 1, N] : Fin 3 → ℕ) ![1, 1, 1] ![0, 0, 0] ![0, 0, M] ⟨3, ![A, B, N]⟩) (a : Fin A) (b : Fin B) (j : Fin N) :
    Host.reduceWindowAdd (F := Ideal) (φ := .f32) ![1, 1, N] ![1, 1, 1] ![0, 0, 0] ![0, 0, M] x init h hu (ix3 a b j) = ((∑ i ∈ Finset.Ico j.val N, f a b i : ℝ) : EReal) := by
  obtain rfl : M = N - 1 := by omega
  exact upward x f hx init hu hi h a b j

theorem downward_host {M : ℕ} (hM : M + 1 = N) (h : (⟨3, ![A, B, N]⟩ : Shape).ReduceWindows (![1, 1, N] : Fin 3 → ℕ) ![1, 1, 1] ![0, 0, M] ![0, 0, 0] ⟨3, ![A, B, N]⟩) (a : Fin A) (b : Fin B) (j : Fin N) :
    Host.reduceWindowAdd (F := Ideal) (φ := .f32) ![1, 1, N] ![1, 1, 1] ![0, 0, M] ![0, 0, 0] x init h hu (ix3 a b j) = ((∑ i ∈ Finset.range (j.val + 1), f a b i : ℝ) : EReal) := by
  obtain rfl : M = N - 1 := by omega
  exact downward x f hx init hu hi h a b j
end

section
variable {N B : ℕ} (x : (⟨2, ![N, B]⟩ : Shape).Idx → EReal) (f : ℕ → Fin B → ℝ)
  (hx : ∀ (i : Fin N) b, x (ix2 i b) = ((f i.val b : ℝ) : EReal)) {u : Shape} (init : u.Idx → EReal) (hu : 0 < u.numel) (hi : init (Shape.Idx.first hu) = 0)

theorem numel_col {N : ℕ} : (⟨2, ![N, 1]⟩ : Shape).numel = N := by
  simp [Shape.numel, Fin.prod_univ_succ]

theorem symm_col {N : ℕ} (n : Fin (⟨2, ![N, 1]⟩ : Shape).numel) : (⟨2, ![N, 1]⟩ : Shape).rowMajor.symm n = ix2 (n.cast numel_col) (0 : Fin 1) := by
  rw [Equiv.symm_apply_eq]
  refine Fin.ext ?_
  rw [Shape.rowMajor_val_two]
  show n.val = n.val * 1 + 0
  omega

include hx hi in
/-- The same down the rows of a matrix: the sum from a row on. -/
theorem rows_host {M : ℕ} (hM : M + 1 = N) (h : (⟨2, ![N, B]⟩ : Shape).ReduceWindows (![N, 1] : Fin 2 → ℕ) ![1, 1] ![0, 0] ![M, 0] ⟨2, ![N, B]⟩) (j : Fin N) (b : Fin B) :
    Host.reduceWindowAdd (F := Ideal) (φ := .f32) ![N, 1] ![1, 1] ![0, 0] ![M, 0] x init h hu (ix2 j b) = ((∑ i ∈ Finset.Ico j.val N, f i b : ℝ) : EReal) := by
  show Host.reduceWindow (fun p q : EReal => p + q) ![N, 1] ![1, 1] ![0, 0] ![M, 0] x init h hu (ix2 j b) = _
  unfold Host.reduceWindow
  dsimp only
  rw [foldl_sum, hi, zero_add, ← Fin.sum_univ_def,
    Fintype.sum_equiv (finCongr numel_col) _ (fun n : Fin N => (((if j.val + n.val < N then f (j.val + n.val) b else 0) : ℝ) : EReal)) fun n => ?_, ← coe_sum]
  · refine congrArg Real.toEReal ?_
    rw [Fin.sum_univ_eq_sum_range (fun n => if j.val + n < N then f (j.val + n) b else 0) N, ← Finset.sum_filter]
    refine Finset.sum_nbij' (fun n => j.val + n) (fun i => i - j.val) ?_ ?_ ?_ ?_ ?_ <;> intro i hi <;> simp at hi ⊢ <;> omega
  · have hb := b.isLt
    have hn : n.val < N := lt_of_lt_of_eq n.isLt numel_col
    have hw := symm_col n
    have w0 : ((⟨2, ![N, 1]⟩ : Shape).rowMajor.symm n 0).val = n.val := by rw [hw]; rfl
    have w1 : ((⟨2, ![N, 1]⟩ : Shape).rowMajor.symm n 1).val = 0 := by rw [hw]; rfl
    show _ = (((if j.val + n.val < N then f (j.val + n.val) b else 0) : ℝ) : EReal)
    split_ifs with h1 h2 h2
    · refine Eq.trans (congrArg x (funext fun d => Fin.ext ?_)) (hx ⟨j.val + n.val, h2⟩ b)
      match d with
      | ⟨0, _⟩ => show j.val * 1 + ((⟨2, ![N, 1]⟩ : Shape).rowMajor.symm n 0).val - 0 = j.val + n.val; omega
      | ⟨1, _⟩ => show b.val * 1 + ((⟨2, ![N, 1]⟩ : Shape).rowMajor.symm n 1).val - 0 = b.val; omega
    · exfalso
      have := h1 0
      rw [hw] at this
      change 0 ≤ j.val * 1 + n.val ∧ j.val * 1 + n.val - 0 < N at this
      omega
    · refine absurd (fun d => ?_) h1
      rw [hw]
      match d with
      | ⟨0, _⟩ => show 0 ≤ j.val * 1 + n.val ∧ j.val * 1 + n.val - 0 < N; omega
      | ⟨1, _⟩ => show 0 ≤ b.val * 1 + 0 ∧ b.val * 1 + 0 - 0 < B; omega
    · exact EReal.coe_zero.symm
end

end Cert.Window
-- ==== Proof.Sba.RefVal.lean ====
/- The attention's forward and backward pass as the reference writes them, over the real numbers. -/
module

public import proofs.«01_k».proof.Proof.Sba.StickReal
public import proofs.«01_k».proof.Proof.Window
public import proofs.«01_k».proof.Proof.Gen.Reference2Ideal.Read

@[expose] public section

set_option maxRecDepth 16384

noncomputable section

namespace Cert.Reference2Ideal.Sba

open Cert.Reals Cert.Stick Cert.Window Idealize.ShloMosaic Idealize.ShloMosaic.TcCoe
open Cert.Kernel2Ideal.Sba (sp lsg coe_max coe_min lg_aux)
open Cert.Reference2Ideal Cert.Reference2Ideal.Gen Cert.Reference2Ideal.Read

/-- An array of real numbers, by row and column. -/
def Real2 {n k : ℕ} (v : (⟨2, ![n, k]⟩ : Shape).Idx → EReal) (f : ℕ → ℕ → ℝ) : Prop := ∀ (a : Fin n) (b : Fin k), v (ix2 a b) = ((f a.val b.val : ℝ) : EReal)
/-- The same by head. -/
def Real3 {a b c : ℕ} (v : (⟨3, ![a, b, c]⟩ : Shape).Idx → EReal) (f : ℕ → ℕ → ℕ → ℝ) : Prop := ∀ (h : Fin a) (s : Fin b) (t : Fin c), v (ix3 h s t) = ((f h.val s.val t.val : ℝ) : EReal)

theorem eighth : Ideal.ofBits .f32 0x3E000000#32 = (((1 / 8 : ℝ)) : EReal) := by
  simp [Ideal.ofBits, Ideal.ieee, -EReal.coe_mul]; norm_num
theorem lt_word (s t : Fin 4096) (x y : EReal) : Scalar.select (IntOp.cmpi CmpIPredicate.slt (BitVec.ofNat 32 t.val) (BitVec.ofNat 32 s.val)) x y = if t.val < s.val then x else y := by
  word_cmp
theorem top_word : Ideal.ofBits .f32 0x7F800000#32 = ⊤ := by simp [Ideal.ofBits, Ideal.ieee]
theorem zero_word : Ideal.ofBits .f32 0x00000000#32 = ((0 : ℝ) : EReal) := by simp [Ideal.ofBits, Ideal.ieee]
theorem lg_host (x : ℝ) : Ideal.log1p (Ideal.exp (-FloatOps.absf (F := Ideal) (φ := .f32) (x : EReal))) = ((Real.log (1 + Real.exp (0 - |x|)) : ℝ) : EReal) := by
  rw [← lg_aux, zero_sub]; rfl

variable {x0 : (⟨S4096x1024, .f32⟩ : BufTy).Contents (Elt Ideal)} {x1 : (⟨S4096x2048, .f32⟩ : BufTy).Contents (Elt Ideal)} {x2 : (⟨S4096x1024, .f32⟩ : BufTy).Contents (Elt Ideal)}
  {q kv d : ℕ → ℕ → ℝ} (hq : Real2 x0 q) (hkv : Real2 x1 kv) (hd : Real2 x2 d)

section
include hq
theorem v1_is : Real3 (val_main_v1 (F := Ideal) x0) fun h s l => q s (64 * h + l) := fun h s l => by
  pointwise [val_main_v1, val_main_v0]
  rw [hq]; congr 3; simp only [] ; omega
end
section
include hkv
theorem v4_is : Real3 (val_main_v4 (F := Ideal) x1) fun h s l => kv s (64 * h + l) := fun h s l => by
  pointwise [val_main_v4, val_main_v3, val_main_v2]
  rw [hkv]; congr 3; simp only [] ; omega
theorem v7_is : Real3 (val_main_v7 (F := Ideal) x1) fun h s l => kv s (1024 + (64 * h + l)) := fun h s l => by
  pointwise [val_main_v7, val_main_v6, val_main_v5]
  rw [hkv]; congr 3; simp only [] ; omega
end
section
include hd
theorem v31_is : Real3 (val_main_v31 (F := Ideal) x2) fun h s l => d s (64 * h + l) := fun h s l => by
  pointwise [val_main_v31, val_main_v30]
  rw [hd]; congr 3; simp only [] ; omega
end

section
include hq hkv
theorem v10_is : Real3 (val_main_v10 (F := Ideal) x0 x1) fun h s t => (one q d kv h).z s t := fun h s t => by
  pointwise [val_main_v10, val_main_v8, val_main_v9, val_main_cst]
  simp only [v1_is hq _ _ _, v4_is hkv _ _ _, eighth, one_z, coe_sum, EReal.coe_mul]

theorem v18_0_is : Real3 (val_main_v18_0 (F := Ideal) x0 x1) fun h s t => sp ((one q d kv h).z s t) := fun h s t => by
  pointwise [val_main_v18_0, val_main_call0_v4, val_main_call0_v11, val_main_call0_v1, val_main_call0_v10, val_main_call0_v9, val_main_call0_v8, val_main_call0_v7, val_main_call0_v3, val_main_call0_v2, val_main_call0_v0, val_main_call0_cst, val_main_call0_v6]
  rw [if_neg (not_not.mpr rfl), v10_is hq hkv, lg_host, ← EReal.coe_zero, coe_max, ← EReal.coe_add]; rfl

theorem v18_1_is : Real3 (val_main_v18_1 (F := Ideal) x0 x1) fun h s t => Real.exp (lsg ((one q d kv h).z s t)) := fun h s t => by
  pointwise [val_main_v18_1, val_main_call0_v21, val_main_call0_v20, val_main_call0_v19, val_main_call0_v18, val_main_call0_v17, val_main_call0_v16, val_main_call0_v15, val_main_call0_v14, val_main_call0_v13,
    val_main_call0_cst_0, val_main_call0_cst_1, val_main_call0_cst_2, val_main_call0_cst_3]
  rw [v10_is hq hkv, v18_0_is (d := d) hq hkv, top_word, if_neg (EReal.coe_ne_top _), if_neg (EReal.coe_ne_top _), ← EReal.coe_sub, Ideal.exp_coe, lsg_eq]

theorem v20_is : Real3 (val_main_v20_0 (F := Ideal) x0 x1) fun h s t => -(one q d kv h).N s t := fun h s t => by
  pointwise [val_main_v20_0, val_main_v20_1, val_main_v17, val_main_v16, val_main_v15, val_main_v14, val_main_v13, val_main_v12, val_main_v11, val_main_v19, val_main_call1_v2, val_main_call1_v0, val_main_cst_0]
  rw [lt_word, v18_0_is (d := d) hq hkv]
  unfold Data.N
  split_ifs
  · exact (EReal.coe_neg _).symm
  · rw [neg_zero]; exact zero_word

theorem v21_is : Real3 (val_main_v21 (F := Ideal) x0 x1) fun h s t => ∑ j ∈ Finset.Ico t 4096, -(one q d kv h).N s j := fun h s t => by
  unfold val_main_v21
  refine upward_host _ (fun h s j => -(one q d kv h.val).N s.val j) (fun a b i => v20_is hq hkv a b i) _ _ ?_ (M := 4095) rfl _ h s t
  pointwise [val_main_call2_v0, val_main_call2_cst]

theorem v22_is : Real3 (val_main_v22 (F := Ideal) x0 x1) fun h s t => -∑ j ∈ Finset.Ico (t + 1) 4096, (one q d kv h).N s j := fun h s t => by
  pointwise [val_main_v22]
  rw [v21_is (d := d) hq hkv, v20_is (d := d) hq hkv, ← EReal.coe_sub]
  beta_reduce
  rw [Finset.sum_eq_sum_Ico_succ_bot t.isLt, Finset.sum_neg_distrib]
  congr 1; ring

theorem v23_0_is : Real3 (val_main_v23_0 (F := Ideal) x0 x1) fun h s t => lsg ((one q d kv h).z s t) := fun h s t => by
  pointwise [val_main_v23_0, val_main_call3_v1_0, val_main_call3_call0_v4, val_main_call3_call0_v11, val_main_call3_call0_v1, val_main_call3_call0_v10, val_main_call3_call0_v9, val_main_call3_call0_v8, val_main_call3_call0_v7,
    val_main_call3_call0_v3, val_main_call3_call0_v2, val_main_call3_call0_v0, val_main_call3_call0_cst, val_main_call3_call0_v6, val_main_call3_v0]
  rw [if_neg (not_not.mpr rfl), v10_is hq hkv, ← EReal.coe_neg, lg_host, ← EReal.coe_zero, coe_max, ← EReal.coe_add, ← EReal.coe_neg]
  exact congrArg Real.toEReal (neg_sp_neg _)

theorem v23_1_is : Real3 (val_main_v23_1 (F := Ideal) x0 x1) fun h s t => 1 - Real.exp (lsg ((one q d kv h).z s t)) := fun h s t => by
  have e := v23_0_is (d := d) hq hkv h s t
  pointwise [val_main_v23_0] at e
  have e' : val_main_call3_v1_0 (F := Ideal) x0 x1 (ix3 h s t) = ((sp (-(one q d kv h).z s t) : ℝ) : EReal) := by
    rw [← neg_neg (val_main_call3_v1_0 (F := Ideal) x0 x1 (ix3 h s t)), e, ← EReal.coe_neg, ← neg_sp_neg, neg_neg]
  pointwise [val_main_v23_1, val_main_call3_call0_v21, val_main_call3_call0_v20, val_main_call3_call0_v19, val_main_call3_call0_v18, val_main_call3_call0_v17, val_main_call3_call0_v16, val_main_call3_call0_v15, val_main_call3_call0_v14,
    val_main_call3_call0_v13, val_main_call3_call0_cst_0, val_main_call3_call0_cst_1, val_main_call3_call0_cst_2, val_main_call3_call0_cst_3, val_main_call3_v0]
  rw [e', v10_is hq hkv, top_word, ← EReal.coe_neg, if_neg (EReal.coe_ne_top _), if_neg (EReal.coe_ne_top _), ← EReal.coe_sub, Ideal.exp_coe, halves]

theorem v25_is : Real3 (val_main_v25 (F := Ideal) x0 x1) fun h s t => Real.exp (lsg ((one q d kv h).z s t) - ∑ j ∈ Finset.Ico (t + 1) 4096, (one q d kv h).N s j) := fun h s t => by
  pointwise [val_main_v25, val_main_v24]
  rw [v23_0_is (d := d) hq hkv, v22_is (d := d) hq hkv, ← EReal.coe_add, Ideal.exp_coe, ← sub_eq_add_neg]

theorem v26_is : Real3 (val_main_v26_0 (F := Ideal) x0 x1) fun h s t => (one q d kv h).A s t := fun h s t => by
  pointwise [val_main_v26_0, val_main_v26_1, val_main_v17, val_main_v16, val_main_v15, val_main_v14, val_main_v13, val_main_v12, val_main_v11, val_main_call4_v2, val_main_call4_v0, val_main_cst_1]
  rw [lt_word, v25_is (d := d) hq hkv]
  unfold Data.A
  split_ifs
  · rfl
  · exact zero_word

/-- The attention's output. -/
theorem v27_is : Real3 (val_main_v27 (F := Ideal) x0 x1) fun h s l => ∑ t ∈ Finset.range 4096, (one q d kv h).A s t * kv t (1024 + (64 * h + l)) := fun h s l => by
  pointwise [val_main_v27]
  simp only [v26_is (d := d) hq hkv _ _ _, v7_is hkv _ _ _, ← EReal.coe_mul, ← coe_sum]
  exact congrArg Real.toEReal (Fin.sum_univ_eq_sum_range (fun t => (one q d kv h).A s t * kv t (1024 + (64 * h.val + l.val))) 4096)

theorem v29_is : Real2 (val_main_v29 (F := Ideal) x0 x1) fun s c => ∑ t ∈ Finset.range 4096, (one q d kv (c / 64)).A s t * kv t (1024 + c) := fun s c => by
  pointwise [val_main_v29, val_main_v28]
  rw [v27_is (d := d) hq hkv]
  simp only [Nat.div_add_mod]

include hd

theorem v33_is : Real3 (val_main_v33 (F := Ideal) x0 x1 x2) fun h t l => ∑ s ∈ Finset.range 4096, (one q d kv h).A s t * d s (64 * h + l) := fun h t l => by
  pointwise [val_main_v33, val_main_v32]
  simp only [v26_is (d := d) hq hkv _ _ _, v31_is hd _ _ _, ← EReal.coe_mul, ← coe_sum]
  refine congrArg Real.toEReal (Eq.trans (Finset.sum_congr rfl fun s _ => mul_comm _ _) (Fin.sum_univ_eq_sum_range (fun s => (one q d kv h).A s t * d s (64 * h.val + l.val)) 4096))

theorem v36_is : Real3 (val_main_v36 (F := Ideal) x0 x1 x2) fun h s t => (one q d kv h).G s t := fun h s t => by
  pointwise [val_main_v36, val_main_v35, val_main_v34, val_main_v26_1, val_main_v17, val_main_v16, val_main_v15, val_main_v14, val_main_v13, val_main_v12, val_main_v11, val_main_call5_v0, val_main_call5_cst]
  rw [lt_word, v25_is (d := d) hq hkv]
  simp only [v31_is hd _ _ _, v7_is hkv _ _ _, ← EReal.coe_mul, ← coe_sum]
  unfold Data.G Data.A
  rw [one_da]
  split_ifs
  · exact (EReal.coe_mul _ _).symm
  · rw [mul_zero]; rfl

theorem v39_is : Real3 (val_main_v39 (F := Ideal) x0 x1 x2) fun h s t => ∑ j ∈ Finset.range (t + 1), (one q d kv h).G s j := fun h s t => by
  unfold val_main_v39
  refine downward_host _ (fun h s j => (one q d kv h.val).G s.val j) (fun a b i => v36_is hq hkv hd a b i) _ _ ?_ (M := 4095) rfl _ h s t
  pointwise [val_main_call7_v0, val_main_call7_cst]

theorem v46_is : Real3 (val_main_v46 (F := Ideal) x0 x1 x2) fun h s t => (one q d kv h).DZ s t * (1 / 8) := fun h s t => by
  pointwise [val_main_v46, val_main_v45, val_main_cst_2, val_main_v44, val_main_v43, val_main_v42, val_main_v41, val_main_v40, val_main_v38, val_main_v37, val_main_call6_v1, val_main_call6_v0,
    val_main_v20_1, val_main_v17, val_main_v16, val_main_v15, val_main_v14, val_main_v13, val_main_v12, val_main_v11, val_main_call8_v0, val_main_call8_cst]
  rw [lt_word, v36_is hq hkv hd, v39_is hq hkv hd, v23_1_is (d := d) hq hkv, v18_1_is (d := d) hq hkv, eighth]
  unfold Data.DZ
  split_ifs with h1
  · simp only [← EReal.coe_neg, ← EReal.coe_add, ← EReal.coe_mul]
    rw [Finset.sum_range_succ]
    congr 1; ring
  · beta_reduce
    rw [Data.G_of_le _ (show s.val ≤ t.val by omega), ← EReal.coe_zero]
    simp only [← EReal.coe_neg, ← EReal.coe_add, ← EReal.coe_mul]
    congr 1; ring

theorem v47_is : Real3 (val_main_v47 (F := Ideal) x0 x1 x2) fun h t l => ∑ s ∈ Finset.range 4096, (one q d kv h).DZ s t * (q s (64 * h + l) * (1 / 8)) := fun h t l => by
  pointwise [val_main_v47]
  simp only [v46_is hq hkv hd _ _ _, v1_is hq _ _ _, ← EReal.coe_mul, ← coe_sum]
  refine congrArg Real.toEReal (Eq.trans (Finset.sum_congr rfl fun s _ => ?_) (Fin.sum_univ_eq_sum_range (fun s => (one q d kv h).DZ s t * (q s (64 * h.val + l.val) * (1 / 8))) 4096))
  ring

theorem v48_is : Real3 (val_main_v48 (F := Ideal) x0 x1 x2) fun h s l => (∑ t ∈ Finset.range 4096, (one q d kv h).DZ s t * kv t (64 * h + l)) * (1 / 8) := fun h s l => by
  pointwise [val_main_v48]
  simp only [v46_is hq hkv hd _ _ _, v4_is hkv _ _ _, ← EReal.coe_mul, ← coe_sum]
  refine congrArg Real.toEReal (Eq.trans ?_ (congrArg (· * (1 / 8 : ℝ)) (Fin.sum_univ_eq_sum_range (fun t => (one q d kv h).DZ s t * kv t (64 * h.val + l.val)) 4096)))
  rw [Finset.sum_mul]
  exact Finset.sum_congr rfl fun t _ => by ring

/-- The three results. -/
theorem v58_is : Real2 (val_main_v58 (F := Ideal) x0 x1 x2) fun s c => (∑ t ∈ Finset.range 4096, (one q d kv (c / 64)).DZ s t * kv t c) * (1 / 8) := fun s c => by
  pointwise [val_main_v58, val_main_v57, val_main_v56]
  rw [v48_is hq hkv hd]
  simp only [Nat.div_add_mod]

theorem v59_is : Real2 (val_main_v59 (F := Ideal) x0 x1 x2) fun t c => ∑ s ∈ Finset.range 4096, (one q d kv (c / 64)).DZ s t * (q s c * (1 / 8)) := fun t c => by
  pointwise [val_main_v59, val_main_v55, val_main_v54, val_main_v51, val_main_v53, val_main_v52, val_main_v50, val_main_v49, val_main_cst_3, val_main_cst_4]
  rw [v47_is hq hkv hd, dif_neg (fun h => h.1), zero_add]
  simp only [Nat.div_add_mod]

theorem v60_is : Real2 (val_main_v60 (F := Ideal) x0 x1 x2) fun t c => ∑ s ∈ Finset.range 4096, (one q d kv (c / 64)).A s t * d s c := fun t c => by
  pointwise [val_main_v60, val_main_v55, val_main_v54, val_main_v51, val_main_v53, val_main_v52, val_main_v50, val_main_v49, val_main_cst_3, val_main_cst_4]
  rw [v33_is hq hkv hd]
  simp only [Nat.div_add_mod]
end

end Cert.Reference2Ideal.Sba
-- ==== Proof.Sba.HostVal.lean ====
/- What the host's lines hand to the kernel's call. -/
module

public import proofs.«01_k».proof.Proof.Sba.Exact
public import proofs.«01_k».proof.Proof.Sba.RefVal
public import Idealize.ShloMosaic.Lib.StableHlo.ReadAt

@[expose] public section

set_option maxRecDepth 16384

noncomputable section

namespace Cert.Kernel2Ideal.Sba

open Cert.Reals Cert.Stick Idealize.ShloMosaic Idealize.ShloMosaic.TcCoe
open Cert.Kernel2Ideal.Gen
open Cert.Reference2Ideal.Sba (Real2)

variable (m : (ℓ : Loc nD τ sig) → Buf (Elt Ideal) ℓ)

theorem V32_at (c : Dev nD) (a : Fin 4096) (b : Fin 1024) {r : ℝ} (h : m ((c : Thread nD τ).loc main_arg0) (ix2 a b) = (r : EReal)) : V m c main_v32 (ix2 a b) = ((r * (1 / 8) : ℝ) : EReal) := by
  unfold_abbrev_sides
  after_reads_at
  rw [h, Cert.Reference2Ideal.Sba.eighth, ← EReal.coe_mul]
theorem V33_at (c : Dev nD) (a : Fin 4096) (b : Fin 2048) : V m c main_v33 (ix2 a b) = m ((c : Thread nD τ).loc main_arg1) (ix2 a b) := by
  unfold_abbrev_sides
  after_reads_at
theorem V34_at (c : Dev nD) (a : Fin 4096) (b : Fin 1024) : V m c main_v34 (ix2 a b) = m ((c : Thread nD τ).loc main_arg2) (ix2 a b) := by
  unfold_abbrev_sides
  after_reads_at

/-- The output that the forward lines hand over is the reference's. -/
theorem V29_is (c : Dev nD) : V m c main_v29 = Cert.Reference2Ideal.Read.val_main_v29 (F := Ideal) (m ((c : Thread nD τ).loc main_arg0)) (m ((c : Thread nD τ).loc main_arg1)) := by
  unfold_abbrev_sides
  after_reads_simp
  rfl

theorem gt_word (a b : Fin 256) : (Scalar.select (IntOp.cmpi CmpIPredicate.sgt (BitVec.ofNat 32 a.val) (BitVec.ofNat 32 b.val)) 1 0 : EReal) = if b < a then 1 else 0 := by
  word_cmp
  simp only [Fin.lt_def]
theorem ge_word (a b : Fin 256) : (Scalar.select (IntOp.cmpi CmpIPredicate.sge (BitVec.ofNat 32 a.val) (BitVec.ofNat 32 b.val)) 1 0 : EReal) = if b ≤ a then 1 else 0 := by
  word_cmp
  simp only [Fin.le_def]

/-- The two triangles of ones, each twice. -/
theorem V40_at (c : Dev nD) : Twice (V m c main_v40) fun j t => if t < j then 1 else 0 := by
  have h : ∀ (a : Fin 512) (b : Fin 256), V m c main_v40 (ix2 a b) = if h : a.val < 256 then (if b < (⟨a.val, h⟩ : Fin 256) then (1 : EReal) else 0) else if b < (⟨a.val - 256, by omega⟩ : Fin 256) then 1 else 0 := fun a b => by
    simp only [← gt_word]
    unfold_abbrev_sides
    after_reads_at
  refine ⟨fun a b => (h _ b).trans ?_, fun a b => (h _ b).trans ?_⟩
  · rw [dif_pos a.isLt]
    show (if b < a then (1 : EReal) else 0) = _
    split_ifs with h1 <;> simp [h1]
  · rw [dif_neg (by simp)]
    simp only [Nat.add_sub_cancel_left, Fin.eta]
    split_ifs <;> simp
theorem V46_at (c : Dev nD) : Twice (V m c main_v46) fun j t => if t ≤ j then 1 else 0 := by
  have h : ∀ (a : Fin 512) (b : Fin 256), V m c main_v46 (ix2 a b) = if h : a.val < 256 then (if b ≤ (⟨a.val, h⟩ : Fin 256) then (1 : EReal) else 0) else if b ≤ (⟨a.val - 256, by omega⟩ : Fin 256) then 1 else 0 := fun a b => by
    simp only [← ge_word]
    unfold_abbrev_sides
    after_reads_at
  refine ⟨fun a b => (h _ b).trans ?_, fun a b => (h _ b).trans ?_⟩
  · rw [dif_pos a.isLt]
    show (if b ≤ a then (1 : EReal) else 0) = _
    split_ifs with h1 <;> simp [h1]
  · rw [dif_neg (by simp)]
    simp only [Nat.add_sub_cancel_left, Fin.eta]
    split_ifs <;> simp

theorem idx : ∀ t : Fin (cfg0 (F := Ideal)).N, win0_0.index t = ![blk t, (grp t).val] ∧ win0_1.index t = ![0, (grp t).val] ∧ win0_2.index t = ![0, (grp t).val + 4] ∧ win0_3.index t = ![blk t, (grp t).val]
    ∧ win0_4.index t = ![blk t, (grp t).val] ∧ win0_5.index t = ![0, 0] ∧ win0_6.index t = ![0, 0] ∧ win0_7.index t = ![blk t, (grp t).val] ∧ win0_8.index t = ![0, (grp t).val] ∧ win0_9.index t = ![0, (grp t).val] :=
  (by decide +kernel : ∀ t : Fin grid0.N, _)

theorem blk_lt (t : Fin (cfg0 (F := Ideal)).N) : blk t < 16 := at_lt t
theorem grp_lt (t : Fin (cfg0 (F := Ideal)).N) : (grp t).val < 4 := (grp t).isLt

theorem blk0 (c : Dev nD) (t : Fin (cfg0 (F := Ideal)).N) (a b : Fin 256) : iblk m c 0 t (ix2 a b) = V m c main_v32 (ix2 ⟨256 * blk t + a.val, by have := blk_lt t; omega⟩ ⟨256 * (grp t).val + b.val, by have := grp_lt t; omega⟩) := by
  blk_simp [iblk]
  blk_point [idx t]
theorem blk1 (c : Dev nD) (t : Fin (cfg0 (F := Ideal)).N) (a : Fin 4096) (b : Fin 256) : iblk m c 1 t (ix2 a b) = V m c main_v33 (ix2 a ⟨256 * (grp t).val + b.val, by have := grp_lt t; omega⟩) := by
  blk_simp [iblk]
  blk_point [idx t]
theorem blk2 (c : Dev nD) (t : Fin (cfg0 (F := Ideal)).N) (a : Fin 4096) (b : Fin 256) : iblk m c 2 t (ix2 a b) = V m c main_v33 (ix2 a ⟨1024 + (256 * (grp t).val + b.val), by have := grp_lt t; omega⟩) := by
  blk_simp [iblk]
  blk_point [idx t]
theorem blk3 (c : Dev nD) (t : Fin (cfg0 (F := Ideal)).N) (a b : Fin 256) : iblk m c 3 t (ix2 a b) = V m c main_v29 (ix2 ⟨256 * blk t + a.val, by have := blk_lt t; omega⟩ ⟨256 * (grp t).val + b.val, by have := grp_lt t; omega⟩) := by
  blk_simp [iblk]
  blk_point [idx t]
theorem blk4 (c : Dev nD) (t : Fin (cfg0 (F := Ideal)).N) (a b : Fin 256) : iblk m c 4 t (ix2 a b) = V m c main_v34 (ix2 ⟨256 * blk t + a.val, by have := blk_lt t; omega⟩ ⟨256 * (grp t).val + b.val, by have := grp_lt t; omega⟩) := by
  blk_simp [iblk]
  blk_point [idx t]
theorem blk5 (c : Dev nD) (t : Fin (cfg0 (F := Ideal)).N) (a : Fin 512) (b : Fin 256) : iblk m c 5 t (ix2 a b) = V m c main_v40 (ix2 a b) := by
  blk_simp [iblk]
  blk_point [idx t]
theorem blk6 (c : Dev nD) (t : Fin (cfg0 (F := Ideal)).N) (a : Fin 512) (b : Fin 256) : iblk m c 6 t (ix2 a b) = V m c main_v46 (ix2 a b) := by
  blk_simp [iblk]
  blk_point [idx t]

/-! ## What the call is given -/

section
variable {q kv d : Dev nD → ℕ → ℕ → ℝ} (hq : ∀ c : Dev nD, Real2 (m ((c : Thread nD τ).loc main_arg0)) (q c)) (hkv : ∀ c : Dev nD, Real2 (m ((c : Thread nD τ).loc main_arg1)) (kv c)) (hd : ∀ c : Dev nD, Real2 (m ((c : Thread nD τ).loc main_arg2)) (d c))

/-- A head of a group, and the attention's output. -/
def hd1 (q kv d : Dev nD → ℕ → ℕ → ℝ) (c : Dev nD) (g h : Fin 4) : Data := one (q c) (d c) (kv c) (4 * g.val + h.val)
def out1 (q kv d : Dev nD → ℕ → ℕ → ℝ) (c : Dev nD) (g : Fin 4) (s : ℕ) (p : Fin 2) (l : Fin 128) : ℝ :=
  ∑ t ∈ Finset.range 4096, (one (q c) (d c) (kv c) ((256 * g.val + (128 * p.val + l.val)) / 64)).A s t * kv c t (1024 + (256 * g.val + (128 * p.val + l.val)))

theorem half_col (g h : Fin 4) (l : Fin 128) : 128 * ((4 * g.val + h.val) / 2) + l.val = 256 * g.val + (128 * (half2 h).val + l.val) := by
  fin_cases h <;> simp [half2] <;> omega
theorem own_iff (g h : Fin 4) (l : Fin 128) : own h l ↔ l.val / 64 = (4 * g.val + h.val) % 2 := by
  unfold own; omega

include hq hkv hd
theorem given (c : Dev nD) (t : Fin (cfg0 (F := Ideal)).N) :
    Given (hd1 q kv d c (grp t)) (out1 q kv d c (grp t)) (blk t) (iblk m c 0 t) (iblk m c 1 t) (iblk m c 2 t) (iblk m c 3 t) (iblk m c 4 t) (iblk m c 5 t) (iblk m c 6 t) where
  cols := ⟨fun h u l => by
      rw [blk1, V33_at, hkv c]
      simp only [hd1, one, lane, half_col], fun h u l => by
      rw [blk2, V33_at, hkv c]
      simp only [hd1, one, lane, half_col]⟩
  q h a l := by
    rw [blk0]
    simp only [hd1, one, ← own_iff]
    split_ifs with ho
    · rw [V32_at m c _ _ (hq c _ _)]
      simp only [lane, half_col]
    · rfl
  d h a l := by
    rw [blk4, V34_at, hd c]
    simp only [hd1, one, ← own_iff]
    split_ifs with ho
    · simp only [lane, half_col]
    · rfl
  o a p l := by
    rw [blk3, V29_is, Cert.Reference2Ideal.Sba.v29_is (d := d c) (hq c) (hkv c)]
    rfl
  δ h a := by
    unfold Data.G Data.da
    simp only [Finset.sum_mul]
    rw [Finset.sum_comm]
    refine Finset.sum_congr rfl fun l _ => ?_
    by_cases ho : own h l
    · have e : (256 * (grp t).val + (128 * (half2 h).val + l.val)) / 64 = 4 * (grp t).val + h.val := by
        have h1 := half_col (grp t) h l
        unfold own at ho
        omega
      unfold out1
      rw [Finset.mul_sum, e]
      refine Finset.sum_congr rfl fun u _ => ?_
      simp only [hd1, one, half_col]
      ring
    · have e : (hd1 q kv d c (grp t) h).D (256 * blk t + a.val) l = 0 := by
        simp only [hd1, one]
        exact if_neg fun h' => ho ((own_iff (grp t) h l).mpr h')
      rw [e, zero_mul]
      exact (Finset.sum_eq_zero fun u _ => by rw [zero_mul, zero_mul]).symm
  ms := by
    refine ⟨fun a b => (blk5 m c t _ b).trans ((V40_at m c).1 a b), fun a b => (blk5 m c t _ b).trans ((V40_at m c).2 a b)⟩
  mi := by
    refine ⟨fun a b => (blk6 m c t _ b).trans ((V46_at m c).1 a b), fun a b => (blk6 m c t _ b).trans ((V46_at m c).2 a b)⟩
end

/-! ## The call's results -/

/-- An array of real numbers. -/
def mat {n k : ℕ} (f : ℕ → ℕ → ℝ) : (⟨2, ![n, k]⟩ : Shape).Idx → EReal := fun y => ((f (y 0).val (y 1).val : ℝ) : EReal)

section
variable (q kv d : Dev nD → ℕ → ℕ → ℝ) (c : Dev nD)

/-- The gradients of the queries, the keys and the values. -/
def gradQ (s j : ℕ) : ℝ := (∑ t ∈ Finset.range 4096, (one (q c) (d c) (kv c) (j / 64)).DZ s t * kv c t j) * (1 / 8)
def gradK (t j : ℕ) : ℝ := ∑ s ∈ Finset.range 4096, (one (q c) (d c) (kv c) (j / 64)).DZ s t * (q c s j * (1 / 8))
def gradV (t j : ℕ) : ℝ := ∑ s ∈ Finset.range 4096, (one (q c) (d c) (kv c) (j / 64)).A s t * d c s j

theorem two_heads (g : Fin 4) (p : Fin 2) (l : Fin 128) (h : Fin 4) (hp : h.val / 2 = p.val) (ho : l.val / 64 = h.val % 2) :
    (256 * g.val + (128 * p.val + l.val)) / 64 = 4 * g.val + h.val ∧ 128 * ((4 * g.val + h.val) / 2) + l.val = 256 * g.val + (128 * p.val + l.val) := by
  omega

theorem fst_half (p : Fin 2) : (fst p).val / 2 = p.val ∧ (fst p).val % 2 = 0 := by fin_cases p <;> decide
theorem snd_half (p : Fin 2) : (snd p).val / 2 = p.val ∧ (snd p).val % 2 = 1 := by fin_cases p <;> decide

theorem qOf_eq (g : Fin 4) (s : ℕ) (p : Fin 2) (l : Fin 128) : qOf (hd1 q kv d c g) s p l = gradQ q kv d c s (256 * g.val + (128 * p.val + l.val)) := by
  unfold qOf gradQ
  congr 1
  by_cases hl : l.val < 64
  · obtain ⟨e1, e2⟩ := two_heads g p l (fst p) (fst_half p).1 (by have := (fst_half p).2; omega)
    rw [if_pos hl, e1]
    unfold tail
    rw [mul_zero, ← Finset.range_eq_Ico]
    exact Finset.sum_congr rfl fun t _ => by simp only [qAt, hd1, one, e2]
  · obtain ⟨e1, e2⟩ := two_heads g p l (snd p) (snd_half p).1 (by have := (snd_half p).2; have := l.isLt; omega)
    rw [if_neg hl, e1]
    unfold tail
    rw [mul_zero, ← Finset.range_eq_Ico]
    exact Finset.sum_congr rfl fun t _ => by simp only [qAt, hd1, one, e2]

theorem masks (g : Fin 4) (p : Fin 2) (l : Fin 128) : ((l.val / 64 = (4 * g.val + (fst p).val) % 2) ↔ l.val < 64) ∧ ((l.val / 64 = (4 * g.val + (snd p).val) % 2) ↔ ¬l.val < 64) := by
  have h1 := (fst_half p).2
  have h2 := (snd_half p).2
  have h3 := l.isLt
  constructor <;> omega

theorem kAt_eq (g : Fin 4) (t : ℕ) (p : Fin 2) (l : Fin 128) : head (kAt (hd1 q kv d c g) p t l) 16 = gradK q kv d c t (256 * g.val + (128 * p.val + l.val)) := by
  unfold head gradK
  refine Finset.sum_congr rfl fun s _ => ?_
  by_cases hl : l.val < 64
  · obtain ⟨e1, e2⟩ := two_heads g p l (fst p) (fst_half p).1 (by have := (fst_half p).2; omega)
    have m1 := (masks g p l).1.mpr hl
    have m2 := mt (masks g p l).2.mp (not_not.mpr hl)
    rw [e1, ← e2]
    simp only [kAt, hd1]
    rw [show (one (q c) (d c) (kv c) (4 * g.val + (fst p).val)).Q s l = _ from if_pos m1, show (one (q c) (d c) (kv c) (4 * g.val + (snd p).val)).Q s l = 0 from if_neg m2, mul_zero, add_zero]
  · obtain ⟨e1, e2⟩ := two_heads g p l (snd p) (snd_half p).1 (by have := (snd_half p).2; have := l.isLt; omega)
    have m1 := mt (masks g p l).1.mp hl
    have m2 := (masks g p l).2.mpr hl
    rw [e1, ← e2]
    simp only [kAt, hd1]
    rw [show (one (q c) (d c) (kv c) (4 * g.val + (fst p).val)).Q s l = 0 from if_neg m1, show (one (q c) (d c) (kv c) (4 * g.val + (snd p).val)).Q s l = _ from if_pos m2, mul_zero, zero_add]

theorem vAt_eq (g : Fin 4) (t : ℕ) (p : Fin 2) (l : Fin 128) : head (vAt (hd1 q kv d c g) p t l) 16 = gradV q kv d c t (256 * g.val + (128 * p.val + l.val)) := by
  unfold head gradV
  refine Finset.sum_congr rfl fun s _ => ?_
  by_cases hl : l.val < 64
  · obtain ⟨e1, e2⟩ := two_heads g p l (fst p) (fst_half p).1 (by have := (fst_half p).2; omega)
    have m1 := (masks g p l).1.mpr hl
    have m2 := mt (masks g p l).2.mp (not_not.mpr hl)
    rw [e1, ← e2]
    simp only [vAt, hd1]
    rw [show (one (q c) (d c) (kv c) (4 * g.val + (fst p).val)).D s l = _ from if_pos m1, show (one (q c) (d c) (kv c) (4 * g.val + (snd p).val)).D s l = 0 from if_neg m2, mul_zero, add_zero]
  · obtain ⟨e1, e2⟩ := two_heads g p l (snd p) (snd_half p).1 (by have := (snd_half p).2; have := l.isLt; omega)
    have m1 := mt (masks g p l).1.mp hl
    have m2 := (masks g p l).2.mpr hl
    rw [e1, ← e2]
    simp only [vAt, hd1]
    rw [show (one (q c) (d c) (kv c) (4 * g.val + (fst p).val)).D s l = 0 from if_neg m1, show (one (q c) (d c) (kv c) (4 * g.val + (snd p).val)).D s l = _ from if_pos m2, mul_zero, zero_add]

theorem lane_val (y : Fin 256) : 128 * (y.val / 128) + y.val % 128 = y.val := Nat.div_add_mod _ _

theorem last_row : ∀ t : Fin (cfg0 (F := Ideal)).N, ((cfg0 (F := Ideal)).win 8).flush t = true ∨ ((cfg0 (F := Ideal)).win 9).flush t = true → blk t = 15 := by
  decide +kernel

theorem arr7 : (vals m (hd1 q kv d) 0 c).arrAt 7 (cfg0 (F := Ideal)).N = mat (n := 4096) (k := 1024) (gradQ q kv d c) := by
  refine (vals m (hd1 q kv d) 0 c).arrAt_eq_of_covers 7 _ (by decide +kernel) fun t hf y => ?_
  blk_simp
  refine congrArg Real.toEReal ((qOf_eq q kv d c (grp t) _ _ _).trans (congrArg₂ (gradQ q kv d c) ?_ ?_))
  · blk_simp [idx t]
    exact congrArg (· + _) (Nat.mul_comm _ _)
  · blk_simp [idx t]
    exact congrArg₂ (· + ·) (Nat.mul_comm _ _) (lane_val (y 1))
theorem arr8 : (vals m (hd1 q kv d) 0 c).arrAt 8 (cfg0 (F := Ideal)).N = mat (n := 4096) (k := 1024) (gradK q kv d c) := by
  refine (vals m (hd1 q kv d) 0 c).arrAt_eq_of_covers 8 _ (by decide +kernel) fun t hf y => ?_
  have h15 := last_row t (Or.inl hf)
  blk_simp
  show kAfter (hd1 q kv d) c t _ = _
  unfold kAfter
  rw [h15]
  refine congrArg Real.toEReal ((kAt_eq q kv d c (grp t) _ _ _).trans (congrArg₂ (gradK q kv d c) ?_ ?_))
  · blk_simp [idx t]
  · blk_simp [idx t]
    exact congrArg₂ (· + ·) (Nat.mul_comm _ _) (lane_val (y 1))
theorem arr9 : (vals m (hd1 q kv d) 0 c).arrAt 9 (cfg0 (F := Ideal)).N = mat (n := 4096) (k := 1024) (gradV q kv d c) := by
  refine (vals m (hd1 q kv d) 0 c).arrAt_eq_of_covers 9 _ (by decide +kernel) fun t hf y => ?_
  have h15 := last_row t (Or.inr hf)
  blk_simp
  show vAfter (hd1 q kv d) c t _ = _
  unfold vAfter
  rw [h15]
  refine congrArg Real.toEReal ((vAt_eq q kv d c (grp t) _ _ _).trans (congrArg₂ (gradV q kv d c) ?_ ?_))
  · blk_simp [idx t]
  · blk_simp [idx t]
    exact congrArg₂ (· + ·) (Nat.mul_comm _ _) (lane_val (y 1))
end

end Cert.Kernel2Ideal.Sba
-- ==== Proof.Sba.Value.lean ====
/- The attention's backward call computes the gradients of the attention. -/
module

public import proofs.«01_k».proof.Defs
public import proofs.«01_k».proof.Proof.Finite
public import proofs.«01_k».proof.Proof.Sba.HostVal
public import proofs.«01_k».proof.Proof.Gen.Pre_finite
public import Idealize.ShloMosaic.Lib.Claim

@[expose] public section

noncomputable section

namespace Cert.Kernel2Ideal.Sba

open Cert.Reals Cert.Stick Idealize.ShloMosaic Idealize.ShloMosaic.TcCoe
open Cert.Kernel2Ideal.Gen
open Cert.Reference2Ideal.Sba (Real2)

theorem mat_of {n k : ℕ} {v : (⟨2, ![n, k]⟩ : Shape).Idx → EReal} {f : ℕ → ℕ → ℝ} (h : Real2 v f) : v = mat f := by
  funext y
  rw [eq_ix2 y]
  exact h _ _

variable (m : (ℓ : Loc nD τ sig) → Buf (Elt Ideal) ℓ)

/-- The arguments' real numbers, by device. -/
def qs (c : Dev nD) : ℕ → ℕ → ℝ := reals (n := 4096) (k := 1024) (m ((c : Thread nD τ).loc main_arg0))
def kvs (c : Dev nD) : ℕ → ℕ → ℝ := reals (n := 4096) (k := 2048) (m ((c : Thread nD τ).loc main_arg1))
def ds (c : Dev nD) : ℕ → ℕ → ℝ := reals (n := 4096) (k := 1024) (m ((c : Thread nD τ).loc main_arg2))

theorem are_real (h : Cert.Pre_Kernel2Ideal_finite m) (c : Dev nD) :
    Real2 (n := 4096) (k := 1024) (m ((c : Thread nD τ).loc main_arg0)) (qs m c) ∧ Real2 (n := 4096) (k := 2048) (m ((c : Thread nD τ).loc main_arg1)) (kvs m c)
      ∧ Real2 (n := 4096) (k := 1024) (m ((c : Thread nD τ).loc main_arg2)) (ds m c) := by
  obtain ⟨h0, h1, h2⟩ := h c
  exact ⟨reals_at fun i => real_of_lt_top (congrFun h0 i), reals_at fun i => real_of_lt_top (congrFun h1 i), reals_at fun i => real_of_lt_top (congrFun h2 i)⟩

theorem algebraic : Cert.algebraic_Kernel2Ideal_Reference2Ideal_pre_finite := by
  intro m g m' g' hpre hagree
  have hr := are_real m hpre
  refine ⟨fun c => mat (n := 4096) (k := 1024) (gradQ (qs m) (kvs m) (ds m) c), fun c => mat (n := 4096) (k := 1024) (gradK (qs m) (kvs m) (ds m) c),
    fun c => mat (n := 4096) (k := 1024) (gradV (qs m) (kvs m) (ds m) c), ?_, ?_⟩
  · refine (θ_run defs _ _).mono (fun r h c => ?_) (run_vals m g (hd1 (qs m) (kvs m) (ds m)) (out1 (qs m) (kvs m) (ds m))
      fun c t => given m (fun c => (hr c).1) (fun c => (hr c).2.1) (fun c => (hr c).2.2) c t)
    obtain ⟨hw, hk⟩ := h.1 c
    exact ⟨(hw 7).trans (arr7 m (qs m) (kvs m) (ds m) c), (hw 8).trans (arr8 m (qs m) (kvs m) (ds m) c), (hw 9).trans (arr9 m (qs m) (kvs m) (ds m) c),
      (hk main_arg0 (by exact (by decide : main_arg0 ∈ Pipeline.restRefs sig spec0))).trans (V_main_arg0 m c),
      (hk main_arg1 (by exact (by decide : main_arg1 ∈ Pipeline.restRefs sig spec0))).trans (V_main_arg1 m c),
      (hk main_arg2 (by exact (by decide : main_arg2 ∈ Pipeline.restRefs sig spec0))).trans (V_main_arg2 m c)⟩
  · refine (θ_run Cert.Reference2Ideal.defs _ _).mono (fun r h c => ?_) (Cert.Reference2Ideal.Value.run m' g')
    obtain ⟨h0, h1, h2, hk⟩ := h c
    obtain ⟨a0, a1, a2⟩ := hagree c
    obtain ⟨r0, r1, r2⟩ := hr c
    rw [← a0] at r0
    rw [← a1] at r1
    rw [← a2] at r2
    exact ⟨h0.trans (mat_of (Cert.Reference2Ideal.Sba.v58_is r0 r1 r2)), h1.trans (mat_of (Cert.Reference2Ideal.Sba.v59_is r0 r1 r2)),
      h2.trans (mat_of (Cert.Reference2Ideal.Sba.v60_is r0 r1 r2)), hk⟩

end Cert.Kernel2Ideal.Sba
-- ==== Proof.Pool.Scan.lean ====
/- The gradient of trailing means over real values: the kernel's rotations by doubling distances add up a window, and
   the reference's running sum of differences is the same window. -/
module

public import proofs.«01_k».proof.Proof.Gen.Kernel3Ideal.Skeleton
public import proofs.«01_k».proof.Proof.Reals

@[expose] public section

set_option maxRecDepth 16384

noncomputable section

namespace Cert.Pool

open Cert.Reals Cert.Kernel3Ideal Cert.Kernel3Ideal.Gen Idealize.ShloMosaic

/-- The cotangent by token and channel, the width of the channel's window, and the number of tokens a mean is over. -/
abbrev Tab := ℕ → ℕ → ℝ
def width (c : ℕ) : ℕ := 2 ^ (c / 256 + 1)
def count (p c : ℕ) : ℝ := ((min (p + 1) (width c) : ℕ) : ℝ)
def part (D : Tab) (p c : ℕ) : ℝ := D p c / count p c
def dh (D : Tab) (p c : ℕ) : ℝ := ∑ s ∈ Finset.range (width c), part D (p + s) c - D p c

theorem count_ne (p c : ℕ) : count p c ≠ 0 := by
  have : 0 < width c := by unfold width; positivity
  unfold count
  exact_mod_cast (by omega : min (p + 1) (width c) ≠ 0)

/-- A column of partial sums over `n` rows each. -/
def Sums (n : ℕ) (q : Tab) (x : FVec Ideal S272x256 .f32) : Prop :=
  ∀ (r : ℕ) (l : Fin 256) (h : r + n ≤ 272) (h' : r < 272), x (ix2 ⟨r, h'⟩ l) = ((∑ s ∈ Finset.range n, q (r + s) l.val : ℝ) : EReal)

theorem Sums.double {n : ℕ} {q : Tab} {x : FVec Ideal S272x256 .f32} (hx : Sums n q x) (hn : 0 < n) (hn' : n < 272) (k : BitVec 32) (hk : k.toNat + n = 272)
    (h : S272x256.Rotates 0 none) : Sums (n + n) q (addf x (dynamicRotate 0 k none x h)) := by
  intro r l hr hr'
  show (x (ix2 ⟨r, hr'⟩ l) : EReal) + dynamicRotate 0 k none x h (ix2 ⟨r, hr'⟩ l) = _
  have e : dynamicRotate 0 k none x h (ix2 ⟨r, hr'⟩ l) = x (ix2 ⟨r + n, by omega⟩ l) := by
    unfold dynamicRotate
    refine congrArg x (funext fun b => Fin.ext ?_)
    match b with
    | ⟨0, _⟩ => show (r + 272 - (k.toNat + 0) % 272) % 272 = r + n; omega
    | ⟨1, _⟩ => rfl
  rw [e, hx r l (by omega) hr', hx (r + n) l (by omega) (by omega), ← EReal.coe_add, Finset.sum_range_add]
  simp only [add_assoc]

/-- Adding up a window from running sums of differences. -/
theorem telescope (q : ℕ → ℝ) (N p w : ℕ) (hp : p ≤ N) (hq : ∀ i, N ≤ i → q i = 0) :
    ∑ i ∈ Finset.Ico p N, (q i + -q (i + w)) = ∑ s ∈ Finset.range w, q (p + s) := by
  have e1 : ∑ i ∈ Finset.Ico p N, q (i + w) = ∑ i ∈ Finset.Ico (p + w) (N + w), q i := (Finset.sum_Ico_add' q p N w)
  have e2 : ∑ i ∈ Finset.Ico p (N + w), q i = ∑ i ∈ Finset.Ico p N, q i := by
    rw [← Finset.sum_Ico_consecutive q hp (Nat.le_add_right N w), Finset.sum_eq_zero (s := Finset.Ico N (N + w)) fun i hi => hq i (Finset.mem_Ico.mp hi).1, add_zero]
  have e3 := Finset.sum_Ico_consecutive q (Nat.le_add_right p w) (show p + w ≤ N + w by omega)
  have e4 : ∑ s ∈ Finset.range w, q (p + s) = ∑ i ∈ Finset.Ico p (p + w), q i := by
    rw [Finset.sum_Ico_eq_sum_range, Nat.add_sub_cancel_left]
  rw [Finset.sum_add_distrib, Finset.sum_neg_distrib, e1, e4, ← e2, ← e3]
  ring

theorem slt_row : ∀ r : Fin 272, IntOp.cmpi .slt (BitVec.ofNat 32 r.val) 256#32 = if r.val < 256 then 1#1 else 0#1 := by decide +kernel
theorem slt_tile : ∀ i : Fin 16, Scalar.cmpi .slt (BitVec.ofNat 32 i.val) 15#32 = if i.val < 15 then 1#1 else 0#1 := by decide +kernel
theorem word : ∀ (g : Fin 4) (i : Fin 16) (r : Fin 272), (IntOp.minsi (BitVec.ofNat 32 (2 ^ (g.val + 1))) (IntOp.maxsi 1#32 (IntOp.addi (IntOp.addi (Scalar.muli (BitVec.ofNat 32 i.val) 256#32)
    (BitVec.ofNat 32 r.val)) 1#32))).toInt = ((min (256 * i.val + r.val + 1) (2 ^ (g.val + 1)) : ℕ) : ℤ) := by decide +kernel

/-- Four groups of channels side by side. -/
theorem join_at (f : ℕ → ℝ) (a b c d : FVec Ideal S256x256 .f32) (r : Fin 256) (l : Fin 1024) (ha : ∀ l, a (ix2 r l) = ((f (256 * (0 : Fin 4).val + l.val) : ℝ) : EReal))
    (hb : ∀ l, b (ix2 r l) = ((f (256 * (1 : Fin 4).val + l.val) : ℝ) : EReal)) (hc : ∀ l, c (ix2 r l) = ((f (256 * (2 : Fin 4).val + l.val) : ℝ) : EReal))
    (hd : ∀ l, d (ix2 r l) = ((f (256 * (3 : Fin 4).val + l.val) : ℝ) : EReal)) :
    concatenate S256x1024 1 [⟨S256x256, a⟩, ⟨S256x256, b⟩, ⟨S256x256, c⟩, ⟨S256x256, d⟩] concatenates_S256x256_S256x256_S256x256_S256x256_S256x1024_d1 (ix2 r l) = ((f l.val : ℝ) : EReal) := by
  pointwise
  simp only [ha, hb, hc, hd]
  have key : ∀ n, n = l.val → ((f n : ℝ) : EReal) = f l.val := fun n h => h ▸ rfl
  split_ifs <;> refine key _ ?_ <;> simp <;> omega

section
variable (D : Tab) (i : grid0.Coords) (v0 : Vec Ideal S256x1024 .f32) (v2 : Vec Ideal S16x1024 .f32)
  (h0 : ∀ (r : Fin 256) (l : Fin 1024), v0 (ix2 r l) = ((D (256 * (i 0).val + r.val) l.val : ℝ) : EReal))
  (h2 : (i 0).val < 15 → ∀ (r : Fin 16) (l : Fin 1024), v2 (ix2 r l) = ((D (256 * (i 0).val + (256 + r.val)) l.val : ℝ) : EReal))
  (hD : ∀ p c, 4096 ≤ p → D p c = 0)
include h0 h2 hD

/-- The tile with the rows after it, zero past the last token. -/
theorem ext_at (r : Fin 272) (l : Fin 1024) : k0_pay6 (F := Ideal) i v0 v2 (ix2 r l) = ((D (256 * (i 0).val + r.val) l.val : ℝ) : EReal) := by
  have hi : (i 0).val < 16 := (i 0).isLt
  pointwise [k0_pay6]
  rw [slt_row r, slt_tile (i 0)]
  by_cases hr : r.val < 256
  · rw [if_pos hr, dif_pos hr, h0 ⟨r.val, hr⟩ l]
    split <;> rfl
  · rw [if_neg hr, dif_neg hr]
    by_cases ht : (i 0).val < 15
    · rw [if_pos ht, h2 ht ⟨r.val - 256, by omega⟩ l]
      show ((D (256 * (i 0).val + (256 + (r.val - 256))) l.val : ℝ) : EReal) = _
      rw [show 256 + (r.val - 256) = r.val by omega]
    · rw [if_neg ht, hD _ _ (by omega)]
      rfl

/-- One group of 256 channels divided by the numbers of tokens. -/
theorem part_at (g : Fin 4) (r : Fin 272) (l : Fin 256) (e : EReal) (w : BitVec 32) (c : Fin 1024) (hc : c.val = 256 * g.val + l.val) (he : e = k0_pay6 (F := Ideal) i v0 v2 (ix2 r c))
    (hw : w = BitVec.ofNat 32 (2 ^ (g.val + 1))) :
    Ideal.div e (FloatOps.sitofp (F := Ideal) .f32 (IntOp.minsi w (IntOp.maxsi 1#32 (IntOp.addi (IntOp.addi (Scalar.muli (BitVec.ofNat 32 (i 0).val) 256#32) (BitVec.ofNat 32 r.val)) 1#32))))
      = ((part D (256 * (i 0).val + r.val) (256 * g.val + l.val) : ℝ) : EReal) := by
  subst hw he
  rw [ext_at D i v0 v2 h0 h2 hD r c]
  show Ideal.div _ (((BitVec.toInt _ : ℤ) : ℝ) : EReal) = _
  rw [word g (i 0) r, part, ← hc, Int.cast_natCast]
  have hg : c.val / 256 = g.val := by omega
  have hk : count (256 * (i 0).val + r.val) c.val = ((min (256 * (i 0).val + r.val + 1) (2 ^ (g.val + 1)) : ℕ) : ℝ) := by rw [count, width, hg]
  rw [← hk, Ideal.div_coe (count_ne _ _), ← EReal.coe_mul, mul_one_div]

/-- The columns of one group. -/
abbrev col (g : ℕ) : Tab := fun r l => part D (256 * (i 0).val + r) (256 * g + l)

theorem sums_one (g : Fin 4) (x : FVec Ideal S272x256 .f32) (hx : ∀ r l, x (ix2 r l) = ((part D (256 * (i 0).val + r.val) (256 * g.val + l.val) : ℝ) : EReal)) : Sums 1 (col D i g.val) x := by
  intro r l h h'
  rw [hx ⟨r, h'⟩ l, Finset.sum_range_one]
  rfl

theorem grp_out (g : Fin 4) (x y : FVec Ideal S272x256 .f32) {n : ℕ} (hn : n = 2 ^ (g.val + 1)) (hx : Sums n (col D i g.val) x)
    (hy : ∀ r l, y (ix2 r l) = ((D (256 * (i 0).val + r.val) (256 * g.val + l.val) : ℝ) : EReal)) (r : Fin 256) (l : Fin 256) :
    extractStridedSlice S256x256 ![0, 0] (subf x y) slices_S272x256_o0_0_S256x256 (ix2 r l) = ((dh D (256 * (i 0).val + r.val) (256 * g.val + l.val) : ℝ) : EReal) := by
  have hg : (256 * g.val + l.val) / 256 = g.val := by omega
  have h16 : n ≤ 16 := hn ▸ Nat.pow_le_pow_right (by omega) (by omega : g.val + 1 ≤ 4)
  rw [extractStridedSlice_apply ![0, 0] _ slices_S272x256_o0_0_S256x256 (ix2 r l) (ix2 ⟨r.val, by omega⟩ l)
    (fun a => by match a with | ⟨0, _⟩ => exact (Nat.zero_add _).symm | ⟨1, _⟩ => exact (Nat.zero_add _).symm)]
  show (x (ix2 ⟨r.val, _⟩ l) : EReal) - y (ix2 ⟨r.val, _⟩ l) = _
  rw [hy, hx r.val l (by omega) (by omega), ← EReal.coe_sub, dh, width, hg, ← hn]
  simp only [col, add_assoc]

/-- The cotangent of the pooled norm, as a tile of the kernel has it. -/
theorem tile_at (r : Fin 256) (l : Fin 1024) :
    k0_pay11 (F := Ideal) (k0_pay6 (F := Ideal) i v0 v2) (k0_pay7 i) (k0_pay8 (F := Ideal) i v0 v2) (k0_pay9 (F := Ideal) i v0 v2) (k0_pay10 (F := Ideal) i v0 v2) 270#32 (ix2 r l)
      = ((dh D (256 * (i 0).val + r.val) l.val : ℝ) : EReal) := by
  have raw : ∀ (g : Fin 4) (o : ℕ) (ho : o = 256 * g.val) (hs : S272x1024.Slices (![0, o] : Fin 2 → ℕ) S272x256) (r : Fin 272) (l : Fin 256),
      extractStridedSlice S272x256 ![0, o] (k0_pay6 (F := Ideal) i v0 v2) hs (ix2 r l) = ((D (256 * (i 0).val + r.val) (256 * g.val + l.val) : ℝ) : EReal) := fun g o ho hs r l => by
    rw [extractStridedSlice_apply ![0, o] _ hs (ix2 r l) (ix2 r ⟨256 * g.val + l.val, by omega⟩) (fun a => by match a with | ⟨0, _⟩ => exact (Nat.zero_add _).symm | ⟨1, _⟩ => exact congrArg (· + l.val) ho.symm)]
    exact ext_at D i v0 v2 h0 h2 hD r ⟨256 * g.val + l.val, by omega⟩
  have one : ∀ (g : Fin 4) (o : ℕ) (ho : o = 256 * g.val) (w : BitVec 32) (hw : w = BitVec.ofNat 32 (2 ^ (g.val + 1))) (hs : S272x1024.Slices (![0, o] : Fin 2 → ℕ) S272x256),
      Sums 1 (col D i g.val) (divf (extractStridedSlice S272x256 ![0, o] (k0_pay6 (F := Ideal) i v0 v2) hs)
        (broadcastTo S272x256 (sitofp .f32 (minsi (broadcast S272x1 w) (maxsi (broadcast S272x1 1#32) (addi (k0_pay7 i) (broadcast S272x1 1#32))))) broadcasts_S272x1_S272x256)) := fun g o ho w hw hs =>
    sums_one D i v0 v2 h0 h2 hD g _ fun r l => by
      have e := part_at D i v0 v2 h0 h2 hD g r l _ w ⟨256 * g.val + l.val, by omega⟩ rfl rfl hw
      rw [ext_at D i v0 v2 h0 h2 hD] at e
      rw [← e, ← raw g o ho hs r l]
      generalize extractStridedSlice S272x256 ![0, o] (k0_pay6 (F := Ideal) i v0 v2) hs = y
      pointwise [k0_pay7]
  have two := fun (g : Fin 4) o ho w hw hs => (one g o ho w hw hs).double (by omega) (by omega) 271#32 (by decide) rotates_S272x256_d0
  have four := fun (g : Fin 4) o ho w hw hs => (two g o ho w hw hs).double (by omega) (by omega) 270#32 (by decide) rotates_S272x256_d0
  have eight := fun (g : Fin 4) o ho w hw hs => (four g o ho w hw hs).double (by omega) (by omega) 268#32 (by decide) rotates_S272x256_d0
  have sixteen := fun (g : Fin 4) o ho w hw hs => (eight g o ho w hw hs).double (by omega) (by omega) 264#32 (by decide) rotates_S272x256_d0
  have h0' := fun r l => grp_out D i v0 v2 h0 h2 hD 0 _ _ rfl (two 0 0 rfl 2#32 rfl slices_S272x1024_o0_0_S272x256) (raw 0 0 rfl slices_S272x1024_o0_0_S272x256) r l
  have h1' := fun r l => grp_out D i v0 v2 h0 h2 hD 1 _ _ rfl (four 1 256 rfl 4#32 rfl slices_S272x1024_o0_256_S272x256) (raw 1 256 rfl slices_S272x1024_o0_256_S272x256) r l
  have h2' := fun r l => grp_out D i v0 v2 h0 h2 hD 2 _ _ rfl (eight 2 512 rfl 8#32 rfl slices_S272x1024_o0_512_S272x256) (raw 2 512 rfl slices_S272x1024_o0_512_S272x256) r l
  have h3' := fun r l => grp_out D i v0 v2 h0 h2 hD 3 _ _ rfl (sixteen 3 768 rfl 16#32 rfl slices_S272x1024_o0_768_S272x256) (raw 3 768 rfl slices_S272x1024_o0_768_S272x256) r l
  exact join_at (fun l => dh D (256 * (i 0).val + r.val) l) _ _ _ _ r l (fun l => h0' r l) (fun l => h1' r l) (fun l => h2' r l) (fun l => h3' r l)
end
end Cert.Pool
-- ==== Proof.Pool.Back.lean ====
/- The reference's gradient of trailing means, over real values. -/
module

public import proofs.«01_k».proof.Proof.Gen.Reference3Ideal.Read
public import proofs.«01_k».proof.Proof.Pool.Scan
public import proofs.«01_k».proof.Proof.Window

@[expose] public section

set_option maxRecDepth 16384

noncomputable section

namespace Cert.Pool

open Cert.Reals Cert.Reference3Ideal Cert.Reference3Ideal.Gen Cert.Reference3Ideal.Read Idealize.ShloMosaic

theorem row_word : ∀ (g : Fin 4) (i : Fin 4096), (IntOp.minsi (IntOp.addi (BitVec.ofNat 32 i.val) 1#32) (BitVec.ofNat 32 (2 ^ (g.val + 1)))).toInt
    = ((min (i.val + 1) (2 ^ (g.val + 1)) : ℕ) : ℤ) := by decide +kernel

section
variable (D : Tab) (dy : FVec Ideal S4096x1024 .f32) (h : ∀ (r : Fin 4096) (l : Fin 1024), dy (ix2 r l) = ((D r.val l.val : ℝ) : EReal))
include h

/-- What one group of channels adds at one row: the cotangent over the number of tokens where the row is one of the group's, zero elsewhere. -/
theorem share (g : Fin 4) (c : Fin 1024) (n : ℕ) (w : BitVec 32) (hw : w = BitVec.ofNat 32 (2 ^ (g.val + 1))) {P : Prop} [Decidable P] (hP : P ↔ n < 4096 ∧ c.val / 256 = g.val)
    (hD : 4096 ≤ n → D n c.val = 0) (a : P → Fin 4096) (ha : ∀ p, (a p).val = n) (b : P → Fin 1024) (hb : ∀ p, (b p).val = c.val) :
    (if p : P then Ideal.div (dy (ix2 (a p) (b p))) (FloatOps.sitofp (F := Ideal) .f32 (IntOp.minsi (IntOp.addi (BitVec.ofNat 32 n) 1#32) w)) else 0)
      = ((if c.val / 256 = g.val then part D n c.val else 0 : ℝ) : EReal) := by
  subst hw
  by_cases hg : c.val / 256 = g.val
  · by_cases hn : n < 4096
    · rw [dif_pos (hP.mpr ⟨hn, hg⟩), if_pos hg, h, ha, hb]
      show Ideal.div _ (((BitVec.toInt _ : ℤ) : ℝ) : EReal) = _
      rw [row_word g ⟨n, hn⟩, part, Int.cast_natCast]
      have hk : count n c.val = ((min (n + 1) (2 ^ (g.val + 1)) : ℕ) : ℝ) := by rw [count, width, hg]
      show Ideal.div _ (((min (n + 1) (2 ^ (g.val + 1)) : ℕ) : ℝ) : EReal) = _
      rw [← hk, Ideal.div_coe (count_ne _ _), ← EReal.coe_mul, mul_one_div]
    · rw [dif_neg (fun p => hn (hP.mp p).1), if_pos hg, part, hD (by omega), zero_div]
      rfl
  · rw [dif_neg (fun p => hg (hP.mp p).2), if_neg hg]
    rfl

theorem less (g : Fin 4) (c : Fin 1024) (n : ℕ) (w : BitVec 32) (hw : w = BitVec.ofNat 32 (2 ^ (g.val + 1))) {P : Prop} [Decidable P] (hP : P ↔ n < 4096 ∧ c.val / 256 = g.val)
    (hD : 4096 ≤ n → D n c.val = 0) (a : P → Fin 4096) (ha : ∀ p, (a p).val = n) (b : P → Fin 1024) (hb : ∀ p, (b p).val = c.val) :
    (if p : P then -Ideal.div (dy (ix2 (a p) (b p))) (FloatOps.sitofp (F := Ideal) .f32 (IntOp.minsi (IntOp.addi (BitVec.ofNat 32 n) 1#32) w)) else 0)
      = ((-(if c.val / 256 = g.val then part D n c.val else 0) : ℝ) : EReal) := by
  rw [EReal.coe_neg, ← share D dy h g c n w hw hP hD a ha b hb]
  split
  · rfl
  · exact neg_zero.symm

theorem own (g : Fin 4) (r : Fin 4096) (c : Fin 1024) {P : Prop} [Decidable P] (hP : P ↔ c.val / 256 = g.val) (b : P → Fin 1024) (hb : ∀ p, (b p).val = c.val) :
    (if p : P then -dy (ix2 r (b p)) else 0) = ((if c.val / 256 = g.val then -D r.val c.val else 0 : ℝ) : EReal) := by
  by_cases hg : c.val / 256 = g.val
  · rw [dif_pos (hP.mpr hg), if_pos hg, h, hb, EReal.coe_neg]
  · rw [dif_neg (fun p => hg (hP.mp p)), if_neg hg]
    rfl

theorem neg_at (r : Fin 4096) (c : Fin 1024) : val_main_v126 (F := Ideal) dy (ix2 r c) = ((-D r.val c.val : ℝ) : EReal) := by
  simp only [val_main_v86, val_main_v87, val_main_v88, val_main_v89, val_main_v90, val_main_cst_20, val_main_v91, val_main_v100, val_main_cst_23, val_main_v101,
    val_main_v102, val_main_v112, val_main_cst_26, val_main_v113, val_main_v114, val_main_v124, val_main_cst_29, val_main_v125, val_main_v126]
  pointwise
  refine (congrArg₂ (· + ·) (congrArg₂ (· + ·) (congrArg₂ (· + ·) (own D dy h 3 r c ?_ _ ?_) (own D dy h 2 r c ?_ _ ?_)) (own D dy h 1 r c ?_ _ ?_)) (own D dy h 0 r c ?_ _ ?_)).trans ?_
  all_goals try first | exact fun p => rfl | exact fun p => by omega | exact fun p => by (dsimp only; omega) | (show _ ↔ _; constructor <;> intro p <;> first | omega | refine ⟨?_, ?_⟩ <;> omega)
  rw [← EReal.coe_add, ← EReal.coe_add, ← EReal.coe_add]
  refine congrArg Real.toEReal ?_
  rcases (by omega : c.val / 256 = 0 ∨ c.val / 256 = 1 ∨ c.val / 256 = 2 ∨ c.val / 256 = 3) with hc | hc | hc | hc <;> simp [hc]

theorem diff_at (hD : ∀ p c, 4096 ≤ p → D p c = 0) (i : Fin 4096) (c : Fin 1024) :
    val_main_v135 (F := Ideal) dy (ix2 ⟨1 + i.val, by omega⟩ c) = ((part D i.val c.val + -part D (i.val + width c.val) c.val : ℝ) : EReal) := by
  simp only [val_main_v20, val_main_c, val_main_v25, val_main_v26, val_main_c_7, val_main_v27, val_main_v28, val_main_v29, val_main_v30, val_main_c_10,
    val_main_v41, val_main_v42, val_main_c_11, val_main_v43, val_main_v44, val_main_v45, val_main_v46, val_main_c_14, val_main_v57, val_main_v58,
    val_main_c_15, val_main_v59, val_main_v60, val_main_v61, val_main_v62, val_main_c_18, val_main_v73, val_main_v74, val_main_c_19, val_main_v75,
    val_main_v76, val_main_v77, val_main_v78, val_main_v86, val_main_v87, val_main_v88, val_main_v89, val_main_v92, val_main_v93, val_main_v94,
    val_main_cst_21, val_main_v95, val_main_v97, val_main_cst_22, val_main_v98, val_main_v99, val_main_v103, val_main_v104, val_main_v105,
    val_main_cst_24, val_main_v106, val_main_v107, val_main_v109, val_main_cst_25, val_main_v110, val_main_v111, val_main_v115, val_main_v116,
    val_main_v117, val_main_cst_27, val_main_v118, val_main_v119, val_main_v121, val_main_cst_28, val_main_v122, val_main_v123, val_main_v127,
    val_main_v128, val_main_v129, val_main_cst_30, val_main_v130, val_main_v131, val_main_v133, val_main_cst_31, val_main_v134, val_main_v135]
  pointwise
  refine (congrArg₂ (· + ·) (congrArg₂ (· + ·) (congrArg₂ (· + ·) (congrArg₂ (· + ·) (congrArg₂ (· + ·) (congrArg₂ (· + ·) (congrArg₂ (· + ·)
    (share D dy h 3 c _ _ rfl ?_ ?_ _ ?_ _ ?_) (less D dy h 3 c _ _ rfl ?_ ?_ _ ?_ _ ?_)) (share D dy h 2 c _ _ rfl ?_ ?_ _ ?_ _ ?_)) (less D dy h 2 c _ _ rfl ?_ ?_ _ ?_ _ ?_))
    (share D dy h 1 c _ _ rfl ?_ ?_ _ ?_ _ ?_)) (less D dy h 1 c _ _ rfl ?_ ?_ _ ?_ _ ?_)) (share D dy h 0 c _ _ rfl ?_ ?_ _ ?_ _ ?_)) (less D dy h 0 c _ _ rfl ?_ ?_ _ ?_ _ ?_)).trans ?_
  all_goals try first | exact hD _ _ | exact fun p => rfl | exact fun p => by omega | exact fun p => by (dsimp only; omega) | (show _ ↔ _; constructor <;> intro p <;> first | omega | refine ⟨?_, ?_⟩ <;> omega)
  simp only [← EReal.coe_add]
  refine congrArg Real.toEReal ?_
  have hw : ∀ k, k = i.val + width c.val → part D k c.val = part D (i.val + width c.val) c.val := fun k e => e ▸ rfl
  rcases (by omega : c.val / 256 = 0 ∨ c.val / 256 = 1 ∨ c.val / 256 = 2 ∨ c.val / 256 = 3) with hc | hc | hc | hc
  · rw [← hw (1 + (1 + i.val)) (by rw [width, hc]; omega)]; simp [hc]
  · rw [← hw (3 + (1 + i.val)) (by rw [width, hc]; omega)]; simp [hc]
  · rw [← hw (7 + (1 + i.val)) (by rw [width, hc]; omega)]; simp [hc]
  · rw [← hw (15 + (1 + i.val)) (by rw [width, hc]; omega)]; simp [hc]

/-- The reference's cotangent of the pooled norm. -/
theorem back_at (hD : ∀ p c, 4096 ≤ p → D p c = 0) (r : Fin 4096) (c : Fin 1024) : val_main_v139 (F := Ideal) dy (ix2 r c) = ((dh D r.val c.val : ℝ) : EReal) := by
  have e : val_main_v138 (F := Ideal) dy (ix2 r c) = ((∑ i ∈ Finset.Ico r.val 4096, (part D i c.val + -part D (i + width c.val) c.val) : ℝ) : EReal) :=
    Window.rows_host (M := 4095) (val_main_v137 (F := Ideal) dy) (fun i c => part D i c.val + -part D (i + width c.val) c.val) (fun i c => by
      rw [val_main_v137_apply, ← diff_at D dy h hD i c]
      exact congrArg _ (eq_ix2 _)) _ h_S_ (by
        rw [val_main_call1_v0_apply]
        exact Ideal.ofBits_zero_f32) rfl _ r c
  rw [val_main_v139_apply, neg_at D dy h r c, e, telescope (fun i => part D i c.val) 4096 r.val (width c.val) r.isLt.le fun i hi => by rw [part, hD i c.val hi, zero_div], dh]
  show ((_ : ℝ) : EReal) + ((_ : ℝ) : EReal) = _
  rw [← EReal.coe_add]
  exact congrArg Real.toEReal (by ring)
end

end Cert.Pool
-- ==== Proof.Norm.lean ====
/- The gradient of a root mean square norm over 1024 channels: the kernel's form of it and the one that differentiating
   the norm gives agree on real values. -/
module

public import proofs.«01_k».proof.Proof.Reals

@[expose] public section

noncomputable section

namespace Cert.Norm

open Cert.Reals Idealize.ShloMosaic

/-- The norm's reciprocal root and what is under the root. -/
def under (x : Fin 1024 → EReal) : EReal := Ideal.div (∑ k, x k * x k) (Ideal.ofBits .f32 0x44800000#32) + Ideal.ofBits .f32 0x358637BD#32
def root (x : Fin 1024 → EReal) : EReal := Ideal.rsqrt (under x)

/-- The kernel's gradient in the norm's argument. -/
def ours (dy x g : Fin 1024 → EReal) (k : Fin 1024) : EReal :=
  root x * (dy k * g k - x k * root x * Ideal.div (∑ j, dy j * g j * (x j * root x)) (Ideal.ofBits .f32 0x44800000#32))

/-- The gradient as differentiation of the norm gives it. -/
def slope (dy x g : Fin 1024 → EReal) : EReal :=
  Ideal.div ((∑ j, x j * (dy j * g j)) * (Ideal.ofBits .f32 0xBF000000#32 * Ideal.div (root x) (under x))) (Ideal.ofBits .f32 0x44800000#32)
def theirs (dy x g : Fin 1024 → EReal) (k : Fin 1024) : EReal :=
  dy k * g k * root x + x k * slope dy x g + slope dy x g * x k

theorem minus_half : Ideal.ofBits .f32 0xBF000000#32 = ((-(1 / 2) : ℝ) : EReal) := by
  simp [Ideal.ofBits, Ideal.ieee, -EReal.coe_mul]; norm_num
theorem small : ∃ e : ℝ, 0 < e ∧ Ideal.ofBits .f32 0x358637BD#32 = (e : EReal) :=
  ⟨8796093 * 2 ^ (-43 : ℤ), by positivity, by simp [Ideal.ofBits, Ideal.ieee, -EReal.coe_mul]⟩

section
variable (X : Fin 1024 → ℝ)

theorem under_coe : ∃ u : ℝ, 0 < u ∧ under (fun k => (X k : EReal)) = (u : EReal) := by
  obtain ⟨e, he, h⟩ := small
  refine ⟨(∑ k, X k * X k) * (1 / 1024) + e, add_pos_of_nonneg_of_pos (mul_nonneg (Finset.sum_nonneg fun k _ => mul_self_nonneg _) (by norm_num)) he, ?_⟩
  rw [under, h, thousand, Ideal.div_coe (by norm_num)]
  simp only [EReal.coe_add, EReal.coe_mul, coe_sum]

theorem root_coe {u : ℝ} (hu : 0 < u) (h : under (fun k => (X k : EReal)) = (u : EReal)) : root (fun k => (X k : EReal)) = (((√u)⁻¹ : ℝ) : EReal) := by
  rw [root, h, Ideal.rsqrt_coe, if_neg (not_lt.mpr hu.le), if_neg hu.ne']
end

/-- The norm of real values is real. -/
theorem root_real {x : Fin 1024 → EReal} (hx : ∀ k, ∃ r : ℝ, x k = (r : EReal)) : ∃ r : ℝ, root x = (r : EReal) := by
  choose X hX using hx
  obtain ⟨u, hu, h⟩ := under_coe X
  exact ⟨_, (congrArg root (funext hX)).trans (root_coe X hu h)⟩

theorem agree {dy x g : Fin 1024 → EReal} (hd : ∀ k, ∃ r : ℝ, dy k = (r : EReal)) (hx : ∀ k, ∃ r : ℝ, x k = (r : EReal))
    (hg : ∀ k, ∃ r : ℝ, g k = (r : EReal)) : ours dy x g = theirs dy x g := by
  choose D hD using hd
  choose X hX using hx
  choose G hG using hg
  obtain rfl : dy = fun k => (D k : EReal) := funext hD
  obtain rfl : x = fun k => (X k : EReal) := funext hX
  obtain rfl : g = fun k => (G k : EReal) := funext hG
  obtain ⟨u, hu, h⟩ := under_coe X
  funext k
  have hr := root_coe X hu h
  have hs : √u * √u = u := Real.mul_self_sqrt hu.le
  have hp : 0 < √u := Real.sqrt_pos.mpr hu
  rw [ours, theirs, slope, hr, h, minus_half, thousand, Ideal.div_coe (by norm_num), Ideal.div_coe (by norm_num), Ideal.div_coe hu.ne']
  simp only [← EReal.coe_mul, ← coe_sum, ← EReal.coe_add, ← EReal.coe_sub]
  refine congrArg Real.toEReal ?_
  have e1 : ∑ j, D j * G j * (X j * (√u)⁻¹) = (∑ j, X j * (D j * G j)) * (√u)⁻¹ := by
    rw [Finset.sum_mul]
    exact Finset.sum_congr rfl fun j _ => by ring
  rw [e1]
  generalize (∑ j, X j * (D j * G j)) = S
  generalize √u = s at hs hp
  subst hs
  have hn := hp.ne'
  field_simp
  ring

end Cert.Norm
-- ==== Proof.Pool.Value.lean ====
/- The gradient of the pooled norm: what the kernel leaves in its two arrays, against `jax.vjp` of the trailing means of
   the norm. -/
module

public import proofs.«01_k».proof.Defs
public import proofs.«01_k».proof.Proof.Gen.Pre_finite_window
public import proofs.«01_k».proof.Proof.Gen.Kernel3Ideal.Value
public import proofs.«01_k».proof.Proof.Gen.Reference3Ideal.Run
public import proofs.«01_k».proof.Proof.Pool.Back
public import proofs.«01_k».proof.Proof.Norm
public import proofs.«01_k».proof.Proof.Finite
public import Idealize.ShloMosaic.Lib.Claim

@[expose] public section

set_option maxRecDepth 16384

noncomputable section

namespace Cert.Pool

open Cert.Reals Cert.Norm Idealize.ShloMosaic Idealize.ShloMosaic.TcCoe Idealize.SL.Sem

section
open Cert.Kernel3Ideal Cert.Kernel3Ideal.Gen
theorem dx_pay (d x : FVec Ideal S256x1024 .f32) (g : Vec Ideal S1x1024 .f32) (s : Vec Ideal S256x1024 .f32) (a : Fin 256) (b : Fin 1024) :
    k0_pay4 (F := Ideal) d x g s (ix2 a b) = s (ix2 a b) + ours (fun k => d (ix2 a k)) (fun k => x (ix2 a k)) (fun k => g (ix2 0 k)) b := by
  pointwise [k0_pay4, k0_pay2, k0_pay1]
  rfl

theorem dg_pay (d x : FVec Ideal S256x1024 .f32) (b : Fin 1024) :
    k0_pay3 (F := Ideal) d x (ix2 (0 : Fin 1) b) = ∑ a : Fin 256, d (ix2 a b) * (x (ix2 a b) * root (fun k => x (ix2 a k))) := by
  pointwise [k0_pay3, k0_pay2, k0_pay1]
  rfl
end

section
open Cert.Reference3Ideal Cert.Reference3Ideal.Gen Cert.Reference3Ideal.Read
theorem dx_ref (y x : FVec Ideal S4096x1024 .f32) (g : FVec Ideal S1024 .f32) (s : FVec Ideal S4096x1024 .f32) (a : Fin 4096) (b : Fin 1024) :
    val_main_v160 (F := Ideal) y x g s (ix2 a b)
      = s (ix2 a b) + theirs (fun k => val_main_v139 (F := Ideal) y (ix2 a k)) (fun k => x (ix2 a k)) (fun k => g (ix1 k)) b := by
  simp only [val_main_v0, val_main_cst, val_main_v1, val_main_v2, val_main_cst_0, val_main_v3, val_main_v4, val_main_cst_1, val_main_v5, val_main_v6, val_main_v7,
    val_main_v8, val_main_cst_2, val_main_v9, val_main_v10, val_main_v13, val_main_v143, val_main_v144, val_main_v146, val_main_cst_34, val_main_v147,
    val_main_v148, val_main_v149, val_main_v150, val_main_v151, val_main_cst_35, val_main_v152, val_main_v153, val_main_cst_36, val_main_v154,
    val_main_v155, val_main_v156, val_main_v157, val_main_v158, val_main_v159, val_main_v160]
  generalize val_main_v139 (F := Ideal) y = d
  pointwise
  simp only [Fin.sum_univ_one]
  rfl

theorem dg_ref (y x : FVec Ideal S4096x1024 .f32) (b : Fin 1024) :
    val_main_v161 (F := Ideal) y x (ix2 (0 : Fin 1) b)
      = ∑ a : Fin 4096, x (ix2 a b) * root (fun k => x (ix2 a k)) * val_main_v139 (F := Ideal) y (ix2 a b) := by
  simp only [val_main_v0, val_main_cst, val_main_v1, val_main_v2, val_main_cst_0, val_main_v3, val_main_v4, val_main_cst_1, val_main_v5, val_main_v6, val_main_v7,
    val_main_v11, val_main_v12, val_main_v140, val_main_cst_32, val_main_v141, val_main_v142, val_main_cst_33, val_main_v145, val_main_v161]
  generalize val_main_v139 (F := Ideal) y = d
  pointwise
  simp only [Fin.sum_univ_one]
  rfl
end

section
open Cert.Kernel3Ideal Cert.Kernel3Ideal.Gen
open Idealize.ShloMosaic.Pipeline (Dat)

theorem idx : ∀ t : Fin cfg0.N, win0_0.index t = ![t.val, 0] ∧ (t.val < 15 → win0_1.index t = ![16 * (t.val + 1), 0]) ∧ win0_2.index t = ![t.val, 0]
    ∧ win0_3.index t = ![0, 0] ∧ win0_4.index t = ![t.val, 0] ∧ win0_5.index t = ![t.val, 0] ∧ win0_6.index t = ![0, 0] ∧ (grid0.coords t 0).val = t.val :=
  (by decide +kernel : ∀ t : Fin grid0.N, _)

variable (m : (ℓ : Loc nD τ sig) → Buf (Elt Ideal) ℓ)

/-- The cotangent of the pooled norm in one tile, as the body has it. -/
abbrev tile (c : Dev nD) (t : Fin cfg0.N) : FVec Ideal S256x1024 .f32 :=
  k0_pay11 (F := Ideal) (k0_pay6 (F := Ideal) (grid0.coords t) (iblk m c 0 t) (iblk m c 1 t)) (k0_pay7 (grid0.coords t)) (k0_pay8 (F := Ideal) (grid0.coords t) (iblk m c 0 t) (iblk m c 1 t))
    (k0_pay9 (F := Ideal) (grid0.coords t) (iblk m c 0 t) (iblk m c 1 t)) (k0_pay10 (F := Ideal) (grid0.coords t) (iblk m c 0 t) (iblk m c 1 t)) 270#32

theorem dx_at (c : Dev nD) (t : Fin cfg0.N) : (outsAt0 m c t.val t.isLt).1 = k0_pay4 (F := Ideal) (tile m c t) (iblk m c 2 t) (iblk m c 3 t) (iblk m c 4 t) := by
  have hN : t.val < 16 := lt_of_lt_of_eq t.isLt N_0
  funext y
  by_cases h : t.val % 16 = 0
  · rw [outsAt0_A m c t h (by omega)]; frame_out
  · rw [outsAt0_B m c t h (by omega)]; frame_out

section
variable (D : Dev nD → Tab) (h : ∀ (c : Dev nD) (r : Fin 4096) (l : Fin 1024), (m ((c : Thread nD τ).loc main_arg0)) (ix2 r l) = ((D c r.val l.val : ℝ) : EReal))
  (hD : ∀ c p l, 4096 ≤ p → D c p l = 0)
include h hD

theorem tile_real (c : Dev nD) (t : Fin cfg0.N) (r : Fin 256) (l : Fin 1024) : tile m c t (ix2 r l) = ((dh (D c) (256 * t.val + r.val) l.val : ℝ) : EReal) := by
  have hN : t.val < 16 := lt_of_lt_of_eq t.isLt N_0
  obtain ⟨i0, i1, _, _, _, _, _, it⟩ := idx t
  rw [← it]
  refine tile_at (D c) (grid0.coords t) _ _ (fun r l => ?_) (fun ht r l => ?_) (hD c) r l
  · rw [it, ← h c ⟨256 * t.val + r.val, by omega⟩ l]
    blk_point [iblk, V, i0]
  · rw [it] at ht
    rw [it, ← h c ⟨256 * t.val + (256 + r.val), by omega⟩ l]
    blk_point [iblk, V, i1 ht]

omit h hD in
theorem blk_x (c : Dev nD) (t : Fin cfg0.N) (r : Fin 256) (l : Fin 1024) :
    iblk m c 2 t (ix2 r l) = m ((c : Thread nD τ).loc main_arg1) (ix2 (⟨256 * t.val + r.val, by have := lt_of_lt_of_eq t.isLt N_0; omega⟩ : Fin 4096) l) := by
  blk_point [iblk, V, idx t]
omit h hD in
theorem blk_s (c : Dev nD) (t : Fin cfg0.N) (r : Fin 256) (l : Fin 1024) :
    iblk m c 4 t (ix2 r l) = m ((c : Thread nD τ).loc main_arg3) (ix2 (⟨256 * t.val + r.val, by have := lt_of_lt_of_eq t.isLt N_0; omega⟩ : Fin 4096) l) := by
  blk_point [iblk, V, idx t]
omit h hD in
theorem blk_g (c : Dev nD) (t : Fin cfg0.N) (l : Fin 1024) : iblk m c 3 t (ix2 (0 : Fin 1) l) = m ((c : Thread nD τ).loc main_arg2) (ix1 l) := by
  blk_point [iblk, V, idx t]

/-- The gradient's array after the run. -/
theorem dx (hx : ∀ (c : Dev nD) (r : Fin 4096) (l : Fin 1024), ∃ a : ℝ, m ((c : Thread nD τ).loc main_arg1) (ix2 r l) = (a : EReal))
    (hg : ∀ (c : Dev nD) (l : Fin 1024), ∃ a : ℝ, m ((c : Thread nD τ).loc main_arg2) (ix1 l) = (a : EReal)) (c : Dev nD) :
    (dats m 0 c).arrAt 5 (cfgs 0).N = Cert.Reference3Ideal.Read.val_main_v160 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5, dx_at]
  revert y
  intro (y : S256x1024.Idx)
  obtain ⟨a, b, rfl⟩ : ∃ (a : Fin 256) (b : Fin 1024), y = ix2 a b := ⟨y 0, y 1, eq_ix2 y⟩
  have hN : t.val < 16 := lt_of_lt_of_eq t.isLt N_0
  rw [dx_pay]
  refine Eq.trans ?_ (congrArg _ (show ix2 (⟨256 * t.val + a.val, by omega⟩ : Fin 4096) b = _ by blk_ext [idx t]))
  rw [dx_ref, ← agree (fun k => ⟨_, back_at (D c) _ (h c) (hD c) _ k⟩) (hx c _) (hg c), blk_s]
  simp only [blk_x, blk_g, tile_real m D h hD, back_at (D c) _ (h c) (hD c)]

omit h hD in
/-- What one tile adds to the scale's gradient. -/
theorem dg_add (d x : FVec Ideal S256x1024 .f32) (v : Vec Ideal S1x1024 .f32) (j : S1x1024.Idx) : k0_pay5 (F := Ideal) d x v j = v j + k0_pay3 (F := Ideal) d x j := by
  obtain ⟨a, b, rfl⟩ : ∃ (a : Fin 1) (b : Fin 1024), j = ix2 a b := ⟨j 0, j 1, eq_ix2 j⟩
  pointwise [k0_pay5]

/-- The scale's gradient after the run. -/
theorem dg (c : Dev nD) : (dats m 0 c).arrAt 6 (cfgs 0).N = Cert.Reference3Ideal.Read.val_main_v161 (F := Ideal) (m ((c : Thread nD τ).loc main_arg0)) (m ((c : Thread nD τ).loc main_arg1)) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0)
    (fun t j => k0_pay3 (F := Ideal) (tile m c t) (iblk m c 2 t) j)
    (fun t h j => by rw [outsAt0_A m c t h (by have hN : t.val < 16 := lt_of_lt_of_eq t.isLt N_0; omega)]; frame_out; exact (zero_add _).symm)
    (fun t h j => by rw [outsAt0_B m c t h (by omega)]; frame_out; rw [dg_add])
    (le_of_eq N_0) t0_15 rfl j, zero_add]
  revert j
  intro (j : S1x1024.Idx)
  obtain ⟨a, b, rfl⟩ : ∃ (a : Fin 1) (b : Fin 1024), j = ix2 a b := ⟨j 0, j 1, eq_ix2 j⟩
  obtain rfl : a = 0 := Subsingleton.elim _ _
  refine Eq.trans ?_ (congrArg _ (show ix2 (0 : Fin 1) b = _ by blk_ext [idx t0_15]))
  rw [dg_ref]
  simp only [dg_pay]
  refine Fin.sum_mul_add_congr fun t k hl => ?_
  have e : (⟨t.val * 256 + k.val, hl⟩ : Fin 4096) = ⟨256 * t.val + k.val, by omega⟩ := Fin.ext (congrArg (· + k.val) (Nat.mul_comm _ _))
  rw [e, back_at (D c) _ (h c) (hD c), tile_real m D h hD]
  simp only [blk_x]
  exact mul_comm (G := EReal) _ _
end

theorem algebraic : Cert.algebraic_Kernel3Ideal_Reference3Ideal_pre_finite_window := by
  intro m g m' g' hpre hagree
  have hy : ∀ (c : Dev nD) (r : Fin 4096) (l : Fin 1024), (m ((c : Thread nD τ).loc main_arg0)) (ix2 r l)
      = ((reals (n := 4096) (k := 1024) (m ((c : Thread nD τ).loc main_arg0)) r.val l.val : ℝ) : EReal) := fun c r l =>
    reals_at (fun i => real_of_lt_top (congrFun (hpre c).1 i)) r l
  have hz : ∀ (c : Dev nD) p l, 4096 ≤ p → reals (n := 4096) (k := 1024) (m ((c : Thread nD τ).loc main_arg0)) p l = 0 := fun c p l h => by
    rw [reals, dif_neg (fun e => by omega)]
  have hx : ∀ (c : Dev nD) (r : Fin 4096) (l : Fin 1024), ∃ a : ℝ, m ((c : Thread nD τ).loc main_arg1) (ix2 r l) = (a : EReal) := fun c r l =>
    ⟨_, real_of_lt_top (congrFun (hpre c).2.1 (ix2 r l))⟩
  have hg : ∀ (c : Dev nD) (l : Fin 1024), ∃ a : ℝ, m ((c : Thread nD τ).loc main_arg2) (ix1 l) = (a : EReal) := fun c l =>
    ⟨_, real_of_lt_top (congrFun (hpre c).2.2 (ix1 l))⟩
  refine ⟨fun c => (dats m 0 c).arrAt 5 (cfgs 0).N, fun c => (dats m 0 c).arrAt 6 (cfgs 0).N, Cert.Kernel3Ideal.Value.run_blocks m g, ?_⟩
  refine (θ_run Cert.Reference3Ideal.defs _ _).mono (fun r h c => ?_) (Cert.Reference3Ideal.Value.run m' g')
  obtain ⟨h0, h1, hk⟩ := h c
  obtain ⟨a0, a1, a2, a3⟩ := hagree c
  have e5 := dx m (fun c => reals (n := 4096) (k := 1024) (m ((c : Thread nD τ).loc main_arg0))) hy hz hx hg c
  have e6 := dg m (fun c => reals (n := 4096) (k := 1024) (m ((c : Thread nD τ).loc main_arg0))) hy hz c
  rw [← a0, ← a1, ← a2, ← a3] at e5
  rw [← a0, ← a1] at e6
  exact ⟨h0.trans e5.symm, h1.trans e6.symm, hk⟩
end

end Cert.Pool

end
-- ==== Proof.Proj.Up.lean ====
/- The gradient of the product with the MLP's first weight and of the norm before it: what the kernel leaves in its two
   arrays, against `jax.vjp`. -/
module

public import proofs.«01_k».proof.Defs
public import proofs.«01_k».proof.Proof.Gen.Pre_finite_up
public import proofs.«01_k».proof.Proof.Gen.Kernel4Ideal.Value
public import proofs.«01_k».proof.Proof.Gen.Reference4Ideal.Run
public import proofs.«01_k».proof.Proof.Gen.Reference4Ideal.Read
public import proofs.«01_k».proof.Proof.Norm
public import proofs.«01_k».proof.Proof.Finite
public import Idealize.ShloMosaic.Lib.Claim
public import Idealize.ShloMosaic.Lib.Pipeline.ReadBack

@[expose] public section

set_option maxRecDepth 16384

noncomputable section

namespace Cert.Up

open Cert.Reals Cert.Norm Idealize.ShloMosaic Idealize.ShloMosaic.TcCoe Idealize.SL.Sem

theorem mul_real {a b : EReal} (ha : ∃ r : ℝ, a = (r : EReal)) (hb : ∃ r : ℝ, b = (r : EReal)) : ∃ r : ℝ, a * b = (r : EReal) := by
  obtain ⟨r, rfl⟩ := ha
  obtain ⟨s, rfl⟩ := hb
  exact ⟨r * s, (EReal.coe_mul _ _).symm⟩

theorem sum_real {n : ℕ} {f : Fin n → EReal} (h : ∀ k, ∃ r : ℝ, f k = (r : EReal)) : ∃ r : ℝ, ∑ k, f k = (r : EReal) := by
  choose g hg using h
  exact ⟨∑ k, g k, (Finset.sum_congr rfl fun k _ => hg k).trans (coe_sum _ g).symm⟩

/-- A cell that changes at every fourth point only, where it takes the next part: what it holds after `n + 1` changes. -/
theorem by_fours {N : ℕ} (f : (n : ℕ) → n < N → EReal) (p : Fin N → EReal)
    (hi : ∀ t : Fin N, ¬t.val % 4 = 3 → f t.val t.isLt = f (t.val - 1) (Nat.lt_of_le_of_lt (Nat.sub_le _ _) t.isLt))
    (hp : ∀ t : Fin N, t.val % 4 = 3 → f t.val t.isLt = (if t.val < 4 then 0 else f (t.val - 1) (Nat.lt_of_le_of_lt (Nat.sub_le _ _) t.isLt)) + p t) :
    ∀ (n : ℕ) (hb : 4 * n + 3 < N), f (4 * n + 3) hb = ∑ i : Fin (n + 1), p ⟨4 * i.val + 3, lt_of_le_of_lt (by omega) hb⟩
  | 0, hb => by
    rw [Fin.sum_univ_one]
    exact (hp ⟨3, hb⟩ rfl).trans (zero_add _)
  | n + 1, hb => by
    have e4 := hi ⟨4 * n + 4, by omega⟩ (by dsimp only; omega)
    have e5 := hi ⟨4 * n + 5, by omega⟩ (by dsimp only; omega)
    have e6 := hi ⟨4 * n + 6, by omega⟩ (by dsimp only; omega)
    have e7 := hp ⟨4 * (n + 1) + 3, hb⟩ (by dsimp only; omega)
    rw [if_neg (by dsimp only; omega)] at e7
    rw [Fin.sum_univ_castSucc]
    exact e7.trans (congrArg (· + _) ((e6.trans (e5.trans e4)).trans (by_fours f p hi hp n (by omega))))

section
open Cert.Reference4Ideal Cert.Reference4Ideal.Gen Cert.Reference4Ideal.Read
theorem dot_ref (y : FVec Ideal S4096x4096 .f32) (w : FVec Ideal S1024x4096 .f32) (a : Fin 4096) (b : Fin 1024) :
    val_main_v17 (F := Ideal) y w (ix2 a b) = ∑ k : Fin 4096, y (ix2 a k) * w (ix2 b k) := by
  pointwise [val_main_v17]

theorem dx_ref (y : FVec Ideal S4096x4096 .f32) (w : FVec Ideal S1024x4096 .f32) (x : FVec Ideal S4096x1024 .f32) (g : FVec Ideal S1024 .f32)
    (s : FVec Ideal S4096x1024 .f32) (a : Fin 4096) (b : Fin 1024) :
    val_main_v38 (F := Ideal) y w x g s (ix2 a b)
      = s (ix2 a b) + theirs (fun k => val_main_v17 (F := Ideal) y w (ix2 a k)) (fun k => x (ix2 a k)) (fun k => g (ix1 k)) b := by
  simp only [val_main_v0, val_main_cst, val_main_v1, val_main_v2, val_main_cst_0, val_main_v3, val_main_v4, val_main_cst_1, val_main_v5, val_main_v6, val_main_v7,
    val_main_v8, val_main_cst_2, val_main_v9, val_main_v10, val_main_v13, val_main_v21, val_main_v22, val_main_v24, val_main_cst_5, val_main_v25,
    val_main_v26, val_main_v27, val_main_v28, val_main_v29, val_main_cst_6, val_main_v30, val_main_v31, val_main_cst_7, val_main_v32, val_main_v33,
    val_main_v34, val_main_v35, val_main_v36, val_main_v37, val_main_v38]
  generalize val_main_v17 (F := Ideal) y w = d
  pointwise
  simp only [Fin.sum_univ_one]
  rfl

/-- One row's part of the scale's gradient. -/
def term (y : FVec Ideal S4096x4096 .f32) (w : FVec Ideal S1024x4096 .f32) (x : FVec Ideal S4096x1024 .f32) (b : Fin 1024) (a : Fin 4096) : EReal :=
  x (ix2 a b) * root (fun k => x (ix2 a k)) * val_main_v17 (F := Ideal) y w (ix2 a b)

theorem dg_ref (y : FVec Ideal S4096x4096 .f32) (w : FVec Ideal S1024x4096 .f32) (x : FVec Ideal S4096x1024 .f32) (b : Fin 1024) :
    val_main_v39 (F := Ideal) y w x (ix2 (0 : Fin 1) b)
      = ∑ a : Fin 4096, term y w x b a := by
  unfold term
  simp only [val_main_v0, val_main_cst, val_main_v1, val_main_v2, val_main_cst_0, val_main_v3, val_main_v4, val_main_cst_1, val_main_v5, val_main_v6, val_main_v7,
    val_main_v11, val_main_v12, val_main_v18, val_main_cst_3, val_main_v19, val_main_v20, val_main_cst_4, val_main_v23, val_main_v39]
  generalize val_main_v17 (F := Ideal) y w = d
  pointwise
  simp only [Fin.sum_univ_one]
  rfl
end

section
open Cert.Kernel4Ideal Cert.Kernel4Ideal.Gen
open Idealize.ShloMosaic.Pipeline (Dat)

theorem dx_pay (d x : FVec Ideal S1024x1024 .f32) (g : Vec Ideal S1x1024 .f32) (s : Vec Ideal S1024x1024 .f32) (a b : Fin 1024) :
    k0_pay8 (F := Ideal) d x g s (ix2 a b) = s (ix2 a b) + ours (fun k => d (ix2 a k)) (fun k => x (ix2 a k)) (fun k => g (ix2 0 k)) b := by
  pointwise [k0_pay8, k0_pay6, k0_pay5]
  rfl

theorem dg_pay (d x : FVec Ideal S1024x1024 .f32) (b : Fin 1024) :
    k0_pay7 (F := Ideal) d x (ix2 (0 : Fin 1) b) = ∑ a : Fin 1024, d (ix2 a b) * (x (ix2 a b) * root (fun k => x (ix2 a k))) := by
  pointwise [k0_pay7, k0_pay6, k0_pay5]
  rfl

theorem dg_add (p v : FVec Ideal S1x1024 .f32) (j : S1x1024.Idx) : k0_pay4 (F := Ideal) p v j = v j + p j := by
  obtain ⟨a, b, rfl⟩ : ∃ (a : Fin 1) (b : Fin 1024), j = ix2 a b := ⟨j 0, j 1, eq_ix2 j⟩
  pointwise [k0_pay4]

theorem dot_pay (y : Vec Ideal S1024x1024 .bf16) (w : Vec Ideal S1x1x1024x1024 .bf16) (a b : Fin 1024) :
    k0_pay1 (F := Ideal) y w (ix2 a b) = ∑ k : Fin 1024, y (ix2 a k) * w (ix4 0 0 b k) := by
  pointwise [k0_pay1]

theorem dot_set (y : Vec Ideal S1024x1024 .bf16) (w : Vec Ideal S1x1x1024x1024 .bf16) (j : S1024x1024.Idx) :
    k0_pay2 (F := Ideal) y w j = k0_pay1 (F := Ideal) y w j := by
  obtain ⟨a, b, rfl⟩ : ∃ (a b : Fin 1024), j = ix2 a b := ⟨j 0, j 1, eq_ix2 j⟩
  pointwise [k0_pay2]

theorem dot_add (y : Vec Ideal S1024x1024 .bf16) (w : Vec Ideal S1x1x1024x1024 .bf16) (v : FVec Ideal S1024x1024 .f32) (j : S1024x1024.Idx) :
    k0_pay3 (F := Ideal) y w v j = v j + k0_pay1 (F := Ideal) y w j := by
  obtain ⟨a, b, rfl⟩ : ∃ (a b : Fin 1024), j = ix2 a b := ⟨j 0, j 1, eq_ix2 j⟩
  pointwise [k0_pay3]

theorem idx : ∀ t : Fin cfg0.N, win0_0.index t = ![t.val / 4, t.val % 4] ∧ win0_1.index t = ![t.val % 4, 0, 0, 0] ∧ win0_2.index t = ![t.val / 4, 0]
    ∧ win0_3.index t = ![0, 0] ∧ win0_4.index t = ![t.val / 4, 0] ∧ win0_5.index t = ![t.val / 4, 0] ∧ win0_6.index t = ![0, 0] :=
  (by decide +kernel : ∀ t : Fin grid0.N, _)

variable (m : (ℓ : Loc nD τ sig) → Buf (Elt Ideal) ℓ)

theorem blk_y (c : Dev nD) (t : Fin cfg0.N) (r l : Fin 1024) :
    iblk m c 0 t (ix2 r l) = m ((c : Thread nD τ).loc main_arg0) (ix2 (⟨1024 * (t.val / 4) + r.val, by have := lt_of_lt_of_eq t.isLt N_0; omega⟩ : Fin 4096)
      (⟨1024 * (t.val % 4) + l.val, by omega⟩ : Fin 4096)) := by
  blk_point [iblk, V, idx t]
theorem blk_w (c : Dev nD) (t : Fin cfg0.N) (r l : Fin 1024) :
    iblk m c 1 t (ix4 (0 : Fin 1) (0 : Fin 1) r l) = m ((c : Thread nD τ).loc main_arg1) (ix2 r (⟨1024 * (t.val % 4) + l.val, by omega⟩ : Fin 4096)) := by
  blk_point [iblk, V, idx t]
theorem blk_x (c : Dev nD) (t : Fin cfg0.N) (r l : Fin 1024) :
    iblk m c 2 t (ix2 r l) = m ((c : Thread nD τ).loc main_arg2) (ix2 (⟨1024 * (t.val / 4) + r.val, by have := lt_of_lt_of_eq t.isLt N_0; omega⟩ : Fin 4096) l) := by
  blk_point [iblk, V, idx t]
theorem blk_g (c : Dev nD) (t : Fin cfg0.N) (l : Fin 1024) : iblk m c 3 t (ix2 (0 : Fin 1) l) = m ((c : Thread nD τ).loc main_arg3) (ix1 l) := by
  blk_point [iblk, V, idx t]
theorem blk_s (c : Dev nD) (t : Fin cfg0.N) (r l : Fin 1024) :
    iblk m c 4 t (ix2 r l) = m ((c : Thread nD τ).loc main_arg4) (ix2 (⟨1024 * (t.val / 4) + r.val, by have := lt_of_lt_of_eq t.isLt N_0; omega⟩ : Fin 4096) l) := by
  blk_point [iblk, V, idx t]

/-- The product's rows, summed over the four pieces of the contracted axis. -/
theorem acc_at (c : Dev nD) (t : Fin cfg0.N) (h : t.val % 4 = 3) (a b : Fin 1024) :
    (outsAt0 m c t.val t.isLt).2.2 (ix2 a b) = Cert.Reference4Ideal.Read.val_main_v17 (F := Ideal) (m ((c : Thread nD τ).loc main_arg0)) (m ((c : Thread nD τ).loc main_arg1))
      (ix2 (⟨1024 * (t.val / 4) + a.val, by have := lt_of_lt_of_eq t.isLt N_0; omega⟩ : Fin 4096) b) := by
  have hN : t.val < 16 := lt_of_lt_of_eq t.isLt N_0
  rw [Pipeline.eq_sum_fin_of_reset_step_apply_of_flush (fun n h => (outsAt0 m c n h).2.2) 4 (fun _ => 0)
    (fun t j => k0_pay1 (F := Ideal) (iblk m c 0 t) (iblk m c 1 t) j)
    (fun t h j => by rw [outsAt0_A m c t h (by omega) (by omega)]; frame_out; rw [dot_set]; exact (zero_add _).symm)
    (fun t h j => by
      have hN : t.val < 16 := lt_of_lt_of_eq t.isLt N_0
      by_cases h2 : t.val % 4 = 3
      · by_cases h3 : t.val < 4
        · rw [outsAt0_C m c t h (by omega) h2 h3 (by omega)]; frame_out; rw [dot_add, read_unread_whole]
        · rw [outsAt0_D m c t h (by omega) h2 h3 (by omega)]; frame_out; rw [dot_add, read_unread_whole]
      · rw [outsAt0_B m c t h (by omega) h2]; frame_out; rw [dot_add, read_unread_whole]) t h (ix2 a b), zero_add, dot_ref]
  simp only [dot_pay]
  refine Fin.sum_mul_add_congr fun s k hl => ?_
  rw [blk_y, blk_w]
  congr 3 <;> apply Fin.ext <;> dsimp only <;> omega

/-- What a tile's last point leaves in the gradient's block. -/
theorem dx_at (c : Dev nD) (t : Fin cfg0.N) (h : t.val % 4 = 3) :
    (outsAt0 m c t.val t.isLt).1 = k0_pay8 (F := Ideal) (outsAt0 m c t.val t.isLt).2.2 (iblk m c 2 t) (iblk m c 3 t) (iblk m c 4 t) := by
  have hN : t.val < 16 := lt_of_lt_of_eq t.isLt N_0
  by_cases h3 : t.val < 4
  · rw [outsAt0_C m c t (by omega) (by omega) h h3 (by omega)]; funext y; frame_out
  · rw [outsAt0_D m c t (by omega) (by omega) h h3 (by omega)]; funext y; frame_out

/-- A point that does not end a tile leaves the scale's gradient as it was. -/
theorem dg_idle (c : Dev nD) (t : Fin cfg0.N) (h : ¬t.val % 4 = 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 (by omega) (by omega)]; simp only [out0_A_6]
  · rw [outsAt0_B m c t h0 (by omega) h]; simp only [out0_B_6]

/-- What a tile adds to the scale's gradient. -/
abbrev part (c : Dev nD) (t : Fin cfg0.N) : FVec Ideal S1x1024 .f32 := k0_pay7 (F := Ideal) (outsAt0 m c t.val t.isLt).2.2 (iblk m c 2 t)

theorem part_val (c : Dev nD) (t : Fin cfg0.N) (h : t.val % 4 = 3) (b : Fin 1024) :
    part m c t (ix2 (0 : Fin 1) b) = ∑ a : Fin 1024, term (m ((c : Thread nD τ).loc main_arg0)) (m ((c : Thread nD τ).loc main_arg1)) (m ((c : Thread nD τ).loc main_arg2))
      b (⟨1024 * (t.val / 4) + a.val, by have := lt_of_lt_of_eq t.isLt N_0; omega⟩ : Fin 4096) := by
  rw [part, dg_pay]
  refine Finset.sum_congr rfl fun k _ => ?_
  rw [acc_at m c t h]
  simp only [blk_x, term]
  exact mul_comm (G := EReal) _ _

theorem part_at (c : Dev nD) (t : Fin cfg0.N) (h : t.val % 4 = 3) (j : S1x1024.Idx) :
    (outsAt0 m c t.val t.isLt).2.1 j
      = (if t.val < 4 then 0 else (outsAt0 m c (t.val - 1) (Nat.lt_of_le_of_lt (Nat.sub_le _ _) t.isLt)).2.1 j) + part m c t j := by
  rw [part]
  by_cases h3 : t.val < 4
  · rw [outsAt0_C m c t (by omega) (by omega) h h3 (by omega), if_pos h3, zero_add]; frame_out
  · rw [outsAt0_D m c t (by omega) (by omega) h h3 (by omega), if_neg h3]; frame_out; rw [dg_add]

section
variable (hy : ∀ (c : Dev nD) (r k : Fin 4096), ∃ a : ℝ, m ((c : Thread nD τ).loc main_arg0) (ix2 r k) = (a : EReal))
  (hw : ∀ (c : Dev nD) (r : Fin 1024) (k : Fin 4096), ∃ a : ℝ, m ((c : Thread nD τ).loc main_arg1) (ix2 r k) = (a : EReal))
  (hx : ∀ (c : Dev nD) (r : Fin 4096) (l : Fin 1024), ∃ a : ℝ, m ((c : Thread nD τ).loc main_arg2) (ix2 r l) = (a : EReal))
  (hg : ∀ (c : Dev nD) (l : Fin 1024), ∃ a : ℝ, m ((c : Thread nD τ).loc main_arg3) (ix1 l) = (a : EReal))

include hy hw hx hg in
/-- The gradient's array after the run. -/
theorem dx (c : Dev nD) : (dats m 0 c).arrAt 5 (cfgs 0).N = Cert.Reference4Ideal.Read.val_main_v38 (F := Ideal) (m ((c : Thread nD τ).loc main_arg0))
      (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h := (flush0_5 t).mp hf
  blk_simp
  rw [after0_5, dx_at m c t h]
  revert y
  intro (y : S1024x1024.Idx)
  obtain ⟨a, b, rfl⟩ : ∃ (a b : Fin 1024), y = ix2 a b := ⟨y 0, y 1, eq_ix2 y⟩
  have hN : t.val < 16 := lt_of_lt_of_eq t.isLt N_0
  rw [dx_pay]
  refine Eq.trans ?_ (congrArg _ (show ix2 (⟨1024 * (t.val / 4) + a.val, by omega⟩ : Fin 4096) b = _ by blk_ext [idx t]))
  rw [dx_ref, ← agree (fun k => (dot_ref _ _ _ k).symm ▸ sum_real fun j => mul_real (hy c _ j) (hw c k j)) (hx c _) (hg c), blk_s]
  simp only [blk_x, blk_g, acc_at m c t h]

/-- The scale's gradient after the run. -/
theorem dg (c : Dev nD) : (dats m 0 c).arrAt 6 (cfgs 0).N = Cert.Reference4Ideal.Read.val_main_v39 (F := Ideal) (m ((c : Thread nD τ).loc main_arg0))
      (m ((c : Thread nD τ).loc main_arg1)) (m ((c : Thread nD τ).loc main_arg2)) := by
  refine (dats m 0 c).arrAt_eq_of_after_last 6 t0_15 (by decide +kernel) _ fun j => ?_
  blk_simp
  rw [after0_6]
  revert j
  intro (j : S1x1024.Idx)
  obtain ⟨a, b, rfl⟩ : ∃ (a : Fin 1) (b : Fin 1024), j = ix2 a b := ⟨j 0, j 1, eq_ix2 j⟩
  obtain rfl : a = 0 := Subsingleton.elim _ _
  refine Eq.trans ?_ (congrArg _ (show ix2 (0 : Fin 1) b = _ by blk_ext [idx t0_15]))
  rw [dg_ref]
  refine (by_fours (fun n h => (outsAt0 m c n h).2.1 (ix2 (0 : Fin 1) b)) (fun t => part m c t (ix2 (0 : Fin 1) b)) (fun t h => congrFun (dg_idle m c t h) _)
    (fun t h => part_at m c t h _) 3 t0_15.isLt).trans ?_
  refine (Finset.sum_congr rfl fun i _ => part_val m c ⟨4 * i.val + 3, lt_of_lt_of_eq (by omega) N_0.symm⟩ (by dsimp only; omega) b).trans ?_
  refine Fin.sum_mul_add_congr fun t k hl => ?_
  rw [show (⟨t.val * 1024 + k.val, hl⟩ : Fin 4096) = ⟨1024 * ((4 * t.val + 3) / 4) + k.val, by omega⟩ from Fin.ext (by dsimp only; omega)]
end

theorem algebraic : Cert.algebraic_Kernel4Ideal_Reference4Ideal_pre_finite_up := by
  intro m g m' g' hpre hagree
  refine ⟨fun c => (dats m 0 c).arrAt 5 (cfgs 0).N, fun c => (dats m 0 c).arrAt 6 (cfgs 0).N, Cert.Kernel4Ideal.Value.run_blocks m g, ?_⟩
  refine (θ_run Cert.Reference4Ideal.defs _ _).mono (fun r h c => ?_) (Cert.Reference4Ideal.Value.run m' g')
  obtain ⟨h0, h1, hk⟩ := h c
  obtain ⟨a0, a1, a2, a3, a4⟩ := hagree c
  have e5 := dx m (fun c r k => ⟨_, real_of_lt_top (congrFun (hpre c).1 (ix2 r k))⟩) (fun c r k => ⟨_, real_of_lt_top (congrFun (hpre c).2.1 (ix2 r k))⟩)
    (fun c r l => ⟨_, real_of_lt_top (congrFun (hpre c).2.2.1 (ix2 r l))⟩) (fun c l => ⟨_, real_of_lt_top (congrFun (hpre c).2.2.2 (ix1 l))⟩) c
  have e6 := dg m c
  rw [← a0, ← a1, ← a2, ← a3, ← a4] at e5
  rw [← a0, ← a1, ← a2] at e6
  exact ⟨h0.trans e5.symm, h1.trans e6.symm, hk⟩

end
end Cert.Up

end
-- ==== Proof.Proj.KeyVal.lean ====
/- The gradient of the product with the weight of the keys and values and of the norm before it: what the kernel leaves in its two
   arrays, against `jax.vjp`. -/
module

public import proofs.«01_k».proof.Defs
public import proofs.«01_k».proof.Proof.Gen.Pre_finite_kv
public import proofs.«01_k».proof.Proof.Gen.Kernel5Ideal.Value
public import proofs.«01_k».proof.Proof.Gen.Reference5Ideal.Run
public import proofs.«01_k».proof.Proof.Gen.Reference5Ideal.Read
public import proofs.«01_k».proof.Proof.Proj.Up
public import proofs.«01_k».proof.Proof.Finite
public import Idealize.ShloMosaic.Lib.Claim
public import Idealize.ShloMosaic.Lib.Pipeline.ReadBack

@[expose] public section

set_option maxRecDepth 16384

noncomputable section

namespace Cert.KeyVal

open Cert.Up (mul_real sum_real by_fours)
open Cert.Reals Cert.Norm Idealize.ShloMosaic Idealize.ShloMosaic.TcCoe Idealize.SL.Sem

section
open Cert.Reference5Ideal Cert.Reference5Ideal.Gen Cert.Reference5Ideal.Read
theorem dot_ref (y : FVec Ideal S4096x2048 .f32) (w : FVec Ideal S1024x2048 .f32) (a : Fin 4096) (b : Fin 1024) :
    val_main_v17 (F := Ideal) y w (ix2 a b) = ∑ k : Fin 2048, y (ix2 a k) * w (ix2 b k) := by
  pointwise [val_main_v17]

theorem dx_ref (y : FVec Ideal S4096x2048 .f32) (w : FVec Ideal S1024x2048 .f32) (x : FVec Ideal S4096x1024 .f32) (g : FVec Ideal S1024 .f32)
    (s : FVec Ideal S4096x1024 .f32) (a : Fin 4096) (b : Fin 1024) :
    val_main_v38 (F := Ideal) y w x g s (ix2 a b)
      = s (ix2 a b) + theirs (fun k => val_main_v17 (F := Ideal) y w (ix2 a k)) (fun k => x (ix2 a k)) (fun k => g (ix1 k)) b := by
  simp only [val_main_v0, val_main_cst, val_main_v1, val_main_v2, val_main_cst_0, val_main_v3, val_main_v4, val_main_cst_1, val_main_v5, val_main_v6, val_main_v7,
    val_main_v8, val_main_cst_2, val_main_v9, val_main_v10, val_main_v13, val_main_v21, val_main_v22, val_main_v24, val_main_cst_5, val_main_v25,
    val_main_v26, val_main_v27, val_main_v28, val_main_v29, val_main_cst_6, val_main_v30, val_main_v31, val_main_cst_7, val_main_v32, val_main_v33,
    val_main_v34, val_main_v35, val_main_v36, val_main_v37, val_main_v38]
  generalize val_main_v17 (F := Ideal) y w = d
  pointwise
  simp only [Fin.sum_univ_one]
  rfl

/-- One row's part of the scale's gradient. -/
def term (y : FVec Ideal S4096x2048 .f32) (w : FVec Ideal S1024x2048 .f32) (x : FVec Ideal S4096x1024 .f32) (b : Fin 1024) (a : Fin 4096) : EReal :=
  x (ix2 a b) * root (fun k => x (ix2 a k)) * val_main_v17 (F := Ideal) y w (ix2 a b)

theorem dg_ref (y : FVec Ideal S4096x2048 .f32) (w : FVec Ideal S1024x2048 .f32) (x : FVec Ideal S4096x1024 .f32) (b : Fin 1024) :
    val_main_v39 (F := Ideal) y w x (ix2 (0 : Fin 1) b)
      = ∑ a : Fin 4096, term y w x b a := by
  unfold term
  simp only [val_main_v0, val_main_cst, val_main_v1, val_main_v2, val_main_cst_0, val_main_v3, val_main_v4, val_main_cst_1, val_main_v5, val_main_v6, val_main_v7,
    val_main_v11, val_main_v12, val_main_v18, val_main_cst_3, val_main_v19, val_main_v20, val_main_cst_4, val_main_v23, val_main_v39]
  generalize val_main_v17 (F := Ideal) y w = d
  pointwise
  simp only [Fin.sum_univ_one]
  rfl
end

section
open Cert.Kernel5Ideal Cert.Kernel5Ideal.Gen
open Idealize.ShloMosaic.Pipeline (Dat)

theorem dx_pay (d x : FVec Ideal S1024x1024 .f32) (g : Vec Ideal S1x1024 .f32) (s : Vec Ideal S1024x1024 .f32) (a b : Fin 1024) :
    k0_pay8 (F := Ideal) d x g s (ix2 a b) = s (ix2 a b) + ours (fun k => d (ix2 a k)) (fun k => x (ix2 a k)) (fun k => g (ix2 0 k)) b := Cert.Up.dx_pay d x g s a b

theorem dg_pay (d x : FVec Ideal S1024x1024 .f32) (b : Fin 1024) :
    k0_pay7 (F := Ideal) d x (ix2 (0 : Fin 1) b) = ∑ a : Fin 1024, d (ix2 a b) * (x (ix2 a b) * root (fun k => x (ix2 a k))) := Cert.Up.dg_pay d x b

theorem dg_add (p v : FVec Ideal S1x1024 .f32) (j : S1x1024.Idx) : k0_pay4 (F := Ideal) p v j = v j + p j := Cert.Up.dg_add p v j

theorem dot_pay (y : Vec Ideal S1024x512 .bf16) (w : Vec Ideal S1x1x1024x512 .bf16) (a b : Fin 1024) :
    k0_pay1 (F := Ideal) y w (ix2 a b) = ∑ k : Fin 512, y (ix2 a k) * w (ix4 0 0 b k) := by
  pointwise [k0_pay1]

theorem dot_set (y : Vec Ideal S1024x512 .bf16) (w : Vec Ideal S1x1x1024x512 .bf16) (j : S1024x1024.Idx) :
    k0_pay2 (F := Ideal) y w j = k0_pay1 (F := Ideal) y w j := by
  obtain ⟨a, b, rfl⟩ : ∃ (a b : Fin 1024), j = ix2 a b := ⟨j 0, j 1, eq_ix2 j⟩
  pointwise [k0_pay2]

theorem dot_add (y : Vec Ideal S1024x512 .bf16) (w : Vec Ideal S1x1x1024x512 .bf16) (v : FVec Ideal S1024x1024 .f32) (j : S1024x1024.Idx) :
    k0_pay3 (F := Ideal) y w v j = v j + k0_pay1 (F := Ideal) y w j := by
  obtain ⟨a, b, rfl⟩ : ∃ (a b : Fin 1024), j = ix2 a b := ⟨j 0, j 1, eq_ix2 j⟩
  pointwise [k0_pay3]

theorem idx : ∀ t : Fin cfg0.N, win0_0.index t = ![t.val / 4, t.val % 4] ∧ win0_1.index t = ![t.val % 4, 0, 0, 0] ∧ win0_2.index t = ![t.val / 4, 0]
    ∧ win0_3.index t = ![0, 0] ∧ win0_4.index t = ![t.val / 4, 0] ∧ win0_5.index t = ![t.val / 4, 0] ∧ win0_6.index t = ![0, 0] :=
  (by decide +kernel : ∀ t : Fin grid0.N, _)

variable (m : (ℓ : Loc nD τ sig) → Buf (Elt Ideal) ℓ)

theorem blk_y (c : Dev nD) (t : Fin cfg0.N) (r : Fin 1024) (l : Fin 512) :
    iblk m c 0 t (ix2 r l) = m ((c : Thread nD τ).loc main_arg0) (ix2 (⟨1024 * (t.val / 4) + r.val, by have := lt_of_lt_of_eq t.isLt N_0; omega⟩ : Fin 4096)
      (⟨512 * (t.val % 4) + l.val, by omega⟩ : Fin 2048)) := by
  blk_point [iblk, V, idx t]
theorem blk_w (c : Dev nD) (t : Fin cfg0.N) (r : Fin 1024) (l : Fin 512) :
    iblk m c 1 t (ix4 (0 : Fin 1) (0 : Fin 1) r l) = m ((c : Thread nD τ).loc main_arg1) (ix2 r (⟨512 * (t.val % 4) + l.val, by omega⟩ : Fin 2048)) := by
  blk_point [iblk, V, idx t]
theorem blk_x (c : Dev nD) (t : Fin cfg0.N) (r l : Fin 1024) :
    iblk m c 2 t (ix2 r l) = m ((c : Thread nD τ).loc main_arg2) (ix2 (⟨1024 * (t.val / 4) + r.val, by have := lt_of_lt_of_eq t.isLt N_0; omega⟩ : Fin 4096) l) := by
  blk_point [iblk, V, idx t]
theorem blk_g (c : Dev nD) (t : Fin cfg0.N) (l : Fin 1024) : iblk m c 3 t (ix2 (0 : Fin 1) l) = m ((c : Thread nD τ).loc main_arg3) (ix1 l) := by
  blk_point [iblk, V, idx t]
theorem blk_s (c : Dev nD) (t : Fin cfg0.N) (r l : Fin 1024) :
    iblk m c 4 t (ix2 r l) = m ((c : Thread nD τ).loc main_arg4) (ix2 (⟨1024 * (t.val / 4) + r.val, by have := lt_of_lt_of_eq t.isLt N_0; omega⟩ : Fin 4096) l) := by
  blk_point [iblk, V, idx t]

/-- The product's rows, summed over the four pieces of the contracted axis. -/
theorem acc_at (c : Dev nD) (t : Fin cfg0.N) (h : t.val % 4 = 3) (a b : Fin 1024) :
    (outsAt0 m c t.val t.isLt).2.2 (ix2 a b) = Cert.Reference5Ideal.Read.val_main_v17 (F := Ideal) (m ((c : Thread nD τ).loc main_arg0)) (m ((c : Thread nD τ).loc main_arg1))
      (ix2 (⟨1024 * (t.val / 4) + a.val, by have := lt_of_lt_of_eq t.isLt N_0; omega⟩ : Fin 4096) b) := by
  have hN : t.val < 16 := lt_of_lt_of_eq t.isLt N_0
  rw [Pipeline.eq_sum_fin_of_reset_step_apply_of_flush (fun n h => (outsAt0 m c n h).2.2) 4 (fun _ => 0)
    (fun t j => k0_pay1 (F := Ideal) (iblk m c 0 t) (iblk m c 1 t) j)
    (fun t h j => by rw [outsAt0_A m c t h (by omega) (by omega)]; frame_out; rw [dot_set]; exact (zero_add _).symm)
    (fun t h j => by
      have hN : t.val < 16 := lt_of_lt_of_eq t.isLt N_0
      by_cases h2 : t.val % 4 = 3
      · by_cases h3 : t.val < 4
        · rw [outsAt0_C m c t h (by omega) h2 h3 (by omega)]; frame_out; rw [dot_add, read_unread_whole]
        · rw [outsAt0_D m c t h (by omega) h2 h3 (by omega)]; frame_out; rw [dot_add, read_unread_whole]
      · rw [outsAt0_B m c t h (by omega) h2]; frame_out; rw [dot_add, read_unread_whole]) t h (ix2 a b), zero_add, dot_ref]
  simp only [dot_pay]
  refine Fin.sum_mul_add_congr fun s k hl => ?_
  rw [blk_y, blk_w]
  congr 3 <;> apply Fin.ext <;> dsimp only <;> omega

/-- What a tile's last point leaves in the gradient's block. -/
theorem dx_at (c : Dev nD) (t : Fin cfg0.N) (h : t.val % 4 = 3) :
    (outsAt0 m c t.val t.isLt).1 = k0_pay8 (F := Ideal) (outsAt0 m c t.val t.isLt).2.2 (iblk m c 2 t) (iblk m c 3 t) (iblk m c 4 t) := by
  have hN : t.val < 16 := lt_of_lt_of_eq t.isLt N_0
  by_cases h3 : t.val < 4
  · rw [outsAt0_C m c t (by omega) (by omega) h h3 (by omega)]; funext y; frame_out
  · rw [outsAt0_D m c t (by omega) (by omega) h h3 (by omega)]; funext y; frame_out

/-- A point that does not end a tile leaves the scale's gradient as it was. -/
theorem dg_idle (c : Dev nD) (t : Fin cfg0.N) (h : ¬t.val % 4 = 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 (by omega) (by omega)]; simp only [out0_A_6]
  · rw [outsAt0_B m c t h0 (by omega) h]; simp only [out0_B_6]

/-- What a tile adds to the scale's gradient. -/
abbrev part (c : Dev nD) (t : Fin cfg0.N) : FVec Ideal S1x1024 .f32 := k0_pay7 (F := Ideal) (outsAt0 m c t.val t.isLt).2.2 (iblk m c 2 t)

theorem part_val (c : Dev nD) (t : Fin cfg0.N) (h : t.val % 4 = 3) (b : Fin 1024) :
    part m c t (ix2 (0 : Fin 1) b) = ∑ a : Fin 1024, term (m ((c : Thread nD τ).loc main_arg0)) (m ((c : Thread nD τ).loc main_arg1)) (m ((c : Thread nD τ).loc main_arg2))
      b (⟨1024 * (t.val / 4) + a.val, by have := lt_of_lt_of_eq t.isLt N_0; omega⟩ : Fin 4096) := by
  rw [part, dg_pay]
  refine Finset.sum_congr rfl fun k _ => ?_
  rw [acc_at m c t h]
  simp only [blk_x, term]
  exact mul_comm (G := EReal) _ _

theorem part_at (c : Dev nD) (t : Fin cfg0.N) (h : t.val % 4 = 3) (j : S1x1024.Idx) :
    (outsAt0 m c t.val t.isLt).2.1 j
      = (if t.val < 4 then 0 else (outsAt0 m c (t.val - 1) (Nat.lt_of_le_of_lt (Nat.sub_le _ _) t.isLt)).2.1 j) + part m c t j := by
  rw [part]
  by_cases h3 : t.val < 4
  · rw [outsAt0_C m c t (by omega) (by omega) h h3 (by omega), if_pos h3, zero_add]; frame_out
  · rw [outsAt0_D m c t (by omega) (by omega) h h3 (by omega), if_neg h3]; frame_out; rw [dg_add]

section
variable (hy : ∀ (c : Dev nD) (r : Fin 4096) (k : Fin 2048), ∃ a : ℝ, m ((c : Thread nD τ).loc main_arg0) (ix2 r k) = (a : EReal))
  (hw : ∀ (c : Dev nD) (r : Fin 1024) (k : Fin 2048), ∃ a : ℝ, m ((c : Thread nD τ).loc main_arg1) (ix2 r k) = (a : EReal))
  (hx : ∀ (c : Dev nD) (r : Fin 4096) (l : Fin 1024), ∃ a : ℝ, m ((c : Thread nD τ).loc main_arg2) (ix2 r l) = (a : EReal))
  (hg : ∀ (c : Dev nD) (l : Fin 1024), ∃ a : ℝ, m ((c : Thread nD τ).loc main_arg3) (ix1 l) = (a : EReal))

include hy hw hx hg in
/-- The gradient's array after the run. -/
theorem dx (c : Dev nD) : (dats m 0 c).arrAt 5 (cfgs 0).N = Cert.Reference5Ideal.Read.val_main_v38 (F := Ideal) (m ((c : Thread nD τ).loc main_arg0))
      (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h := (flush0_5 t).mp hf
  blk_simp
  rw [after0_5, dx_at m c t h]
  revert y
  intro (y : S1024x1024.Idx)
  obtain ⟨a, b, rfl⟩ : ∃ (a b : Fin 1024), y = ix2 a b := ⟨y 0, y 1, eq_ix2 y⟩
  have hN : t.val < 16 := lt_of_lt_of_eq t.isLt N_0
  rw [dx_pay]
  refine Eq.trans ?_ (congrArg _ (show ix2 (⟨1024 * (t.val / 4) + a.val, by omega⟩ : Fin 4096) b = _ by blk_ext [idx t]))
  rw [dx_ref, ← agree (fun k => (dot_ref _ _ _ k).symm ▸ sum_real fun j => mul_real (hy c _ j) (hw c k j)) (hx c _) (hg c), blk_s]
  simp only [blk_x, blk_g, acc_at m c t h]

/-- The scale's gradient after the run. -/
theorem dg (c : Dev nD) : (dats m 0 c).arrAt 6 (cfgs 0).N = Cert.Reference5Ideal.Read.val_main_v39 (F := Ideal) (m ((c : Thread nD τ).loc main_arg0))
      (m ((c : Thread nD τ).loc main_arg1)) (m ((c : Thread nD τ).loc main_arg2)) := by
  refine (dats m 0 c).arrAt_eq_of_after_last 6 t0_15 (by decide +kernel) _ fun j => ?_
  blk_simp
  rw [after0_6]
  revert j
  intro (j : S1x1024.Idx)
  obtain ⟨a, b, rfl⟩ : ∃ (a : Fin 1) (b : Fin 1024), j = ix2 a b := ⟨j 0, j 1, eq_ix2 j⟩
  obtain rfl : a = 0 := Subsingleton.elim _ _
  refine Eq.trans ?_ (congrArg _ (show ix2 (0 : Fin 1) b = _ by blk_ext [idx t0_15]))
  rw [dg_ref]
  refine (by_fours (fun n h => (outsAt0 m c n h).2.1 (ix2 (0 : Fin 1) b)) (fun t => part m c t (ix2 (0 : Fin 1) b)) (fun t h => congrFun (dg_idle m c t h) _)
    (fun t h => part_at m c t h _) 3 t0_15.isLt).trans ?_
  refine (Finset.sum_congr rfl fun i _ => part_val m c ⟨4 * i.val + 3, lt_of_lt_of_eq (by omega) N_0.symm⟩ (by dsimp only; omega) b).trans ?_
  refine Fin.sum_mul_add_congr fun t k hl => ?_
  rw [show (⟨t.val * 1024 + k.val, hl⟩ : Fin 4096) = ⟨1024 * ((4 * t.val + 3) / 4) + k.val, by omega⟩ from Fin.ext (by dsimp only; omega)]
end

theorem algebraic : Cert.algebraic_Kernel5Ideal_Reference5Ideal_pre_finite_kv := by
  intro m g m' g' hpre hagree
  refine ⟨fun c => (dats m 0 c).arrAt 5 (cfgs 0).N, fun c => (dats m 0 c).arrAt 6 (cfgs 0).N, Cert.Kernel5Ideal.Value.run_blocks m g, ?_⟩
  refine (θ_run Cert.Reference5Ideal.defs _ _).mono (fun r h c => ?_) (Cert.Reference5Ideal.Value.run m' g')
  obtain ⟨h0, h1, hk⟩ := h c
  obtain ⟨a0, a1, a2, a3, a4⟩ := hagree c
  have e5 := dx m (fun c r k => ⟨_, real_of_lt_top (congrFun (hpre c).1 (ix2 r k))⟩) (fun c r k => ⟨_, real_of_lt_top (congrFun (hpre c).2.1 (ix2 r k))⟩)
    (fun c r l => ⟨_, real_of_lt_top (congrFun (hpre c).2.2.1 (ix2 r l))⟩) (fun c l => ⟨_, real_of_lt_top (congrFun (hpre c).2.2.2 (ix1 l))⟩) c
  have e6 := dg m c
  rw [← a0, ← a1, ← a2, ← a3, ← a4] at e5
  rw [← a0, ← a1, ← a2] at e6
  exact ⟨h0.trans e5.symm, h1.trans e6.symm, hk⟩

end
end Cert.KeyVal

end
-- ==== Proof.Proj.Query.lean ====
/- The gradient of the product with the weight of the queries and of the norm before it: what the kernel leaves in its two
   arrays, against `jax.vjp`. -/
module

public import proofs.«01_k».proof.Defs
public import proofs.«01_k».proof.Proof.Gen.Pre_finite_q
public import proofs.«01_k».proof.Proof.Gen.Kernel6Ideal.Value
public import proofs.«01_k».proof.Proof.Gen.Reference6Ideal.Run
public import proofs.«01_k».proof.Proof.Gen.Reference6Ideal.Read
public import proofs.«01_k».proof.Proof.Proj.Up
public import proofs.«01_k».proof.Proof.Finite
public import Idealize.ShloMosaic.Lib.Claim
public import Idealize.ShloMosaic.Lib.Pipeline.ReadBack

@[expose] public section

set_option maxRecDepth 16384

noncomputable section

namespace Cert.Query

open Cert.Up (mul_real sum_real)
open Cert.Reals Cert.Norm Idealize.ShloMosaic Idealize.ShloMosaic.TcCoe Idealize.SL.Sem

section
open Cert.Reference6Ideal Cert.Reference6Ideal.Gen Cert.Reference6Ideal.Read
theorem dot_ref (y : FVec Ideal S4096x1024 .f32) (w : FVec Ideal S1024x1024 .f32) (a : Fin 4096) (b : Fin 1024) :
    val_main_v17 (F := Ideal) y w (ix2 a b) = ∑ k : Fin 1024, y (ix2 a k) * w (ix2 b k) := by
  pointwise [val_main_v17]

theorem dx_ref (y : FVec Ideal S4096x1024 .f32) (w : FVec Ideal S1024x1024 .f32) (x : FVec Ideal S4096x1024 .f32) (g : FVec Ideal S1024 .f32)
    (s : FVec Ideal S4096x1024 .f32) (a : Fin 4096) (b : Fin 1024) :
    val_main_v38 (F := Ideal) y w x g s (ix2 a b)
      = s (ix2 a b) + theirs (fun k => val_main_v17 (F := Ideal) y w (ix2 a k)) (fun k => x (ix2 a k)) (fun k => g (ix1 k)) b := by
  simp only [val_main_v0, val_main_cst, val_main_v1, val_main_v2, val_main_cst_0, val_main_v3, val_main_v4, val_main_cst_1, val_main_v5, val_main_v6, val_main_v7,
    val_main_v8, val_main_cst_2, val_main_v9, val_main_v10, val_main_v13, val_main_v21, val_main_v22, val_main_v24, val_main_cst_5, val_main_v25,
    val_main_v26, val_main_v27, val_main_v28, val_main_v29, val_main_cst_6, val_main_v30, val_main_v31, val_main_cst_7, val_main_v32, val_main_v33,
    val_main_v34, val_main_v35, val_main_v36, val_main_v37, val_main_v38]
  generalize val_main_v17 (F := Ideal) y w = d
  pointwise
  simp only [Fin.sum_univ_one]
  rfl

/-- One row's part of the scale's gradient. -/
def term (y : FVec Ideal S4096x1024 .f32) (w : FVec Ideal S1024x1024 .f32) (x : FVec Ideal S4096x1024 .f32) (b : Fin 1024) (a : Fin 4096) : EReal :=
  x (ix2 a b) * root (fun k => x (ix2 a k)) * val_main_v17 (F := Ideal) y w (ix2 a b)

theorem dg_ref (y : FVec Ideal S4096x1024 .f32) (w : FVec Ideal S1024x1024 .f32) (x : FVec Ideal S4096x1024 .f32) (b : Fin 1024) :
    val_main_v39 (F := Ideal) y w x (ix2 (0 : Fin 1) b)
      = ∑ a : Fin 4096, term y w x b a := by
  unfold term
  simp only [val_main_v0, val_main_cst, val_main_v1, val_main_v2, val_main_cst_0, val_main_v3, val_main_v4, val_main_cst_1, val_main_v5, val_main_v6, val_main_v7,
    val_main_v11, val_main_v12, val_main_v18, val_main_cst_3, val_main_v19, val_main_v20, val_main_cst_4, val_main_v23, val_main_v39]
  generalize val_main_v17 (F := Ideal) y w = d
  pointwise
  simp only [Fin.sum_univ_one]
  rfl
end

section
open Cert.Kernel6Ideal Cert.Kernel6Ideal.Gen
open Idealize.ShloMosaic.Pipeline (Dat)

theorem dx_pay (d x : FVec Ideal S1024x1024 .f32) (g : Vec Ideal S1x1024 .f32) (s : Vec Ideal S1024x1024 .f32) (a b : Fin 1024) :
    k0_pay8 (F := Ideal) d x g s (ix2 a b) = s (ix2 a b) + ours (fun k => d (ix2 a k)) (fun k => x (ix2 a k)) (fun k => g (ix2 0 k)) b := Cert.Up.dx_pay d x g s a b

theorem dg_pay (d x : FVec Ideal S1024x1024 .f32) (b : Fin 1024) :
    k0_pay7 (F := Ideal) d x (ix2 (0 : Fin 1) b) = ∑ a : Fin 1024, d (ix2 a b) * (x (ix2 a b) * root (fun k => x (ix2 a k))) := Cert.Up.dg_pay d x b

theorem dg_add (p v : FVec Ideal S1x1024 .f32) (j : S1x1024.Idx) : k0_pay4 (F := Ideal) p v j = v j + p j := Cert.Up.dg_add p v j

theorem dot_pay (y : Vec Ideal S1024x1024 .bf16) (w : Vec Ideal S4x1x256x1024 .bf16) (a b : Fin 1024) :
    k0_pay2 (F := Ideal) y w (ix2 a b) = ∑ k : Fin 1024, y (ix2 a k) * w (ix4 ⟨b.val / 256, by omega⟩ 0 ⟨b.val % 256, by omega⟩ k) := by
  pointwise [k0_pay2, k0_pay1]

theorem idx : ∀ t : Fin cfg0.N, win0_0.index t = ![t.val, 0] ∧ win0_1.index t = ![0, 0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ)

theorem blk_y (c : Dev nD) (t : Fin cfg0.N) (r l : Fin 1024) :
    iblk m c 0 t (ix2 r l) = m ((c : Thread nD τ).loc main_arg0) (ix2 (⟨1024 * t.val + r.val, by have := lt_of_lt_of_eq t.isLt N_0; omega⟩ : Fin 4096) l) := by
  blk_point [iblk, V, idx t]
theorem blk_w (c : Dev nD) (t : Fin cfg0.N) (r l : Fin 1024) :
    iblk m c 1 t (ix4 (⟨r.val / 256, by omega⟩ : Fin 4) (0 : Fin 1) (⟨r.val % 256, by omega⟩ : Fin 256) l) = m ((c : Thread nD τ).loc main_arg1) (ix2 r l) := by
  blk_point [iblk, V, idx t]
theorem blk_x (c : Dev nD) (t : Fin cfg0.N) (r l : Fin 1024) :
    iblk m c 2 t (ix2 r l) = m ((c : Thread nD τ).loc main_arg2) (ix2 (⟨1024 * t.val + r.val, by have := lt_of_lt_of_eq t.isLt N_0; omega⟩ : Fin 4096) l) := by
  blk_point [iblk, V, idx t]
theorem blk_g (c : Dev nD) (t : Fin cfg0.N) (l : Fin 1024) : iblk m c 3 t (ix2 (0 : Fin 1) l) = m ((c : Thread nD τ).loc main_arg3) (ix1 l) := by
  blk_point [iblk, V, idx t]
theorem blk_s (c : Dev nD) (t : Fin cfg0.N) (r l : Fin 1024) :
    iblk m c 4 t (ix2 r l) = m ((c : Thread nD τ).loc main_arg4) (ix2 (⟨1024 * t.val + r.val, by have := lt_of_lt_of_eq t.isLt N_0; omega⟩ : Fin 4096) l) := by
  blk_point [iblk, V, idx t]

/-- The product's rows of a tile. -/
abbrev rows (c : Dev nD) (t : Fin cfg0.N) : FVec Ideal S1024x1024 .f32 := k0_pay2 (F := Ideal) (iblk m c 0 t) (iblk m c 1 t)

theorem rows_at (c : Dev nD) (t : Fin cfg0.N) (a b : Fin 1024) :
    rows m c t (ix2 a b) = Cert.Reference6Ideal.Read.val_main_v17 (F := Ideal) (m ((c : Thread nD τ).loc main_arg0)) (m ((c : Thread nD τ).loc main_arg1))
      (ix2 (⟨1024 * t.val + a.val, by have := lt_of_lt_of_eq t.isLt N_0; omega⟩ : Fin 4096) b) := by
  rw [rows, dot_pay, dot_ref]
  exact Finset.sum_congr rfl fun k _ => by rw [blk_y, blk_w]

/-- What a point leaves in the gradient's block. -/
theorem dx_at (c : Dev nD) (t : Fin cfg0.N) :
    (outsAt0 m c t.val t.isLt).1 = k0_pay8 (F := Ideal) (rows m c t) (iblk m c 2 t) (iblk m c 3 t) (iblk m c 4 t) := by
  have hN : t.val < 4 := lt_of_lt_of_eq t.isLt N_0
  by_cases h : t.val % 4 = 0
  · rw [outsAt0_A m c t h (by omega)]; funext y; frame_out
  · rw [outsAt0_B m c t h (by omega)]; funext y; frame_out

/-- What a tile adds to the scale's gradient. -/
abbrev part (c : Dev nD) (t : Fin cfg0.N) : FVec Ideal S1x1024 .f32 := k0_pay7 (F := Ideal) (rows m c t) (iblk m c 2 t)

theorem part_val (c : Dev nD) (t : Fin cfg0.N) (b : Fin 1024) :
    part m c t (ix2 (0 : Fin 1) b) = ∑ a : Fin 1024, term (m ((c : Thread nD τ).loc main_arg0)) (m ((c : Thread nD τ).loc main_arg1)) (m ((c : Thread nD τ).loc main_arg2))
      b (⟨1024 * t.val + a.val, by have := lt_of_lt_of_eq t.isLt N_0; omega⟩ : Fin 4096) := by
  rw [part, dg_pay]
  refine Finset.sum_congr rfl fun k _ => ?_
  rw [rows_at m c t]
  simp only [blk_x, term]
  exact mul_comm (G := EReal) _ _

theorem dg_at (c : Dev nD) (t : Fin cfg0.N) (h : t.val % 4 = 3) (j : S1x1024.Idx) :
    (outsAt0 m c t.val t.isLt).2 j = ∑ s : Fin 4, part m c ⟨4 * (t.val / 4) + s.val, by have := lt_of_lt_of_eq t.isLt N_0; have := N_0; omega⟩ j := by
  have hN : t.val < 4 := lt_of_lt_of_eq t.isLt N_0
  rw [Pipeline.eq_sum_fin_of_reset_step_apply_of_flush (fun n h => (outsAt0 m c n h).2) 4 (fun _ => 0) (fun t j => part m c t j)
    (fun t h j => by
      have hN : t.val < 4 := lt_of_lt_of_eq t.isLt N_0
      rw [outsAt0_A m c t h (by omega), zero_add]; frame_out)
    (fun t h j => by
      have hN : t.val < 4 := lt_of_lt_of_eq t.isLt N_0
      rw [outsAt0_B m c t h (by omega)]; frame_out; rw [dg_add]) t h j, zero_add]

section
variable (hy : ∀ (c : Dev nD) (r : Fin 4096) (k : Fin 1024), ∃ a : ℝ, m ((c : Thread nD τ).loc main_arg0) (ix2 r k) = (a : EReal))
  (hw : ∀ (c : Dev nD) (r : Fin 1024) (k : Fin 1024), ∃ a : ℝ, m ((c : Thread nD τ).loc main_arg1) (ix2 r k) = (a : EReal))
  (hx : ∀ (c : Dev nD) (r : Fin 4096) (l : Fin 1024), ∃ a : ℝ, m ((c : Thread nD τ).loc main_arg2) (ix2 r l) = (a : EReal))
  (hg : ∀ (c : Dev nD) (l : Fin 1024), ∃ a : ℝ, m ((c : Thread nD τ).loc main_arg3) (ix1 l) = (a : EReal))

include hy hw hx hg in
/-- The gradient's array after the run. -/
theorem dx (c : Dev nD) : (dats m 0 c).arrAt 5 (cfgs 0).N = Cert.Reference6Ideal.Read.val_main_v38 (F := Ideal) (m ((c : Thread nD τ).loc main_arg0))
      (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, dx_at m c t]
  revert y
  intro (y : S1024x1024.Idx)
  obtain ⟨a, b, rfl⟩ : ∃ (a b : Fin 1024), y = ix2 a b := ⟨y 0, y 1, eq_ix2 y⟩
  have hN : t.val < 4 := lt_of_lt_of_eq t.isLt N_0
  rw [dx_pay]
  refine Eq.trans ?_ (congrArg _ (show ix2 (⟨1024 * t.val + a.val, by omega⟩ : Fin 4096) b = _ by blk_ext [idx t]))
  rw [dx_ref, ← agree (fun k => (dot_ref _ _ _ k).symm ▸ sum_real fun j => mul_real (hy c _ j) (hw c k j)) (hx c _) (hg c), blk_s]
  simp only [blk_x, blk_g, rows_at m c t]

/-- The scale's gradient after the run. -/
theorem dg (c : Dev nD) : (dats m 0 c).arrAt 6 (cfgs 0).N = Cert.Reference6Ideal.Read.val_main_v39 (F := Ideal) (m ((c : Thread nD τ).loc main_arg0))
      (m ((c : Thread nD τ).loc main_arg1)) (m ((c : Thread nD τ).loc main_arg2)) := by
  refine (dats m 0 c).arrAt_eq_of_after_last 6 t0_3 (by decide +kernel) _ fun j => ?_
  blk_simp
  rw [after0_6]
  revert j
  intro (j : S1x1024.Idx)
  obtain ⟨a, b, rfl⟩ : ∃ (a : Fin 1) (b : Fin 1024), j = ix2 a b := ⟨j 0, j 1, eq_ix2 j⟩
  obtain rfl : a = 0 := Subsingleton.elim _ _
  refine Eq.trans ?_ (congrArg _ (show ix2 (0 : Fin 1) b = _ by blk_ext [idx t0_3]))
  rw [dg_ref]
  refine (dg_at m c t0_3 rfl _).trans ?_
  refine (Finset.sum_congr rfl fun i _ => part_val m c _ b).trans ?_
  refine Fin.sum_mul_add_congr fun t k hl => ?_
  rw [show (⟨t.val * 1024 + k.val, hl⟩ : Fin 4096) = ⟨1024 * (4 * (t0_3.val / 4) + t.val) + k.val, by have : t0_3.val = 3 := rfl; omega⟩ from Fin.ext (by have : t0_3.val = 3 := rfl; dsimp only; omega)]
end

theorem algebraic : Cert.algebraic_Kernel6Ideal_Reference6Ideal_pre_finite_q := by
  intro m g m' g' hpre hagree
  refine ⟨fun c => (dats m 0 c).arrAt 5 (cfgs 0).N, fun c => (dats m 0 c).arrAt 6 (cfgs 0).N, Cert.Kernel6Ideal.Value.run_blocks m g, ?_⟩
  refine (θ_run Cert.Reference6Ideal.defs _ _).mono (fun r h c => ?_) (Cert.Reference6Ideal.Value.run m' g')
  obtain ⟨h0, h1, hk⟩ := h c
  obtain ⟨a0, a1, a2, a3, a4⟩ := hagree c
  have e5 := dx m (fun c r k => ⟨_, real_of_lt_top (congrFun (hpre c).1 (ix2 r k))⟩) (fun c r k => ⟨_, real_of_lt_top (congrFun (hpre c).2.1 (ix2 r k))⟩)
    (fun c r l => ⟨_, real_of_lt_top (congrFun (hpre c).2.2.1 (ix2 r l))⟩) (fun c l => ⟨_, real_of_lt_top (congrFun (hpre c).2.2.2 (ix1 l))⟩) c
  have e6 := dg m c
  rw [← a0, ← a1, ← a2, ← a3, ← a4] at e5
  rw [← a0, ← a1, ← a2] at e6
  exact ⟨h0.trans e5.symm, h1.trans e6.symm, hk⟩

end
end Cert.Query

end
-- ==== Proof.Proj.Out.lean ====
/- The gradient of the norm behind the attention's output projection and of that projection in its input: what the kernel leaves
   in its three arrays, against `jax.vjp`. -/
module

public import proofs.«01_k».proof.Defs
public import proofs.«01_k».proof.Proof.Gen.Pre_finite_o
public import proofs.«01_k».proof.Proof.Gen.Kernel7Ideal.Value
public import proofs.«01_k».proof.Proof.Gen.Reference7Ideal.Run
public import proofs.«01_k».proof.Proof.Gen.Reference7Ideal.Read
public import proofs.«01_k».proof.Proof.Proj.Up
public import proofs.«01_k».proof.Proof.Finite
public import Idealize.ShloMosaic.Lib.Claim
public import Idealize.ShloMosaic.Lib.Pipeline.ReadBack

@[expose] public section

set_option maxRecDepth 16384

noncomputable section

namespace Cert.Out

open Cert.Up (mul_real sum_real)
open Cert.Reals Cert.Norm Idealize.ShloMosaic Idealize.ShloMosaic.TcCoe Idealize.SL.Sem

section
open Cert.Reference7Ideal Cert.Reference7Ideal.Gen Cert.Reference7Ideal.Read
/-- The projection's output, before the norm. -/
def proj (o : FVec Ideal S4096x1024 .f32) (w : FVec Ideal S1024x1024 .f32) (a : Fin 4096) (b : Fin 1024) : EReal := ∑ k : Fin 1024, o (ix2 a k) * w (ix2 k b)

theorem proj_ref (o : FVec Ideal S4096x1024 .f32) (w : FVec Ideal S1024x1024 .f32) (a : Fin 4096) (b : Fin 1024) :
    val_main_v0 (F := Ideal) o w (ix2 a b) = proj o w a b := by
  unfold proj
  pointwise [val_main_v0]

theorem dz_ref (d o : FVec Ideal S4096x1024 .f32) (w : FVec Ideal S1024x1024 .f32) (g : FVec Ideal S1024 .f32) (a : Fin 4096) (b : Fin 1024) :
    val_main_v71 (F := Ideal) d o w g (ix2 a b) = theirs (fun k => d (ix2 a k)) (proj o w a) (fun k => g (ix1 k)) b := by
  rw [show proj o w a = fun b => val_main_v0 (F := Ideal) o w (ix2 a b) from funext fun b => (proj_ref o w a b).symm]
  simp only [val_main_v1, val_main_cst, val_main_v2, val_main_v3, val_main_cst_0, val_main_v4, val_main_v5, val_main_cst_1, val_main_v6, val_main_v7, val_main_v8,
    val_main_v9, val_main_cst_2, val_main_v10, val_main_v11, val_main_v14, val_main_v17, val_main_v18, val_main_v19, val_main_cst_3, val_main_v20,
    val_main_v21, val_main_v22, val_main_v23, val_main_v24, val_main_cst_4, val_main_v25, val_main_v26, val_main_cst_5, val_main_v27, val_main_v28,
    val_main_v29, val_main_v30, val_main_v31, val_main_v32, val_main_v71]
  generalize val_main_v0 (F := Ideal) o w = z
  pointwise
  simp only [Fin.sum_univ_one]
  rfl

/-- The gradient of the norm's argument appears twice, once for each of the two derivatives the reference takes. -/
theorem twice (d o : FVec Ideal S4096x1024 .f32) (w : FVec Ideal S1024x1024 .f32) (g : FVec Ideal S1024 .f32) :
    val_main_v69 (F := Ideal) d o w g = val_main_v71 (F := Ideal) d o w g := rfl

theorem do_ref (d o : FVec Ideal S4096x1024 .f32) (w : FVec Ideal S1024x1024 .f32) (g : FVec Ideal S1024 .f32) (a : Fin 4096) (b : Fin 1024) :
    val_main_v72 (F := Ideal) d o w g (ix2 a b) = ∑ k : Fin 1024, val_main_v71 (F := Ideal) d o w g (ix2 a k) * w (ix2 b k) := by
  rw [val_main_v72, val_main_v70, twice]
  generalize val_main_v71 (F := Ideal) d o w g = z
  pointwise

/-- One row's part of the scale's gradient. -/
def term (d o : FVec Ideal S4096x1024 .f32) (w : FVec Ideal S1024x1024 .f32) (b : Fin 1024) (a : Fin 4096) : EReal :=
  proj o w a b * root (proj o w a) * d (ix2 a b)

theorem dg_ref (d o : FVec Ideal S4096x1024 .f32) (w : FVec Ideal S1024x1024 .f32) (b : Fin 1024) :
    val_main_v73 (F := Ideal) d o w (ix2 (0 : Fin 1) b) = ∑ a : Fin 4096, term d o w b a := by
  unfold term
  have e : ∀ a, proj o w a = fun b => val_main_v33 (F := Ideal) o w (ix2 a b) := fun a => funext fun b => (proj_ref o w a b).symm
  simp only [e]
  simp only [val_main_v34, val_main_cst_6, val_main_v35, val_main_v36, val_main_cst_7, val_main_v37, val_main_v38, val_main_cst_8, val_main_v39, val_main_v40,
    val_main_v41, val_main_v45, val_main_v46, val_main_v50, val_main_cst_10, val_main_v51, val_main_v52, val_main_cst_11, val_main_v55, val_main_v73]
  generalize val_main_v33 (F := Ideal) o w = z
  pointwise
  simp only [Fin.sum_univ_one]
  rfl
end

section
open Cert.Kernel7Ideal Cert.Kernel7Ideal.Gen
open Idealize.ShloMosaic.Pipeline (Dat)

theorem dz_pay (d x : Vec Ideal S1024x1024 .f32) (g : Vec Ideal S1x1024 .f32) (a b : Fin 1024) :
    k0_pay5 (F := Ideal) d x g (ix2 a b) = ours (fun k => d (ix2 a k)) (fun k => x (ix2 a k)) (fun k => g (ix2 0 k)) b := by
  unfold ours root under
  pointwise [k0_pay5, k0_pay3, k0_pay2, k0_pay1]

theorem dg_pay (d x : Vec Ideal S1024x1024 .f32) (b : Fin 1024) :
    k0_pay4 (F := Ideal) d x (ix2 (0 : Fin 1) b) = ∑ a : Fin 1024, d (ix2 a b) * (x (ix2 a b) * root (fun k => x (ix2 a k))) := by
  unfold root under
  pointwise [k0_pay4, k0_pay3, k0_pay2, k0_pay1]

theorem dg_add (d x : Vec Ideal S1024x1024 .f32) (v : Vec Ideal S1x1024 .f32) (j : S1x1024.Idx) :
    k0_pay6 (F := Ideal) d x v j = v j + k0_pay4 (F := Ideal) d x j := by
  obtain ⟨a, b, rfl⟩ : ∃ (a : Fin 1) (b : Fin 1024), j = ix2 a b := ⟨j 0, j 1, eq_ix2 j⟩
  rw [k0_pay6]
  generalize k0_pay4 (F := Ideal) d x = p
  pointwise

theorem do_pay (y : Vec Ideal S1024x1024 .bf16) (w : Vec Ideal S4x1x256x1024 .bf16) (a b : Fin 1024) :
    k0_pay7 (F := Ideal) y w (ix2 a b) = ∑ k : Fin 1024, y (ix2 a k) * w (ix4 ⟨b.val / 256, by omega⟩ 0 ⟨b.val % 256, by omega⟩ k) := by
  pointwise [k0_pay7]

theorem idx : ∀ t : Fin cfg0.N, win0_0.index t = ![t.val, 0] ∧ win0_1.index t = ![t.val, 0] ∧ win0_2.index t = ![0, 0]
    ∧ win0_3.index t = ![0, 0, 0, 0] ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ)

/-- The arguments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)

theorem blk_d (c : Dev nD) (t : Fin cfg0.N) (r l : Fin 1024) :
    iblk m c 0 t (ix2 r l) = A0 m c (ix2 (⟨1024 * t.val + r.val, by have := lt_of_lt_of_eq t.isLt N_0; omega⟩ : Fin 4096) l) := by
  blk_point [iblk, V, idx t]
theorem blk_z (c : Dev nD) (t : Fin cfg0.N) (r l : Fin 1024) :
    iblk m c 1 t (ix2 r l) = proj (A1 m c) (A2 m c) (⟨1024 * t.val + r.val, by have := lt_of_lt_of_eq t.isLt N_0; omega⟩ : Fin 4096) l := by
  rw [← proj_ref]
  blk_point [iblk, V, idx t]
theorem blk_g (c : Dev nD) (t : Fin cfg0.N) (l : Fin 1024) : iblk m c 2 t (ix2 (0 : Fin 1) l) = A3 m c (ix1 l) := by
  blk_point [iblk, V, idx t]
theorem blk_w (c : Dev nD) (t : Fin cfg0.N) (r l : Fin 1024) :
    iblk m c 3 t (ix4 (⟨r.val / 256, by omega⟩ : Fin 4) (0 : Fin 1) (⟨r.val % 256, by omega⟩ : Fin 256) l) = A2 m c (ix2 r l) := by
  blk_point [iblk, V, idx t]

/-- The rows of the norm's gradient in a tile. -/
abbrev rows (c : Dev nD) (t : Fin cfg0.N) : FVec Ideal S1024x1024 .bf16 := k0_pay5 (F := Ideal) (iblk m c 0 t) (iblk m c 1 t) (iblk m c 2 t)

theorem dz_at (c : Dev nD) (t : Fin cfg0.N) : (outsAt0 m c t.val t.isLt).1 = rows m c t := by
  have hN : t.val < 4 := lt_of_lt_of_eq t.isLt N_0
  by_cases h : t.val % 4 = 0
  · rw [outsAt0_A m c t h (by omega)]; funext y; frame_out
  · rw [outsAt0_B m c t h (by omega)]; funext y; frame_out

theorem do_at (c : Dev nD) (t : Fin cfg0.N) : (outsAt0 m c t.val t.isLt).2.1 = k0_pay7 (F := Ideal) (rows m c t) (iblk m c 3 t) := by
  have hN : t.val < 4 := lt_of_lt_of_eq t.isLt N_0
  by_cases h : t.val % 4 = 0
  · rw [outsAt0_A m c t h (by omega)]; funext y; frame_out
  · rw [outsAt0_B m c t h (by omega)]; funext y; frame_out

/-- What a tile adds to the scale's gradient. -/
abbrev part (c : Dev nD) (t : Fin cfg0.N) : FVec Ideal S1x1024 .f32 := k0_pay4 (F := Ideal) (iblk m c 0 t) (iblk m c 1 t)

theorem part_val (c : Dev nD) (t : Fin cfg0.N) (b : Fin 1024) :
    part m c t (ix2 (0 : Fin 1) b) = ∑ a : Fin 1024, term (A0 m c) (A1 m c) (A2 m c) b (⟨1024 * t.val + a.val, by have := lt_of_lt_of_eq t.isLt N_0; omega⟩ : Fin 4096) := by
  rw [part, dg_pay]
  refine Finset.sum_congr rfl fun k _ => ?_
  simp only [blk_d, blk_z, term]
  exact mul_comm (G := EReal) _ _

theorem dg_at (c : Dev nD) (t : Fin cfg0.N) (h : t.val % 4 = 3) (j : S1x1024.Idx) :
    (outsAt0 m c t.val t.isLt).2.2 j = ∑ s : Fin 4, part m c ⟨4 * (t.val / 4) + s.val, by have := lt_of_lt_of_eq t.isLt N_0; have := N_0; omega⟩ j := by
  have hN : t.val < 4 := lt_of_lt_of_eq t.isLt N_0
  rw [Pipeline.eq_sum_fin_of_reset_step_apply_of_flush (fun n h => (outsAt0 m c n h).2.2) 4 (fun _ => 0) (fun t j => part m c t j)
    (fun t h j => by
      have hN : t.val < 4 := lt_of_lt_of_eq t.isLt N_0
      rw [outsAt0_A m c t h (by omega), zero_add]; frame_out)
    (fun t h j => by
      have hN : t.val < 4 := lt_of_lt_of_eq t.isLt N_0
      rw [outsAt0_B m c t h (by omega)]; frame_out; rw [dg_add]) t h j, zero_add]

section
variable (hd : ∀ (c : Dev nD) (r : Fin 4096) (k : Fin 1024), ∃ a : ℝ, A0 m c (ix2 r k) = (a : EReal))
  (ho : ∀ (c : Dev nD) (r : Fin 4096) (k : Fin 1024), ∃ a : ℝ, A1 m c (ix2 r k) = (a : EReal))
  (hw : ∀ (c : Dev nD) (r k : Fin 1024), ∃ a : ℝ, A2 m c (ix2 r k) = (a : EReal))
  (hg : ∀ (c : Dev nD) (l : Fin 1024), ∃ a : ℝ, A3 m c (ix1 l) = (a : EReal))

include hd ho hw hg in
/-- A tile's rows are the gradient that differentiation gives. -/
theorem rows_at (c : Dev nD) (t : Fin cfg0.N) (a b : Fin 1024) :
    rows m c t (ix2 a b) = Cert.Reference7Ideal.Read.val_main_v71 (F := Ideal) (A0 m c) (A1 m c) (A2 m c) (A3 m c) (ix2 (⟨1024 * t.val + a.val, by have := lt_of_lt_of_eq t.isLt N_0; omega⟩ : Fin 4096) b) := by
  rw [rows, dz_pay, dz_ref, ← agree (x := proj (A1 m c) (A2 m c) _) (hd c _) (fun k => sum_real fun j => mul_real (ho c _ j) (hw c j k)) (hg c)]
  simp only [blk_d, blk_z, blk_g]

include hd ho hw hg in
theorem dout_rows (c : Dev nD) (t : Fin cfg0.N) (a b : Fin 1024) :
    k0_pay7 (F := Ideal) (rows m c t) (iblk m c 3 t) (ix2 a b)
      = Cert.Reference7Ideal.Read.val_main_v72 (F := Ideal) (A0 m c) (A1 m c) (A2 m c) (A3 m c) (ix2 (⟨1024 * t.val + a.val, by have := lt_of_lt_of_eq t.isLt N_0; omega⟩ : Fin 4096) b) := by
  rw [do_ref, do_pay]
  exact Finset.sum_congr rfl fun k _ => by rw [rows_at m hd ho hw hg, blk_w]

include hd ho hw hg in
/-- The gradient in the norm's argument after the run. -/
theorem dz (c : Dev nD) : (dats m 0 c).arrAt 4 (cfgs 0).N = Cert.Reference7Ideal.Read.val_main_v71 (F := Ideal) (A0 m c) (A1 m c) (A2 m c) (A3 m c) := by
  refine (dats m 0 c).arrAt_eq_of_covers 4 _ (by decide +kernel) fun t hf y => ?_
  blk_simp
  rw [after0_4, dz_at m c t]
  revert y
  intro (y : S1024x1024.Idx)
  obtain ⟨a, b, rfl⟩ : ∃ (a b : Fin 1024), y = ix2 a b := ⟨y 0, y 1, eq_ix2 y⟩
  have hN : t.val < 4 := lt_of_lt_of_eq t.isLt N_0
  rw [rows_at m hd ho hw hg]
  exact congrArg _ (show ix2 (⟨1024 * t.val + a.val, by omega⟩ : Fin 4096) b = _ by blk_ext [idx t])

include hd ho hw hg in
/-- The gradient in the projection's input after the run. -/
theorem dout (c : Dev nD) : (dats m 0 c).arrAt 5 (cfgs 0).N = Cert.Reference7Ideal.Read.val_main_v72 (F := Ideal) (A0 m c) (A1 m c) (A2 m c) (A3 m c) := by
  refine (dats m 0 c).arrAt_eq_of_covers 5 _ (by decide +kernel) fun t hf y => ?_
  blk_simp
  rw [after0_5, do_at m c t]
  revert y
  intro (y : S1024x1024.Idx)
  obtain ⟨a, b, rfl⟩ : ∃ (a b : Fin 1024), y = ix2 a b := ⟨y 0, y 1, eq_ix2 y⟩
  have hN : t.val < 4 := lt_of_lt_of_eq t.isLt N_0
  refine Eq.trans ?_ (congrArg _ (show ix2 (⟨1024 * t.val + a.val, by omega⟩ : Fin 4096) b = _ by blk_ext [idx t]))
  exact dout_rows m hd ho hw hg c t a b

/-- The scale's gradient after the run. -/
theorem dg (c : Dev nD) : (dats m 0 c).arrAt 6 (cfgs 0).N = Cert.Reference7Ideal.Read.val_main_v73 (F := Ideal) (A0 m c) (A1 m c) (A2 m c) := by
  refine (dats m 0 c).arrAt_eq_of_after_last 6 t0_3 (by decide +kernel) _ fun j => ?_
  blk_simp
  rw [after0_6]
  revert j
  intro (j : S1x1024.Idx)
  obtain ⟨a, b, rfl⟩ : ∃ (a : Fin 1) (b : Fin 1024), j = ix2 a b := ⟨j 0, j 1, eq_ix2 j⟩
  obtain rfl : a = 0 := Subsingleton.elim _ _
  refine Eq.trans ?_ (congrArg _ (show ix2 (0 : Fin 1) b = _ by blk_ext [idx t0_3]))
  rw [dg_ref]
  refine (dg_at m c t0_3 rfl _).trans ?_
  refine (Finset.sum_congr rfl fun i _ => part_val m c _ b).trans ?_
  refine Fin.sum_mul_add_congr fun t k hl => ?_
  rw [show (⟨t.val * 1024 + k.val, hl⟩ : Fin 4096) = ⟨1024 * (4 * (t0_3.val / 4) + t.val) + k.val, by have : t0_3.val = 3 := rfl; omega⟩ from Fin.ext (by have : t0_3.val = 3 := rfl; dsimp only; omega)]
end

theorem algebraic : Cert.algebraic_Kernel7Ideal_Reference7Ideal_pre_finite_o := by
  intro m g m' g' hpre hagree
  refine ⟨fun c => (dats m 0 c).arrAt 4 (cfgs 0).N, fun c => (dats m 0 c).arrAt 5 (cfgs 0).N, fun c => (dats m 0 c).arrAt 6 (cfgs 0).N,
    Cert.Kernel7Ideal.Value.run_blocks m g, ?_⟩
  refine (θ_run Cert.Reference7Ideal.defs _ _).mono (fun r h c => ?_) (Cert.Reference7Ideal.Value.run m' g')
  obtain ⟨h0, h1, h2, hk⟩ := h c
  obtain ⟨a0, a1, a2, a3⟩ := hagree c
  have hd : ∀ (c : Dev nD) (r : Fin 4096) (k : Fin 1024), ∃ a : ℝ, A0 m c (ix2 r k) = (a : EReal) := fun c r k => ⟨_, real_of_lt_top (congrFun (hpre c).1 (ix2 r k))⟩
  have ho : ∀ (c : Dev nD) (r : Fin 4096) (k : Fin 1024), ∃ a : ℝ, A1 m c (ix2 r k) = (a : EReal) := fun c r k => ⟨_, real_of_lt_top (congrFun (hpre c).2.1 (ix2 r k))⟩
  have hw : ∀ (c : Dev nD) (r k : Fin 1024), ∃ a : ℝ, A2 m c (ix2 r k) = (a : EReal) := fun c r k => ⟨_, real_of_lt_top (congrFun (hpre c).2.2.1 (ix2 r k))⟩
  have hg : ∀ (c : Dev nD) (l : Fin 1024), ∃ a : ℝ, A3 m c (ix1 l) = (a : EReal) := fun c l => ⟨_, real_of_lt_top (congrFun (hpre c).2.2.2 (ix1 l))⟩
  have e4 := dz m hd ho hw hg c
  have e5 := dout m hd ho hw hg c
  have e6 := dg m c
  dsimp only [A0, A1, A2, A3] at e4 e5 e6
  rw [← a0, ← a1, ← a2, ← a3] at e4 e5
  rw [← a0, ← a1, ← a2] at e6
  exact ⟨h0.trans e4.symm, h1.trans e5.symm, h2.trans e6.symm, hk⟩

end
end Cert.Out

end
-- ==== Proof.Pool.Maps.lean ====
/- The gradient of the pooling's group maps, of their scale and of the norm after them: what the kernel leaves in its four arrays, against `jax.vjp`. -/
module

public import proofs.«01_k».proof.Defs
public import proofs.«01_k».proof.Proof.Gen.Pre_finite_maps
public import proofs.«01_k».proof.Proof.Gen.Kernel8Ideal.Value
public import proofs.«01_k».proof.Proof.Gen.Reference8Ideal.Run
public import proofs.«01_k».proof.Proof.Gen.Reference8Ideal.Read
public import proofs.«01_k».proof.Proof.Proj.Up
public import proofs.«01_k».proof.Proof.Finite
public import Idealize.ShloMosaic.Lib.Claim
public import Idealize.ShloMosaic.Lib.Pipeline.ReadBack

@[expose] public section

set_option maxRecDepth 16384

noncomputable section

namespace Cert.Maps

open Cert.Up (mul_real sum_real)
open Cert.Reals Cert.Norm Idealize.ShloMosaic Idealize.ShloMosaic.TcCoe Idealize.SL.Sem

/-- Channel `i` of group `g`. -/
abbrev chan (g : Fin 4) (i : Fin 256) : Fin 1024 := ⟨256 * g.val + i.val, by omega⟩

section
open Cert.Reference8Ideal Cert.Reference8Ideal.Gen Cert.Reference8Ideal.Read

/-- The group maps applied to a row, and the row scaled. -/
def maps (y : FVec Ideal S4096x1024 .f32) (w : FVec Ideal S4x256x256 .f32) (a : Fin 4096) (g : Fin 4) (i : Fin 256) : EReal :=
  ∑ k : Fin 256, w (ix3 g k i) * y (ix2 a (chan g k))

theorem maps_ref (y : FVec Ideal S4096x1024 .f32) (w : FVec Ideal S4x256x256 .f32) (a : Fin 4096) (g : Fin 4) (i : Fin 256) :
    val_main_v3 (F := Ideal) y w (ix2 a (chan g i)) = maps y w a g i := by
  unfold maps
  pointwise [val_main_v3, val_main_v2, val_main_v1, val_main_v0]
  refine Finset.sum_congr rfl fun k _ => ?_
  congr 3 <;> apply Fin.ext <;> dsimp only [chan] <;> omega

theorem scaled_ref (y : FVec Ideal S4096x1024 .f32) (w : FVec Ideal S4x256x256 .f32) (s : FVec Ideal S1024 .f32) (a : Fin 4096) (b : Fin 1024) :
    val_main_v6 (F := Ideal) y w s (ix2 a b) = val_main_v3 (F := Ideal) y w (ix2 a b) * s (ix1 b) := by
  simp only [val_main_v6, val_main_v5, val_main_v4]
  generalize val_main_v3 (F := Ideal) y w = z
  pointwise

theorem dm_ref (d y : FVec Ideal S4096x1024 .f32) (w : FVec Ideal S4x256x256 .f32) (s g : FVec Ideal S1024 .f32) (a : Fin 4096) (b : Fin 1024) :
    val_main_v42 (F := Ideal) d y w s g (ix2 a b)
      = theirs (fun k => d (ix2 a k)) (fun k => val_main_v6 (F := Ideal) y w s (ix2 a k)) (fun k => g (ix1 k)) b := by
  simp only [val_main_v7, val_main_cst, val_main_v8, val_main_v9, val_main_cst_0, val_main_v10, val_main_v11, val_main_cst_1, val_main_v12, val_main_v13,
    val_main_v14, val_main_v15, val_main_cst_2, val_main_v16, val_main_v17, val_main_v20, val_main_v26, val_main_v27, val_main_v29, val_main_cst_5,
    val_main_v30, val_main_v31, val_main_v32, val_main_v33, val_main_v34, val_main_cst_6, val_main_v35, val_main_v36, val_main_cst_7, val_main_v37,
    val_main_v38, val_main_v39, val_main_v40, val_main_v41, val_main_v42]
  generalize val_main_v6 (F := Ideal) y w s = z
  pointwise
  simp only [Fin.sum_univ_one]
  rfl

/-- One row's part of the norm's scale's gradient. -/
def term (d y : FVec Ideal S4096x1024 .f32) (w : FVec Ideal S4x256x256 .f32) (s : FVec Ideal S1024 .f32) (b : Fin 1024) (a : Fin 4096) : EReal :=
  val_main_v6 (F := Ideal) y w s (ix2 a b) * root (fun k => val_main_v6 (F := Ideal) y w s (ix2 a k)) * d (ix2 a b)

theorem dg_ref (d y : FVec Ideal S4096x1024 .f32) (w : FVec Ideal S4x256x256 .f32) (s : FVec Ideal S1024 .f32) (b : Fin 1024) :
    val_main_v60 (F := Ideal) d y w s (ix2 (0 : Fin 1) b) = ∑ a : Fin 4096, term d y w s b a := by
  unfold term
  simp only [val_main_v7, val_main_cst, val_main_v8, val_main_v9, val_main_cst_0, val_main_v10, val_main_v11, val_main_cst_1, val_main_v12, val_main_v13,
    val_main_v14, val_main_v18, val_main_v19, val_main_v23, val_main_cst_3, val_main_v24, val_main_v25, val_main_cst_4, val_main_v28, val_main_v60]
  generalize val_main_v6 (F := Ideal) y w s = z
  pointwise
  simp only [Fin.sum_univ_one]
  rfl

/-- One row's part of the maps' scale's gradient. -/
def termS (d y : FVec Ideal S4096x1024 .f32) (w : FVec Ideal S4x256x256 .f32) (s g : FVec Ideal S1024 .f32) (b : Fin 1024) (a : Fin 4096) : EReal :=
  val_main_v3 (F := Ideal) y w (ix2 a b) * val_main_v42 (F := Ideal) d y w s g (ix2 a b)

theorem ds_ref (d y : FVec Ideal S4096x1024 .f32) (w : FVec Ideal S4x256x256 .f32) (s g : FVec Ideal S1024 .f32) (b : Fin 1024) :
    val_main_v59 (F := Ideal) d y w s g (ix2 (0 : Fin 1) b) = ∑ a : Fin 4096, termS d y w s g b a := by
  unfold termS
  simp only [val_main_v43, val_main_cst_8, val_main_v44, val_main_v45, val_main_cst_9, val_main_v48, val_main_v59]
  generalize val_main_v3 (F := Ideal) y w = z
  generalize val_main_v42 (F := Ideal) d y w s g = v
  pointwise
  simp only [Fin.sum_univ_one]

/-- The gradient of the maps' output. -/
theorem dms_ref (d y : FVec Ideal S4096x1024 .f32) (w : FVec Ideal S4x256x256 .f32) (s g : FVec Ideal S1024 .f32) (a : Fin 4096) (b : Fin 1024) :
    val_main_v47 (F := Ideal) d y w s g (ix2 a b) = val_main_v42 (F := Ideal) d y w s g (ix2 a b) * s (ix1 b) := by
  simp only [val_main_v47, val_main_v46, val_main_v4]
  generalize val_main_v42 (F := Ideal) d y w s g = z
  pointwise

theorem dy_ref (d y : FVec Ideal S4096x1024 .f32) (w : FVec Ideal S4x256x256 .f32) (s g : FVec Ideal S1024 .f32) (a : Fin 4096) (h : Fin 4) (i : Fin 256) :
    val_main_v55 (F := Ideal) d y w s g (ix2 a (chan h i)) = ∑ k : Fin 256, val_main_v47 (F := Ideal) d y w s g (ix2 a (chan h k)) * w (ix3 h i k) := by
  simp only [val_main_v55, val_main_v52, val_main_v51, val_main_v50, val_main_v49]
  generalize val_main_v47 (F := Ideal) d y w s g = z
  pointwise
  refine Finset.sum_congr rfl fun k _ => ?_
  congr 3 <;> apply Fin.ext <;> dsimp only [chan] <;> omega

/-- One row's part of the maps' gradient. -/
def termW (d y : FVec Ideal S4096x1024 .f32) (w : FVec Ideal S4x256x256 .f32) (s g : FVec Ideal S1024 .f32) (h : Fin 4) (i k : Fin 256) (a : Fin 4096) : EReal :=
  y (ix2 a (chan h i)) * val_main_v47 (F := Ideal) d y w s g (ix2 a (chan h k))

theorem dw_ref (d y : FVec Ideal S4096x1024 .f32) (w : FVec Ideal S4x256x256 .f32) (s g : FVec Ideal S1024 .f32) (j h : Fin 4) (r : Fin 64) (k : Fin 256) :
    val_main_v58 (F := Ideal) d y w s g (ix4 j h r k) = ∑ a : Fin 4096, termW d y w s g h ⟨64 * j.val + r.val, by omega⟩ k a := by
  unfold termW
  simp only [val_main_v58, val_main_v57, val_main_v56, val_main_v54, val_main_v53, val_main_v50, val_main_v49, val_main_v0]
  generalize val_main_v47 (F := Ideal) d y w s g = z
  pointwise
  refine Finset.sum_congr rfl fun _ _ => (mul_comm (G := EReal) _ _).trans ?_
  congr 3 <;> apply Fin.ext <;> dsimp only [chan] <;> omega
end

section
open Cert.Kernel8Ideal Cert.Kernel8Ideal.Gen
open Idealize.ShloMosaic.Pipeline (Dat)

theorem dm_pay (d z : Vec Ideal S512x1024 .f32) (g : Vec Ideal S1x1024 .f32) (a : Fin 512) (b : Fin 1024) :
    k0_pay7 (F := Ideal) d z g (ix2 a b) = ours (fun k => d (ix2 a k)) (fun k => z (ix2 a k)) (fun k => g (ix2 0 k)) b := by
  unfold ours root under
  pointwise [k0_pay7, k0_pay6, k0_pay5, k0_pay4]

theorem dg_pay (d z : Vec Ideal S512x1024 .f32) (b : Fin 1024) :
    k0_pay8 (F := Ideal) d z (ix2 (0 : Fin 1) b) = ∑ a : Fin 512, d (ix2 a b) * (z (ix2 a b) * root (fun k => z (ix2 a k))) := by
  unfold root under
  pointwise [k0_pay8, k0_pay6, k0_pay5, k0_pay4]

theorem dms_pay (d z : Vec Ideal S512x1024 .f32) (g s : Vec Ideal S1x1024 .f32) (a : Fin 512) (b : Fin 1024) :
    k0_pay9 (F := Ideal) d z g s (ix2 a b) = k0_pay7 (F := Ideal) d z g (ix2 a b) * s (ix2 0 b) := by
  rw [k0_pay9]
  generalize k0_pay7 (F := Ideal) d z g = v
  pointwise

variable (u y : FVec Ideal S512x1024 .bf16) (W : Vec Ideal S4x1x4x64x256 .bf16) (W0 W1 W2 W3 : Vec Ideal S4x1x1x64x256 .bf16)
  (e0 : ∀ j r k, W0 (ix5 j 0 0 r k) = W (ix5 j 0 0 r k)) (e1 : ∀ j r k, W1 (ix5 j 0 0 r k) = W (ix5 j 0 1 r k))
  (e2 : ∀ j r k, W2 (ix5 j 0 0 r k) = W (ix5 j 0 2 r k)) (e3 : ∀ j r k, W3 (ix5 j 0 0 r k) = W (ix5 j 0 3 r k))

include e0 e1 e2 e3 in
theorem dy_pay (a : Fin 512) (h : Fin 4) (i : Fin 256) :
    k0_pay39 (F := Ideal) u (k0_pay15 (F := Ideal) u W0) (k0_pay23 (F := Ideal) u W1) (k0_pay27 (F := Ideal) W2) W3 (ix2 a (chan h i))
      = ∑ k : Fin 256, u (ix2 a (chan h k)) * W (ix5 ⟨i.val / 64, by omega⟩ 0 h ⟨i.val % 64, by omega⟩ k) := by
  have h2 : ¬512 + i.val < 256 ∧ ¬512 + i.val - 256 < 256 ∧ 512 + i.val - 256 - 256 < 256 := by omega
  have h3 : ¬768 + i.val < 256 ∧ ¬768 + i.val - 256 < 256 ∧ ¬768 + i.val - 256 - 256 < 256 := by omega
  obtain rfl | rfl | rfl | rfl : h = 0 ∨ h = 1 ∨ h = 2 ∨ h = 3 := by omega
  all_goals pointwise [k0_pay39, k0_pay15, k0_pay23, k0_pay27, k0_pay33, k0_pay29, k0_pay35, k0_pay13, k0_pay11, k0_pay21, k0_pay19]
  all_goals try simp only [h2, h3, dite_true, dite_false]
  · refine Finset.sum_congr rfl fun k _ => congrArg₂ (· * ·) ?_ (Eq.trans ?_ (e0 _ _ _))
    all_goals congr 2 <;> exact Fin.ext (by dsimp only [chan]; first | omega | simp)
  · refine Finset.sum_congr rfl fun k _ => congrArg₂ (· * ·) ?_ (Eq.trans ?_ (e1 _ _ _))
    all_goals congr 2 <;> exact Fin.ext (by dsimp only [chan]; first | omega | simp)
  · refine Finset.sum_congr rfl fun k _ => congrArg₂ (· * ·) ?_ (Eq.trans ?_ (e2 _ _ _))
    all_goals congr 2 <;> exact Fin.ext (by dsimp only [chan]; first | omega | simp)
  · refine Finset.sum_congr rfl fun k _ => congrArg₂ (· * ·) ?_ (Eq.trans ?_ (e3 _ _ _))
    all_goals congr 2 <;> exact Fin.ext (by dsimp only [chan]; first | omega | simp)

include e0 e1 e2 e3 in
theorem mm_pay (dm : FVec Ideal S512x1024 .f32) (h : Fin 4) (i : Fin 256) :
    k0_pay40 (F := Ideal) dm y (k0_pay14 (F := Ideal) y W0) (k0_pay22 (F := Ideal) y W1) (k0_pay27 (F := Ideal) W2) W3 (ix2 (0 : Fin 1) (chan h i))
      = ∑ a : Fin 512, dm (ix2 a (chan h i)) * ∑ k : Fin 256, y (ix2 a (chan h k)) * W (ix5 ⟨k.val / 64, by omega⟩ 0 h ⟨k.val % 64, by omega⟩ i) := by
  have h2 : ¬512 + i.val < 256 ∧ ¬512 + i.val - 256 < 256 ∧ 512 + i.val - 256 - 256 < 256 := by omega
  have h3 : ¬768 + i.val < 256 ∧ ¬768 + i.val - 256 < 256 ∧ ¬768 + i.val - 256 - 256 < 256 := by omega
  obtain rfl | rfl | rfl | rfl : h = 0 ∨ h = 1 ∨ h = 2 ∨ h = 3 := by omega
  all_goals pointwise [k0_pay40, k0_pay14, k0_pay22, k0_pay27, k0_pay33, k0_pay28, k0_pay34, k0_pay12, k0_pay11, k0_pay20, k0_pay19]
  all_goals try simp only [h2, h3, dite_true, dite_false]
  · refine Finset.sum_congr rfl fun a _ => congrArg₂ (· * ·) ?_ (Finset.sum_congr rfl fun k _ => congrArg₂ (· * ·) ?_ (Eq.trans ?_ (e0 _ _ _)))
    all_goals congr 2 <;> exact Fin.ext (by dsimp only [chan]; first | omega | simp)
  · refine Finset.sum_congr rfl fun a _ => congrArg₂ (· * ·) ?_ (Finset.sum_congr rfl fun k _ => congrArg₂ (· * ·) ?_ (Eq.trans ?_ (e1 _ _ _)))
    all_goals congr 2 <;> exact Fin.ext (by dsimp only [chan]; first | omega | simp)
  · refine Finset.sum_congr rfl fun a _ => congrArg₂ (· * ·) ?_ (Finset.sum_congr rfl fun k _ => congrArg₂ (· * ·) ?_ (Eq.trans ?_ (e2 _ _ _)))
    all_goals congr 2 <;> exact Fin.ext (by dsimp only [chan]; first | omega | simp)
  · refine Finset.sum_congr rfl fun a _ => congrArg₂ (· * ·) ?_ (Finset.sum_congr rfl fun k _ => congrArg₂ (· * ·) ?_ (Eq.trans ?_ (e3 _ _ _)))
    all_goals congr 2 <;> exact Fin.ext (by dsimp only [chan]; first | omega | simp)

/-- What a block of rows adds to the maps' gradient, in the order in which the kernel holds it. -/
def piece : FVec Ideal S4x4x64x256 .f32 := fun q =>
  ∑ a : Fin 512, y (ix2 a (chan (q 1) ⟨64 * (q 0).val + (q 2).val, by have := (q 0).isLt; have := (q 2).isLt; change (q 0).val < 4 at *; change (q 2).val < 64 at *; omega⟩)) * u (ix2 a (chan (q 1) (q 3)))

theorem dw_set0 (x : S4x1x64x256.Idx) (q : S4x4x64x256.Idx) (h0 : (q 0).val = (x 0).val) (h1 : (q 1).val = 0 + (x 1).val) (h2 : (q 2).val = (x 2).val) (h3 : (q 3).val = (x 3).val) :
    k0_pay17 (F := Ideal) u y x = piece u y q := by
  unfold piece
  pointwise [k0_pay17, k0_pay16, k0_pay12, k0_pay13]
  have := (x 1).isLt
  change (x 1).val < 1 at this
  refine Finset.sum_congr rfl fun a _ => ?_
  congr 3 <;> apply Fin.ext <;> dsimp only [chan] <;> omega
theorem dw_add0 (v : Vec Ideal S4x1x64x256 .f32) (x : S4x1x64x256.Idx) :
    k0_pay18 (F := Ideal) u y v x = v x + k0_pay17 (F := Ideal) u y x := by
  rw [k0_pay18, k0_pay17]
  generalize k0_pay16 (F := Ideal) u y = p
  pointwise

theorem dw_set1 (x : S4x1x64x256.Idx) (q : S4x4x64x256.Idx) (h0 : (q 0).val = (x 0).val) (h1 : (q 1).val = 1 + (x 1).val) (h2 : (q 2).val = (x 2).val) (h3 : (q 3).val = (x 3).val) :
    k0_pay25 (F := Ideal) u y x = piece u y q := by
  unfold piece
  pointwise [k0_pay25, k0_pay24, k0_pay20, k0_pay21]
  have := (x 1).isLt
  change (x 1).val < 1 at this
  refine Finset.sum_congr rfl fun a _ => ?_
  congr 3 <;> apply Fin.ext <;> dsimp only [chan] <;> omega
theorem dw_add1 (v : Vec Ideal S4x1x64x256 .f32) (x : S4x1x64x256.Idx) :
    k0_pay26 (F := Ideal) u y v x = v x + k0_pay25 (F := Ideal) u y x := by
  rw [k0_pay26, k0_pay25]
  generalize k0_pay24 (F := Ideal) u y = p
  pointwise

theorem dw_set2 (x : S4x1x64x256.Idx) (q : S4x4x64x256.Idx) (h0 : (q 0).val = (x 0).val) (h1 : (q 1).val = 2 + (x 1).val) (h2 : (q 2).val = (x 2).val) (h3 : (q 3).val = (x 3).val) :
    k0_pay31 (F := Ideal) u y x = piece u y q := by
  unfold piece
  pointwise [k0_pay31, k0_pay30, k0_pay28, k0_pay29]
  have := (x 1).isLt
  change (x 1).val < 1 at this
  refine Finset.sum_congr rfl fun a _ => ?_
  congr 3 <;> apply Fin.ext <;> dsimp only [chan] <;> omega
theorem dw_add2 (v : Vec Ideal S4x1x64x256 .f32) (x : S4x1x64x256.Idx) :
    k0_pay32 (F := Ideal) u y v x = v x + k0_pay31 (F := Ideal) u y x := by
  rw [k0_pay32, k0_pay31]
  generalize k0_pay30 (F := Ideal) u y = p
  pointwise

theorem dw_set3 (x : S4x1x64x256.Idx) (q : S4x4x64x256.Idx) (h0 : (q 0).val = (x 0).val) (h1 : (q 1).val = 3 + (x 1).val) (h2 : (q 2).val = (x 2).val) (h3 : (q 3).val = (x 3).val) :
    k0_pay37 (F := Ideal) u y x = piece u y q := by
  unfold piece
  pointwise [k0_pay37, k0_pay36, k0_pay34, k0_pay35]
  have := (x 1).isLt
  change (x 1).val < 1 at this
  refine Finset.sum_congr rfl fun a _ => ?_
  congr 3 <;> apply Fin.ext <;> dsimp only [chan] <;> omega
theorem dw_add3 (v : Vec Ideal S4x1x64x256 .f32) (x : S4x1x64x256.Idx) :
    k0_pay38 (F := Ideal) u y v x = v x + k0_pay37 (F := Ideal) u y x := by
  rw [k0_pay38, k0_pay37]
  generalize k0_pay36 (F := Ideal) u y = p
  pointwise

theorem ds_add (p v : FVec Ideal S1x1024 .f32) (j : S1x1024.Idx) : k0_pay1 (F := Ideal) p v j = v j + p j := by
  pointwise [k0_pay1]
theorem dg_add (p v : FVec Ideal S1x1024 .f32) (j : S1x1024.Idx) : k0_pay2 (F := Ideal) p v j = v j + p j := by
  pointwise [k0_pay2]

theorem cast_pay (v : Vec Ideal S4x4x64x256 .f32) (q : S4x4x64x256.Idx) : k0_pay3 (F := Ideal) v q = v q := by
  pointwise [k0_pay3]
/-- A read of the whole accumulator sees what its pieces hold. -/
theorem read_all {κ : Kind} {sp : Space} (v : View sig κ sp S4x4x64x256 .f32) (L : List (View.Piece (Elt Ideal) S4x4x64x256 .f32)) (q : S4x4x64x256.Idx) :
    v.readCov L (Rect.unit (s := S4x4x64x256) ![0, 0, 0, 0] ![4, 4, 64, 256] inb_S4x4x64x256_S4x4x64x256_0_0_0_0).toLoadRect q = View.canon L q := by
  rw [View.readCov_eq_canon']
  refine congrArg (View.canon L) (funext fun i => Fin.ext ?_)
  fin_cases i <;> exact (Nat.zero_add _).trans (Nat.one_mul _)
theorem y_pay (v : Vec Ideal S512x1024 .bf16) (a : Fin 512) (b : Fin 1024) : k0_pay10 (F := Ideal) v (ix2 a b) = v (ix2 a b) := by
  pointwise [k0_pay10]

theorem idx : ∀ t : Fin cfg0.N, win0_0.index t = ![t.val, 0] ∧ win0_1.index t = ![t.val, 0] ∧ win0_2.index t = ![t.val, 0]
    ∧ win0_3.index t = ![0, 0, 0, 0, 0] ∧ win0_4.index t = ![0, 0] ∧ win0_5.index t = ![0, 0] ∧ win0_6.index t = ![t.val, 0]
    ∧ win0_7.index t = ![0, 0, 0, 0] ∧ win0_8.index t = ![0, 0] ∧ win0_9.index t = ![0, 0] :=
  (by decide +kernel : ∀ t : Fin grid0.N, _)

variable (m : (ℓ : Loc nD τ sig) → Buf (Elt Ideal) ℓ)

/-- The arguments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)

theorem blk_d (c : Dev nD) (t : Fin cfg0.N) (r : Fin 512) (l : Fin 1024) :
    iblk m c 0 t (ix2 r l) = A0 m c (ix2 (⟨512 * t.val + r.val, by have := lt_of_lt_of_eq t.isLt N_0; omega⟩ : Fin 4096) l) := by
  blk_point [iblk, V, idx t]
theorem blk_y (c : Dev nD) (t : Fin cfg0.N) (r : Fin 512) (l : Fin 1024) :
    iblk m c 2 t (ix2 r l) = A1 m c (ix2 (⟨512 * t.val + r.val, by have := lt_of_lt_of_eq t.isLt N_0; omega⟩ : Fin 4096) l) := by
  blk_point [iblk, V, idx t]
theorem blk_w (c : Dev nD) (t : Fin cfg0.N) (j h : Fin 4) (r : Fin 64) (k : Fin 256) :
    iblk m c 3 t (ix5 j (0 : Fin 1) h r k) = A2 m c (ix3 h (⟨64 * j.val + r.val, by omega⟩ : Fin 256) k) := by
  blk_point [iblk, V, idx t]
theorem blk_s (c : Dev nD) (t : Fin cfg0.N) (l : Fin 1024) : iblk m c 4 t (ix2 (0 : Fin 1) l) = A3 m c (ix1 l) := by
  blk_point [iblk, V, idx t]
theorem blk_g (c : Dev nD) (t : Fin cfg0.N) (l : Fin 1024) : iblk m c 5 t (ix2 (0 : Fin 1) l) = A4 m c (ix1 l) := by
  blk_point [iblk, V, idx t]
theorem blk_z (c : Dev nD) (t : Fin cfg0.N) (r : Fin 512) (l : Fin 1024) :
    iblk m c 1 t (ix2 r l) = Cert.Reference8Ideal.Read.val_main_v6 (F := Ideal) (A1 m c) (A2 m c) (A3 m c) (ix2 (⟨512 * t.val + r.val, by have := lt_of_lt_of_eq t.isLt N_0; omega⟩ : Fin 4096) l) := by
  blk_point [iblk, V, idx t]

/-- The gradient in the maps' output, of a block of rows. -/
abbrev rows (c : Dev nD) (t : Fin cfg0.N) : FVec Ideal S512x1024 .bf16 := k0_pay9 (F := Ideal) (iblk m c 0 t) (iblk m c 1 t) (iblk m c 5 t) (iblk m c 4 t)

theorem dy_at (c : Dev nD) (t : Fin cfg0.N) (a : Fin 512) (h : Fin 4) (i : Fin 256) :
    (outsAt0 m c t.val t.isLt).1 (ix2 a (chan h i)) = ∑ k : Fin 256, rows m c t (ix2 a (chan h k)) * A2 m c (ix3 h i k) := by
  have hN : t.val < 8 := lt_of_lt_of_eq t.isLt N_0
  have e : ∀ k, A2 m c (ix3 h i k) = iblk m c 3 t (ix5 ⟨i.val / 64, by omega⟩ 0 h ⟨i.val % 64, by omega⟩ k) := fun k => by
    rw [blk_w]; exact congrArg (fun l => A2 m c (ix3 h l k)) (Fin.ext (by dsimp only; omega))
  simp only [e]
  by_cases h0 : t.val % 8 = 0
  · rw [outsAt0_A m c t h0 (by omega) h0 (by omega) h0 (by omega) h0 (by omega) h0 (by omega) (by omega)]; frame_out
    exact dy_pay _ _ _ _ _ _ (fun j r k => by pointwise) (fun j r k => by pointwise) (fun j r k => by pointwise) (fun j r k => by pointwise) a h i
  by_cases h7 : t.val % 8 = 7
  · rw [outsAt0_C m c t h0 (by omega) h0 (by omega) h0 (by omega) h0 (by omega) h0 (by omega) h7]; frame_out
    exact dy_pay _ _ _ _ _ _ (fun j r k => by pointwise) (fun j r k => by pointwise) (fun j r k => by pointwise) (fun j r k => by pointwise) a h i
  · rw [outsAt0_B m c t h0 (by omega) h0 (by omega) h0 (by omega) h0 (by omega) h0 (by omega) h7]; frame_out
    exact dy_pay _ _ _ _ _ _ (fun j r k => by pointwise) (fun j r k => by pointwise) (fun j r k => by pointwise) (fun j r k => by pointwise) a h i

/-- What a block of rows adds to the maps' gradient. -/
abbrev part (c : Dev nD) (t : Fin cfg0.N) : FVec Ideal S4x4x64x256 .f32 := piece (rows m c t) (k0_pay10 (F := Ideal) (iblk m c 2 t))

theorem acc_set (c : Dev nD) (t : Fin cfg0.N) (h : t.val % 8 = 0) (q : S4x4x64x256.Idx) :
    (outsAt0 m c t.val t.isLt).2.2.2.2 q = part m c t q := by
  have hN : t.val < 8 := lt_of_lt_of_eq t.isLt N_0
  rw [outsAt0_A m c t h (by omega) h (by omega) h (by omega) h (by omega) h (by omega) (by omega)]; frame_out
  clear h hN
  canon_tiles x h
  case piece0 => exact dw_set3 _ _ x q h0 h1 h2 h3
  case piece1 => exact dw_set2 _ _ x q h0 h1 h2 h3
  case piece2 => exact dw_set1 _ _ x q h0 h1 h2 h3
  case piece3 => exact dw_set0 _ _ x q h0 (h1.trans (Nat.zero_add _).symm) h2 h3

theorem acc_add (c : Dev nD) (t : Fin cfg0.N) (h : ¬ t.val % 8 = 0) (q : S4x4x64x256.Idx) :
    (outsAt0 m c t.val t.isLt).2.2.2.2 q = (outsAt0 m c (t.val - 1) (Nat.lt_of_le_of_lt (Nat.sub_le ..) t.isLt)).2.2.2.2 q + part m c t q := by
  have hN : t.val < 8 := lt_of_lt_of_eq t.isLt N_0
  by_cases h7 : t.val % 8 = 7
  · rw [outsAt0_C m c t h (by omega) h (by omega) h (by omega) h (by omega) h (by omega) h7]; frame_out
    simp only [read_unread_whole]
    generalize (outsAt0 m c (t.val - 1) _).2.2.2.2 = v
    clear h hN h7
    canon_tiles x h
    case piece0 => rw [dw_add3, dw_set3 _ _ x q h0 h1 h2 h3]; exact congrArg (· + _) (by pointwise; blk_ext)
    case piece1 => rw [dw_add2, dw_set2 _ _ x q h0 h1 h2 h3]; exact congrArg (· + _) (by pointwise; blk_ext)
    case piece2 => rw [dw_add1, dw_set1 _ _ x q h0 h1 h2 h3]; exact congrArg (· + _) (by pointwise; blk_ext)
    case piece3 => rw [dw_add0, dw_set0 _ _ x q h0 (h1.trans (Nat.zero_add _).symm) h2 h3]; exact congrArg (· + _) (by pointwise; blk_ext)
  · rw [outsAt0_B m c t h (by omega) h (by omega) h (by omega) h (by omega) h (by omega) h7]; frame_out
    simp only [read_unread_whole]
    generalize (outsAt0 m c (t.val - 1) _).2.2.2.2 = v
    clear h hN h7
    canon_tiles x h
    case piece0 => rw [dw_add3, dw_set3 _ _ x q h0 h1 h2 h3]; exact congrArg (· + _) (by pointwise; blk_ext)
    case piece1 => rw [dw_add2, dw_set2 _ _ x q h0 h1 h2 h3]; exact congrArg (· + _) (by pointwise; blk_ext)
    case piece2 => rw [dw_add1, dw_set1 _ _ x q h0 h1 h2 h3]; exact congrArg (· + _) (by pointwise; blk_ext)
    case piece3 => rw [dw_add0, dw_set0 _ _ x q h0 (h1.trans (Nat.zero_add _).symm) h2 h3]; exact congrArg (· + _) (by pointwise; blk_ext)

theorem dw_at (c : Dev nD) (t : Fin cfg0.N) (h : t.val % 8 = 7) (q : S4x4x64x256.Idx) :
    (outsAt0 m c t.val t.isLt).2.1 q = ∑ s : Fin 8, part m c ⟨8 * (t.val / 8) + s.val, by have := lt_of_lt_of_eq t.isLt N_0; have := N_0; omega⟩ q := by
  have hN : t.val < 8 := lt_of_lt_of_eq t.isLt N_0
  have e : (outsAt0 m c t.val t.isLt).2.1 q = (outsAt0 m c t.val t.isLt).2.2.2.2 q := by
    rw [outsAt0_C m c t (by omega) (by omega) (by omega) (by omega) (by omega) (by omega) (by omega) (by omega) (by omega) (by omega) h]; frame_out
    rw [cast_pay, read_all]
  rw [e, Pipeline.eq_sum_fin_of_reset_step_apply_of_flush (fun n h => (outsAt0 m c n h).2.2.2.2) 8 (fun _ => 0) (fun t j => part m c t j)
    (fun t h j => by rw [zero_add]; exact acc_set m c t h j) (fun t h j => acc_add m c t h j) t h q, zero_add]

/-- What a block of rows adds to the gradient of the maps' scale, and to that of the norm's. -/
abbrev partS (c : Dev nD) (t : Fin cfg0.N) : FVec Ideal S1x1024 .f32 := fun j =>
  ∑ a : Fin 512, k0_pay7 (F := Ideal) (iblk m c 0 t) (iblk m c 1 t) (iblk m c 5 t) (ix2 a (j 1))
    * Cert.Reference8Ideal.Read.val_main_v3 (F := Ideal) (A1 m c) (A2 m c) (ix2 (⟨512 * t.val + a.val, by have := lt_of_lt_of_eq t.isLt N_0; omega⟩ : Fin 4096) (j 1))

theorem ds_pay (c : Dev nD) (t : Fin cfg0.N) (W0 W1 W2 W3 : Vec Ideal S4x1x1x64x256 .bf16)
    (e0 : ∀ j r k, W0 (ix5 j 0 0 r k) = iblk m c 3 t (ix5 j 0 0 r k)) (e1 : ∀ j r k, W1 (ix5 j 0 0 r k) = iblk m c 3 t (ix5 j 0 1 r k))
    (e2 : ∀ j r k, W2 (ix5 j 0 0 r k) = iblk m c 3 t (ix5 j 0 2 r k)) (e3 : ∀ j r k, W3 (ix5 j 0 0 r k) = iblk m c 3 t (ix5 j 0 3 r k)) (j : S1x1024.Idx) :
    k0_pay40 (F := Ideal) (k0_pay7 (F := Ideal) (iblk m c 0 t) (iblk m c 1 t) (iblk m c 5 t)) (k0_pay10 (F := Ideal) (iblk m c 2 t))
      (k0_pay14 (F := Ideal) (k0_pay10 (F := Ideal) (iblk m c 2 t)) W0) (k0_pay22 (F := Ideal) (k0_pay10 (F := Ideal) (iblk m c 2 t)) W1) (k0_pay27 (F := Ideal) W2) W3 j = partS m c t j := by
  obtain ⟨a, b, rfl⟩ : ∃ (a : Fin 1) (b : Fin 1024), j = ix2 a b := ⟨j 0, j 1, eq_ix2 j⟩
  obtain rfl : a = 0 := Subsingleton.elim _ _
  obtain ⟨h, i, rfl⟩ : ∃ (h : Fin 4) (i : Fin 256), b = chan h i := ⟨⟨b.val / 256, by omega⟩, ⟨b.val % 256, by omega⟩, Fin.ext (by dsimp only [chan]; omega)⟩
  rw [mm_pay _ (iblk m c 3 t) W0 W1 W2 W3 e0 e1 e2 e3]
  refine Finset.sum_congr rfl fun a _ => congrArg (_ * ·) ?_
  change _ = Cert.Reference8Ideal.Read.val_main_v3 (F := Ideal) _ _ (ix2 _ (chan h i))
  rw [maps_ref, maps]
  refine Finset.sum_congr rfl fun k _ => ?_
  rw [blk_w, mul_comm (G := EReal), y_pay, blk_y]
  rw [show (⟨64 * (⟨k.val / 64, by omega⟩ : Fin 4).val + (⟨k.val % 64, by omega⟩ : Fin 64).val, by dsimp only; omega⟩ : Fin 256) = k from Fin.ext (by dsimp only; omega)]

theorem ds_at (c : Dev nD) (t : Fin cfg0.N) (h : t.val % 8 = 7) (j : S1x1024.Idx) :
    (outsAt0 m c t.val t.isLt).2.2.1 j = ∑ s : Fin 8, partS m c ⟨8 * (t.val / 8) + s.val, by have := lt_of_lt_of_eq t.isLt N_0; have := N_0; omega⟩ j := by
  have hN : t.val < 8 := lt_of_lt_of_eq t.isLt N_0
  rw [Pipeline.eq_sum_fin_of_reset_step_apply_of_flush (fun n h => (outsAt0 m c n h).2.2.1) 8 (fun _ => 0) (fun t j => partS m c t j)
    (fun t h j => by
      have hN : t.val < 8 := lt_of_lt_of_eq t.isLt N_0
      rw [outsAt0_A m c t h (by omega) h (by omega) h (by omega) h (by omega) h (by omega) (by omega), zero_add]; frame_out
      exact ds_pay m c t _ _ _ _ (fun j r k => by pointwise) (fun j r k => by pointwise) (fun j r k => by pointwise) (fun j r k => by pointwise) j)
    (fun t h j => by
      have hN : t.val < 8 := lt_of_lt_of_eq t.isLt N_0
      by_cases h7 : t.val % 8 = 7
      · rw [outsAt0_C m c t h (by omega) h (by omega) h (by omega) h (by omega) h (by omega) h7]; frame_out
        rw [ds_add]
        exact congrArg (_ + ·) (ds_pay m c t _ _ _ _ (fun j r k => by pointwise) (fun j r k => by pointwise) (fun j r k => by pointwise) (fun j r k => by pointwise) j)
      · rw [outsAt0_B m c t h (by omega) h (by omega) h (by omega) h (by omega) h (by omega) h7]; frame_out
        rw [ds_add]
        exact congrArg (_ + ·) (ds_pay m c t _ _ _ _ (fun j r k => by pointwise) (fun j r k => by pointwise) (fun j r k => by pointwise) (fun j r k => by pointwise) j)) t h j, zero_add]

abbrev partG (c : Dev nD) (t : Fin cfg0.N) : FVec Ideal S1x1024 .f32 := k0_pay8 (F := Ideal) (iblk m c 0 t) (iblk m c 1 t)

theorem dg_at (c : Dev nD) (t : Fin cfg0.N) (h : t.val % 8 = 7) (j : S1x1024.Idx) :
    (outsAt0 m c t.val t.isLt).2.2.2.1 j = ∑ s : Fin 8, partG m c ⟨8 * (t.val / 8) + s.val, by have := lt_of_lt_of_eq t.isLt N_0; have := N_0; omega⟩ j := by
  have hN : t.val < 8 := lt_of_lt_of_eq t.isLt N_0
  rw [Pipeline.eq_sum_fin_of_reset_step_apply_of_flush (fun n h => (outsAt0 m c n h).2.2.2.1) 8 (fun _ => 0) (fun t j => partG m c t j)
    (fun t h j => by
      have hN : t.val < 8 := lt_of_lt_of_eq t.isLt N_0
      rw [outsAt0_A m c t h (by omega) h (by omega) h (by omega) h (by omega) h (by omega) (by omega), zero_add]; frame_out)
    (fun t h j => by
      have hN : t.val < 8 := lt_of_lt_of_eq t.isLt N_0
      by_cases h7 : t.val % 8 = 7
      · rw [outsAt0_C m c t h (by omega) h (by omega) h (by omega) h (by omega) h (by omega) h7]; frame_out
        rw [dg_add]
      · rw [outsAt0_B m c t h (by omega) h (by omega) h (by omega) h (by omega) h (by omega) h7]; frame_out
        rw [dg_add]) t h j, zero_add]

theorem partG_val (c : Dev nD) (t : Fin cfg0.N) (b : Fin 1024) :
    partG m c t (ix2 (0 : Fin 1) b) = ∑ a : Fin 512, term (A0 m c) (A1 m c) (A2 m c) (A3 m c) b (⟨512 * t.val + a.val, by have := lt_of_lt_of_eq t.isLt N_0; omega⟩ : Fin 4096) := by
  rw [partG, dg_pay]
  refine Finset.sum_congr rfl fun k _ => ?_
  simp only [blk_d, blk_z, term]
  exact mul_comm (G := EReal) _ _

section
variable (hd : ∀ (c : Dev nD) (r : Fin 4096) (k : Fin 1024), ∃ a : ℝ, A0 m c (ix2 r k) = (a : EReal))
  (hy : ∀ (c : Dev nD) (r : Fin 4096) (k : Fin 1024), ∃ a : ℝ, A1 m c (ix2 r k) = (a : EReal))
  (hw : ∀ (c : Dev nD) (h : Fin 4) (r k : Fin 256), ∃ a : ℝ, A2 m c (ix3 h r k) = (a : EReal))
  (hs : ∀ (c : Dev nD) (l : Fin 1024), ∃ a : ℝ, A3 m c (ix1 l) = (a : EReal))
  (hg : ∀ (c : Dev nD) (l : Fin 1024), ∃ a : ℝ, A4 m c (ix1 l) = (a : EReal))

include hy hw hs in
theorem scaled_real (c : Dev nD) (a : Fin 4096) (b : Fin 1024) : ∃ x : ℝ, Cert.Reference8Ideal.Read.val_main_v6 (F := Ideal) (A1 m c) (A2 m c) (A3 m c) (ix2 a b) = (x : EReal) := by
  obtain ⟨h, i, rfl⟩ : ∃ (h : Fin 4) (i : Fin 256), b = chan h i := ⟨⟨b.val / 256, by omega⟩, ⟨b.val % 256, by omega⟩, Fin.ext (by dsimp only [chan]; omega)⟩
  rw [scaled_ref, maps_ref]
  exact mul_real (sum_real fun k => mul_real (hw c h k i) (hy c a (chan h k))) (hs c _)

include hd hy hw hs hg in
theorem dm_at (c : Dev nD) (t : Fin cfg0.N) (a : Fin 512) (b : Fin 1024) :
    k0_pay7 (F := Ideal) (iblk m c 0 t) (iblk m c 1 t) (iblk m c 5 t) (ix2 a b) = Cert.Reference8Ideal.Read.val_main_v42 (F := Ideal) (A0 m c) (A1 m c) (A2 m c) (A3 m c) (A4 m c) (ix2 (⟨512 * t.val + a.val, by have := lt_of_lt_of_eq t.isLt N_0; omega⟩ : Fin 4096) b) := by
  rw [dm_pay, dm_ref, ← agree (x := fun k => Cert.Reference8Ideal.Read.val_main_v6 (F := Ideal) (A1 m c) (A2 m c) (A3 m c) (ix2 (⟨512 * t.val + a.val, by have := lt_of_lt_of_eq t.isLt N_0; omega⟩ : Fin 4096) k)) (hd c _) (fun k => scaled_real m hy hw hs c _ k) (hg c)]
  simp only [blk_d, blk_z, blk_g]

include hd hy hw hs hg in
/-- A block's rows are the gradient that differentiation gives. -/
theorem rows_at (c : Dev nD) (t : Fin cfg0.N) (a : Fin 512) (b : Fin 1024) : rows m c t (ix2 a b) = Cert.Reference8Ideal.Read.val_main_v47 (F := Ideal) (A0 m c) (A1 m c) (A2 m c) (A3 m c) (A4 m c) (ix2 (⟨512 * t.val + a.val, by have := lt_of_lt_of_eq t.isLt N_0; omega⟩ : Fin 4096) b) := by
  rw [rows, dms_pay, dm_at m hd hy hw hs hg, dms_ref, blk_s]

include hd hy hw hs hg in
theorem partS_val (c : Dev nD) (t : Fin cfg0.N) (b : Fin 1024) :
    partS m c t (ix2 (0 : Fin 1) b) = ∑ a : Fin 512, termS (A0 m c) (A1 m c) (A2 m c) (A3 m c) (A4 m c) b (⟨512 * t.val + a.val, by have := lt_of_lt_of_eq t.isLt N_0; omega⟩ : Fin 4096) :=
  Finset.sum_congr rfl fun a _ => (congrArg (· * _) (dm_at m hd hy hw hs hg c t a b)).trans (mul_comm (G := EReal) _ _)

include hd hy hw hs hg in
theorem part_val (c : Dev nD) (t : Fin cfg0.N) (j h : Fin 4) (r : Fin 64) (k : Fin 256) :
    part m c t (ix4 j h r k) = ∑ a : Fin 512, termW (A0 m c) (A1 m c) (A2 m c) (A3 m c) (A4 m c) h ⟨64 * j.val + r.val, by omega⟩ k (⟨512 * t.val + a.val, by have := lt_of_lt_of_eq t.isLt N_0; omega⟩ : Fin 4096) :=
  Finset.sum_congr rfl fun a _ => congrArg₂ (· * ·) ((y_pay _ _ _).trans (blk_y m c t a _)) (rows_at m hd hy hw hs hg c t a _)

include hd hy hw hs hg in
/-- The gradient in the pooled rows after the run. -/
theorem dy (c : Dev nD) : (dats m 0 c).arrAt 6 (cfgs 0).N = Cert.Reference8Ideal.Read.val_main_v55 (F := Ideal) (A0 m c) (A1 m c) (A2 m c) (A3 m c) (A4 m c) := by
  refine (dats m 0 c).arrAt_eq_of_covers 6 _ (by decide +kernel) fun t hf y => ?_
  blk_simp
  rw [after0_6]
  revert y
  intro (y : S512x1024.Idx)
  obtain ⟨a, b, rfl⟩ : ∃ (a : Fin 512) (b : Fin 1024), y = ix2 a b := ⟨y 0, y 1, eq_ix2 y⟩
  obtain ⟨h, i, rfl⟩ : ∃ (h : Fin 4) (i : Fin 256), b = chan h i := ⟨⟨b.val / 256, by omega⟩, ⟨b.val % 256, by omega⟩, Fin.ext (by dsimp only [chan]; omega)⟩
  have hN : t.val < 8 := lt_of_lt_of_eq t.isLt N_0
  refine (dy_at m c t a h i).trans (Eq.trans ?_ (congrArg _ (show ix2 (⟨512 * t.val + a.val, by omega⟩ : Fin 4096) (chan h i) = _ by blk_ext [idx t])))
  refine Eq.trans ?_ (dy_ref (A0 m c) (A1 m c) (A2 m c) (A3 m c) (A4 m c) ⟨512 * t.val + a.val, by omega⟩ h i).symm
  exact Finset.sum_congr rfl fun k _ => congrArg (· * _) (rows_at m hd hy hw hs hg c t a _)

include hd hy hw hs hg in
/-- The maps' gradient after the run. -/
theorem dw (c : Dev nD) : (dats m 0 c).arrAt 7 (cfgs 0).N = Cert.Reference8Ideal.Read.val_main_v58 (F := Ideal) (A0 m c) (A1 m c) (A2 m c) (A3 m c) (A4 m c) := by
  refine (dats m 0 c).arrAt_eq_of_after_last 7 t0_7 (by decide +kernel) _ fun q => ?_
  blk_simp
  rw [after0_7]
  revert q
  intro (q : S4x4x64x256.Idx)
  obtain ⟨j, h, r, k, rfl⟩ : ∃ (j h : Fin 4) (r : Fin 64) (k : Fin 256), q = ix4 j h r k := ⟨q 0, q 1, q 2, q 3, eq_ix4 q⟩
  refine Eq.trans ?_ (congrArg _ (show ix4 j h r k = _ by blk_ext [idx t0_7]))
  rw [dw_ref]
  refine (dw_at m c t0_7 rfl _).trans ?_
  refine (Finset.sum_congr rfl fun i _ => part_val m hd hy hw hs hg c _ j h r k).trans ?_
  refine Fin.sum_mul_add_congr fun t k hl => ?_
  rw [show (⟨t.val * 512 + k.val, hl⟩ : Fin 4096) = ⟨512 * (8 * (t0_7.val / 8) + t.val) + k.val, by have : t0_7.val = 7 := rfl; omega⟩ from Fin.ext (by have : t0_7.val = 7 := rfl; dsimp only; omega)]

include hd hy hw hs hg in
/-- The gradient of the maps' scale after the run. -/
theorem ds (c : Dev nD) : (dats m 0 c).arrAt 8 (cfgs 0).N = Cert.Reference8Ideal.Read.val_main_v59 (F := Ideal) (A0 m c) (A1 m c) (A2 m c) (A3 m c) (A4 m c) := by
  refine (dats m 0 c).arrAt_eq_of_after_last 8 t0_7 (by decide +kernel) _ fun j => ?_
  blk_simp
  rw [after0_8]
  revert j
  intro (j : S1x1024.Idx)
  obtain ⟨a, b, rfl⟩ : ∃ (a : Fin 1) (b : Fin 1024), j = ix2 a b := ⟨j 0, j 1, eq_ix2 j⟩
  obtain rfl : a = 0 := Subsingleton.elim _ _
  refine Eq.trans ?_ (congrArg _ (show ix2 (0 : Fin 1) b = _ by blk_ext [idx t0_7]))
  rw [ds_ref]
  refine (ds_at m c t0_7 rfl _).trans ?_
  refine (Finset.sum_congr rfl fun i _ => partS_val m hd hy hw hs hg c _ b).trans ?_
  refine Fin.sum_mul_add_congr fun t k hl => ?_
  rw [show (⟨t.val * 512 + k.val, hl⟩ : Fin 4096) = ⟨512 * (8 * (t0_7.val / 8) + t.val) + k.val, by have : t0_7.val = 7 := rfl; omega⟩ from Fin.ext (by have : t0_7.val = 7 := rfl; dsimp only; omega)]

/-- The gradient of the norm's scale after the run. -/
theorem dg (c : Dev nD) : (dats m 0 c).arrAt 9 (cfgs 0).N = Cert.Reference8Ideal.Read.val_main_v60 (F := Ideal) (A0 m c) (A1 m c) (A2 m c) (A3 m c) := by
  refine (dats m 0 c).arrAt_eq_of_after_last 9 t0_7 (by decide +kernel) _ fun j => ?_
  blk_simp
  rw [after0_9]
  revert j
  intro (j : S1x1024.Idx)
  obtain ⟨a, b, rfl⟩ : ∃ (a : Fin 1) (b : Fin 1024), j = ix2 a b := ⟨j 0, j 1, eq_ix2 j⟩
  obtain rfl : a = 0 := Subsingleton.elim _ _
  refine Eq.trans ?_ (congrArg _ (show ix2 (0 : Fin 1) b = _ by blk_ext [idx t0_7]))
  rw [dg_ref]
  refine (dg_at m c t0_7 rfl _).trans ?_
  refine (Finset.sum_congr rfl fun i _ => partG_val m c _ b).trans ?_
  refine Fin.sum_mul_add_congr fun t k hl => ?_
  rw [show (⟨t.val * 512 + k.val, hl⟩ : Fin 4096) = ⟨512 * (8 * (t0_7.val / 8) + t.val) + k.val, by have : t0_7.val = 7 := rfl; omega⟩ from Fin.ext (by have : t0_7.val = 7 := rfl; dsimp only; omega)]
end

theorem algebraic : Cert.algebraic_Kernel8Ideal_Reference8Ideal_pre_finite_maps := by
  intro m g m' g' hpre hagree
  refine ⟨fun c => (dats m 0 c).arrAt 6 (cfgs 0).N, fun c => (dats m 0 c).arrAt 7 (cfgs 0).N, fun c => (dats m 0 c).arrAt 8 (cfgs 0).N, fun c => (dats m 0 c).arrAt 9 (cfgs 0).N,
    Cert.Kernel8Ideal.Value.run_blocks m g, ?_⟩
  refine (θ_run Cert.Reference8Ideal.defs _ _).mono (fun r h c => ?_) (Cert.Reference8Ideal.Value.run m' g')
  obtain ⟨h0, h1, h2, h3, hk⟩ := h c
  obtain ⟨a0, a1, a2, a3, a4⟩ := hagree c
  have hd : ∀ (c : Dev nD) (r : Fin 4096) (k : Fin 1024), ∃ a : ℝ, A0 m c (ix2 r k) = (a : EReal) := fun c r k => ⟨_, real_of_lt_top (congrFun (hpre c).1 (ix2 r k))⟩
  have hy : ∀ (c : Dev nD) (r : Fin 4096) (k : Fin 1024), ∃ a : ℝ, A1 m c (ix2 r k) = (a : EReal) := fun c r k => ⟨_, real_of_lt_top (congrFun (hpre c).2.1 (ix2 r k))⟩
  have hw : ∀ (c : Dev nD) (h : Fin 4) (r k : Fin 256), ∃ a : ℝ, A2 m c (ix3 h r k) = (a : EReal) := fun c h r k => ⟨_, real_of_lt_top (congrFun (hpre c).2.2.1 (ix3 h r k))⟩
  have hs : ∀ (c : Dev nD) (l : Fin 1024), ∃ a : ℝ, A3 m c (ix1 l) = (a : EReal) := fun c l => ⟨_, real_of_lt_top (congrFun (hpre c).2.2.2.1 (ix1 l))⟩
  have hg : ∀ (c : Dev nD) (l : Fin 1024), ∃ a : ℝ, A4 m c (ix1 l) = (a : EReal) := fun c l => ⟨_, real_of_lt_top (congrFun (hpre c).2.2.2.2 (ix1 l))⟩
  have e6 := dy m hd hy hw hs hg c
  have e7 := dw m hd hy hw hs hg c
  have e8 := ds m hd hy hw hs hg c
  have e9 := dg m c
  dsimp only [A0, A1, A2, A3, A4] at e6 e7 e8 e9
  rw [← a0, ← a1, ← a2, ← a3, ← a4] at e6 e7 e8
  rw [← a0, ← a1, ← a2, ← a3] at e9
  exact ⟨h0.trans e6.symm, h1.trans e7.symm, h2.trans e8.symm, h3.trans e9.symm, hk⟩

end
end Cert.Maps

end
-- ==== Proof.Proj.Down.lean ====
/- The gradient of the norm behind the second layer of the network and of that layer and the squared rectifier in their input:
   what the kernel leaves in its three arrays, against `jax.vjp`. -/
module

public import proofs.«01_k».proof.Defs
public import proofs.«01_k».proof.Proof.Gen.Pre_finite_down
public import proofs.«01_k».proof.Proof.Gen.Reference9Ideal.Run
public import proofs.«01_k».proof.Proof.Gen.Reference9Ideal.Read
public import proofs.«01_k».proof.Proof.Down.Frame
public import proofs.«01_k».proof.Proof.Proj.Up
public import proofs.«01_k».proof.Proof.Finite

@[expose] public section

set_option maxRecDepth 16384

noncomputable section

namespace Cert.Down

open Cert.Up (mul_real sum_real)
open Cert.Reals Cert.Norm Idealize.ShloMosaic Idealize.ShloMosaic.TcCoe Idealize.SL.Sem

section
open Cert.Reference9Ideal Cert.Reference9Ideal.Gen Cert.Reference9Ideal.Read
/-- The rectifier. -/
def relu (u : FVec Ideal S4096x4096 .f32) (a b : Fin 4096) : EReal := max (u (ix2 a b)) 0

theorem relu_ref (u : FVec Ideal S4096x4096 .f32) (a b : Fin 4096) : val_main_v35 (F := Ideal) u (ix2 a b) = relu u a b := by
  unfold relu
  pointwise [val_main_call1_cst, val_main_call1_v0, val_main_v35]

/-- The second layer's output, before the norm. -/
def proj (u : FVec Ideal S4096x4096 .f32) (w : FVec Ideal S4096x1024 .f32) (a : Fin 4096) (b : Fin 1024) : EReal :=
  ∑ k : Fin 4096, relu u a k * relu u a k * w (ix2 k b)

theorem proj_ref (u : FVec Ideal S4096x4096 .f32) (w : FVec Ideal S4096x1024 .f32) (a : Fin 4096) (b : Fin 1024) :
    val_main_v2 (F := Ideal) u w (ix2 a b) = proj u w a b := by
  unfold proj
  simp only [← relu_ref]
  rw [val_main_v2, val_main_v1, show val_main_v0 (F := Ideal) u = val_main_v35 (F := Ideal) u from rfl]
  generalize val_main_v35 (F := Ideal) u = r
  pointwise

theorem dz_ref (d : FVec Ideal S4096x1024 .f32) (u : FVec Ideal S4096x4096 .f32) (w : FVec Ideal S4096x1024 .f32) (g : FVec Ideal S1024 .f32) (a : Fin 4096) (b : Fin 1024) :
    val_main_v83 (F := Ideal) d u w g (ix2 a b) = theirs (fun k => d (ix2 a k)) (proj u w a) (fun k => g (ix1 k)) b := by
  rw [show proj u w a = fun b => val_main_v2 (F := Ideal) u w (ix2 a b) from funext fun b => (proj_ref u w a b).symm]
  simp only [val_main_v3, val_main_cst, val_main_v4, val_main_v5, val_main_cst_0, val_main_v6, val_main_v7, val_main_cst_1, val_main_v8, val_main_v9, val_main_v10,
    val_main_v11, val_main_cst_2, val_main_v12, val_main_v13, val_main_v16, val_main_v19, val_main_v20, val_main_v21, val_main_cst_3, val_main_v22,
    val_main_v23, val_main_v24, val_main_v25, val_main_v26, val_main_cst_4, val_main_v27, val_main_v28, val_main_cst_5, val_main_v29, val_main_v30,
    val_main_v31, val_main_v32, val_main_v33, val_main_v34, val_main_v83]
  generalize val_main_v2 (F := Ideal) u w = z
  pointwise
  simp only [Fin.sum_univ_one]
  rfl

/-- The gradient of the norm's argument appears twice, once for each of the two derivatives the reference takes. -/
theorem twice (d : FVec Ideal S4096x1024 .f32) (u : FVec Ideal S4096x4096 .f32) (w : FVec Ideal S4096x1024 .f32) (g : FVec Ideal S1024 .f32) :
    val_main_v78 (F := Ideal) d u w g = val_main_v83 (F := Ideal) d u w g := rfl

theorem two : Ideal.ofBits .f32 0x40000000#32 = 2 := by
  have h : Ideal.ofBits .f32 0x40000000#32 = ((2 : ℝ) : EReal) := by
    simp [Ideal.ofBits, Ideal.ieee]
    rw [← EReal.coe_mul]
    norm_num
  exact h

theorem da_ref (d : FVec Ideal S4096x1024 .f32) (u : FVec Ideal S4096x4096 .f32) (w : FVec Ideal S4096x1024 .f32) (g : FVec Ideal S1024 .f32) (a b : Fin 4096) :
    val_main_v84 (F := Ideal) d u w g (ix2 a b) = (∑ k : Fin 1024, val_main_v83 (F := Ideal) d u w g (ix2 a k) * w (ix2 b k)) * (2 * relu u a b) := by
  rw [← relu_ref]
  simp only [val_main_cst_6, val_main_v36, val_main_v37, val_main_cst_8, val_main_v40, val_main_v41, val_main_v80, val_main_cst_18, val_main_v81, val_main_v82,
    val_main_v84, val_main_v79, twice]
  generalize val_main_v83 (F := Ideal) d u w g = z
  pointwise
  rw [two, relu_ref]
  by_cases h : 0 < u (ix2 a b)
  · rw [if_pos h]
  · rw [if_neg h, relu, max_eq_right (not_lt.mp h), mul_zero, mul_zero]

/-- One row's part of the scale's gradient. -/
def term (d : FVec Ideal S4096x1024 .f32) (u : FVec Ideal S4096x4096 .f32) (w : FVec Ideal S4096x1024 .f32) (b : Fin 1024) (a : Fin 4096) : EReal :=
  proj u w a b * root (proj u w a) * d (ix2 a b)

theorem dg_ref (d : FVec Ideal S4096x1024 .f32) (u : FVec Ideal S4096x4096 .f32) (w : FVec Ideal S4096x1024 .f32) (b : Fin 1024) :
    val_main_v85 (F := Ideal) d u w (ix2 (0 : Fin 1) b) = ∑ a : Fin 4096, term d u w b a := by
  unfold term
  have e : ∀ a, proj u w a = fun b => val_main_v42 (F := Ideal) u w (ix2 a b) := fun a => funext fun b => (proj_ref u w a b).symm
  simp only [e]
  simp only [val_main_v43, val_main_cst_9, val_main_v44, val_main_v45, val_main_cst_10, val_main_v46, val_main_v47, val_main_cst_11, val_main_v48, val_main_v49,
    val_main_v50, val_main_v54, val_main_v55, val_main_v59, val_main_cst_13, val_main_v60, val_main_v61, val_main_cst_14, val_main_v64, val_main_v85]
  generalize val_main_v42 (F := Ideal) u w = z
  pointwise
  simp only [Fin.sum_univ_one]
  rfl
end

section
open Cert.Kernel9Ideal Cert.Kernel9Ideal.Gen Cert.Kernel9Ideal.Down
open Idealize.ShloMosaic.Pipeline (Dat)

theorem dz_pay (d x : Vec Ideal S1024x1024 .f32) (g : Vec Ideal S1x1024 .f32) (a b : Fin 1024) :
    k0_pay5 (F := Ideal) d x g (ix2 a b) = ours (fun k => d (ix2 a k)) (fun k => x (ix2 a k)) (fun k => g (ix2 0 k)) b := by
  unfold ours root under
  pointwise [k0_pay5, k0_pay3, k0_pay2, k0_pay1]

theorem dg_pay (d x : Vec Ideal S1024x1024 .f32) (b : Fin 1024) :
    k0_pay4 (F := Ideal) d x (ix2 (0 : Fin 1) b) = ∑ a : Fin 1024, d (ix2 a b) * (x (ix2 a b) * root (fun k => x (ix2 a k))) := by
  unfold root under
  pointwise [k0_pay4, k0_pay3, k0_pay2, k0_pay1]

theorem dg_add (d x : Vec Ideal S1024x1024 .f32) (v : Vec Ideal S1x1024 .f32) (j : S1x1024.Idx) :
    k0_pay6 (F := Ideal) d x v j = v j + k0_pay4 (F := Ideal) d x j := by
  obtain ⟨a, b, rfl⟩ : ∃ (a : Fin 1) (b : Fin 1024), j = ix2 a b := ⟨j 0, j 1, eq_ix2 j⟩
  rw [k0_pay6]
  generalize k0_pay4 (F := Ideal) d x = p
  pointwise

theorem da_pay (y : Vec Ideal S1024x1024 .bf16) (w : Vec Ideal S1x1x1024x1024 .bf16) (r : Vec Ideal S1024x1024 .bf16) (a b : Fin 1024) :
    k0_pay7 (F := Ideal) y w r (ix2 a b) = (∑ k : Fin 1024, y (ix2 a k) * w (ix4 0 0 b k)) * (2 * r (ix2 a b)) := by
  rw [← two]
  pointwise [k0_pay7]

theorem idx : ∀ t : Fin cfg0.N, win0_0.index t = ![t.val / 4, 0] ∧ win0_1.index t = ![t.val / 4, 0] ∧ win0_2.index t = ![0, 0]
    ∧ win0_3.index t = ![t.val % 4, 0, 0, 0] ∧ win0_4.index t = ![t.val / 4, t.val % 4] ∧ win0_5.index t = ![t.val / 4, 0] ∧ win0_6.index t = ![t.val / 4, t.val % 4] ∧ win0_7.index t = ![0, 0] :=
  (by decide +kernel : ∀ t : Fin grid0.N, _)

/-- A row of a tile, among all of them, -/
abbrev row (t : Fin cfg0.N) (r : Fin 1024) : Fin 4096 := ⟨1024 * (t.val / 4) + r.val, by have := lt_of_lt_of_eq t.isLt N_0; omega⟩
/-- and a column. -/
abbrev col (t : Fin cfg0.N) (r : Fin 1024) : Fin 4096 := ⟨1024 * (t.val % 4) + r.val, by omega⟩

variable (m : (ℓ : Loc nD τ sig) → Buf (Elt Ideal) ℓ)

/-- The arguments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)

/-- The scale as the call finds it, -/
theorem V_g (c : Dev nD) : V m c main_v3 = broadcastInDim S1x1024 ![1] bcast_S1024_S1x1024_1 (A3 m c : FVec Ideal S1024 .f32) := rfl
/-- and the layer's weight. -/
theorem V_w (c : Dev nD) : V m c main_v5 = shapeCast S4x1x1024x1024 (truncf (F := Ideal) (s := S4096x1024) (φ := .f32) .bf16 (A2 m c) bitsLt_bf16_f32) shapeCasts_S4096x1024_S4x1x1024x1024 := rfl

theorem blk_d (c : Dev nD) (t : Fin cfg0.N) (r l : Fin 1024) : iblk m c 0 t (ix2 r l) = A0 m c (ix2 (row t r) l) := by
  blk_point [iblk, V, V0, lines, idx t]
theorem blk_z (c : Dev nD) (t : Fin cfg0.N) (r l : Fin 1024) : iblk m c 1 t (ix2 r l) = proj (A1 m c) (A2 m c) (row t r) l := by
  rw [← proj_ref]
  blk_point [iblk, V, V0, lines, idx t]
theorem blk_g (c : Dev nD) (t : Fin cfg0.N) (l : Fin 1024) : iblk m c 2 t (ix2 (0 : Fin 1) l) = A3 m c (ix1 l) := by
  blk_simp [iblk, idx t]
  rw [V_g]
  pointwise
  blk_ext [idx t]
theorem blk_w (c : Dev nD) (t : Fin cfg0.N) (r l : Fin 1024) : iblk m c 3 t (ix4 (0 : Fin 1) (0 : Fin 1) r l) = A2 m c (ix2 (col t r) l) := by
  blk_simp [iblk, idx t]
  rw [show V m c main_v5 _ = _ from congrFun (V_w m c) _]
  pointwise
  blk_ext [idx t]
theorem blk_r (c : Dev nD) (t : Fin cfg0.N) (r l : Fin 1024) : iblk m c 4 t (ix2 r l) = relu (A1 m c) (row t r) (col t l) := by
  rw [← relu_ref]
  blk_point [iblk, V, V0, lines, idx t]

/-- One row's part of the scale's gradient, by the row's number. -/
def termN (c : Dev nD) (b : Fin 1024) (i : ℕ) : EReal := if h : i < 4096 then term (A0 m c) (A1 m c) (A2 m c) b ⟨i, h⟩ else 0

theorem part_val (c : Dev nD) (t : Fin cfg0.N) (b : Fin 1024) :
    k0_pay4 (F := Ideal) (iblk m c 0 t) (iblk m c 1 t) (ix2 (0 : Fin 1) b) = ∑ a : Fin 1024, termN m c b (1024 * (t.val / 4) + a.val) := by
  have hN : t.val < 16 := lt_of_lt_of_eq t.isLt N_0
  rw [dg_pay]
  refine Finset.sum_congr rfl fun k _ => ?_
  simp only [blk_d, blk_z]
  rw [termN, dif_pos (by omega)]
  exact mul_comm (G := EReal) _ _

/-- The scale's gradient after a point: the parts of the rows of the tiles up to there. -/
theorem dg_at (c : Dev nD) (b : Fin 1024) : ∀ (n : ℕ) (h : n < cfg0.N),
    dgAt m c n h (ix2 (0 : Fin 1) b) = ∑ s ∈ Finset.range (n / 4 + 1), ∑ a : Fin 1024, termN m c b (1024 * s + a.val)
  | 0, h => by
    rw [show dgAt m c 0 h = _ from dgAt_first m c ⟨0, h⟩ rfl, part_val]
    simp
  | n + 1, h => by
    by_cases h4 : (n + 1) % 4 = 0
    · rw [show dgAt m c (n + 1) h = _ from dgAt_row m c ⟨n + 1, h⟩ h4 (Nat.succ_ne_zero n), dg_add, part_val, Finset.sum_range_succ]
      congr 1
      rw [show (n + 1) / 4 = n / 4 + 1 by omega]
      exact dg_at c b n _
    · rw [show dgAt m c (n + 1) h = _ from dgAt_later m c ⟨n + 1, h⟩ h4, show (n + 1) / 4 = n / 4 by omega]
      exact dg_at c b n _

section
variable (hd : ∀ (c : Dev nD) (r : Fin 4096) (k : Fin 1024), ∃ a : ℝ, A0 m c (ix2 r k) = (a : EReal))
  (hu : ∀ (c : Dev nD) (r k : Fin 4096), ∃ a : ℝ, A1 m c (ix2 r k) = (a : EReal))
  (hw : ∀ (c : Dev nD) (r : Fin 4096) (k : Fin 1024), ∃ a : ℝ, A2 m c (ix2 r k) = (a : EReal))
  (hg : ∀ (c : Dev nD) (l : Fin 1024), ∃ a : ℝ, A3 m c (ix1 l) = (a : EReal))

include hu in
theorem relu_real (c : Dev nD) (r k : Fin 4096) : ∃ a : ℝ, relu (A1 m c) r k = (a : EReal) := by
  obtain ⟨a, ha⟩ := hu c r k
  exact ⟨max a 0, by rw [relu, ha]; rcases le_total a 0 with h | h <;> simp [h]⟩

include hd hu hw hg in
/-- A tile's rows are the gradient that differentiation gives. -/
theorem rows_at (c : Dev nD) (t : Fin cfg0.N) (a b : Fin 1024) :
    k0_pay5 (F := Ideal) (iblk m c 0 t) (iblk m c 1 t) (iblk m c 2 t) (ix2 a b) = Cert.Reference9Ideal.Read.val_main_v83 (F := Ideal) (A0 m c) (A1 m c) (A2 m c) (A3 m c) (ix2 (row t a) b) := by
  rw [dz_pay, dz_ref, ← agree (x := proj (A1 m c) (A2 m c) _) (hd c _) (fun k => sum_real fun j => mul_real (mul_real (relu_real m hu c _ j) (relu_real m hu c _ j)) (hw c j k)) (hg c)]
  simp only [blk_d, blk_z, blk_g]

include hd hu hw hg in
theorem dz_at (c : Dev nD) (a b : Fin 1024) : ∀ (n : ℕ) (h : n < cfg0.N),
    dzAt m c n h (ix2 a b) = Cert.Reference9Ideal.Read.val_main_v83 (F := Ideal) (A0 m c) (A1 m c) (A2 m c) (A3 m c) (ix2 (row ⟨n, h⟩ a) b)
  | 0, h => by
    rw [show dzAt m c 0 h = _ from dzAt_first m c ⟨0, h⟩ rfl]
    exact rows_at m hd hu hw hg c ⟨0, h⟩ a b
  | n + 1, h => by
    by_cases h4 : (n + 1) % 4 = 0
    · rw [show dzAt m c (n + 1) h = _ from dzAt_first m c ⟨n + 1, h⟩ h4]
      exact rows_at m hd hu hw hg c ⟨n + 1, h⟩ a b
    · rw [show dzAt m c (n + 1) h = _ from dzAt_later m c ⟨n + 1, h⟩ h4]
      refine (dz_at c a b n _).trans (congrArg _ (congrArg (fun i => ix2 i b) (Fin.ext ?_)))
      show 1024 * (n / 4) + a.val = 1024 * ((n + 1) / 4) + a.val
      omega

include hd hu hw hg in
theorem da_at (c : Dev nD) (t : Fin cfg0.N) (a b : Fin 1024) :
    k0_pay7 (F := Ideal) (dzAt m c t.val t.isLt) (iblk m c 3 t) (iblk m c 4 t) (ix2 a b)
      = Cert.Reference9Ideal.Read.val_main_v84 (F := Ideal) (A0 m c) (A1 m c) (A2 m c) (A3 m c) (ix2 (row t a) (col t b)) := by
  rw [da_ref, da_pay, blk_r]
  congr 1
  exact Finset.sum_congr rfl fun k _ => by rw [dz_at m hd hu hw hg, blk_w]

include hd hu hw hg in
/-- The gradient in the norm's argument after the run. -/
theorem dz (c : Dev nD) : (dats m 0 c).arrAt 5 (cfgs 0).N = Cert.Reference9Ideal.Read.val_main_v83 (F := Ideal) (A0 m c) (A1 m c) (A2 m c) (A3 m c) := by
  refine (dats m 0 c).arrAt_eq_of_covers 5 _ (by decide +kernel) fun t hf y => ?_
  blk_simp
  rw [show (dats m 0 c).after 5 t = dzAt m c t.val t.isLt from rfl]
  revert y
  intro (y : S1024x1024.Idx)
  obtain ⟨a, b, rfl⟩ : ∃ (a b : Fin 1024), y = ix2 a b := ⟨y 0, y 1, eq_ix2 y⟩
  rw [dz_at m hd hu hw hg]
  exact congrArg _ (show ix2 (row t a) b = _ by blk_ext [idx t])

include hd hu hw hg in
/-- The gradient in the layer's input after the run. -/
theorem da (c : Dev nD) : (dats m 0 c).arrAt 6 (cfgs 0).N = Cert.Reference9Ideal.Read.val_main_v84 (F := Ideal) (A0 m c) (A1 m c) (A2 m c) (A3 m c) := by
  refine (dats m 0 c).arrAt_eq_of_covers 6 _ (by decide +kernel) fun t hf y => ?_
  blk_simp
  rw [show (dats m 0 c).after 6 t = k0_pay7 (F := Ideal) (dzAt m c t.val t.isLt) (iblk m c 3 t) (iblk m c 4 t) from rfl]
  revert y
  intro (y : S1024x1024.Idx)
  obtain ⟨a, b, rfl⟩ : ∃ (a b : Fin 1024), y = ix2 a b := ⟨y 0, y 1, eq_ix2 y⟩
  refine Eq.trans ?_ (congrArg _ (show ix2 (row t a) (col t b) = _ by blk_ext [idx t]))
  exact da_at m hd hu hw hg c t a b

/-- The scale's gradient after the run. -/
theorem dg (c : Dev nD) : (dats m 0 c).arrAt 7 (cfgs 0).N = Cert.Reference9Ideal.Read.val_main_v85 (F := Ideal) (A0 m c) (A1 m c) (A2 m c) := by
  refine (dats m 0 c).arrAt_eq_of_after_last 7 t0_15 (by decide +kernel) _ fun j => ?_
  blk_simp
  rw [show (dats m 0 c).after 7 t0_15 = dgAt m c t0_15.val t0_15.isLt from rfl]
  revert j
  intro (j : S1x1024.Idx)
  obtain ⟨a, b, rfl⟩ : ∃ (a : Fin 1) (b : Fin 1024), j = ix2 a b := ⟨j 0, j 1, eq_ix2 j⟩
  obtain rfl : a = 0 := Subsingleton.elim _ _
  refine Eq.trans ?_ (congrArg _ (show ix2 (0 : Fin 1) b = _ by blk_ext [idx t0_15]))
  rw [dg_ref]
  refine (dg_at m c b t0_15.val t0_15.isLt).trans ?_
  rw [show t0_15.val / 4 + 1 = 4 from rfl, Finset.sum_range]
  refine Fin.sum_mul_add_congr fun t k hl => ?_
  rw [termN, dif_pos (by omega)]
  exact congrArg _ (Fin.ext (by dsimp only; omega))
end

theorem algebraic : Cert.algebraic_Kernel9Ideal_Reference9Ideal_pre_finite_down := by
  intro m g m' g' hpre hagree
  refine ⟨fun c => (dats m 0 c).arrAt 5 (cfgs 0).N, fun c => (dats m 0 c).arrAt 6 (cfgs 0).N, fun c => (dats m 0 c).arrAt 7 (cfgs 0).N, ?_, ?_⟩
  · refine (θ_run defs _ _).mono (fun r h c => ?_) (run_main m g)
    obtain ⟨hw, hk⟩ := h.1 c
    exact ⟨hw 5, hw 6, hw 7, (hw 0).trans (((dats m 0 c).arrAt_in 0 rfl _).trans ((A_eq m c 0).trans (V_main_arg0 m c))),
      (hk main_arg1 (Pipeline.mem_restRefs_of main_arg1 (by decide) (by decide))).trans (V_main_arg1 m c),
      (hk main_arg2 (Pipeline.mem_restRefs_of main_arg2 (by decide) (by decide))).trans (V_main_arg2 m c),
      (hk main_arg3 (Pipeline.mem_restRefs_of main_arg3 (by decide) (by decide))).trans (V_main_arg3 m c)⟩
  refine (θ_run Cert.Reference9Ideal.defs _ _).mono (fun r h c => ?_) (Cert.Reference9Ideal.Value.run m' g')
  obtain ⟨h0, h1, h2, hk⟩ := h c
  obtain ⟨a0, a1, a2, a3⟩ := hagree c
  have hd : ∀ (c : Dev nD) (r : Fin 4096) (k : Fin 1024), ∃ a : ℝ, A0 m c (ix2 r k) = (a : EReal) := fun c r k => ⟨_, real_of_lt_top (congrFun (hpre c).1 (ix2 r k))⟩
  have hu : ∀ (c : Dev nD) (r k : Fin 4096), ∃ a : ℝ, A1 m c (ix2 r k) = (a : EReal) := fun c r k => ⟨_, real_of_lt_top (congrFun (hpre c).2.1 (ix2 r k))⟩
  have hw : ∀ (c : Dev nD) (r : Fin 4096) (k : Fin 1024), ∃ a : ℝ, A2 m c (ix2 r k) = (a : EReal) := fun c r k => ⟨_, real_of_lt_top (congrFun (hpre c).2.2.1 (ix2 r k))⟩
  have hg : ∀ (c : Dev nD) (l : Fin 1024), ∃ a : ℝ, A3 m c (ix1 l) = (a : EReal) := fun c l => ⟨_, real_of_lt_top (congrFun (hpre c).2.2.2 (ix1 l))⟩
  have e5 := dz m hd hu hw hg c
  have e6 := da m hd hu hw hg c
  have e7 := dg m c
  dsimp only [A0, A1, A2, A3] at e5 e6 e7
  rw [← a0, ← a1, ← a2, ← a3] at e5 e6
  rw [← a0, ← a1, ← a2] at e7
  exact ⟨h0.trans e5.symm, h1.trans e6.symm, h2.trans e7.symm, hk⟩

end
end Cert.Down

end
-- ==== Proof.Fwd.Trip.lean ====
module

public import proofs.«01_k».proof.Proof.Gen.Kernel10Ideal.Launch
public import proofs.«01_k».proof.Proof.Gen.Kernel10Ideal.Skeleton
public import proofs.«01_k».proof.Proof.Gen.Kernel10Ideal.Points
public import Idealize.ShloMosaic.Lib.Pipeline.FrameBody
public import Idealize.ShloMosaic.Lib.Tactic
public import Idealize.ShloMosaic.Lib.WordCmp

@[expose] public section

set_option maxRecDepth 16384

noncomputable section

namespace Cert.Kernel10Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel10Ideal.Gen

variable {F : FTy → Type} [FloatOps F] [Named F]

local notation "𝕄" => MT nD τ sig Unit (Elt F) ℕ (UR sig nD τ) ℕ

/-- The naturals: the trips the loop may still run. -/
abbrev 𝒱₀ : Variants := Variants.nat

/-- The loop's test. -/
abbrev test (i : grid0.Coords) (arg9 : BitVec 32) (arg10 : F .f32) : BitVec 1 :=
  Scalar.andi (Scalar.cmpi .slt arg9 (BitVec.ofNat 32 (i 1).val)) (Scalar.cmpf .olt arg10 (Named.named κ "dead_log" 0x42D20000#32))

set_option maxHeartbeats 4000000 in
/-- One trip of the loop: what it leaves in the two scratch buffers, and the words it calls the next trip with. -/
def trip (c : Dev nD) (i : grid0.Coords) (arg3 : Memref sig .tc .vmem S4096x512 .bf16) (harg3 : arg3.IsWhole) (arg4 : Memref sig .tc .vmem S4096x512 .bf16) (harg4 : arg4.IsWhole) (v8 : FVec F S256x128 .bf16) (v10 : FVec F S256x128 .bf16) (v14 : FVec F S256x128 .bf16) (v16 : FVec F S256x128 .bf16) (v20 : FVec F S256x128 .bf16) (v22 : FVec F S256x128 .bf16) (v26 : FVec F S256x128 .bf16) (v28 : FVec F S256x128 .bf16) (v1 : FVec F S512x256 .bf16) (arg7 : Memref sig .tc .vmem S8x256x1 .f32) (harg7 : arg7.IsWhole) (arg8 : Memref sig .tc .vmem S8x256x128 .f32) (harg8 : arg8.IsWhole) (arg9 : BitVec 32)
    (hw : k0_chk1 i arg9) (xk xv : Vec F S4096x512 .bf16) (gc : Vec F S8x256x1 .f32) (ga : Vec F S8x256x128 .f32) :
    Σ' (gc' : Vec F S8x256x1 .f32) (ga' : Vec F S8x256x128 .f32) (n : BitVec 32), { x : F .f32 //
      ∀ (arg10 : F .f32) (ht : test i arg9 arg10 = 1#1) (bd : Option ℕ) (E : Set ℕ) (K : BitVec 32 × F .f32 → sProp 𝕄),
        iprop(owns (c : Thread nD τ) arg3 fullShare xk ∗ owns (c : Thread nD τ) arg4 fullShare xv ∗ owns (c : Thread nD τ) arg7 fullShare gc ∗ owns (c : Thread nD τ) arg8 fullShare ga
            ∗ (iprop(owns (c : Thread nD τ) arg3 fullShare xk ∗ owns (c : Thread nD τ) arg4 fullShare xv ∗ owns (c : Thread nD τ) arg7 fullShare gc' ∗ owns (c : Thread nD τ) arg8 fullShare ga')
              -∗ wp frame (wpE (defs₀ (F := F)) 𝒱₀ c bd) E (Prog.op (.call (1 : (Λ₀ F).Label) ⟨i, arg3, harg3, arg4, harg4, v8, v10, v14, v16, v20, v22, v26, v28, v1, arg7, harg7, arg8, harg8, n, x⟩) Prog.ret) K))
          ⊢ wp frame (wpE (defs₀ (F := F)) 𝒱₀ c bd) E (cc0_while1 i arg3 harg3 arg4 harg4 v8 v10 v14 v16 v20 v22 v26 v28 v1 arg7 harg7 arg8 harg8 arg9 arg10) K } := by
  refine ⟨?_, ?_, ?_, ?_, fun arg10 ht bd E K => ?run⟩
  case run =>
    simp only [cc0_while1_eq_skeleton]; unfold cc0_while1_skel
    simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f3, %hf3, H3⟩, ⟨%f4, %hf4, H4⟩, ⟨%f7, %hf7, H7⟩, ⟨%f8, %hf8, H8⟩, Hk⟩
    obtain rfl := harg3.eq_unread hf3; obtain rfl := harg4.eq_unread hf4; obtain rfl := harg7.eq_unread hf7; obtain rfl := harg8.eq_unread hf8
    sl_exec (disch := first | sl_exact ht | sl_exact hw)
    iapply Hk
    isplitl [H3]
    · iexists _; isplitr; · ipureintro; exact harg3.read_unread _
      iexact H3
    isplitl [H4]
    · iexists _; isplitr; · ipureintro; exact harg4.read_unread _
      iexact H4
    isplitl [H7]
    · iexists _; isplitr; · ipureintro; rfl
      iexact H7
    iexists _; isplitr; · ipureintro; rfl
    iexact H8

end Cert.Kernel10Ideal.Fwd
-- ==== Proof.Fwd.Point.lean ====
module

public import proofs.«01_k».proof.Proof.Fwd.Trip

@[expose] public section

set_option maxRecDepth 16384

noncomputable section

namespace Cert.Kernel10Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel10Ideal.Gen

variable {F : FTy → Type} [FloatOps F] [Named F]

local notation "𝕄" => MT nD τ sig Unit (Elt F) ℕ (UR sig nD τ) ℕ

/-- What the loop carries from trip to trip: the running sums and the accumulated rows, head by head. -/
structure Carried (F : FTy → Type) where
  gc : Vec F S8x256x1 .f32
  ga : Vec F S8x256x128 .f32

section
variable (c : Dev nD) (i : grid0.Coords) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S512x256 .bf16) (harg5 : arg5.IsWhole) (arg6 : Memref sig .tc .vmem S256x512 .f32) (harg6 : arg6.IsWhole) (arg7 : Memref sig .tc .vmem S8x256x1 .f32) (harg7 : arg7.IsWhole) (arg8 : Memref sig .tc .vmem S8x256x128 .f32) (harg8 : arg8.IsWhole)
  (x0 : Vec F S256x512 .bf16) (x1 : Vec F S4096x512 .bf16) (x2 : Vec F S4096x512 .bf16) (x3 : Vec F S512x256 .bf16) (x4 : Vec F S256x512 .f32)

/-- The buffers the loop reads and writes, whole. -/
def held (s : Carried F) : sProp 𝕄 :=
  iprop(owns (c : Thread nD τ) arg3 fullShare x1 ∗ owns (c : Thread nD τ) arg4 fullShare x2 ∗ owns (c : Thread nD τ) arg7 fullShare s.gc ∗ owns (c : Thread nD τ) arg8 fullShare s.ga)

/-- The loop from the contents `s`: it ends with some contents of which `Q` holds. -/
def loopSpec (s : Carried F) (Q : Carried F → Prop) : sWPT 𝕄 (BitVec 32 × F .f32) := do
  sWPT.consume (held c arg3 arg4 arg7 arg8 x1 x2 s)
  let r ← (sWPT.arbitrary : sWPT 𝕄 ((BitVec 32 × F .f32) × Carried F))
  sWPT.assume (Q r.2)
  sWPT.produce (held c arg3 arg4 arg7 arg8 x1 x2 r.2)
  pure r.1

theorem loopSpec_apply (s : Carried F) (Q : Carried F → Prop) (K : BitVec 32 × F .f32 → sProp 𝕄) :
    loopSpec c arg3 arg4 arg7 arg8 x1 x2 s Q K
      = iprop(held c arg3 arg4 arg7 arg8 x1 x2 s
        ∗ ∀ r : (BitVec 32 × F .f32) × Carried F, ⌜Q r.2⌝ -∗ (held c arg3 arg4 arg7 arg8 x1 x2 r.2 -∗ K r.1)) := rfl

/-- A call of the loop, answered by what is assumed of its body. -/
theorem call_loop {α : Type} {r : Cc0While1 F} {gc : Vec F S8x256x1 .f32} {ga : Vec F S8x256x128 .f32} {n : ℕ} {Q : Carried F → Prop}
    (bd : Option ℕ) (hv : ∀ u ∈ bd, 𝒱₀.lt n u)
    (hS : ∀ K, loopSpec c arg3 arg4 arg7 arg8 x1 x2 ⟨gc, ga⟩ Q K
      ⊢ wp frame (wpE (defs₀ (F := F)) 𝒱₀ c (some n)) Set.univ (defs₀ (F := F) .tc 1 r) K)
    {k : BitVec 32 × F .f32 → Prog (TpuEff nD τ sig (Elt F) (Λ₀ F) .tc) α} {K : α → sProp 𝕄} :
    owns (c : Thread nD τ) arg3 fullShare x1
      ⊢ iprop(owns (c : Thread nD τ) arg4 fullShare x2 -∗ owns (c : Thread nD τ) arg7 fullShare gc -∗ owns (c : Thread nD τ) arg8 fullShare ga
        -∗ (∀ (x : BitVec 32 × F .f32) (s' : Carried F), ⌜Q s'⌝ -∗ (held c arg3 arg4 arg7 arg8 x1 x2 s'
          -∗ wp frame (wpE (defs₀ (F := F)) 𝒱₀ c bd) Set.univ (k x) K))
        -∗ wp frame (wpE (defs₀ (F := F)) 𝒱₀ c bd) Set.univ (Prog.op (.call (1 : (Λ₀ F).Label) r) k) K) := by
  iintro H3 H4 H7 H8 Hk
  iapply (wp_call_spec 𝒱₀ (c : Thread nD τ) bd Set.univ (loopSpec c arg3 arg4 arg7 arg8 x1 x2 ⟨gc, ga⟩ Q) n hv hS)
  rw [loopSpec_apply]
  unfold held
  isplitl [H3 H4 H7 H8]
  · iframe
  iintro %r %hr H
  iapply Hk
  · ipureintro; exact hr
  iexact H

/-- A buffer's contents, read through the memref. -/
theorem owns_read {sp : Space} {s : Shape} {e : EltTy} (a : Memref sig .tc sp s e) (f : a.view.ty.Contents (Elt F)) :
    (a.view.loc (c : Thread nD τ) ↦[a.view.set]{fullShare} f : sProp 𝕄) ⊢ owns (c : Thread nD τ) a fullShare (a.view.read (Elt F) f) := by
  unfold owns
  iintro H
  iexists f
  isplitr; · ipureintro; rfl
  iexact H

/-- What the body's buffers hold when it has run: the arguments as they were, the rows `o`, and what the loop leaves. -/
def after (s : Carried F) (o : Vec F S256x512 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o ∗ owns (c : Thread nD τ) arg7 fullShare s.gc ∗ owns (c : Thread nD τ) arg8 fullShare s.ga)

set_option maxHeartbeats 4000000 in
/-- What one run of the kernel's body does at one point of the grid, with the loop of its later trips answered by an
    assumption: the record the loop is called with, the contents it finds, and the rows stored as a function of what the
    loop leaves. -/
def point (b : Carried F) :
    Σ' (r : Cc0While1 F) (gc : Vec F S8x256x1 .f32) (ga : Vec F S8x256x128 .f32), { out : Carried F → Vec F S256x512 .f32 //
      ∀ (n : ℕ) (Q : Carried F → Prop)
        (hS : ∀ K, loopSpec c arg3 arg4 arg7 arg8 x1 x2 ⟨gc, ga⟩ Q K
          ⊢ wp frame (wpE (defs₀ (F := F)) 𝒱₀ c (some n)) Set.univ (defs₀ (F := F) .tc 1 r) K)
        (K : PUnit → sProp 𝕄),
        iprop(after c arg2 arg3 arg4 arg5 arg6 arg7 arg8 x0 x1 x2 x3 b x4
            ∗ (∀ s : Carried F, ⌜Q s⌝ -∗ after c arg2 arg3 arg4 arg5 arg6 arg7 arg8 x0 x1 x2 x3 s (out s) -∗ K ⟨⟩))
          ⊢ wp frame (wpE (defs₀ (F := F)) 𝒱₀ c none) Set.univ (cc0_sba_fwd i arg2 harg2 arg3 harg3 arg4 harg4 arg5 harg5 arg6 harg6 arg7 harg7 arg8 harg8) K } := by
  refine ⟨?_, ?_, ?_, ?_, fun n Q hS K => ?run⟩
  case run =>
    simp only [cc0_sba_fwd_eq_skeleton]; unfold cc0_sba_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    rw [after]; unfold owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec
    ihave H3 := (owns_read c arg3 _) $$ H3
    ihave H4 := (owns_read c arg4 _) $$ H4
    ihave H7 := (owns_read c arg7 _) $$ H7
    ihave H8 := (owns_read c arg8 _) $$ H8
    rw [hf3, hf4]
    iapply (call_loop c arg3 arg4 arg7 arg8 x1 x2 none (fun u hu => nomatch hu) hS) $$ H3 H4 H7 H8
    unfold held owns
    iintro %x %s %hs ⟨⟨%g3, %hg3, H3⟩, ⟨%g4, %hg4, H4⟩, ⟨%g7, %hg7, H7⟩, ⟨%g8, %hg8, H8⟩⟩
    obtain ⟨x0, x1⟩ := x
    obtain rfl := harg3.eq_unread hg3; obtain rfl := harg4.eq_unread hg4; obtain rfl := harg7.eq_unread hg7; obtain rfl := harg8.eq_unread hg8
    sl_exec
    sl_step
    ihave H2 := (owns_read c arg2 _) $$ H2
    ihave H3 := (owns_read c arg3 _) $$ H3
    ihave H4 := (owns_read c arg4 _) $$ H4
    ihave H5 := (owns_read c arg5 _) $$ H5
    ihave H6 := (owns_read c arg6 _) $$ H6
    ihave H7 := (owns_read c arg7 _) $$ H7
    ihave H8 := (owns_read c arg8 _) $$ H8
    rw [hf2, hf3, hf4, hf5, hg7, hg8]
    iapply Hk $$ %s
    · ipureintro; exact hs
    unfold after
    iframe

end

end Cert.Kernel10Ideal.Fwd
-- ==== Proof.Fwd.Loop.lean ====
module

public import proofs.«01_k».proof.Proof.Fwd.Point

@[expose] public section

set_option maxRecDepth 16384

noncomputable section

namespace Cert.Kernel10Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel10Ideal.Gen

variable {F : FTy → Type} [FloatOps F] [Named F]

local notation "𝕄" => MT nD τ sig Unit (Elt F) ℕ (UR sig nD τ) ℕ

/-- The block of rows a trip reads lies in the arrays: trip `j` of a row block below which there are more than `j` blocks. -/
theorem chk_of_lt : ∀ (i : grid0.Coords) (j : Fin 16), j.val < (i 1).val → k0_chk1 i (BitVec.ofNat 32 j.val) := by decide +kernel

theorem row_lt : ∀ i : grid0.Coords, (i 1).val < 16 := by decide +kernel

/-- Of two words below sixteen the signed comparison is the one of the naturals. -/
theorem slt_iff : ∀ a b : Fin 16, Scalar.cmpi .slt (BitVec.ofNat 32 a.val) (BitVec.ofNat 32 b.val) = 1#1 ↔ a.val < b.val := by decide +kernel

theorem succ_word : ∀ a : Fin 16, Scalar.addi (BitVec.ofNat 32 a.val) 1#32 = BitVec.ofNat 32 (a.val + 1) := by decide +kernel

variable (c : Dev nD) (xk xv : Vec F S4096x512 .bf16)

/-- A trip from a record the loop is called with. -/
abbrev tripAt (r : Cc0While1 F) (hw : k0_chk1 r.i r.arg9) (s : Carried F) :=
  trip c r.i r.arg3 r.harg3 r.arg4 r.harg4 r.v8 r.v10 r.v14 r.v16 r.v20 r.v22 r.v26 r.v28 r.v1 r.arg7 r.harg7 r.arg8 r.harg8 r.arg9 hw xk xv s.gc s.ga

/-- What a trip leaves. -/
def carry (r : Cc0While1 F) (hw : k0_chk1 r.i r.arg9) (s : Carried F) : Carried F :=
  ⟨(tripAt c xk xv r hw s).1, (tripAt c xk xv r hw s).2.1⟩

/-- The record the next trip is called with. -/
def next (r : Cc0While1 F) (hw : k0_chk1 r.i r.arg9) (s : Carried F) : Cc0While1 F :=
  { r with arg9 := Scalar.addi r.arg9 1#32, arg10 := (tripAt c xk xv r hw s).2.2.2.1 }

/-- The loop under an invariant `J` of record and contents that a trip keeps and that gives `Q` once the test fails. -/
theorem loop_le (J : Cc0While1 F → Carried F → Prop) (Q : Carried F → Prop)
    (hstep : ∀ (r : Cc0While1 F) (s : Carried F) (hw : k0_chk1 r.i r.arg9), J r s → test r.i r.arg9 r.arg10 = 1#1 → J (next (F := F) c xk xv r hw s) (carry (F := F) c xk xv r hw s))
    (hend : ∀ (r : Cc0While1 F) (s : Carried F), J r s → ¬ test r.i r.arg9 r.arg10 = 1#1 → Q s) :
    ∀ (k j : ℕ) (r : Cc0While1 F) (s : Carried F), r.arg9 = BitVec.ofNat 32 j → j + k = (r.i 1).val → J r s →
      ∀ K, loopSpec c r.arg3 r.arg4 r.arg7 r.arg8 xk xv s Q K
        ⊢ wp frame (wpE (defs₀ (F := F)) 𝒱₀ c (some k)) Set.univ (defs₀ (F := F) .tc 1 r) K := by
  intro k
  induction k with
  | zero =>
    intro j r s hj hk hJ K
    have hlt := row_lt r.i
    have ht : ¬ test r.i r.arg9 r.arg10 = 1#1 := by
      intro h
      have h' : Scalar.cmpi .slt r.arg9 (BitVec.ofNat 32 (r.i 1).val) = 1#1 := by
        unfold test Scalar.andi at h
        generalize Scalar.cmpi .slt r.arg9 (BitVec.ofNat 32 (r.i 1).val) = a at h
        generalize Scalar.cmpf .olt r.arg10 _ = b at h
        revert a b; decide
      rw [hj] at h'
      have := (slt_iff ⟨j, by omega⟩ ⟨_, hlt⟩).mp h'
      simp only at this; omega
    rw [loopSpec_apply]
    show _ ⊢ wp frame (wpE (defs₀ (F := F)) 𝒱₀ c (some 0)) Set.univ (cc0_while1 r.i r.arg3 r.harg3 r.arg4 r.harg4 r.v8 r.v10 r.v14 r.v16 r.v20 r.v22 r.v26 r.v28 r.v1 r.arg7 r.harg7 r.arg8 r.harg8 r.arg9 r.arg10) K
    simp only [cc0_while1_eq_skeleton]; unfold cc0_while1_skel
    dsimp only
    rw [if_neg ht]
    simp only [Prog.pure_eq_ret]
    iintro ⟨H, Hk⟩
    rw [wp_ret]; imodintro
    iapply Hk $$ %((r.arg9, r.arg10), s)
    · ipureintro; exact hend r s hJ ht
    iexact H
  | succ k ih =>
    intro j r s hj hk hJ K
    have hlt := row_lt r.i
    rw [loopSpec_apply]
    show _ ⊢ wp frame (wpE (defs₀ (F := F)) 𝒱₀ c (some (k+1))) Set.univ (cc0_while1 r.i r.arg3 r.harg3 r.arg4 r.harg4 r.v8 r.v10 r.v14 r.v16 r.v20 r.v22 r.v26 r.v28 r.v1 r.arg7 r.harg7 r.arg8 r.harg8 r.arg9 r.arg10) K
    by_cases ht : test r.i r.arg9 r.arg10 = 1#1
    · have hw : k0_chk1 r.i r.arg9 := by rw [hj]; exact chk_of_lt r.i ⟨j, by omega⟩ (by simp only; omega)
      have hn := ih (j + 1) (next c xk xv r hw s) (carry c xk xv r hw s) (by
        show Scalar.addi r.arg9 1#32 = _; rw [hj]; exact succ_word ⟨j, by omega⟩) (by show j + 1 + k = (r.i 1).val; omega) (hstep r s hw hJ ht)
      iintro ⟨H, Hk⟩
      iapply ((tripAt c xk xv r hw s).2.2.2.2 r.arg10 ht (some (k+1)) Set.univ K)
      unfold held
      icases H with ⟨H3, H4, H7, H8⟩
      isplitl [H3]; · iexact H3
      isplitl [H4]; · iexact H4
      isplitl [H7]; · iexact H7
      isplitl [H8]; · iexact H8
      iintro ⟨H3, H4, H7, H8⟩
      iapply (call_loop c r.arg3 r.arg4 r.arg7 r.arg8 xk xv (some (k+1)) (fun u hu => by cases hu; exact Nat.lt_succ_self k) hn) $$ H3 H4 H7 H8
      iintro %x %s' %hs H
      rw [wp_ret]; imodintro
      iapply Hk $$ %(x, s')
      · ipureintro; exact hs
      unfold held
      iexact H
    · simp only [cc0_while1_eq_skeleton]; unfold cc0_while1_skel
      dsimp only
      rw [if_neg ht]
      simp only [Prog.pure_eq_ret]
      iintro ⟨H, Hk⟩
      rw [wp_ret]; imodintro
      iapply Hk $$ %((r.arg9, r.arg10), s)
      · ipureintro; exact hend r s hJ ht
      iexact H

end Cert.Kernel10Ideal.Fwd
-- ==== Proof.Fwd.Kit.lean ====
module

public import proofs.«01_k».proof.Proof.Fwd.Loop
public import Idealize.ShloMosaic.Lib.Pipeline.FrameSuffix

@[expose] public section

set_option maxRecDepth 16384

noncomputable section

namespace Cert.Kernel10Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)
open Cert.Kernel10Ideal.Gen

variable {F : FTy → Type} [FloatOps F] [Named F]

local notation "𝕄" => MT nD τ sig Unit (Elt F) ℕ (UR sig nD τ) ℕ

variable (m : (ℓ : Loc nD τ sig) → Buf (Elt F) ℓ)

/-! ## The host's lines before the call -/

/-- The stretches of host operations before the call, in order. -/
abbrev lines : List (List (HloOp τ sig (Elt F))) :=
  [hostOps0, hostOps0_1, hostOps0_2]

/-- What the buffers hold when the call is entered, -/
abbrev V0 (c : Dev nD) : Valuation τ sig (Elt F) := StableHlo.after lines.flatten (fun b => m (c, b))
/-- the same read at a reference. -/
abbrev V (c : Dev nD) (b : Ref sig .tc) : Buf (Elt F) ((c : Thread nD τ).loc b) := V0 m c (Proc.devRef .tc b)

/-- The host's lines touch only the buffers of the core, -/
theorem lines_sub : (lines : List (List (HloOp τ sig (Elt F)))).Forall fun ops => ops.Forall fun op => op.bufs ⊆ StableHlo.tcRefs τ sig :=
  ⟨hostOps0_sub, hostOps0_1_sub, hostOps0_2_sub⟩
/-- allocate nothing, -/
theorem lines_fresh : (lines : List (List (HloOp τ sig (Elt F)))).Forall fun ops => ops.Forall fun op => op.fresh = ∅ := by
  simp only [List.Forall]; repeat' constructor

set_option maxHeartbeats 800000 in
/-- and come before the call, which ends the program. -/
theorem hmain : Pipeline.HMain (Ix := Unit) (Name := ℕ) (U := UR sig nD τ) (Lvl := ℕ) cfgs 0 defs₀ 𝒱₀ m (main (F := F)) (V m) :=
  Pipeline.hmain_around cfgs 0 defs₀ 𝒱₀ m main lines [] lines_sub lines_fresh main_chain

/-- A buffer that no host line writes is found as launched. -/
theorem V_kept (c : Dev nD) (b : Ref sig .tc) (h : ∀ ops ∈ (lines : List (List (HloOp τ sig (Elt F)))), ∀ op ∈ ops, Proc.devRef .tc b ∉ op.writes) :
    V m c b = m ((c : Thread nD τ).loc b) :=
  StableHlo.after_of_forall_not_mem _ _ fun op hop => by
    obtain ⟨ops, h1, h2⟩ := List.mem_flatten.mp hop
    exact h ops h1 op h2

/-! ## What the windows' buffers hold at a point -/

/-- Window `w`'s block at point `t`, read off its array. -/
def iblk (c : Dev nD) (w : Fin (cfg0 (F := F)).W) (t : Fin (cfg0 (F := F)).N) : (((cfg0 (F := F)).win w).xblock (grid0.coords t)).Idx → Elt F ((cfg0 (F := F)).win w).elt :=
  (((cfg0 (F := F)).win w).blk t).view.read (Elt F) (V m c (Pipeline.arrRef spec0 w))

theorem before0 {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1 {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2 {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3 {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The program's row for the body at a point is the body on that point's buffers. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

end Cert.Kernel10Ideal.Fwd
-- ==== Proof.Fwd.Frame.lean ====
module

public import proofs.«01_k».proof.Proof.Fwd.Kit

@[expose] public section

set_option maxRecDepth 16384

noncomputable section

namespace Cert.Kernel10Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)
open Cert.Kernel10Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data of the frame: the inputs hold their blocks, of the outputs nothing is said. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Dat.unnamed (⟨4, h⟩ : Fin (cfg0 (F := F)).W) t
  Φ _ := Pipeline.ΦA spec0 c
  q w := Pipeline.shareOf spec0 w
  owed _ := 0

/-- The windows of which nothing is said: the outputs. -/
def forgotten : Fin (cfg0 (F := F)).W → Bool := fun w => decide (4 ≤ w.val)

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl

/-- The scratch buffers at some contents, as the pipeline hands them over between points. -/
theorem scratch_eq (c : Dev nD) : (Pipeline.ΦA (Val := Elt F) spec0 c : sProp 𝕄)
    = iprop(((∃ f, owns (c : Thread nD τ) (Memref.whole cc0_scratch0) fullShare f)
      ∗ (∃ f, owns (c : Thread nD τ) (Memref.whole cc0_scratch1) fullShare f)) ∗ ∃ r, prngReg c r) := by
  unfold Pipeline.ΦA; rw [scopedRest0_eq]
  simp only [owns_whole]

/-- The memrefs the body is called with at a point, with the two scratch buffers. -/
abbrev pointAt (c : Dev nD) (t : Fin (cfg0 (F := F)).N) (x4 : Vec F S256x512 .f32) (b : Carried F) :=
  point c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole cc0_scratch0) (Memref.isWhole_whole _) (Memref.whole cc0_scratch1) (Memref.isWhole_whole _)
    (iblk m c 0 t) (iblk m c 1 t) (iblk m c 2 t) (iblk m c 3 t) x4 b

/-- The loop of a point ends, whatever it finds. -/
theorem loop_any (c : Dev nD) (t : Fin (cfg0 (F := F)).N) (x4 : Vec F S256x512 .f32) (b : Carried F) (K) :
    loopSpec c (st0_1 t) (st0_2 t) (Memref.whole cc0_scratch0) (Memref.whole cc0_scratch1) (iblk m c 1 t) (iblk m c 2 t)
        ⟨(pointAt m c t x4 b).2.1, (pointAt m c t x4 b).2.2.1⟩ (fun _ => True) K
      ⊢ wp frame (wpE (defs₀ (F := F)) 𝒱₀ c (some (grid0.coords t 1).val)) Set.univ (defs₀ (F := F) .tc 1 (pointAt m c t x4 b).1) K :=
  loop_le c (iblk m c 1 t) (iblk m c 2 t) (fun _ _ => True) (fun _ => True) (fun _ _ _ _ _ => trivial) (fun _ _ _ _ => trivial)
    (grid0.coords t 1).val 0 (pointAt m c t x4 b).1 _ rfl (Nat.zero_add _) trivial K

set_option maxHeartbeats 2000000 in
/-- The body at a point, from the inputs' blocks and any contents of the rest. -/
theorem body (c : Dev nD) (t : Fin (cfg0 (F := F)).N) :
    iprop((Pipeline.ΦA (Val := Elt F) spec0 c : sProp 𝕄) ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ X, owns (c : Thread nD τ) (st0_4 t) fullShare X))
    ⊢ wp frame (wpE (defs₀ (F := F)) 𝒱₀ c none) Set.univ (bodyAt0 t) fun _ =>
      iprop((Pipeline.ΦA (Val := Elt F) spec0 c : sProp 𝕄) ∗ (dats m 0 c).owesAt () t.castSucc
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ (∃ X, owns (c : Thread nD τ) (st0_4 t) fullShare X)) := by
  simp only [before0 m (dats m 0 c) (A_eq m c 0) (after0_0 m c), before1 m (dats m 0 c) (A_eq m c 1) (after0_1 m c), before2 m (dats m 0 c) (A_eq m c 2) (after0_2 m c), before3 m (dats m 0 c) (A_eq m c 3) (after0_3 m c)]
  rw [scratch_eq]
  iintro ⟨⟨⟨⟨%g7, S0⟩, ⟨%g8, S1⟩⟩, HP⟩, Ho, ⟨%d0, H0⟩, ⟨%d1, H1⟩, ⟨%d2, H2⟩, ⟨%d3, H3⟩, ⟨%x4, H4⟩⟩
  iapply ((pointAt m c t x4 ⟨g7, g8⟩).2.2.2.2 (grid0.coords t 1).val (fun _ => True) (loop_any m c t x4 ⟨g7, g8⟩) _)
  unfold after
  isplitl [H0 H1 H2 H3 H4 S0 S1]
  · isplitl [H0]; · iexact H0
    isplitl [H1]; · iexact H1
    isplitl [H2]; · iexact H2
    isplitl [H3]; · iexact H3
    isplitl [H4]; · iexact H4
    iframe
  iintro %s %hs ⟨H0, H1, H2, H3, H4, S0, S1⟩
  isplitl [S0 S1 HP]
  · iframe HP
    isplitl [S0]; · iexists _; iexact S0
    iexists _; iexact S1
  iframe Ho
  isplitl [H0]; · iexact H0
  isplitl [H1]; · iexact H1
  isplitl [H2]; · iexact H2
  isplitl [H3]; · iexact H3
  iexists _; iexact H4

set_option maxHeartbeats 4000000 in
/-- The obligation of every point. -/
theorem body_obligation (c : Dev nD) : BodyObligationLoose (dats m 0 c) (defs₀ (F := F)) 𝒱₀ () Set.univ forgotten := fun t => by
  rw [bigSep_W0, bigSep_W0, defs₀_row]
  exact triple_restated (body m c t) rfl .rfl fun _ => .rfl

set_option backward.isDefEq.respectTransparency.types false in
/-- The launch: every run ends, each buffer no window stages is as the call found it, and every counter is at zero. -/
theorem run_main : θ_run defs (onTc (τ := τ) (main (F := F))) (s₀ m ρ)
    (fun r => Pipeline.RDat.FramePost (cfg0 (F := F)) (fun c => (dats m 0 c).toRForget forgotten) (V m) r ∧ r.2.sem = fun _ => 0) :=
  Pipeline.θ_run_frame_forget_shared (Q' := _) cfgs (dats m) (0 : Fin 1) launch₀0 defs₀ 𝒱₀ forgotten m ρ main
    (hbody := body_obligation m) (hq := fun c w _ => rfl)
    (howed := fun _ _ => rfl) (V := V m) (hmain := hmain m) (hA := A_eq m) (hΦ := fun _ _ => rfl)

/-- The host's lines write no argument. -/
theorem V_main_arg0 (c : Dev nD) : V m c main_arg0 = m ((c : Thread nD τ).loc main_arg0) :=
  V_kept m c _ (by
    intro ops hops op hop
    fin_cases hops <;> fin_cases hop <;> exact fun h => absurd (Finset.mem_singleton.mp h) (StableHlo.devRef_ne_of_ne (by decide)))
theorem V_main_arg1 (c : Dev nD) : V m c main_arg1 = m ((c : Thread nD τ).loc main_arg1) :=
  V_kept m c _ (by
    intro ops hops op hop
    fin_cases hops <;> fin_cases hop <;> exact fun h => absurd (Finset.mem_singleton.mp h) (StableHlo.devRef_ne_of_ne (by decide)))

/-- The frame: every run ends, the arguments are unchanged, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (by exact (by decide : main_arg0 ∈ Pipeline.restRefs sig spec0))).trans (V_main_arg0 m c),
    ((h.1 c).2 main_arg1 (by exact (by decide : main_arg1 ∈ Pipeline.restRefs sig spec0))).trans (V_main_arg1 m c)⟩, h.2⟩) (run_main m ρ)

end Cert.Kernel10Ideal.Fwd
-- ==== Proof.Fwd.Step.lean ====
/- One step of one head of the forward attention: the payloads on a block of columns are the attention's weights there,
   once the running sum holds the later blocks. -/
module

public import proofs.«01_k».proof.Proof.Sba.Step

@[expose] public section

set_option maxRecDepth 16384

noncomputable section

namespace Cert.Kernel10Ideal.Fwd

open Cert.Reals Cert.Stick Idealize.ShloMosaic Idealize.ShloMosaic.TcCoe
open Cert.Kernel2Ideal.Gen
open Cert.Kernel2Ideal (S256x128 S256x256 S512x256 S1x256x1 S256x1)
open Cert.Kernel2Ideal.Sba (Is2 IsC Twice tA tC dA dC zz_is n_is nm_is ls_is tri_is a_is am_is c_is acc_is Is2.congr)

/-- What a step makes of a head: the weights on block `b` of the rows of block `i`, and the running sum from that block on. -/
structure Stepped (x : Data) (i b : ℕ) (A : FVec Ideal S256x256 .bf16) (C : FVec Ideal S1x256x1 .f32) : Prop where
  a : Is2 A fun s t => x.A (256 * i + s.val) (256 * b + t.val)
  c : IsC C fun s => tail (x.N (256 * i + s.val)) b

section
variable {x : Data} {i b : ℕ} {q k : FVec Ideal S256x128 .bf16} {ms : FVec Ideal S512x256 .bf16} {c : FVec Ideal S1x256x1 .f32} (hi : i < 16)
  (hq : Is2 q fun s => x.Q (256 * i + s.val)) (hk : Is2 k fun t => x.K (256 * b + t.val))
  (hms : Twice ms fun j t => if t < j then 1 else 0) (hc : IsC c fun s => tail (x.N (256 * i + s.val)) (b + 1))
include hi hq hk hms hc

/-- Before the diagonal, -/
theorem stepped_trip (hb : b < i) : Stepped x i b (tA q k ms c) (tC q k c) := by
  have lt : ∀ s t : Fin 256, 256 * b + t.val < 256 * i + s.val := fun s t => by omega
  have hz : Is2 (k0_pay36 (F := Ideal) q k) fun s t => x.z (256 * i + s.val) (256 * b + t.val) := zz_is hq hk
  have hn : Is2 (k0_pay122 (F := Ideal) (k0_pay36 q k)) fun s t => x.N (256 * i + s.val) (256 * b + t.val) :=
    (n_is hz).congr fun s t => (if_pos (lt s t)).symm
  exact ⟨(a_is (ls_is hz) (tri_is hn hms) hc).congr fun s t => by
      unfold Data.A; rw [if_pos (lt s t), ← after_split _ (by omega), sub_sub],
    fun s => (c_is hn hc s).trans (congrArg Real.toEReal (tail_step (x.N (256 * i + s.val)) (by omega)))⟩

/-- and on it. -/
theorem stepped_diag (hb : b = i) : Stepped x i b (dA q k ms c) (dC q k c) := by
  subst hb
  have lt : ∀ s t : Fin 256, (t < s) = (256 * b + t.val < 256 * b + s.val) := fun s t => by rw [Fin.lt_def, Nat.add_lt_add_iff_left]
  have hz : Is2 (k0_pay36 (F := Ideal) q k) fun s t => x.z (256 * b + s.val) (256 * b + t.val) := zz_is hq hk
  have hn : Is2 (k0_pay52 (F := Ideal) k0_pay28 (k0_pay36 q k)) fun s t => x.N (256 * b + s.val) (256 * b + t.val) :=
    (nm_is hz).congr fun s t => by exact if_congr (Iff.of_eq (lt s t)) rfl rfl
  exact ⟨(am_is (ls_is hz) (tri_is hn hms) hc).congr fun s t => by
      refine if_congr (Iff.of_eq (lt s t)) ?_ rfl; rw [← after_split _ (by omega), sub_sub],
    fun s => (c_is hn hc s).trans (congrArg Real.toEReal (tail_step (x.N (256 * b + s.val)) (by omega)))⟩
end

/-- What the column `t` adds to a head's output. -/
def oAt (x : Data) (s : ℕ) (l : Fin 128) (t : ℕ) : ℝ := x.A s t * x.V t l

/-- A block of columns added to a head's output. -/
theorem acc_step {x : Data} {i b : ℕ} (hb : b < 16) {v : FVec Ideal S256x128 .bf16} {A C} (st : Stepped x i b A C) (hv : Is2 v fun t => x.V (256 * b + t.val)) {w : FVec Ideal Cert.Kernel2Ideal.S1x256x128 .f32}
    (hw : ∀ a l, w (ix3 0 a l) = ((tail (oAt x (256 * i + a.val) l) (b + 1) : ℝ) : EReal)) (a : Fin 256) (l : Fin 128) :
    k0_pay162 (F := Ideal) v A w (ix3 0 a l) = ((tail (oAt x (256 * i + a.val) l) b : ℝ) : EReal) :=
  (acc_is hv st.a hw a l).trans (congrArg Real.toEReal (tail_step (oAt x (256 * i + a.val) l) hb))

end Cert.Kernel10Ideal.Fwd
-- ==== Proof.Fwd.Read.lean ====
/- The buffers of the forward attention read where it loads and stores them: one head's rows of a scratch buffer, one
   block of rows and one quarter of the lanes of a whole array. -/
module

public import proofs.«01_k».proof.Proof.Fwd.Step
public import proofs.«01_k».proof.Proof.Fwd.Loop
public import Idealize.ShloMosaic.Lib.WritesUnit
public import Idealize.ShloMosaic.Lib.WholeRead
public import Idealize.ShloMosaic.Lib.Pointwise

@[expose] public section

set_option maxRecDepth 16384

noncomputable section

namespace Cert.Kernel10Ideal.Fwd

open Cert.Reals Cert.Stick Idealize.ShloMosaic Idealize.ShloMosaic.TcCoe
open Cert.Kernel10Ideal.Gen
open Cert.Kernel2Ideal.Sba (Is2 IsC)

/-- A lane of one quarter. -/
def lane (p : Fin 4) (l : Fin 128) : Fin 512 := ⟨128 * p.val + l.val, by omega⟩
/-- A row of one block. -/
def row {b : ℕ} (hb : b < 16) (a : Fin 256) : Fin 4096 := ⟨256 * b + a.val, by omega⟩
/-- The quarter of the lanes a head lies in. -/
def half (h : Fin 8) : Fin 4 := ⟨h.val / 2, by omega⟩

section
variable {F : FTy → Type} {sp : Space} {s : Shape} {e : EltTy} {arg : Memref sig .tc sp s e}

/-- A load of a part of a buffer. -/
theorem ld_unit (f : arg.view.ty.Contents (Elt F)) {off off' size : Fin s.rank → ℕ} (inb : ∀ a, off a + size a ≤ s.size a) (z : (Rect.unit off size inb).shape.Idx) (y : s.Idx)
    (heq : off = off') (hz : ∀ a, (y a).val = off' a + (z a).val) :
    arg.view.readAt (Elt F) (Rect.unit off size inb).toLoadRect f z = arg.view.read (Elt F) f y := by
  subst heq
  show arg.view.read (Elt F) f ((Rect.unit off size inb).emb z) = _
  refine congrArg (arg.view.read (Elt F) f) (funext fun a => Fin.ext ?_)
  show off a + 1 * (z a).val = (y a).val
  rw [hz a, Nat.one_mul]

/-- The same of a whole buffer's contents. -/
theorem ld_whole (h : arg.IsWhole) (x : Vec F s e) {off off' size : Fin s.rank → ℕ} (inb : ∀ a, off a + size a ≤ s.size a) (z : (Rect.unit off size inb).shape.Idx) (y : s.Idx)
    (heq : off = off') (hz : ∀ a, (y a).val = off' a + (z a).val) :
    arg.view.readAt (Elt F) (Rect.unit off size inb).toLoadRect (h.unread x) z = x y := by
  rw [ld_unit _ inb z y heq hz, h.read_unread]
end

section
variable {n : ℕ} {arg : Memref sig .tc .vmem (⟨3, ![8, 256, n]⟩ : Shape) .f32} (f : arg.view.ty.Contents (Elt Ideal)) {L : List (View.Piece (Elt Ideal) (⟨3, ![8, 256, n]⟩ : Shape) .f32)}

/-- A head's rows loaded from whatever the buffer holds, -/
theorem old_head (h : Fin 8) (inb : ∀ a, (![h.val, 0, 0] : Fin 3 → ℕ) a + (![1, 256, n] : Fin 3 → ℕ) a ≤ (⟨3, ![8, 256, n]⟩ : Shape).size a) (a : Fin 256) (l : Fin n) :
    arg.view.readAt (Elt Ideal) (Rect.unit (s := ⟨3, ![8, 256, n]⟩) ![h.val, 0, 0] ![1, 256, n] inb).toLoadRect f (ix3 0 a l) = arg.view.read (Elt Ideal) f (ix3 h a l) :=
  ld_unit f inb _ _ rfl (fun d => by fin_cases d <;> simp [ix3])

/-- or from contents known whole. -/
theorem ld_head (harg : arg.IsWhole) (x : Vec Ideal (⟨3, ![8, 256, n]⟩ : Shape) .f32) (h : Fin 8) (inb : ∀ a, (![h.val, 0, 0] : Fin 3 → ℕ) a + (![1, 256, n] : Fin 3 → ℕ) a ≤ (⟨3, ![8, 256, n]⟩ : Shape).size a) (a : Fin 256) (l : Fin n) :
    arg.view.readAt (Elt Ideal) (Rect.unit (s := ⟨3, ![8, 256, n]⟩) ![h.val, 0, 0] ![1, 256, n] inb).toLoadRect (harg.unread x) (ix3 0 a l) = x (ix3 h a l) := by
  rw [old_head, harg.read_unread]

/-- A head's rows where another head was stored last, -/
theorem read_other {k : ℕ} {ik} (w : (Rect.unit (s := ⟨3, ![8, 256, n]⟩) ![k, 0, 0] ![1, 256, n] ik).shape.Idx → Elt Ideal .f32) (h : Fin 8) (hk : h.val ≠ k) (a : Fin 256) (l : Fin n) :
    arg.view.read (Elt Ideal) (arg.view.writes (Elt Ideal) f (⟨Rect.unit ![k, 0, 0] ![1, 256, n] ik, w⟩ :: L)) (ix3 h a l) = arg.view.read (Elt Ideal) (arg.view.writes (Elt Ideal) f L) (ix3 h a l) :=
  View.read_writes_cons_unit_of_not_mem arg.view f ik w L _ rfl (0 : Fin 3) (by
    show h.val < k ∨ k + 1 ≤ h.val
    omega)

/-- where they were stored themselves, -/
theorem read_own {k : ℕ} {ik} (w : (Rect.unit (s := ⟨3, ![8, 256, n]⟩) ![k, 0, 0] ![1, 256, n] ik).shape.Idx → Elt Ideal .f32) (h : Fin 8) (hk : h.val = k) (a : Fin 256) (l : Fin n) :
    arg.view.read (Elt Ideal) (arg.view.writes (Elt Ideal) f (⟨Rect.unit ![k, 0, 0] ![1, 256, n] ik, w⟩ :: L)) (ix3 h a l) = w (ix3 0 a l) :=
  View.read_writes_cons_unit_of_mem arg.view f ik w L _ _ rfl (fun d => by fin_cases d <;> simp [ix3, hk])

/-- and where the buffer was stored whole. -/
theorem read_fill {inb} (z : (Rect.unit (s := ⟨3, ![8, 256, n]⟩) ![0, 0, 0] ![8, 256, n] inb).shape.Idx → Elt Ideal .f32) {u : EReal} (hz : ∀ h a l, z (ix3 h a l) = u) (h : Fin 8) (a : Fin 256) (l : Fin n) :
    arg.view.read (Elt Ideal) (arg.view.writes (Elt Ideal) f [⟨Rect.unit ![0, 0, 0] ![8, 256, n] inb, z⟩]) (ix3 h a l) = u :=
  (View.read_writes_cons_unit_of_mem arg.view f inb z [] _ (ix3 h a l) rfl (fun d => by fin_cases d <;> simp [ix3])).trans (hz h a l)

/-- A scratch buffer all of whose eight heads were stored. -/
theorem read_heads (g : Fin 8 → Fin 256 → Fin n → EReal) {i0 i1 i2 i3 i4 i5 i6 i7}
    (w0 : (Rect.unit (s := ⟨3, ![8, 256, n]⟩) ![0, 0, 0] ![1, 256, n] i0).shape.Idx → Elt Ideal .f32)
    (w1 : (Rect.unit (s := ⟨3, ![8, 256, n]⟩) ![1, 0, 0] ![1, 256, n] i1).shape.Idx → Elt Ideal .f32)
    (w2 : (Rect.unit (s := ⟨3, ![8, 256, n]⟩) ![2, 0, 0] ![1, 256, n] i2).shape.Idx → Elt Ideal .f32)
    (w3 : (Rect.unit (s := ⟨3, ![8, 256, n]⟩) ![3, 0, 0] ![1, 256, n] i3).shape.Idx → Elt Ideal .f32)
    (w4 : (Rect.unit (s := ⟨3, ![8, 256, n]⟩) ![4, 0, 0] ![1, 256, n] i4).shape.Idx → Elt Ideal .f32)
    (w5 : (Rect.unit (s := ⟨3, ![8, 256, n]⟩) ![5, 0, 0] ![1, 256, n] i5).shape.Idx → Elt Ideal .f32)
    (w6 : (Rect.unit (s := ⟨3, ![8, 256, n]⟩) ![6, 0, 0] ![1, 256, n] i6).shape.Idx → Elt Ideal .f32)
    (w7 : (Rect.unit (s := ⟨3, ![8, 256, n]⟩) ![7, 0, 0] ![1, 256, n] i7).shape.Idx → Elt Ideal .f32)
    (h0 : ∀ a l, w0 (ix3 0 a l) = g 0 a l) (h1 : ∀ a l, w1 (ix3 0 a l) = g 1 a l) (h2 : ∀ a l, w2 (ix3 0 a l) = g 2 a l) (h3 : ∀ a l, w3 (ix3 0 a l) = g 3 a l) (h4 : ∀ a l, w4 (ix3 0 a l) = g 4 a l) (h5 : ∀ a l, w5 (ix3 0 a l) = g 5 a l) (h6 : ∀ a l, w6 (ix3 0 a l) = g 6 a l) (h7 : ∀ a l, w7 (ix3 0 a l) = g 7 a l)
    (h : Fin 8) (a : Fin 256) (l : Fin n) :
    arg.view.read (Elt Ideal) (arg.view.writes (Elt Ideal) f (⟨Rect.unit ![7, 0, 0] ![1, 256, n] i7, w7⟩ :: ⟨Rect.unit ![6, 0, 0] ![1, 256, n] i6, w6⟩ :: ⟨Rect.unit ![5, 0, 0] ![1, 256, n] i5, w5⟩ :: ⟨Rect.unit ![4, 0, 0] ![1, 256, n] i4, w4⟩ :: ⟨Rect.unit ![3, 0, 0] ![1, 256, n] i3, w3⟩ :: ⟨Rect.unit ![2, 0, 0] ![1, 256, n] i2, w2⟩ :: ⟨Rect.unit ![1, 0, 0] ![1, 256, n] i1, w1⟩ :: ⟨Rect.unit ![0, 0, 0] ![1, 256, n] i0, w0⟩ :: L)) (ix3 h a l) = g h a l := by
  obtain rfl | rfl | rfl | rfl | rfl | rfl | rfl | rfl : h = 0 ∨ h = 1 ∨ h = 2 ∨ h = 3 ∨ h = 4 ∨ h = 5 ∨ h = 6 ∨ h = 7 := by omega
  · rw [read_other f w7 _ (by decide), read_other f w6 _ (by decide), read_other f w5 _ (by decide), read_other f w4 _ (by decide), read_other f w3 _ (by decide), read_other f w2 _ (by decide), read_other f w1 _ (by decide), read_own f w0 _ rfl]; exact h0 a l
  · rw [read_other f w7 _ (by decide), read_other f w6 _ (by decide), read_other f w5 _ (by decide), read_other f w4 _ (by decide), read_other f w3 _ (by decide), read_other f w2 _ (by decide), read_own f w1 _ rfl]; exact h1 a l
  · rw [read_other f w7 _ (by decide), read_other f w6 _ (by decide), read_other f w5 _ (by decide), read_other f w4 _ (by decide), read_other f w3 _ (by decide), read_own f w2 _ rfl]; exact h2 a l
  · rw [read_other f w7 _ (by decide), read_other f w6 _ (by decide), read_other f w5 _ (by decide), read_other f w4 _ (by decide), read_own f w3 _ rfl]; exact h3 a l
  · rw [read_other f w7 _ (by decide), read_other f w6 _ (by decide), read_other f w5 _ (by decide), read_own f w4 _ rfl]; exact h4 a l
  · rw [read_other f w7 _ (by decide), read_other f w6 _ (by decide), read_own f w5 _ rfl]; exact h5 a l
  · rw [read_other f w7 _ (by decide), read_own f w6 _ rfl]; exact h6 a l
  · rw [read_own f w7 _ rfl]; exact h7 a l
end

/-- One block of rows and one quarter of the lanes. -/
theorem tile_is {arg : Memref sig .tc .vmem S4096x512 .bf16} {b : ℕ} (hb : b < 16) (h : arg.IsWhole) (x : Vec Ideal S4096x512 .bf16) (p : Fin 4) {off : Fin 2 → ℕ} (heq : off = ![256 * b, 128 * p.val])
    (inb : ∀ a, off a + (![256, 128] : Fin 2 → ℕ) a ≤ S4096x512.size a) {f : Fin 256 → Fin 128 → ℝ} (hf : ∀ a l, x (ix2 (row hb a) (lane p l)) = ((f a l : ℝ) : EReal)) :
    Is2 (k0_pay103 (F := Ideal) (arg.view.readAt (Elt Ideal) (Rect.unit (s := S4096x512) off ![256, 128] inb).toLoadRect (h.unread x))) f := fun a l => by
  pointwise [k0_pay103]
  exact (ld_whole h x inb (ix2 a l) (ix2 (row hb a) (lane p l)) heq (fun d => by fin_cases d <;> simp [ix2, row, lane])).trans (hf a l)

end Cert.Kernel10Ideal.Fwd
-- ==== Proof.Fwd.TripVal.lean ====
/- One trip of the forward attention's loop over the real numbers. -/
module

public import proofs.«01_k».proof.Proof.Fwd.Read
public import proofs.«01_k».proof.Proof.Sba.TripVal

@[expose] public section

set_option maxRecDepth 16384

noncomputable section

namespace Cert.Kernel10Ideal.Fwd

open Cert.Reals Cert.Stick Idealize.ShloMosaic Idealize.ShloMosaic.TcCoe
open Cert.Kernel10Ideal.Gen
open Cert.Kernel2Ideal.Sba (Is2 IsC IsC.all Twice tA tC dA dC)

section
variable (x : Fin 8 → Data)

/-- What the two scratch buffers hold, at the rows of block `i`, once the columns from block `B` on are done. -/
structure Held (i B : ℕ) (s : Carried Ideal) : Prop where
  c : ∀ (h : Fin 8) (a : Fin 256) (l : Fin 1), s.gc (ix3 h a l) = ((tail ((x h).N (256 * i + a.val)) B : ℝ) : EReal)
  a : ∀ (h : Fin 8) (a : Fin 256) (l : Fin 128), s.ga (ix3 h a l) = ((tail (oAt (x h) (256 * i + a.val) l) B : ℝ) : EReal)

/-- The arrays of keys and values. -/
structure Cols (xk xv : Vec Ideal S4096x512 .bf16) : Prop where
  k : ∀ (h : Fin 8) (t : Fin 4096) (l : Fin 128), xk (ix2 t (lane (half h) l)) = (((x h).K t.val l : ℝ) : EReal)
  v : ∀ (h : Fin 8) (t : Fin 4096) (l : Fin 128), xv (ix2 t (lane (half h) l)) = (((x h).V t.val l : ℝ) : EReal)

/-- The heads' queries in a record of the loop. -/
abbrev query (r : Cc0While1 Ideal) : Fin 8 → FVec Ideal S256x128 .bf16 := ![r.v8, r.v10, r.v14, r.v16, r.v20, r.v22, r.v26, r.v28]

/-- What a record of the loop holds of the rows of block `i`. -/
structure Rows (i : ℕ) (r : Cc0While1 Ideal) : Prop where
  at_i : (r.i 1).val = i
  q : ∀ h, Is2 (query r h) fun s => (x h).Q (256 * i + s.val)
  ms : Twice r.v1 fun j t => if t < j then 1 else 0
end

/-- The rows a trip reads. -/
theorem off5_eq : ∀ (i : grid0.Coords) (j b : Fin 16), j.val + 1 + b.val = (i 1).val → k0_off5 i (BitVec.ofNat 32 j.val) = ![256 * b.val, 0] := by decide +kernel
theorem off6_eq : ∀ (i : grid0.Coords) (j b : Fin 16), j.val + 1 + b.val = (i 1).val → k0_off6 i (BitVec.ofNat 32 j.val) = ![256 * b.val, 128] := by decide +kernel
theorem off7_eq : ∀ (i : grid0.Coords) (j b : Fin 16), j.val + 1 + b.val = (i 1).val → k0_off7 i (BitVec.ofNat 32 j.val) = ![256 * b.val, 256] := by decide +kernel
theorem off8_eq : ∀ (i : grid0.Coords) (j b : Fin 16), j.val + 1 + b.val = (i 1).val → k0_off8 i (BitVec.ofNat 32 j.val) = ![256 * b.val, 384] := by decide +kernel

section
variable {x : Fin 8 → Data} {i b j : ℕ} (hb : b < 16) {xk xv : Vec Ideal S4096x512 .bf16} {r : Cc0While1 Ideal} {s : Carried Ideal}
  (hc : Cols x xk xv) (hr : Rows x i r) (hs : Held x i (b + 1) s) (hj : r.arg9 = BitVec.ofNat 32 j) (hij : j + 1 + b = i) (hi : i < 16)

include hr hj hij hi in
theorem trip_off5 : k0_off5 r.i r.arg9 = ![256 * b, 128 * (0 : Fin 4).val] := by
  rw [hj]; exact off5_eq r.i ⟨j, by omega⟩ ⟨b, by omega⟩ (by rw [hr.at_i]; exact hij)
include hr hj hij hi in
theorem trip_off6 : k0_off6 r.i r.arg9 = ![256 * b, 128 * (1 : Fin 4).val] := by
  rw [hj]; exact off6_eq r.i ⟨j, by omega⟩ ⟨b, by omega⟩ (by rw [hr.at_i]; exact hij)
include hr hj hij hi in
theorem trip_off7 : k0_off7 r.i r.arg9 = ![256 * b, 128 * (2 : Fin 4).val] := by
  rw [hj]; exact off7_eq r.i ⟨j, by omega⟩ ⟨b, by omega⟩ (by rw [hr.at_i]; exact hij)
include hr hj hij hi in
theorem trip_off8 : k0_off8 r.i r.arg9 = ![256 * b, 128 * (3 : Fin 4).val] := by
  rw [hj]; exact off8_eq r.i ⟨j, by omega⟩ ⟨b, by omega⟩ (by rw [hr.at_i]; exact hij)

include hc hb in
/-- The keys of the block, for one head, -/
theorem tk_is (h : Fin 8) {off : Fin 2 → ℕ} (heq : off = ![256 * b, 128 * (half h).val]) (inb) :
    Is2 (k0_pay103 (F := Ideal) (r.arg3.view.readAt (Elt Ideal) (Rect.unit (s := S4096x512) off ![256, 128] inb).toLoadRect (r.harg3.unread xk))) fun t => (x h).K (256 * b + t.val) :=
  tile_is hb r.harg3 xk (half h) heq inb fun _ l => hc.k h _ l
include hc hb in
/-- and its values. -/
theorem tv_is (h : Fin 8) {off : Fin 2 → ℕ} (heq : off = ![256 * b, 128 * (half h).val]) (inb) :
    Is2 (k0_pay103 (F := Ideal) (r.arg4.view.readAt (Elt Ideal) (Rect.unit (s := S4096x512) off ![256, 128] inb).toLoadRect (r.harg4.unread xv))) fun t => (x h).V (256 * b + t.val) :=
  tile_is hb r.harg4 xv (half h) heq inb fun _ l => hc.v h _ l

/-- The running sum of a head, -/
abbrev tc (s : Carried Ideal) (r : Cc0While1 Ideal) (h : ℕ) (inb : ∀ a, (![h, 0, 0] : Fin 3 → ℕ) a + S1x256x1.size a ≤ S8x256x1.size a) : FVec Ideal S1x256x1 .f32 :=
  r.arg7.view.readAt (Elt Ideal) (Rect.unit (s := S8x256x1) ![h, 0, 0] S1x256x1.size inb).toLoadRect (r.harg7.unread s.gc)
/-- and its output so far. -/
abbrev ta (s : Carried Ideal) (r : Cc0While1 Ideal) (h : ℕ) (inb : ∀ a, (![h, 0, 0] : Fin 3 → ℕ) a + S1x256x128.size a ≤ S8x256x128.size a) : FVec Ideal S1x256x128 .f32 :=
  r.arg8.view.readAt (Elt Ideal) (Rect.unit (s := S8x256x128) ![h, 0, 0] S1x256x128.size inb).toLoadRect (r.harg8.unread s.ga)

include hr hs hi in
/-- A head's step, -/
theorem trip_is (hbi : b < i) (h : Fin 8) (inb) {k : FVec Ideal S256x128 .bf16} (hk : Is2 k fun t => (x h).K (256 * b + t.val)) :
    Stepped (x h) i b (tA (query r h) k r.v1 (tc s r h.val inb)) (tC (query r h) k (tc s r h.val inb)) :=
  stepped_trip hi (hr.q h) hk hr.ms (fun a => (ld_head r.harg7 s.gc h inb a 0).trans (hs.c h a 0)) hbi

include hs hb in
/-- and what it adds to the head's output. -/
theorem out_step (h : Fin 8) {v : FVec Ideal S256x128 .bf16} {A C} (st : Stepped (x h) i b A C) (hv : Is2 v fun t => (x h).V (256 * b + t.val)) (inb) (a : Fin 256) (l : Fin 128) :
    Cert.Kernel2Ideal.Gen.k0_pay162 (F := Ideal) v A (ta s r h.val inb) (ix3 0 a l) = ((tail (oAt (x h) (256 * i + a.val) l) b : ℝ) : EReal) :=
  acc_step hb st hv (fun a l => (ld_head r.harg8 s.ga h inb a l).trans (hs.a h a l)) a l

variable (c : Dev nD) (hw : k0_chk1 r.i r.arg9)
include hc hr hs hj hij hi

/-- The running sums that a trip stores, whatever the buffer held, -/
theorem sums_c (f : r.arg7.view.ty.Contents (Elt Ideal)) (h : Fin 8) (a : Fin 256) (l : Fin 1) :
    r.arg7.view.read (Elt Ideal) (r.arg7.view.writes (Elt Ideal) f (trip.sl.H7_8 c r.i r.arg3 r.harg3 r.v8 r.v10 r.v14 r.v16 r.v20 r.v22 r.v26 r.v28 r.arg7 r.harg7 r.arg9 hw xk s.gc)) (ix3 h a l)
      = ((tail ((x h).N (256 * i + a.val)) b : ℝ) : EReal) := by
  have hb : b < 16 := by omega
  have hbi : b < i := by omega
  exact read_heads (arg := r.arg7) f (fun h a _ => ((tail ((x h).N (256 * i + a.val)) b : ℝ) : EReal)) _ _ _ _ _ _ _ _
    (trip_is hr hs hi hbi 0 inb_S8x256x1_S1x256x1_0_0_0 (tk_is hb hc 0 (trip_off5 hr hj hij hi) (k0_off5_inb r.i r.arg9 hw))).c.all
    (trip_is hr hs hi hbi 1 inb_S8x256x1_S1x256x1_1_0_0 (tk_is hb hc 1 (trip_off5 hr hj hij hi) (k0_off5_inb r.i r.arg9 hw))).c.all
    (trip_is hr hs hi hbi 2 inb_S8x256x1_S1x256x1_2_0_0 (tk_is hb hc 2 (trip_off6 hr hj hij hi) (k0_off6_inb r.i r.arg9 hw))).c.all
    (trip_is hr hs hi hbi 3 inb_S8x256x1_S1x256x1_3_0_0 (tk_is hb hc 3 (trip_off6 hr hj hij hi) (k0_off6_inb r.i r.arg9 hw))).c.all
    (trip_is hr hs hi hbi 4 inb_S8x256x1_S1x256x1_4_0_0 (tk_is hb hc 4 (trip_off7 hr hj hij hi) (k0_off7_inb r.i r.arg9 hw))).c.all
    (trip_is hr hs hi hbi 5 inb_S8x256x1_S1x256x1_5_0_0 (tk_is hb hc 5 (trip_off7 hr hj hij hi) (k0_off7_inb r.i r.arg9 hw))).c.all
    (trip_is hr hs hi hbi 6 inb_S8x256x1_S1x256x1_6_0_0 (tk_is hb hc 6 (trip_off8 hr hj hij hi) (k0_off8_inb r.i r.arg9 hw))).c.all
    (trip_is hr hs hi hbi 7 inb_S8x256x1_S1x256x1_7_0_0 (tk_is hb hc 7 (trip_off8 hr hj hij hi) (k0_off8_inb r.i r.arg9 hw))).c.all h a l

/-- and what the trip leaves. -/
theorem carry_c (h : Fin 8) (a : Fin 256) (l : Fin 1) : (carry c xk xv r hw s).gc (ix3 h a l) = ((tail ((x h).N (256 * i + a.val)) b : ℝ) : EReal) :=
  sums_c hc hr hs hj hij hi c hw _ h a l

theorem carry_a (h : Fin 8) (a : Fin 256) (l : Fin 128) : (carry c xk xv r hw s).ga (ix3 h a l) = ((tail (oAt (x h) (256 * i + a.val) l) b : ℝ) : EReal) := by
  have hb : b < 16 := by omega
  have hbi : b < i := by omega
  exact read_heads (arg := r.arg8) _ (fun h a l => ((tail (oAt (x h) (256 * i + a.val) l) b : ℝ) : EReal)) _ _ _ _ _ _ _ _
    (out_step hb hs 0 (trip_is hr hs hi hbi 0 inb_S8x256x1_S1x256x1_0_0_0 (tk_is hb hc 0 (trip_off5 hr hj hij hi) (k0_off5_inb r.i r.arg9 hw))) (tv_is hb hc 0 (trip_off5 hr hj hij hi) (k0_off5_inb r.i r.arg9 hw)) inb_S8x256x128_S1x256x128_0_0_0)
    (out_step hb hs 1 (trip_is hr hs hi hbi 1 inb_S8x256x1_S1x256x1_1_0_0 (tk_is hb hc 1 (trip_off5 hr hj hij hi) (k0_off5_inb r.i r.arg9 hw))) (tv_is hb hc 1 (trip_off5 hr hj hij hi) (k0_off5_inb r.i r.arg9 hw)) inb_S8x256x128_S1x256x128_1_0_0)
    (out_step hb hs 2 (trip_is hr hs hi hbi 2 inb_S8x256x1_S1x256x1_2_0_0 (tk_is hb hc 2 (trip_off6 hr hj hij hi) (k0_off6_inb r.i r.arg9 hw))) (tv_is hb hc 2 (trip_off6 hr hj hij hi) (k0_off6_inb r.i r.arg9 hw)) inb_S8x256x128_S1x256x128_2_0_0)
    (out_step hb hs 3 (trip_is hr hs hi hbi 3 inb_S8x256x1_S1x256x1_3_0_0 (tk_is hb hc 3 (trip_off6 hr hj hij hi) (k0_off6_inb r.i r.arg9 hw))) (tv_is hb hc 3 (trip_off6 hr hj hij hi) (k0_off6_inb r.i r.arg9 hw)) inb_S8x256x128_S1x256x128_3_0_0)
    (out_step hb hs 4 (trip_is hr hs hi hbi 4 inb_S8x256x1_S1x256x1_4_0_0 (tk_is hb hc 4 (trip_off7 hr hj hij hi) (k0_off7_inb r.i r.arg9 hw))) (tv_is hb hc 4 (trip_off7 hr hj hij hi) (k0_off7_inb r.i r.arg9 hw)) inb_S8x256x128_S1x256x128_4_0_0)
    (out_step hb hs 5 (trip_is hr hs hi hbi 5 inb_S8x256x1_S1x256x1_5_0_0 (tk_is hb hc 5 (trip_off7 hr hj hij hi) (k0_off7_inb r.i r.arg9 hw))) (tv_is hb hc 5 (trip_off7 hr hj hij hi) (k0_off7_inb r.i r.arg9 hw)) inb_S8x256x128_S1x256x128_5_0_0)
    (out_step hb hs 6 (trip_is hr hs hi hbi 6 inb_S8x256x1_S1x256x1_6_0_0 (tk_is hb hc 6 (trip_off8 hr hj hij hi) (k0_off8_inb r.i r.arg9 hw))) (tv_is hb hc 6 (trip_off8 hr hj hij hi) (k0_off8_inb r.i r.arg9 hw)) inb_S8x256x128_S1x256x128_6_0_0)
    (out_step hb hs 7 (trip_is hr hs hi hbi 7 inb_S8x256x1_S1x256x1_7_0_0 (tk_is hb hc 7 (trip_off8 hr hj hij hi) (k0_off8_inb r.i r.arg9 hw))) (tv_is hb hc 7 (trip_off8 hr hj hij hi) (k0_off8_inb r.i r.arg9 hw)) inb_S8x256x128_S1x256x128_7_0_0) h a l

/-- A trip does the next block of columns. -/
theorem held_carry : Held x i b (carry c xk xv r hw s) := ⟨carry_c hc hr hs hj hij hi c hw, carry_a hc hr hs hj hij hi c hw⟩

end

end Cert.Kernel10Ideal.Fwd
-- ==== Proof.Fwd.LoopVal.lean ====
/- The forward attention's loop over the real numbers: it runs over all the blocks before the diagonal one. -/
module

public import proofs.«01_k».proof.Proof.Fwd.TripVal

@[expose] public section

set_option maxRecDepth 16384

noncomputable section

namespace Cert.Kernel10Ideal.Fwd

open Cert.Reals Cert.Stick Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel10Ideal.Gen

theorem least_lt {u : FVec Ideal S256x1 .f32} {y0 y1 y2 y3 y4 y5 y6 : FVec Ideal S1x256x1 .f32} {f : Fin 256 → ℝ} (h : ∀ a, u (ix2 a 0) = ((f a : ℝ) : EReal)) : k0_pay4 (F := Ideal) u y0 y1 y2 y3 y4 y5 y6 < (⊤ : EReal) := by
  pointwise [k0_pay4]
  exact (Finset.fold_min_lt _).mpr (Or.inr ⟨(0, 0), Finset.mem_univ _, lt_of_le_of_lt (b := u (ix2 0 0)) (by simp only [min_le_iff, le_refl, true_or]) (by rw [h]; exact EReal.coe_lt_top _)⟩)

theorem test_of_lt {i : grid0.Coords} {j : Fin 16} (hj : j.val < (i 1).val) {y : Ideal .f32} (hy : y < (⊤ : EReal)) : test (F := Ideal) i (BitVec.ofNat 32 j.val) y = 1#1 := by
  have e : Scalar.cmpf (F := Ideal) (φ := .f32) .olt y (Named.named κ "dead_log" 0x42D20000#32) = 1#1 := by
    show BitVec.ofBool (decide (y < (⊤ : EReal))) = 1#1
    rw [decide_eq_true hy]; rfl
  unfold test
  rw [(slt_iff j ⟨_, row_lt i⟩).mpr hj, e]
  rfl
section
variable {x : Fin 8 → Data} {i b j : ℕ} {xk xv : Vec Ideal S4096x512 .bf16} {r : Cc0While1 Ideal} {s : Carried Ideal}
  (hc : Cols x xk xv) (hr : Rows x i r) (hs : Held x i (b + 1) s) (hj : r.arg9 = BitVec.ofNat 32 j) (hij : j + 1 + b = i) (hi : i < 16) (c : Dev nD) (hw : k0_chk1 r.i r.arg9)
include hc hr hs hj hij hi

theorem next_lt : (next c xk xv r hw s).arg10 < (⊤ : EReal) := by
  refine least_lt (f := fun a => tail ((x 0).N (256 * i + a.val)) b) fun a => ?_
  unfold trip.sl.r_48
  pointwise [k0_pay178]
  refine (ld_unit (arg := r.arg7) _ _ (ix3 0 a 0) (ix3 (0 : Fin 8) a (0 : Fin 1)) rfl (fun d => by fin_cases d <;> simp [ix3])).trans ?_
  exact sums_c hc hr hs hj hij hi c hw _ 0 a 0
end

/-- The loop's invariant: trip `j` finds the columns of the blocks from `i - j` on done. -/
def Inv (x : Fin 8 → Data) (i : ℕ) (r : Cc0While1 Ideal) (s : Carried Ideal) : Prop :=
  ∃ j, r.arg9 = BitVec.ofNat 32 j ∧ j ≤ i ∧ Rows x i r ∧ Held x i (i - j) s ∧ r.arg10 < (⊤ : EReal)

/-- The loop does all the columns. -/
theorem loop_all (c : Dev nD) {x : Fin 8 → Data} {i : ℕ} {xk xv : Vec Ideal S4096x512 .bf16} (hc : Cols x xk xv) (hi : i < 16)
    (r : Cc0While1 Ideal) (s : Carried Ideal) (hJ : Inv x i r s) (hz : r.arg9 = BitVec.ofNat 32 0) (K) :
    loopSpec c r.arg3 r.arg4 r.arg7 r.arg8 xk xv s (fun s' => Held x i 0 s') K
      ⊢ wp frame (wpE (defs₀ (F := Ideal)) 𝒱₀ c (some (r.i 1).val)) Set.univ (defs₀ (F := Ideal) .tc 1 r) K := by
  refine loop_le c xk xv (Inv x i) _ ?_ ?_ (r.i 1).val 0 r s hz (Nat.zero_add _) hJ K
  · rintro r s hw ⟨j, hj, hji, hr, hs, hlt⟩ ht
    have hj' : j < i := by
      by_contra hn
      obtain rfl : j = i := by omega
      unfold test Scalar.andi at ht
      have h' : Scalar.cmpi .slt r.arg9 (BitVec.ofNat 32 (r.i 1).val) = 1#1 := by
        generalize Scalar.cmpi .slt r.arg9 (BitVec.ofNat 32 (r.i 1).val) = a at ht
        generalize Scalar.cmpf .olt r.arg10 _ = b at ht
        revert a b; decide
      rw [hj, hr.at_i] at h'
      have := (slt_iff ⟨j, hi⟩ ⟨j, hi⟩).mp h'
      simp at this
    have hs' : Held x i (i - j - 1 + 1) s := by rw [show i - j - 1 + 1 = i - j by omega]; exact hs
    refine ⟨j + 1, ?_, by omega, ⟨hr.1, hr.2, hr.3⟩, ?_, next_lt hc hr hs' hj (by omega) hi c hw⟩
    · show Scalar.addi r.arg9 1#32 = _
      rw [hj]; exact succ_word ⟨j, by omega⟩
    · rw [← Nat.sub_sub]; exact held_carry hc hr hs' hj (by omega) hi c hw
  · rintro r s ⟨j, hj, hji, hr, hs, hlt⟩ ht
    have hj' : j = i := by
      by_contra hn
      refine ht ?_
      rw [hj]
      exact test_of_lt (j := ⟨j, by omega⟩) (by rw [hr.at_i]; show j < i; omega) hlt
    rw [hj', Nat.sub_self] at hs
    exact hs

end Cert.Kernel10Ideal.Fwd
-- ==== Proof.Fwd.Fresh.lean ====
/- What a head's step on the diagonal block finds in the two scratch buffers: zero, since the buffers were filled with it
   and only the heads before were stored. -/
module

public import proofs.«01_k».proof.Proof.Fwd.Read
public import proofs.«01_k».proof.Proof.Fwd.Frame

@[expose] public section

set_option maxRecDepth 16384

noncomputable section

namespace Cert.Kernel10Ideal.Fwd

open Cert.Reals Cert.Stick Idealize.ShloMosaic Idealize.ShloMosaic.TcCoe
open Cert.Kernel10Ideal.Gen

section
variable {n : ℕ} {arg : Memref sig .tc .vmem (⟨3, ![8, 256, n]⟩ : Shape) .f32} {L : List (View.Piece (Elt Ideal) (⟨3, ![8, 256, n]⟩ : Shape) .f32)}

/-- A head's rows of a buffer stored whole, -/
theorem cov_fill {iz} {z : (Rect.unit (s := ⟨3, ![8, 256, n]⟩) ![0, 0, 0] ![8, 256, n] iz).shape.Idx → Elt Ideal .f32} {u : EReal} (hz : ∀ h a l, z (ix3 h a l) = u) (h : Fin 8) (inb) (a : Fin 256) (l : Fin n) :
    arg.view.readCov [⟨Rect.unit ![0, 0, 0] ![8, 256, n] iz, z⟩] (Rect.unit (s := ⟨3, ![8, 256, n]⟩) ![h.val, 0, 0] ![1, 256, n] inb).toLoadRect (ix3 0 a l) = u :=
  (old_head _ h inb a l).trans (read_fill _ z hz h a l)

/-- of one where another head was stored last, -/
theorem cov_other {k : ℕ} {ik} (w : (Rect.unit (s := ⟨3, ![8, 256, n]⟩) ![k, 0, 0] ![1, 256, n] ik).shape.Idx → Elt Ideal .f32) (h : Fin 8) (hk : h.val ≠ k) (inb) (a : Fin 256) (l : Fin n) :
    arg.view.readCov (⟨Rect.unit ![k, 0, 0] ![1, 256, n] ik, w⟩ :: L) (Rect.unit (s := ⟨3, ![8, 256, n]⟩) ![h.val, 0, 0] ![1, 256, n] inb).toLoadRect (ix3 0 a l) = arg.view.readCov L (Rect.unit (s := ⟨3, ![8, 256, n]⟩) ![h.val, 0, 0] ![1, 256, n] inb).toLoadRect (ix3 0 a l) :=
  (old_head _ h inb a l).trans ((read_other _ w h hk a l).trans (old_head _ h inb a l).symm)

/-- the same of what is read there, -/
theorem nxt {k : ℕ} {ik} {w : (Rect.unit (s := ⟨3, ![8, 256, n]⟩) ![k, 0, 0] ![1, 256, n] ik).shape.Idx → Elt Ideal .f32} (h : Fin 8) {inb} {a : Fin 256} {l : Fin n} {u : EReal}
    (e : arg.view.readCov L (Rect.unit (s := ⟨3, ![8, 256, n]⟩) ![h.val, 0, 0] ![1, 256, n] inb).toLoadRect (ix3 0 a l) = u) (hk : h.val ≠ k := by decide) :
    arg.view.readCov (⟨Rect.unit ![k, 0, 0] ![1, 256, n] ik, w⟩ :: L) (Rect.unit (s := ⟨3, ![8, 256, n]⟩) ![h.val, 0, 0] ![1, 256, n] inb).toLoadRect (ix3 0 a l) = u :=
  (cov_other w h hk inb a l).trans e

/-- and where they were stored last themselves. -/
theorem cov_own {k : ℕ} {ik} (w : (Rect.unit (s := ⟨3, ![8, 256, n]⟩) ![k, 0, 0] ![1, 256, n] ik).shape.Idx → Elt Ideal .f32) (h : Fin 8) (hk : h.val = k) (inb) (a : Fin 256) (l : Fin n) :
    arg.view.readCov (⟨Rect.unit ![k, 0, 0] ![1, 256, n] ik, w⟩ :: L) (Rect.unit (s := ⟨3, ![8, 256, n]⟩) ![h.val, 0, 0] ![1, 256, n] inb).toLoadRect (ix3 0 a l) = w (ix3 0 a l) :=
  (old_head _ h inb a l).trans (read_own _ w h hk a l)
end

theorem zc (h : Fin 8) (a : Fin 256) (l : Fin 1) : k0_pay21 (F := Ideal) k0_pay20 (ix3 h a l) = (0 : EReal) := by pointwise [k0_pay21, k0_pay20]
theorem za (h : Fin 8) (a : Fin 256) (l : Fin 128) : k0_pay22 (F := Ideal) (ix3 h a l) = (0 : EReal) := by pointwise [k0_pay22]

section
variable (m : (ℓ : Loc nD τ sig) → Buf (Elt Ideal) ℓ) (c : Dev nD) (t : Fin (cfg0 (F := Ideal)).N)

/-- A head's rows that are zero. -/
abbrev Zero {n : ℕ} (w : FVec Ideal ⟨3, ![1, 256, n]⟩ .f32) : Prop := ∀ a l, w (ix3 0 a l) = (0 : EReal)

/-- The inputs' buffers are whole. -/
abbrev in0 := hstage0_0 ((cfg0.slots t 0).cast nbuf0_0)
abbrev in1 := hstage0_1 ((cfg0.slots t 1).cast nbuf0_1)
abbrev in2 := hstage0_2 ((cfg0.slots t 2).cast nbuf0_2)
abbrev in3 := hstage0_3 ((cfg0.slots t 3).cast nbuf0_3)
/-- The two scratch buffers. -/
abbrev sums := Memref.whole (sig := sig) cc0_scratch0
abbrev outs := Memref.whole (sig := sig) cc0_scratch1

/-- The running sums the heads' steps find, -/
theorem sums_fresh : Zero (point.sl.v267 (F := Ideal) c sums) ∧
    Zero (point.sl.v291 c (grid0.coords t) (st0_0 t) (in0 t) (st0_1 t) (in1 t) sums (iblk m c 0 t) (iblk m c 1 t)) ∧
    Zero (point.sl.v315 c (grid0.coords t) (st0_0 t) (in0 t) (st0_1 t) (in1 t) sums (iblk m c 0 t) (iblk m c 1 t)) ∧
    Zero (point.sl.v339 c (grid0.coords t) (st0_0 t) (in0 t) (st0_1 t) (in1 t) sums (iblk m c 0 t) (iblk m c 1 t)) ∧
    Zero (point.sl.v363 c (grid0.coords t) (st0_0 t) (in0 t) (st0_1 t) (in1 t) sums (iblk m c 0 t) (iblk m c 1 t)) ∧
    Zero (point.sl.v387 c (grid0.coords t) (st0_0 t) (in0 t) (st0_1 t) (in1 t) sums (iblk m c 0 t) (iblk m c 1 t)) ∧
    Zero (point.sl.v411 c (grid0.coords t) (st0_0 t) (in0 t) (st0_1 t) (in1 t) sums (iblk m c 0 t) (iblk m c 1 t)) ∧
    Zero (point.sl.v435 c (grid0.coords t) (st0_0 t) (in0 t) (st0_1 t) (in1 t) sums (iblk m c 0 t) (iblk m c 1 t)) :=
  ⟨fun a l => cov_fill (arg := sums) zc 0 _ a l,
    fun a l => nxt 1 (cov_fill (arg := sums) zc 1 _ a l),
    fun a l => nxt 2 (nxt 2 (cov_fill (arg := sums) zc 2 _ a l)),
    fun a l => nxt 3 (nxt 3 (nxt 3 (cov_fill (arg := sums) zc 3 _ a l))),
    fun a l => nxt 4 (nxt 4 (nxt 4 (nxt 4 (cov_fill (arg := sums) zc 4 _ a l)))),
    fun a l => nxt 5 (nxt 5 (nxt 5 (nxt 5 (nxt 5 (cov_fill (arg := sums) zc 5 _ a l))))),
    fun a l => nxt 6 (nxt 6 (nxt 6 (nxt 6 (nxt 6 (nxt 6 (cov_fill (arg := sums) zc 6 _ a l)))))),
    fun a l => nxt 7 (nxt 7 (nxt 7 (nxt 7 (nxt 7 (nxt 7 (nxt 7 (cov_fill (arg := sums) zc 7 _ a l)))))))⟩

/-- and the output. -/
theorem outs_fresh : Zero (point.sl.v282 (F := Ideal) c outs) ∧
    Zero (point.sl.v306 c (grid0.coords t) (st0_0 t) (in0 t) (st0_1 t) (in1 t) (st0_2 t) (in2 t) (st0_3 t) (in3 t) sums outs (iblk m c 0 t) (iblk m c 1 t) (iblk m c 2 t) (iblk m c 3 t)) ∧
    Zero (point.sl.v330 c (grid0.coords t) (st0_0 t) (in0 t) (st0_1 t) (in1 t) (st0_2 t) (in2 t) (st0_3 t) (in3 t) sums outs (iblk m c 0 t) (iblk m c 1 t) (iblk m c 2 t) (iblk m c 3 t)) ∧
    Zero (point.sl.v354 c (grid0.coords t) (st0_0 t) (in0 t) (st0_1 t) (in1 t) (st0_2 t) (in2 t) (st0_3 t) (in3 t) sums outs (iblk m c 0 t) (iblk m c 1 t) (iblk m c 2 t) (iblk m c 3 t)) ∧
    Zero (point.sl.v378 c (grid0.coords t) (st0_0 t) (in0 t) (st0_1 t) (in1 t) (st0_2 t) (in2 t) (st0_3 t) (in3 t) sums outs (iblk m c 0 t) (iblk m c 1 t) (iblk m c 2 t) (iblk m c 3 t)) ∧
    Zero (point.sl.v402 c (grid0.coords t) (st0_0 t) (in0 t) (st0_1 t) (in1 t) (st0_2 t) (in2 t) (st0_3 t) (in3 t) sums outs (iblk m c 0 t) (iblk m c 1 t) (iblk m c 2 t) (iblk m c 3 t)) ∧
    Zero (point.sl.v426 c (grid0.coords t) (st0_0 t) (in0 t) (st0_1 t) (in1 t) (st0_2 t) (in2 t) (st0_3 t) (in3 t) sums outs (iblk m c 0 t) (iblk m c 1 t) (iblk m c 2 t) (iblk m c 3 t)) ∧
    Zero (point.sl.v450 c (grid0.coords t) (st0_0 t) (in0 t) (st0_1 t) (in1 t) (st0_2 t) (in2 t) (st0_3 t) (in3 t) sums outs (iblk m c 0 t) (iblk m c 1 t) (iblk m c 2 t) (iblk m c 3 t)) :=
  ⟨fun a l => cov_fill (arg := outs) za 0 _ a l,
    fun a l => nxt 1 (cov_fill (arg := outs) za 1 _ a l),
    fun a l => nxt 2 (nxt 2 (cov_fill (arg := outs) za 2 _ a l)),
    fun a l => nxt 3 (nxt 3 (nxt 3 (cov_fill (arg := outs) za 3 _ a l))),
    fun a l => nxt 4 (nxt 4 (nxt 4 (nxt 4 (cov_fill (arg := outs) za 4 _ a l)))),
    fun a l => nxt 5 (nxt 5 (nxt 5 (nxt 5 (nxt 5 (cov_fill (arg := outs) za 5 _ a l))))),
    fun a l => nxt 6 (nxt 6 (nxt 6 (nxt 6 (nxt 6 (nxt 6 (cov_fill (arg := outs) za 6 _ a l)))))),
    fun a l => nxt 7 (nxt 7 (nxt 7 (nxt 7 (nxt 7 (nxt 7 (nxt 7 (cov_fill (arg := outs) za 7 _ a l)))))))⟩
end

end Cert.Kernel10Ideal.Fwd
-- ==== Proof.Fwd.PointVal.lean ====
/- The forward attention's body before its loop over the real numbers: the rows of a block, cut into heads, and the block
   of columns on the diagonal. -/
module

public import proofs.«01_k».proof.Proof.Fwd.LoopVal
public import proofs.«01_k».proof.Proof.Fwd.Fresh

@[expose] public section

set_option maxRecDepth 16384

noncomputable section

namespace Cert.Kernel10Ideal.Fwd

open Cert.Reals Cert.Stick Idealize.ShloMosaic Idealize.ShloMosaic.TcCoe
open Cert.Kernel10Ideal.Gen
open Cert.Kernel2Ideal.Sba (Is2 IsC IsC.all Twice tA tC dA dC)

/-- The lanes of its quarter that a head owns: the first 64 or the last. -/
abbrev own (h : Fin 8) (l : Fin 128) : Prop := l.val / 64 = h.val % 2

theorem sel_half (l : Fin 128) (x y : EReal) : Scalar.select (IntOp.cmpi CmpIPredicate.slt (BitVec.ofNat 32 ↑l) 64#32) x y = if l.val < 64 then x else y := by
  word_cmp

/-- The lanes of one head, -/
theorem lo_is {v : FVec Ideal S256x128 .bf16} {f : Fin 256 → Fin 128 → ℝ} (h : ∀ a l, (if l.val < 64 then v (ix2 a l) else (0 : EReal)) = ((f a l : ℝ) : EReal)) : Is2 (k0_pay8 (F := Ideal) v) f := fun a l => by
  pointwise [k0_pay8, k0_pay6, k0_pay7]
  rw [sel_half, ← h]
/-- of the other. -/
theorem hi_is {v : FVec Ideal S256x128 .bf16} {f : Fin 256 → Fin 128 → ℝ} (h : ∀ a l, (if l.val < 64 then (0 : EReal) else v (ix2 a l)) = ((f a l : ℝ) : EReal)) : Is2 (k0_pay9 (F := Ideal) v) f := fun a l => by
  pointwise [k0_pay9, k0_pay6, k0_pay7]
  rw [sel_half, ← h]

theorem own_lo (l : Fin 128) {h : Fin 8} (hh : h.val % 2 = 0) (u : EReal) : (if l.val < 64 then u else 0) = if own h l then u else 0 := if_congr (by unfold own; omega) rfl rfl
theorem own_hi (l : Fin 128) {h : Fin 8} (hh : h.val % 2 = 1) (u : EReal) : (if l.val < 64 then 0 else u) = if own h l then u else 0 := by
  rw [← ite_not]; exact if_congr (by unfold own; omega) rfl rfl

theorem least8_lt {u y0 y1 y2 y3 y4 y5 : FVec Ideal S1x256x1 .f32} {w : FVec Ideal S256x1 .f32} {f : Fin 256 → ℝ} (h : IsC u f) : k0_pay100 (F := Ideal) (k0_pay98 u) w y0 y1 y2 y3 y4 y5 < (⊤ : EReal) := by
  pointwise [k0_pay100, k0_pay98]
  exact (Finset.fold_min_lt _).mpr (Or.inr ⟨(0, 0), Finset.mem_univ _, lt_of_le_of_lt (b := u (ix3 0 0 0)) (by simp only [min_le_iff, le_refl, true_or]) (by rw [h]; exact EReal.coe_lt_top _)⟩)

/-- What a point of row block `n` is given: its blocks of the arguments. -/
structure Given (x : Fin 8 → Data) (n : ℕ) (x0 : Vec Ideal S256x512 .bf16) (x1 x2 : Vec Ideal S4096x512 .bf16) (x3 : Vec Ideal S512x256 .bf16) : Prop where
  cols : Cols x x1 x2
  q : ∀ (h : Fin 8) (a : Fin 256) (l : Fin 128), (if own h l then x0 (ix2 a (lane (half h) l)) else (0 : EReal)) = (((x h).Q (256 * n + a.val) l : ℝ) : EReal)
  ms : Twice x3 fun j t => if t < j then 1 else 0

/-- A whole block, and one quarter of its lanes. -/
theorem ld_quarter {e : EltTy} {arg : Memref sig .tc .vmem S256x512 e} (h : arg.IsWhole) (x : Vec Ideal S256x512 e) {p : Fin 4} {off : Fin 2 → ℕ} (heq : off = ![0, 128 * p.val])
    (inb : ∀ a, off a + (![256, 128] : Fin 2 → ℕ) a ≤ S256x512.size a) (a : Fin 256) (l : Fin 128) :
    arg.view.readAt (Elt Ideal) (Rect.unit (s := S256x512) off ![256, 128] inb).toLoadRect (h.unread x) (ix2 a l) = x (ix2 a (lane p l)) :=
  ld_whole h x inb _ _ heq (fun d => by fin_cases d <;> simp [ix2, lane])

theorem ld_tri {arg : Memref sig .tc .vmem S512x256 .bf16} (h : arg.IsWhole) (x : Vec Ideal S512x256 .bf16)
    (inb : ∀ a, (![0, 0] : Fin 2 → ℕ) a + (![512, 256] : Fin 2 → ℕ) a ≤ S512x256.size a) (a : Fin 512) (l : Fin 256) :
    k0_pay5 (F := Ideal) (arg.view.readAt (Elt Ideal) (Rect.unit (s := S512x256) ![0, 0] ![512, 256] inb).toLoadRect (h.unread x)) (ix2 a l) = x (ix2 a l) := by
  pointwise [k0_pay5]
  exact ld_whole h x inb _ _ rfl (fun d => by fin_cases d <;> simp [ix2])

theorem off1_eq : ∀ i : grid0.Coords, k0_off1 i = ![256 * (i 1).val, 128 * (0 : Fin 4).val] := by decide +kernel
theorem off2_eq : ∀ i : grid0.Coords, k0_off2 i = ![256 * (i 1).val, 128 * (1 : Fin 4).val] := by decide +kernel
theorem off3_eq : ∀ i : grid0.Coords, k0_off3 i = ![256 * (i 1).val, 128 * (2 : Fin 4).val] := by decide +kernel
theorem off4_eq : ∀ i : grid0.Coords, k0_off4 i = ![256 * (i 1).val, 128 * (3 : Fin 4).val] := by decide +kernel

/-- A point of the grid, and its row block. -/
abbrev pt (t : Fin (cfg0 (F := Ideal)).N) := grid0.coords t
abbrev blk (t : Fin (cfg0 (F := Ideal)).N) : ℕ := (pt t 1).val

section
variable (m : (ℓ : Loc nD τ sig) → Buf (Elt Ideal) ℓ) (c : Dev nD) (t : Fin (cfg0 (F := Ideal)).N) (x4 : Vec Ideal S256x512 .f32) (b : Carried Ideal) {x : Fin 8 → Data}
  (hg : Given x (blk t) (iblk m c 0 t) (iblk m c 1 t) (iblk m c 2 t) (iblk m c 3 t))
include hg

set_option maxHeartbeats 1000000 in
/-- The rows the loop is called with. -/
theorem rows : Rows x (blk t) (pointAt m c t x4 b).1 where
  at_i := rfl
  q := fun h => by
    obtain rfl | rfl | rfl | rfl | rfl | rfl | rfl | rfl : h = 0 ∨ h = 1 ∨ h = 2 ∨ h = 3 ∨ h = 4 ∨ h = 5 ∨ h = 6 ∨ h = 7 := by omega
    · exact lo_is fun a l => by rw [own_lo l (h := 0) rfl, ← hg.q 0 a l]; exact if_congr Iff.rfl (ld_quarter _ _ (p := 0) rfl _ a l) rfl
    · exact hi_is fun a l => by rw [own_hi l (h := 1) rfl, ← hg.q 1 a l]; exact if_congr Iff.rfl (ld_quarter _ _ (p := 0) rfl _ a l) rfl
    · exact lo_is fun a l => by rw [own_lo l (h := 2) rfl, ← hg.q 2 a l]; exact if_congr Iff.rfl (ld_quarter _ _ (p := 1) rfl _ a l) rfl
    · exact hi_is fun a l => by rw [own_hi l (h := 3) rfl, ← hg.q 3 a l]; exact if_congr Iff.rfl (ld_quarter _ _ (p := 1) rfl _ a l) rfl
    · exact lo_is fun a l => by rw [own_lo l (h := 4) rfl, ← hg.q 4 a l]; exact if_congr Iff.rfl (ld_quarter _ _ (p := 2) rfl _ a l) rfl
    · exact hi_is fun a l => by rw [own_hi l (h := 5) rfl, ← hg.q 5 a l]; exact if_congr Iff.rfl (ld_quarter _ _ (p := 2) rfl _ a l) rfl
    · exact lo_is fun a l => by rw [own_lo l (h := 6) rfl, ← hg.q 6 a l]; exact if_congr Iff.rfl (ld_quarter _ _ (p := 3) rfl _ a l) rfl
    · exact hi_is fun a l => by rw [own_hi l (h := 7) rfl, ← hg.q 7 a l]; exact if_congr Iff.rfl (ld_quarter _ _ (p := 3) rfl _ a l) rfl
  ms := ⟨fun a l => (ld_tri _ _ _ _ l).trans (hg.ms.1 a l), fun a l => (ld_tri _ _ _ _ l).trans (hg.ms.2 a l)⟩
end

/-! ## The diagonal block -/

section
variable (m : (ℓ : Loc nD τ sig) → Buf (Elt Ideal) ℓ) (c : Dev nD) (t : Fin (cfg0 (F := Ideal)).N) (x4 : Vec Ideal S256x512 .f32) (b : Carried Ideal) {x : Fin 8 → Data}
  (hg : Given x (blk t) (iblk m c 0 t) (iblk m c 1 t) (iblk m c 2 t) (iblk m c 3 t))

theorem at_lt : blk t < 16 := row_lt _

theorem fresh_c (h : Fin 8) {w : FVec Ideal S1x256x1 .f32} (hw : Zero w) : IsC w fun a => tail ((x h).N (256 * blk t + a.val)) (blk t + 1) := fun a =>
  (hw a 0).trans (congrArg Real.toEReal (tail_zero (f := (x h).N (256 * blk t + a.val)) (s := 256 * blk t + a.val) (by omega) fun u hu => (x h).N_of_le hu).symm)
theorem fresh_a (h : Fin 8) {w : FVec Ideal S1x256x128 .f32} (hw : Zero w) (a : Fin 256) (l : Fin 128) : w (ix3 0 a l) = ((tail (oAt (x h) (256 * blk t + a.val) l) (blk t + 1) : ℝ) : EReal) :=
  (hw a l).trans (congrArg Real.toEReal (tail_zero (f := oAt (x h) (256 * blk t + a.val) l) (s := 256 * blk t + a.val) (by omega) fun u hu => by unfold oAt; rw [(x h).A_of_le hu, zero_mul]).symm)

include hg
/-- The keys of the diagonal block, for one head, -/
theorem dk_is (h : Fin 8) {off : Fin 2 → ℕ} (heq : off = ![256 * blk t, 128 * (half h).val]) (inb) :
    Is2 (k0_pay103 (F := Ideal) ((st0_1 t).view.readAt (Elt Ideal) (Rect.unit (s := S4096x512) off ![256, 128] inb).toLoadRect ((in1 t).unread (iblk m c 1 t)))) fun u => (x h).K (256 * blk t + u.val) :=
  tile_is (at_lt t) (in1 t) (iblk m c 1 t) (half h) heq inb fun _ l => hg.cols.k h _ l
/-- and its values. -/
theorem dv_is (h : Fin 8) {off : Fin 2 → ℕ} (heq : off = ![256 * blk t, 128 * (half h).val]) (inb) :
    Is2 (k0_pay103 (F := Ideal) ((st0_2 t).view.readAt (Elt Ideal) (Rect.unit (s := S4096x512) off ![256, 128] inb).toLoadRect ((in2 t).unread (iblk m c 2 t)))) fun u => (x h).V (256 * blk t + u.val) :=
  tile_is (at_lt t) (in2 t) (iblk m c 2 t) (half h) heq inb fun _ l => hg.cols.v h _ l

theorem diag_is (h : Fin 8) {k : FVec Ideal S256x128 .bf16} (hk : Is2 k fun u => (x h).K (256 * blk t + u.val)) {w : FVec Ideal S1x256x1 .f32} (hw : Zero w) :
    Stepped (x h) (blk t) (blk t) (dA (query (pointAt m c t x4 b).1 h) k (pointAt m c t x4 b).1.v1 w) (dC (query (pointAt m c t x4 b).1 h) k w) :=
  stepped_diag (at_lt t) ((rows m c t x4 b hg).q h) hk (rows m c t x4 b hg).ms (fresh_c t h hw) rfl

/-- What the loop finds. -/
abbrev found (m : (ℓ : Loc nD τ sig) → Buf (Elt Ideal) ℓ) (c : Dev nD) (t : Fin (cfg0 (F := Ideal)).N) (x4 : Vec Ideal S256x512 .f32) (b : Carried Ideal) : Carried Ideal :=
  ⟨(pointAt m c t x4 b).2.1, (pointAt m c t x4 b).2.2.1⟩

set_option maxHeartbeats 4000000 in
theorem found_c (h : Fin 8) (a : Fin 256) (l : Fin 1) : (found m c t x4 b).gc (ix3 h a l) = ((tail ((x h).N (256 * blk t + a.val)) (blk t) : ℝ) : EReal) :=
  read_heads (arg := sums) _ (fun h a _ => ((tail ((x h).N (256 * blk t + a.val)) (blk t) : ℝ) : EReal)) _ _ _ _ _ _ _ _
    (diag_is m c t x4 b hg 0 (dk_is m c t hg 0 (off1_eq (pt t)) (k0_off1_inb (pt t))) (sums_fresh m c t).1).c.all
    (diag_is m c t x4 b hg 1 (dk_is m c t hg 1 (off1_eq (pt t)) (k0_off1_inb (pt t))) (sums_fresh m c t).2.1).c.all
    (diag_is m c t x4 b hg 2 (dk_is m c t hg 2 (off2_eq (pt t)) (k0_off2_inb (pt t))) (sums_fresh m c t).2.2.1).c.all
    (diag_is m c t x4 b hg 3 (dk_is m c t hg 3 (off2_eq (pt t)) (k0_off2_inb (pt t))) (sums_fresh m c t).2.2.2.1).c.all
    (diag_is m c t x4 b hg 4 (dk_is m c t hg 4 (off3_eq (pt t)) (k0_off3_inb (pt t))) (sums_fresh m c t).2.2.2.2.1).c.all
    (diag_is m c t x4 b hg 5 (dk_is m c t hg 5 (off3_eq (pt t)) (k0_off3_inb (pt t))) (sums_fresh m c t).2.2.2.2.2.1).c.all
    (diag_is m c t x4 b hg 6 (dk_is m c t hg 6 (off4_eq (pt t)) (k0_off4_inb (pt t))) (sums_fresh m c t).2.2.2.2.2.2.1).c.all
    (diag_is m c t x4 b hg 7 (dk_is m c t hg 7 (off4_eq (pt t)) (k0_off4_inb (pt t))) (sums_fresh m c t).2.2.2.2.2.2.2).c.all h a l

set_option maxHeartbeats 4000000 in
theorem found_a (h : Fin 8) (a : Fin 256) (l : Fin 128) : (found m c t x4 b).ga (ix3 h a l) = ((tail (oAt (x h) (256 * blk t + a.val) l) (blk t) : ℝ) : EReal) :=
  read_heads (arg := outs) _ (fun h a l => ((tail (oAt (x h) (256 * blk t + a.val) l) (blk t) : ℝ) : EReal)) _ _ _ _ _ _ _ _
    (acc_step (at_lt t) (diag_is m c t x4 b hg 0 (dk_is m c t hg 0 (off1_eq (pt t)) (k0_off1_inb (pt t))) (sums_fresh m c t).1) (dv_is m c t hg 0 (off1_eq (pt t)) (k0_off1_inb (pt t))) (fresh_a t 0 (outs_fresh m c t).1))
    (acc_step (at_lt t) (diag_is m c t x4 b hg 1 (dk_is m c t hg 1 (off1_eq (pt t)) (k0_off1_inb (pt t))) (sums_fresh m c t).2.1) (dv_is m c t hg 1 (off1_eq (pt t)) (k0_off1_inb (pt t))) (fresh_a t 1 (outs_fresh m c t).2.1))
    (acc_step (at_lt t) (diag_is m c t x4 b hg 2 (dk_is m c t hg 2 (off2_eq (pt t)) (k0_off2_inb (pt t))) (sums_fresh m c t).2.2.1) (dv_is m c t hg 2 (off2_eq (pt t)) (k0_off2_inb (pt t))) (fresh_a t 2 (outs_fresh m c t).2.2.1))
    (acc_step (at_lt t) (diag_is m c t x4 b hg 3 (dk_is m c t hg 3 (off2_eq (pt t)) (k0_off2_inb (pt t))) (sums_fresh m c t).2.2.2.1) (dv_is m c t hg 3 (off2_eq (pt t)) (k0_off2_inb (pt t))) (fresh_a t 3 (outs_fresh m c t).2.2.2.1))
    (acc_step (at_lt t) (diag_is m c t x4 b hg 4 (dk_is m c t hg 4 (off3_eq (pt t)) (k0_off3_inb (pt t))) (sums_fresh m c t).2.2.2.2.1) (dv_is m c t hg 4 (off3_eq (pt t)) (k0_off3_inb (pt t))) (fresh_a t 4 (outs_fresh m c t).2.2.2.2.1))
    (acc_step (at_lt t) (diag_is m c t x4 b hg 5 (dk_is m c t hg 5 (off3_eq (pt t)) (k0_off3_inb (pt t))) (sums_fresh m c t).2.2.2.2.2.1) (dv_is m c t hg 5 (off3_eq (pt t)) (k0_off3_inb (pt t))) (fresh_a t 5 (outs_fresh m c t).2.2.2.2.2.1))
    (acc_step (at_lt t) (diag_is m c t x4 b hg 6 (dk_is m c t hg 6 (off4_eq (pt t)) (k0_off4_inb (pt t))) (sums_fresh m c t).2.2.2.2.2.2.1) (dv_is m c t hg 6 (off4_eq (pt t)) (k0_off4_inb (pt t))) (fresh_a t 6 (outs_fresh m c t).2.2.2.2.2.2.1))
    (acc_step (at_lt t) (diag_is m c t x4 b hg 7 (dk_is m c t hg 7 (off4_eq (pt t)) (k0_off4_inb (pt t))) (sums_fresh m c t).2.2.2.2.2.2.2) (dv_is m c t hg 7 (off4_eq (pt t)) (k0_off4_inb (pt t))) (fresh_a t 7 (outs_fresh m c t).2.2.2.2.2.2.2)) h a l

set_option maxHeartbeats 4000000 in
theorem found_lt : (pointAt m c t x4 b).1.arg10 < (⊤ : EReal) :=
  least8_lt (f := fun a => tail ((x 0).N (256 * blk t + a.val)) (blk t)) fun a =>
    (nxt 0 (nxt 0 (nxt 0 (nxt 0 (nxt 0 (nxt 0 (nxt 0 (cov_own (arg := sums) _ 0 rfl _ a 0)))))))).trans ((diag_is m c t x4 b hg 0 (dk_is m c t hg 0 (off1_eq (pt t)) (k0_off1_inb (pt t))) (sums_fresh m c t).1).c.all a 0)

/-- The loop is entered with the diagonal block done. -/
theorem entered : Inv x (blk t) (pointAt m c t x4 b).1 (found m c t x4 b) :=
  ⟨0, rfl, Nat.zero_le _, rows m c t x4 b hg, ⟨found_c m c t x4 b hg, found_a m c t x4 b hg⟩, found_lt m c t x4 b hg⟩
end

end Cert.Kernel10Ideal.Fwd
-- ==== Proof.Fwd.OutVal.lean ====
/- What a point of the forward attention leaves in the output: the rows of its heads. -/
module

public import proofs.«01_k».proof.Proof.Fwd.PointVal

@[expose] public section

set_option maxRecDepth 16384

noncomputable section

namespace Cert.Kernel10Ideal.Fwd

open Cert.Reals Cert.Stick Idealize.ShloMosaic Idealize.ShloMosaic.TcCoe
open Cert.Kernel10Ideal.Gen

/-- Both heads of a quarter, each on its lanes. -/
theorem both_is {u v : FVec Ideal S1x256x128 .f32} {f g : Fin 256 → Fin 128 → ℝ} (hu : ∀ a l, u (ix3 0 a l) = ((f a l : ℝ) : EReal)) (hv : ∀ a l, v (ix3 0 a l) = ((g a l : ℝ) : EReal)) (a : Fin 256) (l : Fin 128) :
    k0_pay101 (F := Ideal) k0_pay6 u v (ix2 a l) = ((if l.val < 64 then f a l else g a l : ℝ) : EReal) := by
  pointwise [k0_pay101, k0_pay6]
  simp only [sel_half, hu, hv]
  split_ifs <;> rfl

/-- A block stored quarter by quarter. -/
theorem read_quarters {arg : Memref sig .tc .vmem S256x512 .f32} (f : arg.view.ty.Contents (Elt Ideal)) (g : Fin 256 → Fin 4 → Fin 128 → EReal) {i0 i1 i2 i3}
    (w0 : (Rect.unit (s := S256x512) ![0, 0] ![256, 128] i0).shape.Idx → Elt Ideal .f32) (w1 : (Rect.unit (s := S256x512) ![0, 128] ![256, 128] i1).shape.Idx → Elt Ideal .f32) (w2 : (Rect.unit (s := S256x512) ![0, 256] ![256, 128] i2).shape.Idx → Elt Ideal .f32) (w3 : (Rect.unit (s := S256x512) ![0, 384] ![256, 128] i3).shape.Idx → Elt Ideal .f32)
    (h0 : ∀ a l, w0 (ix2 a l) = g a 0 l) (h1 : ∀ a l, w1 (ix2 a l) = g a 1 l) (h2 : ∀ a l, w2 (ix2 a l) = g a 2 l) (h3 : ∀ a l, w3 (ix2 a l) = g a 3 l) (a : Fin 256) (p : Fin 4) (l : Fin 128) :
    arg.view.read (Elt Ideal) (arg.view.writes (Elt Ideal) f [⟨Rect.unit ![0, 384] ![256, 128] i3, w3⟩, ⟨Rect.unit ![0, 256] ![256, 128] i2, w2⟩, ⟨Rect.unit ![0, 128] ![256, 128] i1, w1⟩, ⟨Rect.unit ![0, 0] ![256, 128] i0, w0⟩]) (ix2 a (lane p l)) = g a p l := by
  fin_cases p
  · rw [View.read_writes_cons_unit_of_not_mem arg.view _ i3 w3 _ _ rfl (1 : Fin 2) (Or.inl (by show 128 * 0 + l.val < 384; omega))]
    rw [View.read_writes_cons_unit_of_not_mem arg.view _ i2 w2 _ _ rfl (1 : Fin 2) (Or.inl (by show 128 * 0 + l.val < 256; omega))]
    rw [View.read_writes_cons_unit_of_not_mem arg.view _ i1 w1 _ _ rfl (1 : Fin 2) (Or.inl (by show 128 * 0 + l.val < 128; omega))]
    rw [View.read_writes_cons_unit_of_mem arg.view _ i0 w0 _ _ (ix2 a l) rfl (fun d => by fin_cases d <;> simp [ix2, lane])]
    exact h0 a l
  · rw [View.read_writes_cons_unit_of_not_mem arg.view _ i3 w3 _ _ rfl (1 : Fin 2) (Or.inl (by show 128 * 1 + l.val < 384; omega))]
    rw [View.read_writes_cons_unit_of_not_mem arg.view _ i2 w2 _ _ rfl (1 : Fin 2) (Or.inl (by show 128 * 1 + l.val < 256; omega))]
    rw [View.read_writes_cons_unit_of_mem arg.view _ i1 w1 _ _ (ix2 a l) rfl (fun d => by fin_cases d <;> simp [ix2, lane])]
    exact h1 a l
  · rw [View.read_writes_cons_unit_of_not_mem arg.view _ i3 w3 _ _ rfl (1 : Fin 2) (Or.inl (by show 128 * 2 + l.val < 384; omega))]
    rw [View.read_writes_cons_unit_of_mem arg.view _ i2 w2 _ _ (ix2 a l) rfl (fun d => by fin_cases d <;> simp [ix2, lane])]
    exact h2 a l
  · rw [View.read_writes_cons_unit_of_mem arg.view _ i3 w3 _ _ (ix2 a l) rfl (fun d => by fin_cases d <;> simp [ix2, lane])]
    exact h3 a l

/-- The heads of a quarter. -/
def fst (p : Fin 4) : Fin 8 := ⟨2 * p.val, by omega⟩
def snd (p : Fin 4) : Fin 8 := ⟨2 * p.val + 1, by omega⟩

/-- The output: the two heads of a quarter, each on its lanes. -/
def oOf (x : Fin 8 → Data) (s : ℕ) (p : Fin 4) (l : Fin 128) : ℝ := if l.val < 64 then tail (oAt (x (fst p)) s l) 0 else tail (oAt (x (snd p)) s l) 0

section
variable (m : (ℓ : Loc nD τ sig) → Buf (Elt Ideal) ℓ) (c : Dev nD) (t : Fin (cfg0 (F := Ideal)).N) (x4 : Vec Ideal S256x512 .f32) (b : Carried Ideal) {x : Fin 8 → Data} {n : ℕ}
  {s : Carried Ideal} (hs : Held x n 0 s)
include hs

set_option maxHeartbeats 1000000 in
theorem out_is (a : Fin 256) (p : Fin 4) (l : Fin 128) : (pointAt m c t x4 b).2.2.2.1 s (ix2 a (lane p l)) = ((oOf x (256 * n + a.val) p l : ℝ) : EReal) :=
  read_quarters (arg := st0_4 t) _ (fun a p l => ((oOf x (256 * n + a.val) p l : ℝ) : EReal)) _ _ _ _
    (both_is (fun a l => (ld_head (Memref.isWhole_whole cc0_scratch1) s.ga 0 inb_S8x256x128_S1x256x128_0_0_0 a l).trans (hs.a 0 a l)) (fun a l => (ld_head (Memref.isWhole_whole cc0_scratch1) s.ga 1 inb_S8x256x128_S1x256x128_1_0_0 a l).trans (hs.a 1 a l)))
    (both_is (fun a l => (ld_head (Memref.isWhole_whole cc0_scratch1) s.ga 2 inb_S8x256x128_S1x256x128_2_0_0 a l).trans (hs.a 2 a l)) (fun a l => (ld_head (Memref.isWhole_whole cc0_scratch1) s.ga 3 inb_S8x256x128_S1x256x128_3_0_0 a l).trans (hs.a 3 a l)))
    (both_is (fun a l => (ld_head (Memref.isWhole_whole cc0_scratch1) s.ga 4 inb_S8x256x128_S1x256x128_4_0_0 a l).trans (hs.a 4 a l)) (fun a l => (ld_head (Memref.isWhole_whole cc0_scratch1) s.ga 5 inb_S8x256x128_S1x256x128_5_0_0 a l).trans (hs.a 5 a l)))
    (both_is (fun a l => (ld_head (Memref.isWhole_whole cc0_scratch1) s.ga 6 inb_S8x256x128_S1x256x128_6_0_0 a l).trans (hs.a 6 a l)) (fun a l => (ld_head (Memref.isWhole_whole cc0_scratch1) s.ga 7 inb_S8x256x128_S1x256x128_7_0_0 a l).trans (hs.a 7 a l))) a p l
end

/-- An array given by row, quarter of the lanes and lane. -/
def spread {n : ℕ} (f : ℕ → Fin 4 → Fin 128 → ℝ) : (⟨2, ![n, 512]⟩ : Shape).Idx → EReal := fun y =>
  ((f (y 0).val ⟨(y 1).val / 128, by have h : (y 1).val < 512 := (y 1).isLt; omega⟩ ⟨(y 1).val % 128, Nat.mod_lt _ (by norm_num)⟩ : ℝ) : EReal)

theorem lane_cut (y : Fin 512) : lane ⟨y.val / 128, by omega⟩ ⟨y.val % 128, Nat.mod_lt _ (by norm_num)⟩ = y := Fin.ext (Nat.div_add_mod _ _)

theorem eq_spread {n : ℕ} {v : (⟨2, ![n, 512]⟩ : Shape).Idx → EReal} {f : ℕ → Fin 4 → Fin 128 → ℝ} (h : ∀ (a : Fin n) p l, v (ix2 a (lane p l)) = ((f a.val p l : ℝ) : EReal)) : v = spread f := by
  funext y
  exact (congrArg v ((eq_ix2 y).trans (congrArg (ix2 (y 0)) (lane_cut (y 1)).symm))).trans (h _ _ _)

end Cert.Kernel10Ideal.Fwd
-- ==== Proof.Fwd.Exact.lean ====
/- The run of the forward attention's call over the real numbers: what every point leaves in the output, and the launch. -/
module

public import proofs.«01_k».proof.Proof.Fwd.OutVal

@[expose] public section

set_option maxRecDepth 16384

noncomputable section

namespace Cert.Kernel10Ideal.Fwd

open Cert.Reals Cert.Stick Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)
open Cert.Kernel10Ideal.Gen

local notation "𝕄" => MT nD τ sig Unit (Elt Ideal) ℕ (UR sig nD τ) ℕ

variable (m : (ℓ : Loc nD τ sig) → Buf (Elt Ideal) ℓ) (ρ : Dev nD → PrngReg) (X : Dev nD → Fin 2 → Fin 8 → Data)

/-- The group of heads of a point. -/
abbrev grp (t : Fin (cfg0 (F := Ideal)).N) : Fin 2 := grid0.coords t 0

/-- What the output holds after a point. -/
def oAfter (c : Dev nD) (t : Fin (cfg0 (F := Ideal)).N) : Vec Ideal S256x512 .f32 := spread fun a p l => oOf (X c (grp t)) (256 * blk t + a) p l

/-- The proof data of the value. -/
def vals (_ : Fin 1) (c : Dev nD) : Dat τ (Elt Ideal) Unit ℕ (UR sig nD τ) ℕ (cfg0 (F := Ideal)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oAfter X c t
  Φ _ := Pipeline.ΦA spec0 c
  q w := Pipeline.shareOf spec0 w
  owed _ := 0

theorem valsA_eq (c : Dev nD) (w : Fin (cfg0 (F := Ideal)).W) : (vals m X 0 c).A w = V m c (Pipeline.arrRef spec0 w) := by
  dsimp only [vals]

variable (hg : ∀ c t, Given (X c (grp t)) (blk t) (iblk m c 0 t) (iblk m c 1 t) (iblk m c 2 t) (iblk m c 3 t))
include hg

/-- The loop of a point does all the columns before the diagonal block. -/
theorem loop_val (c : Dev nD) (t : Fin (cfg0 (F := Ideal)).N) (x4 : Vec Ideal S256x512 .f32) (b : Carried Ideal) (K) :
    loopSpec c (st0_1 t) (st0_2 t) (Memref.whole cc0_scratch0) (Memref.whole cc0_scratch1) (iblk m c 1 t) (iblk m c 2 t) (found m c t x4 b) (fun s' => Held (X c (grp t)) (blk t) 0 s') K
      ⊢ wp Idealize.ShloMosaic.frame (wpE (defs₀ (F := Ideal)) 𝒱₀ c (some (grid0.coords t 1).val)) Set.univ (defs₀ (F := Ideal) .tc 1 (pointAt m c t x4 b).1) K :=
  loop_all c (hg c t).cols (at_lt t) (pointAt m c t x4 b).1 (found m c t x4 b) (entered m c t x4 b (hg c t)) rfl K

set_option maxHeartbeats 2000000 in
/-- The body at a point. -/
theorem body_val (c : Dev nD) (t : Fin (cfg0 (F := Ideal)).N) :
    iprop((Pipeline.ΦA (Val := Elt Ideal) spec0 c : sProp 𝕄) ∗ (vals m X 0 c).owesAt () t.castSucc
      ∗ (∃ d, owns (c : Thread nD τ) (st0_0 t) fullShare ((vals m X 0 c).before 0 t d))
      ∗ (∃ d, owns (c : Thread nD τ) (st0_1 t) fullShare ((vals m X 0 c).before 1 t d))
      ∗ (∃ d, owns (c : Thread nD τ) (st0_2 t) fullShare ((vals m X 0 c).before 2 t d))
      ∗ (∃ d, owns (c : Thread nD τ) (st0_3 t) fullShare ((vals m X 0 c).before 3 t d))
      ∗ (∃ d, owns (c : Thread nD τ) (st0_4 t) fullShare ((vals m X 0 c).before 4 t d)))
    ⊢ wp Idealize.ShloMosaic.frame (wpE (defs₀ (F := Ideal)) 𝒱₀ c none) Set.univ (bodyAt0 t) fun _ =>
      iprop((Pipeline.ΦA (Val := Elt Ideal) spec0 c : sProp 𝕄) ∗ (vals m X 0 c).owesAt () t.castSucc
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (oAfter X c t)) := by
  simp only [before0 m (vals m X 0 c) (valsA_eq m X c 0) (fun _ => rfl), before1 m (vals m X 0 c) (valsA_eq m X c 1) (fun _ => rfl), before2 m (vals m X 0 c) (valsA_eq m X c 2) (fun _ => rfl), before3 m (vals m X 0 c) (valsA_eq m X c 3) (fun _ => rfl)]
  rw [scratch_eq]
  iintro ⟨⟨⟨⟨%g7, S0⟩, ⟨%g8, S1⟩⟩, HP⟩, Ho, ⟨%d0, H0⟩, ⟨%d1, H1⟩, ⟨%d2, H2⟩, ⟨%d3, H3⟩, ⟨%d4, H4⟩⟩
  iapply ((pointAt m c t ((vals m X 0 c).before 4 t d4) ⟨g7, g8⟩).2.2.2.2 (grid0.coords t 1).val (fun s' => Held (X c (grp t)) (blk t) 0 s') (loop_val m X hg c t _ _) _)
  unfold after
  isplitl [H0 H1 H2 H3 H4 S0 S1]
  · isplitl [H0]; · iexact H0
    isplitl [H1]; · iexact H1
    isplitl [H2]; · iexact H2
    isplitl [H3]; · iexact H3
    isplitl [H4]; · iexact H4
    iframe
  iintro %s %hs ⟨H0, H1, H2, H3, H4, S0, S1⟩
  have e4 : (pointAt m c t ((vals m X 0 c).before 4 t d4) ⟨g7, g8⟩).2.2.2.1 s = oAfter X c t := eq_spread (out_is m c t _ _ hs)
  rw [e4]
  isplitl [S0 S1 HP]
  · isplitl [S0 S1]
    · isplitl [S0]; · iexists _; iexact S0
      iexists _; iexact S1
    iexact HP
  isplitl [Ho]; · iexact Ho
  isplitl [H0]; · iexact H0
  isplitl [H1]; · iexact H1
  isplitl [H2]; · iexact H2
  isplitl [H3]; · iexact H3
  iexact H4

set_option maxHeartbeats 4000000 in
theorem val_obligation (c : Dev nD) : BodyObligationLoose (vals m X 0 c) (defs₀ (F := Ideal)) 𝒱₀ () Set.univ := fun t => by
  rw [bigSep_W0, bigSep_W0, defs₀_row]
  exact triple_restated (body_val m X hg c t) rfl .rfl fun _ => .rfl

set_option backward.isDefEq.respectTransparency.types false in
/-- The launch: every run ends with the output's blocks written back. -/
theorem run_vals : θ_run defs (onTc (τ := τ) (main (F := Ideal))) (s₀ m ρ)
    (fun r => Pipeline.FramePost cfgs (vals m X) 0 (V m) r ∧ r.2.sem = fun _ => 0) :=
  Pipeline.θ_run_frame_shared (Q' := _) cfgs (vals m X) (0 : Fin 1) launch₀0 defs₀ 𝒱₀ m ρ main
    (hbody := val_obligation m X hg) (hq := fun c w _ => rfl)
    (howed := fun _ _ => rfl) (V := V m) (hmain := hmain m) (hA := valsA_eq m X) (hΦ := fun _ _ => rfl)

end Cert.Kernel10Ideal.Fwd
-- ==== Proof.Fwd.HostVal.lean ====
/- What the host's lines hand to the forward attention's call, and what it makes of that. -/
module

public import proofs.«01_k».proof.Proof.Fwd.Exact
public import proofs.«01_k».proof.Proof.Sba.Value

@[expose] public section

set_option maxRecDepth 16384

noncomputable section

namespace Cert.Kernel10Ideal.Fwd

open Cert.Reals Cert.Stick Idealize.ShloMosaic Idealize.ShloMosaic.TcCoe
open Cert.Kernel10Ideal.Gen
open Cert.Reference2Ideal.Sba (Real2)
open Cert.Kernel2Ideal.Sba (Twice gt_word mat)

variable (m : (ℓ : Loc nD τ sig) → Buf (Elt Ideal) ℓ)

theorem V2_at (c : Dev nD) (a : Fin 4096) (b : Fin 1024) {r : ℝ} (h : m ((c : Thread nD τ).loc main_arg0) (ix2 a b) = (r : EReal)) : V m c main_v2 (ix2 a b) = ((r * (1 / 8) : ℝ) : EReal) := by
  unfold_abbrev_sides
  after_reads_at
  rw [h, Cert.Reference2Ideal.Sba.eighth, ← EReal.coe_mul]
theorem V3_at (c : Dev nD) (a : Fin 4096) (b : Fin 2048) : V m c main_v3 (ix2 a b) = m ((c : Thread nD τ).loc main_arg1) (ix2 a b) := by
  unfold_abbrev_sides
  after_reads_at

/-- The triangle of ones, twice. -/
theorem V9_at (c : Dev nD) : Twice (V m c main_v9) fun j t => if t < j then 1 else 0 := by
  have h : ∀ (a : Fin 512) (b : Fin 256), V m c main_v9 (ix2 a b) = if h : a.val < 256 then (if b < (⟨a.val, h⟩ : Fin 256) then (1 : EReal) else 0) else if b < (⟨a.val - 256, by omega⟩ : Fin 256) then 1 else 0 := fun a b => by
    simp only [← gt_word]
    unfold_abbrev_sides
    after_reads_at
  refine ⟨fun a b => (h _ b).trans ?_, fun a b => (h _ b).trans ?_⟩
  · rw [dif_pos a.isLt]
    show (if b < a then (1 : EReal) else 0) = _
    split_ifs with h1 <;> simp [h1]
  · rw [dif_neg (by simp)]
    simp only [Nat.add_sub_cancel_left, Fin.eta]
    split_ifs <;> simp

theorem idx : ∀ t : Fin (cfg0 (F := Ideal)).N, win0_0.index t = ![blk t, (grp t).val] ∧ win0_1.index t = ![0, (grp t).val] ∧ win0_2.index t = ![0, 2 + (grp t).val] ∧ win0_3.index t = ![0, 0] ∧ win0_4.index t = ![blk t, (grp t).val] :=
  (by decide +kernel : ∀ t : Fin grid0.N, _)

theorem blk_lt (t : Fin (cfg0 (F := Ideal)).N) : blk t < 16 := at_lt t
theorem grp_lt (t : Fin (cfg0 (F := Ideal)).N) : (grp t).val < 2 := (grp t).isLt

theorem blk0 (c : Dev nD) (t : Fin (cfg0 (F := Ideal)).N) (a : Fin 256) (b : Fin 512) : iblk m c 0 t (ix2 a b) = V m c main_v2 (ix2 ⟨256 * blk t + a.val, by have := blk_lt t; omega⟩ ⟨512 * (grp t).val + b.val, by have := grp_lt t; omega⟩) := by
  blk_simp [iblk]
  blk_point [idx t]
theorem blk1 (c : Dev nD) (t : Fin (cfg0 (F := Ideal)).N) (a : Fin 4096) (b : Fin 512) : iblk m c 1 t (ix2 a b) = V m c main_v3 (ix2 a ⟨512 * (grp t).val + b.val, by have := grp_lt t; omega⟩) := by
  blk_simp [iblk]
  blk_point [idx t]
theorem blk2 (c : Dev nD) (t : Fin (cfg0 (F := Ideal)).N) (a : Fin 4096) (b : Fin 512) : iblk m c 2 t (ix2 a b) = V m c main_v3 (ix2 a ⟨1024 + (512 * (grp t).val + b.val), by have := grp_lt t; omega⟩) := by
  blk_simp [iblk]
  blk_point [idx t]
theorem blk3 (c : Dev nD) (t : Fin (cfg0 (F := Ideal)).N) (a : Fin 512) (b : Fin 256) : iblk m c 3 t (ix2 a b) = V m c main_v9 (ix2 a b) := by
  blk_simp [iblk]
  blk_point [idx t]

/-! ## What the call is given -/

section
variable {q kv : Dev nD → ℕ → ℕ → ℝ} (hq : ∀ c : Dev nD, Real2 (m ((c : Thread nD τ).loc main_arg0)) (q c)) (hkv : ∀ c : Dev nD, Real2 (m ((c : Thread nD τ).loc main_arg1)) (kv c))

/-- A head of a group. -/
def hd1 (q kv : Dev nD → ℕ → ℕ → ℝ) (c : Dev nD) (g : Fin 2) (h : Fin 8) : Data := one (q c) (fun _ _ => 0) (kv c) (8 * g.val + h.val)

theorem half_col (g : Fin 2) (h : Fin 8) (l : Fin 128) : 128 * ((8 * g.val + h.val) / 2) + l.val = 512 * g.val + (128 * (half h).val + l.val) := by
  unfold half; dsimp only; omega
theorem own_iff (g : Fin 2) (h : Fin 8) (l : Fin 128) : own h l ↔ l.val / 64 = (8 * g.val + h.val) % 2 := by
  unfold own; omega

include hq hkv
theorem given (c : Dev nD) (t : Fin (cfg0 (F := Ideal)).N) : Given (hd1 q kv c (grp t)) (blk t) (iblk m c 0 t) (iblk m c 1 t) (iblk m c 2 t) (iblk m c 3 t) where
  cols := ⟨fun h u l => by
      rw [blk1, V3_at, hkv c]
      simp only [hd1, one, lane, half_col], fun h u l => by
      rw [blk2, V3_at, hkv c]
      simp only [hd1, one, lane, half_col]⟩
  q h a l := by
    rw [blk0]
    simp only [hd1, one, ← own_iff]
    split_ifs with ho
    · rw [V2_at m c _ _ (hq c _ _)]
      simp only [lane, half_col]
    · rfl
  ms := ⟨fun a b => (blk3 m c t _ b).trans ((V9_at m c).1 a b), fun a b => (blk3 m c t _ b).trans ((V9_at m c).2 a b)⟩
end

/-! ## The call's result -/

section
variable (q kv : Dev nD → ℕ → ℕ → ℝ) (c : Dev nD)

/-- The attention's output. -/
def attn (s j : ℕ) : ℝ := ∑ t ∈ Finset.range 4096, (one (q c) (fun _ _ => 0) (kv c) (j / 64)).A s t * kv c t (1024 + j)

theorem of_head (g : Fin 2) (s : ℕ) (p : Fin 4) (l : Fin 128) (h : Fin 8) (hp : h.val / 2 = p.val) (ho : l.val / 64 = h.val % 2) :
    tail (oAt (hd1 q kv c g h) s l) 0 = attn q kv c s (512 * g.val + (128 * p.val + l.val)) := by
  have e1 : (512 * g.val + (128 * p.val + l.val)) / 64 = 8 * g.val + h.val := by omega
  have e2 : 128 * ((8 * g.val + h.val) / 2) + l.val = 512 * g.val + (128 * p.val + l.val) := by omega
  unfold attn tail
  rw [e1, mul_zero, ← Finset.range_eq_Ico]
  exact Finset.sum_congr rfl fun t _ => by simp only [oAt, hd1, one, e2]

theorem oOf_eq (g : Fin 2) (s : ℕ) (p : Fin 4) (l : Fin 128) : oOf (hd1 q kv c g) s p l = attn q kv c s (512 * g.val + (128 * p.val + l.val)) := by
  unfold oOf
  split_ifs with hl
  · exact of_head q kv c g s p l _ (by unfold fst; dsimp only; omega) (by unfold fst; dsimp only; omega)
  · exact of_head q kv c g s p l _ (by unfold snd; dsimp only; omega) (by unfold snd; dsimp only; omega)

theorem lane_val (y : Fin 512) : 128 * (y.val / 128) + y.val % 128 = y.val := Nat.div_add_mod _ _

theorem arr4 : (vals m (hd1 q kv) 0 c).arrAt 4 (cfg0 (F := Ideal)).N = mat (n := 4096) (k := 1024) (attn q kv c) := by
  refine (vals m (hd1 q kv) 0 c).arrAt_eq_of_covers 4 _ (by decide +kernel) fun t hf y => ?_
  blk_simp
  refine congrArg Real.toEReal ((oOf_eq q kv c (grp t) _ _ _).trans (congrArg₂ (attn q kv c) ?_ ?_))
  · blk_simp [idx t]
    exact congrArg (· + _) (Nat.mul_comm _ _)
  · blk_simp [idx t]
    exact congrArg₂ (· + ·) (Nat.mul_comm _ _) (lane_val (y 1))
end

end Cert.Kernel10Ideal.Fwd
-- ==== Proof.Fwd.Value.lean ====
/- The attention's forward call computes the attention. -/
module

public import proofs.«01_k».proof.Defs
public import proofs.«01_k».proof.Proof.Finite
public import proofs.«01_k».proof.Proof.Fwd.HostVal
public import proofs.«01_k».proof.Proof.Gen.Pre_finite_qkv
public import proofs.«01_k».proof.Proof.Gen.Reference10Ideal.Run
public import Idealize.ShloMosaic.Lib.Claim

@[expose] public section

noncomputable section

namespace Cert.Kernel10Ideal.Fwd

open Cert.Reals Cert.Stick Idealize.ShloMosaic Idealize.ShloMosaic.TcCoe
open Cert.Kernel10Ideal.Gen
open Cert.Reference2Ideal.Sba (Real2)
open Cert.Kernel2Ideal.Sba (mat mat_of)

variable (m : (ℓ : Loc nD τ sig) → Buf (Elt Ideal) ℓ)

/-- The arguments' real numbers, by device. -/
def qs (c : Dev nD) : ℕ → ℕ → ℝ := reals (n := 4096) (k := 1024) (m ((c : Thread nD τ).loc main_arg0))
def kvs (c : Dev nD) : ℕ → ℕ → ℝ := reals (n := 4096) (k := 2048) (m ((c : Thread nD τ).loc main_arg1))

theorem are_real (h : Cert.Pre_Kernel10Ideal_finite_qkv m) (c : Dev nD) :
    Real2 (n := 4096) (k := 1024) (m ((c : Thread nD τ).loc main_arg0)) (qs m c) ∧ Real2 (n := 4096) (k := 2048) (m ((c : Thread nD τ).loc main_arg1)) (kvs m c) := by
  obtain ⟨h0, h1⟩ := h c
  exact ⟨reals_at fun i => real_of_lt_top (congrFun h0 i), reals_at fun i => real_of_lt_top (congrFun h1 i)⟩

/-- The reference writes the attention as the reference of its gradient does. -/
theorem reference_is (m' : (ℓ : Loc Cert.Reference10Ideal.nD Cert.Reference10Ideal.τ Cert.Reference10Ideal.sig) → Buf (Elt Ideal) ℓ) (c : Dev Cert.Reference10Ideal.nD) :
    Cert.Reference10Ideal.Value.res_main_v29 m' c = Cert.Reference2Ideal.Read.val_main_v29 (F := Ideal)
      (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) := rfl

theorem algebraic : Cert.algebraic_Kernel10Ideal_Reference10Ideal_pre_finite_qkv := by
  intro m g m' g' hpre hagree
  have hr := are_real m hpre
  refine ⟨fun c => mat (n := 4096) (k := 1024) (attn (qs m) (kvs m) c), ?_, ?_⟩
  · refine (θ_run defs _ _).mono (fun r h c => ?_) (run_vals m g (hd1 (qs m) (kvs m)) fun c t => given m (fun c => (hr c).1) (fun c => (hr c).2) c t)
    obtain ⟨hw, hk⟩ := h.1 c
    exact ⟨(hw 4).trans (arr4 m (qs m) (kvs m) c),
      (hk main_arg0 (by exact (by decide : main_arg0 ∈ Pipeline.restRefs sig spec0))).trans (V_main_arg0 m c),
      (hk main_arg1 (by exact (by decide : main_arg1 ∈ Pipeline.restRefs sig spec0))).trans (V_main_arg1 m c)⟩
  · refine (θ_run Cert.Reference10Ideal.defs _ _).mono (fun r h c => ?_) (Cert.Reference10Ideal.Value.run m' g')
    obtain ⟨h0, hk⟩ := h c
    obtain ⟨a0, a1⟩ := hagree c
    obtain ⟨r0, r1⟩ := hr c
    rw [← a0] at r0
    rw [← a1] at r1
    exact ⟨h0.trans ((reference_is m' c).trans (mat_of (Cert.Reference2Ideal.Sba.v29_is (d := fun _ _ => 0) r0 r1))), hk⟩

end Cert.Kernel10Ideal.Fwd
-- ==== Proof.Proj.QueryFwd.lean ====
/- The norm before the queries and the product with their weights: what the forward call leaves in its two arrays. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Norm
public import Idealize.ShloMosaic.Lib.Claim
public import Idealize.ShloMosaic.Lib.Pipeline.ReadBack

@[expose] public section

set_option maxRecDepth 16384

noncomputable section

namespace Cert.QueryFwd

open Cert.Norm Idealize.ShloMosaic Idealize.ShloMosaic.TcCoe Idealize.SL.Sem

/-- An entry of the normed row. -/
def normed (x g : Fin 1024 → EReal) (b : Fin 1024) : EReal := x b * root x * g b

/-- An entry of the scaled product with a column of the weights. -/
def query (h w : Fin 1024 → EReal) : EReal := (∑ k : Fin 1024, h k * w k) * Ideal.ofBits .f32 0x3E000000#32

section
open Cert.Reference11Ideal Cert.Reference11Ideal.Gen Cert.Reference11Ideal.Read
theorem h_ref (x : FVec Ideal S4096x1024 .f32) (g : FVec Ideal S1024 .f32) (a : Fin 4096) (b : Fin 1024) :
    val_main_v12 (F := Ideal) x g (ix2 a b) = normed (fun k => x (ix2 a k)) (fun k => g (ix1 k)) b := by
  unfold normed root under
  pointwise [val_main_v12, val_main_v11, val_main_v10, val_main_v9, val_main_v8, val_main_v7, val_main_v6, val_main_v5, val_main_v4, val_main_v3, val_main_v2,
    val_main_v1, val_main_v0, val_main_cst, val_main_cst_0, val_main_cst_1]

theorem q_ref (x : FVec Ideal S4096x1024 .f32) (w : FVec Ideal S1024x1024 .f32) (g : FVec Ideal S1024 .f32) (a : Fin 4096) (b : Fin 1024) :
    val_main_v17 (F := Ideal) x w g (ix2 a b) = query (fun k => val_main_v12 (F := Ideal) x g (ix2 a k)) (fun k => w (ix2 k b)) := by
  unfold query
  rw [val_main_v17, val_main_v15, val_main_v14, val_main_v13, val_main_cst_2]
  generalize val_main_v12 (F := Ideal) x g = h
  pointwise

theorem h_cast (x : FVec Ideal S4096x1024 .f32) (g : FVec Ideal S1024 .f32) : val_main_v16 (F := Ideal) x g = val_main_v12 (F := Ideal) x g := rfl
end

section
open Cert.Kernel11Ideal Cert.Kernel11Ideal.Gen
open Idealize.ShloMosaic.Pipeline (Dat)

theorem h_pay (x : Vec Ideal S2048x1024 .f32) (g : Vec Ideal S1x1024 .f32) (a : Fin 2048) (b : Fin 1024) :
    k0_pay1 (F := Ideal) x g (ix2 a b) = normed (fun k => x (ix2 a k)) (fun k => g (ix2 0 k)) b := by
  unfold normed root under
  pointwise [k0_pay1]

theorem q_pay (h : Vec Ideal S2048x1024 .bf16) (w : Vec Ideal S4x1x256x1024 .bf16) (a : Fin 2048) (b : Fin 1024) :
    k0_pay2 (F := Ideal) h w (ix2 a b) = query (fun k => h (ix2 a k)) (fun k => w (ix4 ⟨k.val / 256, by omega⟩ 0 ⟨k.val % 256, by omega⟩ b)) := by
  unfold query
  pointwise [k0_pay2]

theorem idx : ∀ t : Fin cfg0.N, win0_0.index t = ![t.val, 0] ∧ win0_1.index t = ![0, 0] ∧ win0_2.index t = ![0, 0, 0, 0]
    ∧ win0_3.index t = ![t.val, 0] ∧ win0_4.index t = ![t.val, 0] :=
  (by decide +kernel : ∀ t : Fin grid0.N, _)

variable (m : (ℓ : Loc nD τ sig) → Buf (Elt Ideal) ℓ)

/-- The array's row at a tile's row. -/
abbrev at_ (t : Fin cfg0.N) (a : Fin 2048) : Fin 4096 := ⟨2048 * t.val + a.val, by have := lt_of_lt_of_eq t.isLt N_0; omega⟩

theorem blk_x (c : Dev nD) (t : Fin cfg0.N) (r : Fin 2048) (l : Fin 1024) :
    iblk m c 0 t (ix2 r l) = m ((c : Thread nD τ).loc main_arg0) (ix2 (at_ t r) l) := by
  blk_point [iblk, V, idx t]
theorem blk_g (c : Dev nD) (t : Fin cfg0.N) (l : Fin 1024) : iblk m c 1 t (ix2 (0 : Fin 1) l) = m ((c : Thread nD τ).loc main_arg2) (ix1 l) := by
  blk_point [iblk, V, idx t]
theorem blk_w (c : Dev nD) (t : Fin cfg0.N) (r l : Fin 1024) :
    iblk m c 2 t (ix4 (⟨r.val / 256, by omega⟩ : Fin 4) (0 : Fin 1) (⟨r.val % 256, by omega⟩ : Fin 256) l) = m ((c : Thread nD τ).loc main_arg1) (ix2 r l) := by
  blk_point [iblk, V, idx t]

/-- The normed rows of a tile. -/
abbrev rows (c : Dev nD) (t : Fin cfg0.N) : FVec Ideal S2048x1024 .bf16 := k0_pay1 (F := Ideal) (iblk m c 0 t) (iblk m c 1 t)

theorem h_at (c : Dev nD) (t : Fin cfg0.N) : (outsAt0 m c t).1 = rows m c t := by
  simp only [outsAt0]; funext y; frame_out
theorem q_at (c : Dev nD) (t : Fin cfg0.N) : (outsAt0 m c t).2 = k0_pay2 (F := Ideal) (rows m c t) (iblk m c 2 t) := by
  simp only [outsAt0]; funext y; frame_out

theorem rows_at (c : Dev nD) (t : Fin cfg0.N) (a : Fin 2048) (b : Fin 1024) :
    rows m c t (ix2 a b) = Cert.Reference11Ideal.Read.val_main_v12 (F := Ideal) (m ((c : Thread nD τ).loc main_arg0)) (m ((c : Thread nD τ).loc main_arg2)) (ix2 (at_ t a) b) := by
  rw [rows, h_pay, h_ref]
  simp only [blk_x, blk_g]

/-- The normed stream after the run. -/
theorem hout (c : Dev nD) : (dats m 0 c).arrAt 3 (cfgs 0).N = Cert.Reference11Ideal.Read.val_main_v16 (F := Ideal) (m ((c : Thread nD τ).loc main_arg0)) (m ((c : Thread nD τ).loc main_arg2)) := by
  refine (dats m 0 c).arrAt_eq_of_covers 3 _ (by decide +kernel) fun t hf y => ?_
  blk_simp
  rw [after0_3, h_at m c t]
  revert y
  intro (y : S2048x1024.Idx)
  obtain ⟨a, b, rfl⟩ : ∃ (a : Fin 2048) (b : Fin 1024), y = ix2 a b := ⟨y 0, y 1, eq_ix2 y⟩
  rw [rows_at, h_cast]
  exact congrArg _ (show ix2 (at_ t a) b = _ by blk_ext [idx t])

/-- The queries after the run. -/
theorem qout (c : Dev nD) : (dats m 0 c).arrAt 4 (cfgs 0).N = Cert.Reference11Ideal.Read.val_main_v17 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, q_at m c t]
  revert y
  intro (y : S2048x1024.Idx)
  obtain ⟨a, b, rfl⟩ : ∃ (a : Fin 2048) (b : Fin 1024), y = ix2 a b := ⟨y 0, y 1, eq_ix2 y⟩
  refine Eq.trans ?_ (congrArg _ (show ix2 (at_ t a) b = _ by blk_ext [idx t]))
  rw [q_pay, q_ref]
  simp only [rows_at, blk_w]
end

theorem algebraic : Cert.algebraic_Kernel11Ideal_Reference11Ideal := by
  pair_intro
  · run_from Cert.Kernel11Ideal.Value.run_blocks m g
  · run_from Cert.Reference11Ideal.Value.run m' g'
    · exact (hout m c).symm
    · exact (qout m c).symm

end Cert.QueryFwd

end
-- ==== Proof.Proj.OutFwd.lean ====
/- The attention's output projection, the norm behind it and the residual's addition: what the forward call leaves in its two arrays. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Norm
public import Idealize.ShloMosaic.Lib.Claim
public import Idealize.ShloMosaic.Lib.Pipeline.ReadBack

@[expose] public section

set_option maxRecDepth 16384

noncomputable section

namespace Cert.OutFwd

open Cert.Norm Idealize.ShloMosaic Idealize.ShloMosaic.TcCoe Idealize.SL.Sem

/-- An entry of the stream after the normed row is added. -/
def added (x z g : Fin 1024 → EReal) (b : Fin 1024) : EReal := x b + z b * root z * g b

section
open Cert.Reference12Ideal Cert.Reference12Ideal.Gen Cert.Reference12Ideal.Read
theorem z_ref (o : FVec Ideal S4096x1024 .f32) (w : FVec Ideal S1024x1024 .f32) (a : Fin 4096) (b : Fin 1024) :
    val_main_v0 (F := Ideal) o w (ix2 a b) = ∑ k : Fin 1024, o (ix2 a k) * w (ix2 k b) := by
  pointwise [val_main_v0]

theorem o_ref (o : FVec Ideal S4096x1024 .f32) (w : FVec Ideal S1024x1024 .f32) (x : FVec Ideal S4096x1024 .f32) (g : FVec Ideal S1024 .f32) (a : Fin 4096) (b : Fin 1024) :
    val_main_v14 (F := Ideal) o w x g (ix2 a b) = added (fun k => x (ix2 a k)) (fun k => val_main_v0 (F := Ideal) o w (ix2 a k)) (fun k => g (ix1 k)) b := by
  unfold added root under
  simp only [val_main_v14, val_main_v13, val_main_v12, val_main_v11, val_main_v10, val_main_v9, val_main_v8, val_main_v7, val_main_v6, val_main_v5, val_main_v4, val_main_v3, val_main_v2, val_main_v1, val_main_cst, val_main_cst_0, val_main_cst_1]
  generalize val_main_v0 (F := Ideal) o w = z
  pointwise
end

section
open Cert.Kernel12Ideal Cert.Kernel12Ideal.Gen
open Idealize.ShloMosaic.Pipeline (Dat)

theorem z_pay (o : Vec Ideal S1024x1024 .bf16) (w : Vec Ideal S4x1x256x1024 .bf16) (a b : Fin 1024) :
    k0_pay1 (F := Ideal) o w (ix2 a b) = ∑ k : Fin 1024, o (ix2 a k) * w (ix4 ⟨k.val / 256, by omega⟩ 0 ⟨k.val % 256, by omega⟩ b) := by
  pointwise [k0_pay1]

theorem o_pay (z x : Vec Ideal S1024x1024 .f32) (g : Vec Ideal S1x1024 .f32) (a b : Fin 1024) :
    k0_pay3 (F := Ideal) z x g (ix2 a b) = added (fun k => x (ix2 a k)) (fun k => z (ix2 a k)) (fun k => g (ix2 0 k)) b := by
  unfold added root under
  pointwise [k0_pay3]

theorem idx : ∀ t : Fin cfg0.N, win0_0.index t = ![t.val, 0] ∧ win0_1.index t = ![0, 0, 0, 0] ∧ win0_2.index t = ![t.val, 0]
    ∧ win0_3.index t = ![0, 0] ∧ win0_4.index t = ![t.val, 0] ∧ win0_5.index t = ![t.val, 0] :=
  (by decide +kernel : ∀ t : Fin grid0.N, _)

variable (m : (ℓ : Loc nD τ sig) → Buf (Elt Ideal) ℓ)

/-- The array's row at a tile's row. -/
abbrev at_ (t : Fin cfg0.N) (a : Fin 1024) : Fin 4096 := ⟨1024 * (t.val) + a.val, by have := lt_of_lt_of_eq t.isLt N_0; omega⟩

theorem blk_x (c : Dev nD) (t : Fin cfg0.N) (r l : Fin 1024) :
    iblk m c 2 t (ix2 r l) = m ((c : Thread nD τ).loc main_arg2) (ix2 (at_ t r) l) := by
  blk_point [iblk, V, idx t]
theorem blk_g (c : Dev nD) (t : Fin cfg0.N) (l : Fin 1024) : iblk m c 3 t (ix2 (0 : Fin 1) l) = m ((c : Thread nD τ).loc main_arg3) (ix1 l) := by
  blk_point [iblk, V, idx t]
theorem blk_o (c : Dev nD) (t : Fin cfg0.N) (r l : Fin 1024) :
    iblk m c 0 t (ix2 r l) = m ((c : Thread nD τ).loc main_arg0) (ix2 (at_ t r) l) := by
  blk_point [iblk, V, idx t]
theorem blk_w (c : Dev nD) (t : Fin cfg0.N) (r l : Fin 1024) :
    iblk m c 1 t (ix4 (⟨r.val / 256, by omega⟩ : Fin 4) (0 : Fin 1) (⟨r.val % 256, by omega⟩ : Fin 256) l) = m ((c : Thread nD τ).loc main_arg1) (ix2 r l) := by
  blk_point [iblk, V, idx t]

/-- The product's rows in a tile. -/
abbrev rows (c : Dev nD) (t : Fin cfg0.N) : FVec Ideal S1024x1024 .f32 := k0_pay1 (F := Ideal) (iblk m c 0 t) (iblk m c 1 t)

theorem z_at (c : Dev nD) (t : Fin cfg0.N) : (outsAt0 m c t).1 = rows m c t := by
  simp only [outsAt0]; funext y; frame_out
theorem o_at (c : Dev nD) (t : Fin cfg0.N) : (outsAt0 m c t).2 = k0_pay3 (F := Ideal) (rows m c t) (iblk m c 2 t) (iblk m c 3 t) := by
  simp only [outsAt0]; funext y; frame_out

theorem rows_at (c : Dev nD) (t : Fin cfg0.N) (a b : Fin 1024) :
    rows m c t (ix2 a b) = Cert.Reference12Ideal.Read.val_main_v0 (F := Ideal) (m ((c : Thread nD τ).loc main_arg0)) (m ((c : Thread nD τ).loc main_arg1)) (ix2 (at_ t a) b) := by
  rw [rows, z_pay, z_ref]
  simp only [blk_o, blk_w]

/-- The product after the run. -/
theorem zout (c : Dev nD) : (dats m 0 c).arrAt 4 (cfgs 0).N = Cert.Reference12Ideal.Read.val_main_v0 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  revert y
  intro (y : S1024x1024.Idx)
  obtain ⟨a, b, rfl⟩ : ∃ (a b : Fin 1024), y = ix2 a b := ⟨y 0, y 1, eq_ix2 y⟩
  refine Eq.trans ?_ (congrArg _ (show ix2 (at_ t a) b = _ by blk_ext [idx t]))
  rw [z_at]
  exact rows_at m c t a b

/-- The stream after the run. -/
theorem oout (c : Dev nD) : (dats m 0 c).arrAt 5 (cfgs 0).N = Cert.Reference12Ideal.Read.val_main_v14 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  revert y
  intro (y : S1024x1024.Idx)
  obtain ⟨a, b, rfl⟩ : ∃ (a b : Fin 1024), y = ix2 a b := ⟨y 0, y 1, eq_ix2 y⟩
  refine Eq.trans ?_ (congrArg _ (show ix2 (at_ t a) b = _ by blk_ext [idx t]))
  rw [o_at, o_pay, o_ref]
  simp only [rows_at, blk_x, blk_g]
end

theorem algebraic : Cert.algebraic_Kernel12Ideal_Reference12Ideal := by
  pair_intro
  · run_from Cert.Kernel12Ideal.Value.run_blocks m g
  · run_from Cert.Reference12Ideal.Value.run m' g'
    · exact (zout m c).symm
    · exact (oout m c).symm

end Cert.OutFwd

end
-- ==== Proof.Proj.DownFwd.lean ====
/- The MLP's second product on squared entries, the norm behind it and the residual's addition: what the forward call leaves in its two arrays. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Norm
public import Idealize.ShloMosaic.Lib.Claim
public import Idealize.ShloMosaic.Lib.Pipeline.ReadBack

@[expose] public section

set_option maxRecDepth 16384

noncomputable section

namespace Cert.DownFwd

open Cert.Norm Idealize.ShloMosaic Idealize.ShloMosaic.TcCoe Idealize.SL.Sem

/-- An entry of the stream after the normed row is added. -/
def added (x z g : Fin 1024 → EReal) (b : Fin 1024) : EReal := x b + z b * root z * g b

section
open Cert.Reference13Ideal Cert.Reference13Ideal.Gen Cert.Reference13Ideal.Read
theorem z_ref (o : FVec Ideal S4096x4096 .f32) (w : FVec Ideal S4096x1024 .f32) (a : Fin 4096) (b : Fin 1024) :
    val_main_v1 (F := Ideal) o w (ix2 a b) = ∑ k : Fin 4096, (o (ix2 a k) * o (ix2 a k)) * w (ix2 k b) := by
  pointwise [val_main_v1, val_main_v0]

theorem o_ref (o : FVec Ideal S4096x4096 .f32) (w : FVec Ideal S4096x1024 .f32) (x : FVec Ideal S4096x1024 .f32) (g : FVec Ideal S1024 .f32) (a : Fin 4096) (b : Fin 1024) :
    val_main_v15 (F := Ideal) o w x g (ix2 a b) = added (fun k => x (ix2 a k)) (fun k => val_main_v1 (F := Ideal) o w (ix2 a k)) (fun k => g (ix1 k)) b := by
  unfold added root under
  simp only [val_main_v15, val_main_v14, val_main_v13, val_main_v12, val_main_v11, val_main_v10, val_main_v9, val_main_v8, val_main_v7, val_main_v6, val_main_v5, val_main_v4, val_main_v3, val_main_v2, val_main_cst, val_main_cst_0, val_main_cst_1]
  generalize val_main_v1 (F := Ideal) o w = z
  pointwise
end

section
open Cert.Kernel13Ideal Cert.Kernel13Ideal.Gen
open Idealize.ShloMosaic.Pipeline (Dat)

theorem z_pay (o : Vec Ideal S1024x1024 .bf16) (w : Vec Ideal S1x1x1024x1024 .bf16) (a b : Fin 1024) :
    k0_pay1 (F := Ideal) o w (ix2 a b) = ∑ k : Fin 1024, (o (ix2 a k) * o (ix2 a k)) * w (ix4 0 0 k b) := by
  pointwise [k0_pay1]

theorem z_add (o : Vec Ideal S1024x1024 .bf16) (w : Vec Ideal S1x1x1024x1024 .bf16) (v : Vec Ideal S1024x1024 .f32) (j : S1024x1024.Idx) :
    k0_pay2 (F := Ideal) o w v j = v j + k0_pay1 (F := Ideal) o w j := by
  obtain ⟨a, b, rfl⟩ : ∃ (a b : Fin 1024), j = ix2 a b := ⟨j 0, j 1, eq_ix2 j⟩
  rw [k0_pay2]
  generalize k0_pay1 (F := Ideal) o w = p
  pointwise

theorem o_pay (z x : Vec Ideal S1024x1024 .f32) (g : Vec Ideal S1x1024 .f32) (a b : Fin 1024) :
    k0_pay3 (F := Ideal) z x g (ix2 a b) = added (fun k => x (ix2 a k)) (fun k => z (ix2 a k)) (fun k => g (ix2 0 k)) b := by
  unfold added root under
  pointwise [k0_pay3]

theorem idx : ∀ t : Fin cfg0.N, win0_0.index t = ![t.val / 4, t.val % 4] ∧ win0_1.index t = ![t.val % 4, 0, 0, 0] ∧ win0_2.index t = ![t.val / 4, 0]
    ∧ win0_3.index t = ![0, 0] ∧ win0_4.index t = ![t.val / 4, 0] ∧ win0_5.index t = ![t.val / 4, 0] :=
  (by decide +kernel : ∀ t : Fin grid0.N, _)

variable (m : (ℓ : Loc nD τ sig) → Buf (Elt Ideal) ℓ)

/-- The array's row at a tile's row. -/
abbrev at_ (t : Fin cfg0.N) (a : Fin 1024) : Fin 4096 := ⟨1024 * (t.val / 4) + a.val, by have := lt_of_lt_of_eq t.isLt N_0; omega⟩

theorem blk_x (c : Dev nD) (t : Fin cfg0.N) (r l : Fin 1024) :
    iblk m c 2 t (ix2 r l) = m ((c : Thread nD τ).loc main_arg2) (ix2 (at_ t r) l) := by
  blk_point [iblk, V, idx t]
theorem blk_g (c : Dev nD) (t : Fin cfg0.N) (l : Fin 1024) : iblk m c 3 t (ix2 (0 : Fin 1) l) = m ((c : Thread nD τ).loc main_arg3) (ix1 l) := by
  blk_point [iblk, V, idx t]
theorem blk_o (c : Dev nD) (t : Fin cfg0.N) (r l : Fin 1024) :
    iblk m c 0 t (ix2 r l) = m ((c : Thread nD τ).loc main_arg0) (ix2 (at_ t r) (⟨1024 * (t.val % 4) + l.val, by omega⟩ : Fin 4096)) := by
  blk_point [iblk, V, idx t]
theorem blk_w (c : Dev nD) (t : Fin cfg0.N) (r l : Fin 1024) :
    iblk m c 1 t (ix4 (0 : Fin 1) (0 : Fin 1) r l) = m ((c : Thread nD τ).loc main_arg1) (ix2 (⟨1024 * (t.val % 4) + r.val, by omega⟩ : Fin 4096) l) := by
  blk_point [iblk, V, idx t]

/-- What a point adds to the product's rows. -/
abbrev part (c : Dev nD) (t : Fin cfg0.N) : FVec Ideal S1024x1024 .f32 := k0_pay1 (F := Ideal) (iblk m c 0 t) (iblk m c 1 t)

theorem z_at (c : Dev nD) (t : Fin cfg0.N) (h : t.val % 4 = 3) (j : S1024x1024.Idx) :
    (outsAt0 m c t.val t.isLt).1 j = ∑ s : Fin 4, part m c ⟨4 * (t.val / 4) + s.val, by have := lt_of_lt_of_eq t.isLt N_0; have := N_0; omega⟩ j := by
  rw [Pipeline.eq_sum_fin_of_reset_step_apply_of_flush (fun n h => (outsAt0 m c n h).1) 4 (fun _ => 0) (fun t j => part m c t j)
    (fun t h j => by
      rw [outsAt0_A m c t h (by omega) (by omega), zero_add]; frame_out)
    (fun t h j => by
      by_cases e : t.val % 4 = 3
      · rw [outsAt0_C m c t h (by omega) e]; frame_out; rw [z_add]
      · rw [outsAt0_B m c t h (by omega) e]; frame_out; rw [z_add]) t h j, zero_add]

theorem o_at (c : Dev nD) (t : Fin cfg0.N) (h : t.val % 4 = 3) :
    (outsAt0 m c t.val t.isLt).2 = k0_pay3 (F := Ideal) ((outsAt0 m c t.val t.isLt).1) (iblk m c 2 t) (iblk m c 3 t) := by
  rw [outsAt0_C m c t (by omega) (by omega) h]
  funext y
  frame_out

theorem rows_at (c : Dev nD) (t : Fin cfg0.N) (h : t.val % 4 = 3) (a b : Fin 1024) :
    (outsAt0 m c t.val t.isLt).1 (ix2 a b) = Cert.Reference13Ideal.Read.val_main_v1 (F := Ideal) (m ((c : Thread nD τ).loc main_arg0)) (m ((c : Thread nD τ).loc main_arg1)) (ix2 (at_ t a) b) := by
  rw [z_at m c t h, z_ref]
  simp only [part, z_pay, blk_o, blk_w]
  refine Fin.sum_mul_add_congr fun s k hl => ?_
  have e1 : (4 * (t.val / 4) + s.val) / 4 = t.val / 4 := by omega
  have e2 : (4 * (t.val / 4) + s.val) % 4 = s.val := by omega
  simp only [at_, e1, e2, Nat.mul_comm s.val 1024]

/-- The product after the run. -/
theorem zout (c : Dev nD) : (dats m 0 c).arrAt 4 (cfgs 0).N = Cert.Reference13Ideal.Read.val_main_v1 (F := Ideal) (m ((c : Thread nD τ).loc main_arg0)) (m ((c : Thread nD τ).loc main_arg1)) := by
  refine (dats m 0 c).arrAt_eq_of_covers 4 _ (by decide +kernel) fun t hf y => ?_
  have h3 : t.val % 4 = 3 := (flush0_4 t).mp hf
  blk_simp
  rw [after0_4]
  revert y
  intro (y : S1024x1024.Idx)
  obtain ⟨a, b, rfl⟩ : ∃ (a b : Fin 1024), y = ix2 a b := ⟨y 0, y 1, eq_ix2 y⟩
  refine Eq.trans ?_ (congrArg _ (show ix2 (at_ t a) b = _ by blk_ext [idx t]))
  exact rows_at m c t h3 a b

/-- The stream after the run. -/
theorem oout (c : Dev nD) : (dats m 0 c).arrAt 5 (cfgs 0).N = Cert.Reference13Ideal.Read.val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h3 : t.val % 4 = 3 := (flush0_5 t).mp hf
  blk_simp
  rw [after0_5]
  revert y
  intro (y : S1024x1024.Idx)
  obtain ⟨a, b, rfl⟩ : ∃ (a b : Fin 1024), y = ix2 a b := ⟨y 0, y 1, eq_ix2 y⟩
  refine Eq.trans ?_ (congrArg _ (show ix2 (at_ t a) b = _ by blk_ext [idx t]))
  rw [o_at m c t h3, o_pay, o_ref]
  simp only [rows_at m c t h3, blk_x, blk_g]
end

theorem algebraic : Cert.algebraic_Kernel13Ideal_Reference13Ideal := by
  pair_intro
  · run_from Cert.Kernel13Ideal.Value.run_blocks m g
  · run_from Cert.Reference13Ideal.Value.run m' g'
    · exact (zout m c).symm
    · exact (oout m c).symm

end Cert.DownFwd

end
-- ==== Proof.Adam.lean ====
/- One step of the optimiser: the kernel's four arrays are the reference's. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Reals
public import Idealize.ShloMosaic.Lib.Claim
public import Idealize.ShloMosaic.Lib.Pipeline.ReadBack

@[expose] public section

set_option maxRecDepth 16384

noncomputable section

namespace Cert.Adam

open Idealize.ShloMosaic Idealize.ShloMosaic.TcCoe Idealize.SL.Sem

/-- The new mean of an entry's gradients. -/
def mean (m a b : EReal) : EReal := Ideal.ofBits .f32 0x3F666666#32 * m + Ideal.ofBits .f32 0x3DCCCCCD#32 * (a + b)

/-- The new mean of their squares. -/
def square (v a b : EReal) : EReal := Ideal.ofBits .f32 0x3F7FBE77#32 * v + Ideal.ofBits .f32 0x3A83126F#32 * ((a + b) * (a + b))

/-- The entry's step. -/
def step (w m v a b : EReal) : EReal :=
  Ideal.ofBits .f32 0xBA83126F#32 * (Ideal.div (Ideal.div (mean m a b) (Ideal.ofBits .f32 0x3F26BD02#32))
    (Ideal.sqrt (Ideal.div (square v a b) (Ideal.ofBits .f32 0x3C231ACC#32)) + Ideal.ofBits .f32 0x322BCC77#32) + Ideal.ofBits .f32 0x3C23D70A#32 * w)

section
open Cert.Reference14Ideal Cert.Reference14Ideal.Gen Cert.Reference14Ideal.Read
variable (w m v a b : FVec Ideal S1024x512 .f32) (i : Fin 1024) (j : Fin 512)
theorem g_ref : val_main_v0 (F := Ideal) a b (ix2 i j) = a (ix2 i j) + b (ix2 i j) := rfl
theorem mean_ref : val_main_v5 (F := Ideal) m a b (ix2 i j) = mean (m (ix2 i j)) (a (ix2 i j)) (b (ix2 i j)) := by
  unfold mean
  pointwise [val_main_v5, val_main_v4, val_main_v3, val_main_v2, val_main_v1, val_main_v0, val_main_cst, val_main_cst_0]
theorem square_ref : val_main_v11 (F := Ideal) v a b (ix2 i j) = square (v (ix2 i j)) (a (ix2 i j)) (b (ix2 i j)) := by
  unfold square
  pointwise [val_main_v11, val_main_v10, val_main_v9, val_main_v8, val_main_v7, val_main_v6, val_main_v0, val_main_cst_1, val_main_cst_2]
theorem step_ref : val_main_v24 (F := Ideal) w m v a b (ix2 i j) = step (w (ix2 i j)) (m (ix2 i j)) (v (ix2 i j)) (a (ix2 i j)) (b (ix2 i j)) := by
  rw [step, ← mean_ref, ← square_ref]
  rw [val_main_v24, val_main_v23, val_main_v22, val_main_v21, val_main_v20, val_main_v19, val_main_v18, val_main_v17, val_main_v16, val_main_v15, val_main_v14,
    val_main_v13, val_main_v12, val_main_cst_3, val_main_cst_4, val_main_cst_5, val_main_cst_6, val_main_cst_7]
  generalize val_main_v5 (F := Ideal) m a b = x
  generalize val_main_v11 (F := Ideal) v a b = y
  pointwise
end

section
open Cert.Kernel14Ideal Cert.Kernel14Ideal.Gen
open Idealize.ShloMosaic.Pipeline (Dat)

section
variable (w m v : Vec Ideal S512x512 .f32) (a b : Vec Ideal S512x512 .bf16) (i j : Fin 512)
theorem g_pay : k0_pay1 (F := Ideal) a b (ix2 i j) = a (ix2 i j) + b (ix2 i j) := by pointwise [k0_pay1]
theorem mean_pay : k0_pay2 (F := Ideal) a b m (ix2 i j) = mean (m (ix2 i j)) (a (ix2 i j)) (b (ix2 i j)) := by
  rw [mean, ← g_pay, k0_pay2]
  generalize k0_pay1 (F := Ideal) a b = x
  pointwise
theorem square_pay : k0_pay3 (F := Ideal) a b v (ix2 i j) = square (v (ix2 i j)) (a (ix2 i j)) (b (ix2 i j)) := by
  rw [square, ← g_pay, k0_pay3]
  generalize k0_pay1 (F := Ideal) a b = x
  pointwise
theorem step_pay : k0_pay4 (F := Ideal) a b m v w (ix2 i j) = step (w (ix2 i j)) (m (ix2 i j)) (v (ix2 i j)) (a (ix2 i j)) (b (ix2 i j)) := by
  rw [step, ← mean_pay, ← square_pay, k0_pay4]
  generalize k0_pay2 (F := Ideal) a b m = x
  generalize k0_pay3 (F := Ideal) a b v = y
  pointwise
end

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ)

/-- The arguments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)

/-- The array's row at a tile's row. -/
abbrev at_ (t : Fin cfg0.N) (a : Fin 512) : Fin 1024 := ⟨512 * t.val + a.val, by have := lt_of_lt_of_eq t.isLt N_0; omega⟩

theorem blk0 (c : Dev nD) (t : Fin cfg0.N) (i j : Fin 512) : iblk m c 0 t (ix2 i j) = A0 m c (ix2 (at_ t i) j) := by
  blk_point [iblk, V, idx t]
theorem blk1 (c : Dev nD) (t : Fin cfg0.N) (i j : Fin 512) : iblk m c 1 t (ix2 i j) = A1 m c (ix2 (at_ t i) j) := by
  blk_point [iblk, V, idx t]
theorem blk2 (c : Dev nD) (t : Fin cfg0.N) (i j : Fin 512) : iblk m c 2 t (ix2 i j) = A2 m c (ix2 (at_ t i) j) := by
  blk_point [iblk, V, idx t]
theorem blk3 (c : Dev nD) (t : Fin cfg0.N) (i j : Fin 512) : iblk m c 3 t (ix2 i j) = A3 m c (ix2 (at_ t i) j) := by
  blk_point [iblk, V, idx t]
theorem blk4 (c : Dev nD) (t : Fin cfg0.N) (i j : Fin 512) : iblk m c 4 t (ix2 i j) = A4 m c (ix2 (at_ t i) j) := by
  blk_point [iblk, V, idx t]

theorem g_out (c : Dev nD) : (dats m 0 c).arrAt 5 (cfgs 0).N = Cert.Reference14Ideal.Read.val_main_v0 (F := Ideal) (A3 m c) (A4 m c) := by
  refine (dats m 0 c).arrAt_eq_of_covers 5 _ (by decide +kernel) fun t hf y => ?_
  blk_simp
  rw [after0_5, out0_5]
  revert y
  intro (y : S512x512.Idx)
  obtain ⟨i, j, rfl⟩ : ∃ i j : Fin 512, y = ix2 i j := ⟨y 0, y 1, eq_ix2 y⟩
  refine Eq.trans ?_ (congrArg _ (show ix2 (at_ t i) j = _ by blk_ext [idx t]))
  frame_out
  rw [g_pay, g_ref, blk3, blk4]

theorem step_out (c : Dev nD) : (dats m 0 c).arrAt 6 (cfgs 0).N = Cert.Reference14Ideal.Read.val_main_v24 (F := Ideal) (A0 m c) (A1 m c) (A2 m c) (A3 m c) (A4 m c) := by
  refine (dats m 0 c).arrAt_eq_of_covers 6 _ (by decide +kernel) fun t hf y => ?_
  blk_simp
  rw [after0_6, out0_6]
  revert y
  intro (y : S512x512.Idx)
  obtain ⟨i, j, rfl⟩ : ∃ i j : Fin 512, y = ix2 i j := ⟨y 0, y 1, eq_ix2 y⟩
  refine Eq.trans ?_ (congrArg _ (show ix2 (at_ t i) j = _ by blk_ext [idx t]))
  frame_out
  rw [step_pay, step_ref, blk0, blk1, blk2, blk3, blk4]

theorem mean_out (c : Dev nD) : (dats m 0 c).arrAt 7 (cfgs 0).N = Cert.Reference14Ideal.Read.val_main_v5 (F := Ideal) (A1 m c) (A3 m c) (A4 m c) := by
  refine (dats m 0 c).arrAt_eq_of_covers 7 _ (by decide +kernel) fun t hf y => ?_
  blk_simp
  rw [after0_7, out0_7]
  revert y
  intro (y : S512x512.Idx)
  obtain ⟨i, j, rfl⟩ : ∃ i j : Fin 512, y = ix2 i j := ⟨y 0, y 1, eq_ix2 y⟩
  refine Eq.trans ?_ (congrArg _ (show ix2 (at_ t i) j = _ by blk_ext [idx t]))
  frame_out
  rw [mean_pay, mean_ref, blk1, blk3, blk4]

theorem square_out (c : Dev nD) : (dats m 0 c).arrAt 8 (cfgs 0).N = Cert.Reference14Ideal.Read.val_main_v11 (F := Ideal) (A2 m c) (A3 m c) (A4 m c) := by
  refine (dats m 0 c).arrAt_eq_of_covers 8 _ (by decide +kernel) fun t hf y => ?_
  blk_simp
  rw [after0_8, out0_8]
  revert y
  intro (y : S512x512.Idx)
  obtain ⟨i, j, rfl⟩ : ∃ i j : Fin 512, y = ix2 i j := ⟨y 0, y 1, eq_ix2 y⟩
  refine Eq.trans ?_ (congrArg _ (show ix2 (at_ t i) j = _ by blk_ext [idx t]))
  frame_out
  rw [square_pay, square_ref, blk2, blk3, blk4]
end

theorem algebraic : Cert.algebraic_Kernel14Ideal_Reference14Ideal := by
  pair_intro
  · run_from Cert.Kernel14Ideal.Value.run_blocks m g
  · run_from Cert.Reference14Ideal.Value.run m' g'
    · exact (g_out m c).symm
    · exact (step_out m c).symm
    · exact (mean_out m c).symm
    · exact (square_out m c).symm

/-! The small parameters' rows, at one grid point with one part of the gradient. -/

section
open Cert.Kernel19Ideal Cert.Kernel19Ideal.Gen Cert.Reference19Ideal.Read
variable (w m v g : FVec Ideal S24x1024 .f32)

theorem small_mean : k0_pay1 (F := Ideal) g m = val_main_v4 (F := Ideal) m g := by
  funext y
  revert y
  intro (y : S24x1024.Idx)
  obtain ⟨i, j, rfl⟩ : ∃ (i : Fin 24) (j : Fin 1024), y = ix2 i j := ⟨y 0, y 1, eq_ix2 y⟩
  pointwise [k0_pay1, val_main_v4, val_main_v3, val_main_v2, val_main_v1, val_main_v0, val_main_cst, val_main_cst_0]
theorem small_square : k0_pay2 (F := Ideal) g v = val_main_v10 (F := Ideal) v g := by
  funext y
  revert y
  intro (y : S24x1024.Idx)
  obtain ⟨i, j, rfl⟩ : ∃ (i : Fin 24) (j : Fin 1024), y = ix2 i j := ⟨y 0, y 1, eq_ix2 y⟩
  pointwise [k0_pay2, val_main_v10, val_main_v9, val_main_v8, val_main_v7, val_main_v6, val_main_v5, val_main_cst_1, val_main_cst_2]
theorem small_step : k0_pay3 (F := Ideal) g m v w = val_main_v23 (F := Ideal) w m v g := by
  rw [k0_pay3, small_mean, small_square, val_main_v23, val_main_v22, val_main_v21, val_main_v20, val_main_v19, val_main_v18, val_main_v17, val_main_v16, val_main_v15, val_main_v14,
    val_main_v13, val_main_v12, val_main_v11, val_main_cst_3, val_main_cst_4, val_main_cst_5, val_main_cst_6, val_main_cst_7]
  generalize val_main_v4 (F := Ideal) m g = x
  generalize val_main_v10 (F := Ideal) v g = z
  funext y
  revert y
  intro (y : S24x1024.Idx)
  obtain ⟨i, j, rfl⟩ : ∃ (i : Fin 24) (j : Fin 1024), y = ix2 i j := ⟨y 0, y 1, eq_ix2 y⟩
  pointwise
end

theorem small_algebraic : Cert.algebraic_Kernel19Ideal_Reference19Ideal := by
  pair_intro
  · run_from Cert.Kernel19Ideal.Value.run m g
  · run_from Cert.Reference19Ideal.Value.run m' g'
    · exact (small_step _ _ _ _).symm
    · exact (small_mean _ _).symm
    · exact (small_square _ _).symm

end Cert.Adam

end
-- ==== Proof.Sums.lean ====
/- The sum over the devices' rows, and the two sums put side by side: the kernels' arrays are the references'. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Reals
public import Idealize.ShloMosaic.Lib.Claim
public import Idealize.ShloMosaic.Lib.Pipeline.ReadBack

@[expose] public section

set_option maxRecDepth 16384

noncomputable section

namespace Cert.Sums

open Idealize.ShloMosaic Idealize.ShloMosaic.TcCoe Idealize.SL.Sem

section
open Cert.Kernel15Ideal Cert.Kernel15Ideal.Gen
open Idealize.ShloMosaic.Pipeline (Dat)

/-- An entry of the two sums put side by side. -/
theorem cols_ref (a b c d : FVec Ideal Cert.Reference15Ideal.S4096x1024 .f32) (i : Fin 4096) (j : Fin 2048) :
    Cert.Reference15Ideal.Read.val_main_v3 (F := Ideal) a b c d (ix2 i j)
      = if h : j.val < 1024 then a (ix2 i ⟨j.val, h⟩) + c (ix2 i ⟨j.val, h⟩) else b (ix2 i ⟨j.val - 1024, by omega⟩) + d (ix2 i ⟨j.val - 1024, by omega⟩) := by
  pointwise [Cert.Reference15Ideal.Read.val_main_v3, Cert.Reference15Ideal.Read.val_main_v2, Cert.Reference15Ideal.Read.val_main_v1, Cert.Reference15Ideal.Read.val_main_v0]

theorem left (a b : Vec Ideal S512x1024 .f32) (i : Fin 512) (j : Fin 1024) : k0_pay1 (F := Ideal) a b (ix2 i j) = a (ix2 i j) + b (ix2 i j) := by pointwise [k0_pay1]
theorem right (a b : Vec Ideal S512x1024 .f32) (i : Fin 512) (j : Fin 1024) : k0_pay2 (F := Ideal) a b (ix2 i j) = a (ix2 i j) + b (ix2 i j) := by pointwise [k0_pay2]

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] :=
  (by decide +kernel : ∀ t : Fin grid0.N, _)

variable (m : (ℓ : Loc nD τ sig) → Buf (Elt Ideal) ℓ)

/-- The array's row at a tile's row. -/
abbrev at_ (t : Fin cfg0.N) (a : Fin 512) : Fin 4096 := ⟨512 * t.val + a.val, by have := lt_of_lt_of_eq t.isLt N_0; omega⟩

theorem blk0 (c : Dev nD) (t : Fin cfg0.N) (i : Fin 512) (j : Fin 1024) : iblk m c 0 t (ix2 i j) = m ((c : Thread nD τ).loc main_arg0) (ix2 (at_ t i) j) := by
  blk_point [iblk, V, idx t]
theorem blk1 (c : Dev nD) (t : Fin cfg0.N) (i : Fin 512) (j : Fin 1024) : iblk m c 1 t (ix2 i j) = m ((c : Thread nD τ).loc main_arg1) (ix2 (at_ t i) j) := by
  blk_point [iblk, V, idx t]
theorem blk2 (c : Dev nD) (t : Fin cfg0.N) (i : Fin 512) (j : Fin 1024) : iblk m c 2 t (ix2 i j) = m ((c : Thread nD τ).loc main_arg2) (ix2 (at_ t i) j) := by
  blk_point [iblk, V, idx t]
theorem blk3 (c : Dev nD) (t : Fin cfg0.N) (i : Fin 512) (j : Fin 1024) : iblk m c 3 t (ix2 i j) = m ((c : Thread nD τ).loc main_arg3) (ix2 (at_ t i) j) := by
  blk_point [iblk, V, idx t]

theorem cols_out (c : Dev nD) : (dats m 0 c).arrAt 4 (cfgs 0).N = Cert.Reference15Ideal.Read.val_main_v3 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, out0_4]
  revert y
  intro (y : S512x2048.Idx)
  obtain ⟨i, j, rfl⟩ : ∃ (i : Fin 512) (j : Fin 2048), y = ix2 i j := ⟨y 0, y 1, eq_ix2 y⟩
  refine Eq.trans ?_ (congrArg _ (show ix2 (at_ t i) j = _ by blk_ext [idx t]))
  rw [cols_ref]
  canon_tiles x h
  · obtain ⟨p, q, rfl⟩ : ∃ (p : Fin 512) (q : Fin 1024), x = ix2 p q := ⟨x 0, x 1, eq_ix2 x⟩
    obtain rfl : i = p := Fin.ext h0
    have e : j.val = 1024 + q.val := h1
    frame_out
    rw [right, blk1, blk3, dif_neg (by omega), show (⟨j.val - 1024, by omega⟩ : Fin 1024) = q from Fin.ext (by dsimp only; omega)]
  · obtain ⟨p, q, rfl⟩ : ∃ (p : Fin 512) (q : Fin 1024), x = ix2 p q := ⟨x 0, x 1, eq_ix2 x⟩
    obtain rfl : i = p := Fin.ext h0
    have e : j.val = q.val := h1
    have l : j.val < 1024 := by omega
    frame_out
    rw [left, blk0, blk2, dif_pos l, show (⟨j.val, l⟩ : Fin 1024) = q from Fin.ext e]
end

theorem cols_algebraic : Cert.algebraic_Kernel15Ideal_Reference15Ideal := by
  pair_intro
  · run_from Cert.Kernel15Ideal.Value.run_blocks m g
  · run_from Cert.Reference15Ideal.Value.run m' g'
    rw [(hagree c).2.2.2]
    exact (cols_out m c).symm

section
open Cert.Kernel16Ideal Cert.Kernel16Ideal.Gen
theorem devices_out (x : FVec Ideal S8x24x1024 .f32) : Cert.Kernel16Ideal.Value.G1 (F := Ideal) x = Cert.Reference16Ideal.Read.val_main_v0 (F := Ideal) x := by
  funext y
  revert y
  intro (y : S24x1024.Idx)
  obtain ⟨i, j, rfl⟩ : ∃ (i : Fin 24) (j : Fin 1024), y = ix2 i j := ⟨y 0, y 1, eq_ix2 y⟩
  pointwise [Cert.Reference16Ideal.Read.val_main_v0, Cert.Reference16Ideal.Read.val_main_cst]
  rw [Fin.sum_univ_eight]
  pointwise [Cert.Kernel16Ideal.Value.G1, k0_pay1]
end

theorem devices_algebraic : Cert.algebraic_Kernel16Ideal_Reference16Ideal := by
  pair_intro
  · run_from Cert.Kernel16Ideal.Value.run m g
  · exact (θ_run Cert.Reference16Ideal.defs _ _).mono (fun r h c => ⟨(h c).1.trans ((congrArg (Cert.Reference16Ideal.Read.val_main_v0 (F := Ideal)) (hagree c)).trans
      (devices_out _).symm), (h c).2⟩) (Cert.Reference16Ideal.Value.run m' g')

end Cert.Sums

end
-- ==== Proof.Proj.Weights.lean ====
/- Two products of the weights' gradients, the second with its first factor squared: the kernels' arrays are the references'. -/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Reals
public import Idealize.ShloMosaic.Lib.Claim
public import Idealize.ShloMosaic.Lib.Pipeline.ReadBack

@[expose] public section

set_option maxRecDepth 16384

noncomputable section

namespace Cert.Weights

open Idealize.ShloMosaic Idealize.ShloMosaic.TcCoe Idealize.SL.Sem

namespace Up
open Cert.Kernel17Ideal Cert.Kernel17Ideal.Gen
open Idealize.ShloMosaic.Pipeline (Dat)

theorem w_ref (a : FVec Ideal Cert.Reference17Ideal.S4096x1024 .f32) (b : FVec Ideal Cert.Reference17Ideal.S4096x4096 .f32) (t : Fin 4) (i j : Fin 1024) :
    Cert.Reference17Ideal.Read.val_main_v4 (F := Ideal) a b (ix3 t i j) = ∑ k : Fin 4096, a (ix2 k i) * b (ix2 k ⟨t.val * 1024 + j.val, by omega⟩) := by
  pointwise [Cert.Reference17Ideal.Read.val_main_v4, Cert.Reference17Ideal.Read.val_main_v3, Cert.Reference17Ideal.Read.val_main_v2, Cert.Reference17Ideal.Read.val_main_v1, Cert.Reference17Ideal.Read.val_main_v0]

theorem prod (a b : Vec Ideal S4096x1024 .bf16) (i j : Fin 1024) : k0_pay1 (F := Ideal) a b (ix2 i j) = ∑ k : Fin 4096, a (ix2 k i) * b (ix2 k j) := by pointwise [k0_pay1]
theorem pay (a b : Vec Ideal S4096x1024 .bf16) (z : Fin 1) (i j : Fin 1024) :
    k0_pay4 (F := Ideal) (k0_pay2 (F := Ideal) a b) (ix3 z i j) = ∑ k : Fin 4096, a (ix2 k i) * b (ix2 k j) := by
  rw [← prod, k0_pay4, k0_pay2]
  generalize k0_pay1 (F := Ideal) a b = x
  pointwise

theorem idx : ∀ t : Fin cfg0.N, win0_0.index t = ![0, 0] ∧ win0_1.index t = ![0, t.val] ∧ win0_2.index t = ![t.val, 0, 0] :=
  (by decide +kernel : ∀ t : Fin grid0.N, _)

variable (m : (ℓ : Loc nD τ sig) → Buf (Elt Ideal) ℓ)

/-- The array's column at a tile's column. -/
abbrev at_ (t : Fin cfg0.N) (a : Fin 1024) : Fin 4096 := ⟨t.val * 1024 + a.val, by have := lt_of_lt_of_eq t.isLt N_0; omega⟩

theorem blk_a (c : Dev nD) (t : Fin cfg0.N) (k : Fin 4096) (i : Fin 1024) : iblk m c 0 t (ix2 k i) = m ((c : Thread nD τ).loc main_arg0) (ix2 k i) := by
  blk_point [iblk, V, idx t]
theorem blk_b (c : Dev nD) (t : Fin cfg0.N) (k : Fin 4096) (i : Fin 1024) : iblk m c 1 t (ix2 k i) = m ((c : Thread nD τ).loc main_arg1) (ix2 k (at_ t i)) := by
  blk_point [iblk, V, idx t]

theorem out (c : Dev nD) : (dats m 0 c).arrAt 2 (cfgs 0).N = Cert.Reference17Ideal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, outsAt0]
  revert y
  intro (y : S1x1024x1024.Idx)
  obtain ⟨z, i, j, rfl⟩ : ∃ (z : Fin 1) (i j : Fin 1024), y = ix3 z i j := ⟨y 0, y 1, y 2, eq_ix3 y⟩
  have hN : t.val < 4 := lt_of_lt_of_eq t.isLt N_0
  refine Eq.trans ?_ (congrArg _ (show ix3 (⟨t.val, hN⟩ : Fin 4) i j = _ by blk_ext [idx t]))
  rw [w_ref]
  frame_out
  rw [pay]
  simp only [blk_a, blk_b]

theorem algebraic : Cert.algebraic_Kernel17Ideal_Reference17Ideal := by
  pair_intro
  · run_from Cert.Kernel17Ideal.Value.run_blocks m g
  · run_from Cert.Reference17Ideal.Value.run m' g'
    exact (out m c).symm
end Up

namespace Down
open Cert.Kernel18Ideal Cert.Kernel18Ideal.Gen
open Idealize.ShloMosaic.Pipeline (Dat)

theorem w_ref (a : FVec Ideal Cert.Reference18Ideal.S4096x4096 .f32) (b : FVec Ideal Cert.Reference18Ideal.S4096x1024 .f32) (t : Fin 4) (i j : Fin 1024) :
    Cert.Reference18Ideal.Read.val_main_v4 (F := Ideal) a b (ix3 t i j) = ∑ k : Fin 4096, (a (ix2 k ⟨t.val * 1024 + i.val, by omega⟩) * a (ix2 k ⟨t.val * 1024 + i.val, by omega⟩)) * b (ix2 k j) := by
  pointwise [Cert.Reference18Ideal.Read.val_main_v4, Cert.Reference18Ideal.Read.val_main_v3, Cert.Reference18Ideal.Read.val_main_v2, Cert.Reference18Ideal.Read.val_main_v1, Cert.Reference18Ideal.Read.val_main_v0]

theorem prod (a b : Vec Ideal S4096x1024 .bf16) (i j : Fin 1024) : k0_pay1 (F := Ideal) a b (ix2 i j) = ∑ k : Fin 4096, (a (ix2 k i) * a (ix2 k i)) * b (ix2 k j) := by pointwise [k0_pay1]
theorem pay (a b : Vec Ideal S4096x1024 .bf16) (z : Fin 1) (i j : Fin 1024) :
    k0_pay4 (F := Ideal) (k0_pay2 (F := Ideal) a b) (ix3 z i j) = ∑ k : Fin 4096, (a (ix2 k i) * a (ix2 k i)) * b (ix2 k j) := by
  rw [← prod, k0_pay4, k0_pay2]
  generalize k0_pay1 (F := Ideal) a b = x
  pointwise

theorem idx : ∀ t : Fin cfg0.N, win0_0.index t = ![0, t.val] ∧ win0_1.index t = ![0, 0] ∧ win0_2.index t = ![t.val, 0, 0] :=
  (by decide +kernel : ∀ t : Fin grid0.N, _)

variable (m : (ℓ : Loc nD τ sig) → Buf (Elt Ideal) ℓ)

/-- The array's column at a tile's column. -/
abbrev at_ (t : Fin cfg0.N) (a : Fin 1024) : Fin 4096 := ⟨t.val * 1024 + a.val, by have := lt_of_lt_of_eq t.isLt N_0; omega⟩

theorem blk_a (c : Dev nD) (t : Fin cfg0.N) (k : Fin 4096) (i : Fin 1024) : iblk m c 0 t (ix2 k i) = m ((c : Thread nD τ).loc main_arg0) (ix2 k (at_ t i)) := by
  blk_point [iblk, V, idx t]
theorem blk_b (c : Dev nD) (t : Fin cfg0.N) (k : Fin 4096) (i : Fin 1024) : iblk m c 1 t (ix2 k i) = m ((c : Thread nD τ).loc main_arg1) (ix2 k i) := by
  blk_point [iblk, V, idx t]

theorem out (c : Dev nD) : (dats m 0 c).arrAt 2 (cfgs 0).N = Cert.Reference18Ideal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, outsAt0]
  revert y
  intro (y : S1x1024x1024.Idx)
  obtain ⟨z, i, j, rfl⟩ : ∃ (z : Fin 1) (i j : Fin 1024), y = ix3 z i j := ⟨y 0, y 1, y 2, eq_ix3 y⟩
  have hN : t.val < 4 := lt_of_lt_of_eq t.isLt N_0
  refine Eq.trans ?_ (congrArg _ (show ix3 (⟨t.val, hN⟩ : Fin 4) i j = _ by blk_ext [idx t]))
  rw [w_ref]
  frame_out
  rw [pay]
  simp only [blk_a, blk_b]

theorem algebraic : Cert.algebraic_Kernel18Ideal_Reference18Ideal := by
  pair_intro
  · run_from Cert.Kernel18Ideal.Value.run_blocks m g
  · run_from Cert.Reference18Ideal.Value.run m' g'
    exact (out m c).symm
end Down

end Cert.Weights

end
-- ==== Proof.lean ====
/- The claims: the loss, the attention and its gradient, the norms with what surrounds them and their gradients, the optimiser, the sums and two gradients of weights. -/
module

public import proofs.«01_k».proof.Defs
public import proofs.«01_k».proof.Proof.Gen.Kernel.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Down.Frame
public import proofs.«01_k».proof.Proof.Down.Bits
public import proofs.«01_k».proof.Proof.Gen.Pre_finite_qkv
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Pre_finite
public import proofs.«01_k».proof.Proof.Gen.Pre_finite_window
public import proofs.«01_k».proof.Proof.Gen.Pre_finite_up
public import proofs.«01_k».proof.Proof.Gen.Pre_finite_kv
public import proofs.«01_k».proof.Proof.Gen.Pre_finite_q
public import proofs.«01_k».proof.Proof.Gen.Pre_finite_o
public import proofs.«01_k».proof.Proof.Gen.Pre_finite_maps
public import proofs.«01_k».proof.Proof.Gen.Pre_finite_down
public import proofs.«01_k».proof.Proof.Loss
public import proofs.«01_k».proof.Proof.Sba.Frame
public import proofs.«01_k».proof.Proof.SbaBits.Frame
public import proofs.«01_k».proof.Proof.Sba.Value
public import proofs.«01_k».proof.Proof.Pool.Value
public import proofs.«01_k».proof.Proof.Proj.Up
public import proofs.«01_k».proof.Proof.Proj.KeyVal
public import proofs.«01_k».proof.Proof.Proj.Query
public import proofs.«01_k».proof.Proof.Proj.Out
public import proofs.«01_k».proof.Proof.Pool.Maps
public import proofs.«01_k».proof.Proof.Proj.Down
public import proofs.«01_k».proof.Proof.Fwd.Frame
public import proofs.«01_k».proof.Proof.FwdBits.Frame
public import proofs.«01_k».proof.Proof.Fwd.Value
public import proofs.«01_k».proof.Proof.Proj.QueryFwd
public import proofs.«01_k».proof.Proof.Proj.OutFwd
public import proofs.«01_k».proof.Proof.Proj.DownFwd
public import proofs.«01_k».proof.Proof.Adam
public import proofs.«01_k».proof.Proof.Sums
public import proofs.«01_k».proof.Proof.Proj.Weights
public import Idealize.ShloMosaic.Lib.Claim
public import Idealize.ShloMosaic.Adequacy
public import Idealize.ShloMosaic.Init

@[expose] public section

noncomputable section

namespace Cert.Proof

open Idealize.ShloMosaic Idealize.SL.Sem

theorem loss_algebraic : Cert.algebraic_KernelIdeal_ReferenceIdeal := by
  pair_intro
  · run_from Cert.KernelIdeal.Gen.run_main m g
  · run_from Cert.ReferenceIdeal.Value.run m' g'
    · exact (Cert.Loss.loss m c).symm
    · exact (Cert.Loss.grad m c).symm

/-- The reference's run leaves its arguments, and it declares no semaphore. -/
theorem loss_frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run m ρ)

/-- The attention's reference leaves its arguments, and it declares no semaphore. -/
theorem sba_frame_reference : Cert.quiescent_Reference2Ideal := fun m ρ _ =>
  (θ_run Cert.Reference2Ideal.defs _ _).mono
    (fun r h => ⟨fun c => (h c).2.2.2, sem_eq_zero_of_no_sems (by decide) r.2⟩)
    (Cert.Reference2Ideal.Value.run m ρ)

theorem sba_preserves : Cert.preserves_Kernel2_Kernel2Ideal :=
  ⟨IdealRules.bf16_pack.statement _, IdealRules.named_const.statement _ _ _ _ _ rfl⟩

theorem frame_reference3 : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run m ρ)
theorem frame_reference4 : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run m ρ)
theorem frame_reference5 : Cert.quiescent_Reference5Ideal := fun m ρ _ =>
  (θ_run Cert.Reference5Ideal.defs _ _).mono
    (fun r h => ⟨fun c => (h c).2.2, sem_eq_zero_of_no_sems (by decide) r.2⟩)
    (Cert.Reference5Ideal.Value.run m ρ)
theorem frame_reference6 : Cert.quiescent_Reference6Ideal := fun m ρ _ =>
  (θ_run Cert.Reference6Ideal.defs _ _).mono
    (fun r h => ⟨fun c => (h c).2.2, sem_eq_zero_of_no_sems (by decide) r.2⟩)
    (Cert.Reference6Ideal.Value.run m ρ)
theorem frame_reference7 : Cert.quiescent_Reference7Ideal := fun m ρ _ =>
  (θ_run Cert.Reference7Ideal.defs _ _).mono
    (fun r h => ⟨fun c => (h c).2.2.2, sem_eq_zero_of_no_sems (by decide) r.2⟩)
    (Cert.Reference7Ideal.Value.run m ρ)
theorem frame_reference8 : Cert.quiescent_Reference8Ideal := fun m ρ _ =>
  (θ_run Cert.Reference8Ideal.defs _ _).mono
    (fun r h => ⟨fun c => (h c).2.2.2.2, sem_eq_zero_of_no_sems (by decide) r.2⟩)
    (Cert.Reference8Ideal.Value.run m ρ)
theorem frame_reference9 : Cert.quiescent_Reference9Ideal := fun m ρ _ =>
  (θ_run Cert.Reference9Ideal.defs _ _).mono
    (fun r h => ⟨fun c => (h c).2.2.2, sem_eq_zero_of_no_sems (by decide) r.2⟩)
    (Cert.Reference9Ideal.Value.run m ρ)
theorem frame_reference10 : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run m ρ)
theorem frame_reference11 : Cert.quiescent_Reference11Ideal := fun m ρ _ =>
  (θ_run Cert.Reference11Ideal.defs _ _).mono
    (fun r h => ⟨fun c => (h c).2.2, sem_eq_zero_of_no_sems (by decide) r.2⟩)
    (Cert.Reference11Ideal.Value.run m ρ)
theorem frame_reference12 : Cert.quiescent_Reference12Ideal := fun m ρ _ =>
  (θ_run Cert.Reference12Ideal.defs _ _).mono
    (fun r h => ⟨fun c => (h c).2.2, sem_eq_zero_of_no_sems (by decide) r.2⟩)
    (Cert.Reference12Ideal.Value.run m ρ)
theorem frame_reference13 : Cert.quiescent_Reference13Ideal := fun m ρ _ =>
  (θ_run Cert.Reference13Ideal.defs _ _).mono
    (fun r h => ⟨fun c => (h c).2.2, sem_eq_zero_of_no_sems (by decide) r.2⟩)
    (Cert.Reference13Ideal.Value.run m ρ)
theorem frame_reference14 : Cert.quiescent_Reference14Ideal := fun m ρ _ =>
  (θ_run Cert.Reference14Ideal.defs _ _).mono
    (fun r h => ⟨fun c => (h c).2.2.2.2, sem_eq_zero_of_no_sems (by decide) r.2⟩)
    (Cert.Reference14Ideal.Value.run m ρ)
theorem frame_reference15 : Cert.quiescent_Reference15Ideal := fun m ρ _ =>
  (θ_run Cert.Reference15Ideal.defs _ _).mono
    (fun r h => ⟨fun c => (h c).2, sem_eq_zero_of_no_sems (by decide) r.2⟩)
    (Cert.Reference15Ideal.Value.run m ρ)
theorem frame_reference16 : Cert.quiescent_Reference16Ideal := fun m ρ _ =>
  (θ_run Cert.Reference16Ideal.defs _ _).mono
    (fun r h => ⟨fun c => (h c).2, sem_eq_zero_of_no_sems (by decide) r.2⟩)
    (Cert.Reference16Ideal.Value.run m ρ)
theorem frame_reference17 : Cert.quiescent_Reference17Ideal := fun m ρ _ =>
  (θ_run Cert.Reference17Ideal.defs _ _).mono
    (fun r h => ⟨fun c => (h c).2, sem_eq_zero_of_no_sems (by decide) r.2⟩)
    (Cert.Reference17Ideal.Value.run m ρ)
theorem frame_reference18 : Cert.quiescent_Reference18Ideal := fun m ρ _ =>
  (θ_run Cert.Reference18Ideal.defs _ _).mono
    (fun r h => ⟨fun c => (h c).2, sem_eq_zero_of_no_sems (by decide) r.2⟩)
    (Cert.Reference18Ideal.Value.run m ρ)
theorem frame_reference19 : Cert.quiescent_Reference19Ideal := fun m ρ _ =>
  (θ_run Cert.Reference19Ideal.defs _ _).mono
    (fun r h => ⟨fun c => (h c).2.2.2.2, sem_eq_zero_of_no_sems (by decide) r.2⟩)
    (Cert.Reference19Ideal.Value.run m ρ)

theorem fwd_preserves : Cert.preserves_Kernel10_Kernel10Ideal :=
  ⟨IdealRules.bf16_pack.statement _, IdealRules.named_const.statement _ _ _ _ _ rfl⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Pre_finite.Gen.facts, Cert.Pre_finite_window.Gen.facts, Cert.Pre_finite_up.Gen.facts, Cert.Pre_finite_kv.Gen.facts, Cert.Pre_finite_q.Gen.facts, Cert.Pre_finite_o.Gen.facts, Cert.Pre_finite_maps.Gen.facts, Cert.Pre_finite_down.Gen.facts, Cert.Pre_finite_qkv.Gen.facts,
  fun m ρ _ => Cert.Kernel.Gen.frame m ρ, fun m ρ _ => Cert.KernelIdeal.Gen.frame m ρ, loss_frame_reference,
  fun m ρ _ => Cert.Kernel2.Sba.frame m ρ, fun m ρ _ => Cert.Kernel2Ideal.Sba.frame m ρ, fun m ρ _ => Cert.Kernel2Ideal.Sba.frame m ρ,
  sba_frame_reference, fun m ρ _ => sba_frame_reference m ρ trivial,
  fun m ρ _ => Cert.Kernel3.Gen.frame m ρ, fun m ρ _ => Cert.Kernel3Ideal.Gen.frame m ρ, fun m ρ _ => Cert.Kernel3Ideal.Gen.frame m ρ, frame_reference3, fun m ρ _ => frame_reference3 m ρ trivial,
  fun m ρ _ => Cert.Kernel4.Gen.frame m ρ, fun m ρ _ => Cert.Kernel4Ideal.Gen.frame m ρ, fun m ρ _ => Cert.Kernel4Ideal.Gen.frame m ρ, frame_reference4, fun m ρ _ => frame_reference4 m ρ trivial,
  fun m ρ _ => Cert.Kernel5.Gen.frame m ρ, fun m ρ _ => Cert.Kernel5Ideal.Gen.frame m ρ, fun m ρ _ => Cert.Kernel5Ideal.Gen.frame m ρ, frame_reference5, fun m ρ _ => frame_reference5 m ρ trivial,
  fun m ρ _ => Cert.Kernel6.Gen.frame m ρ, fun m ρ _ => Cert.Kernel6Ideal.Gen.frame m ρ, fun m ρ _ => Cert.Kernel6Ideal.Gen.frame m ρ, frame_reference6, fun m ρ _ => frame_reference6 m ρ trivial,
  fun m ρ _ => Cert.Kernel7.Gen.frame m ρ, fun m ρ _ => Cert.Kernel7Ideal.Gen.frame m ρ, fun m ρ _ => Cert.Kernel7Ideal.Gen.frame m ρ, frame_reference7, fun m ρ _ => frame_reference7 m ρ trivial,
  fun m ρ _ => Cert.Kernel8.Gen.frame m ρ, fun m ρ _ => Cert.Kernel8Ideal.Gen.frame m ρ, fun m ρ _ => Cert.Kernel8Ideal.Gen.frame m ρ, frame_reference8, fun m ρ _ => frame_reference8 m ρ trivial,
  Cert.Kernel9.Down.frame, fun m ρ _ => Cert.Kernel9Ideal.Down.frame m ρ, fun m ρ _ => Cert.Kernel9Ideal.Down.frame m ρ, frame_reference9, fun m ρ _ => frame_reference9 m ρ trivial,
  fun m ρ _ => Cert.Kernel10.Fwd.frame m ρ, fun m ρ _ => Cert.Kernel10Ideal.Fwd.frame m ρ, fun m ρ _ => Cert.Kernel10Ideal.Fwd.frame m ρ, frame_reference10, fun m ρ _ => frame_reference10 m ρ trivial,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  trivial, loss_algebraic, sba_preserves, Cert.Kernel2Ideal.Sba.algebraic,
  trivial, Cert.Pool.algebraic, trivial, Cert.Up.algebraic, trivial, Cert.KeyVal.algebraic, trivial, Cert.Query.algebraic, trivial, Cert.Out.algebraic, trivial, Cert.Maps.algebraic, trivial, Cert.Down.algebraic,
  fwd_preserves, Cert.Kernel10Ideal.Fwd.algebraic,
  trivial, Cert.QueryFwd.algebraic, trivial, Cert.OutFwd.algebraic, trivial, Cert.DownFwd.algebraic, trivial, Cert.Adam.algebraic, trivial, Cert.Sums.cols_algebraic, trivial, Cert.Sums.devices_algebraic, trivial, Cert.Weights.Up.algebraic, trivial, Cert.Weights.Down.algebraic, trivial, Cert.Adam.small_algebraic⟩

end Cert.Proof

end
